-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61_2)) (v1 : (c : Dev Cert.KernelIdeal.nD) → Buf (Elt Ideal) ((c.tc : Thread Cert.KernelIdeal.nD Cert.KernelIdeal.τ).loc Cert.KernelIdeal.main_v65_0)) (v2 : (c : Dev Cert.KernelIdeal.nD) → Buf (Elt Ideal) ((c.tc : Thread Cert.KernelIdeal.nD Cert.KernelIdeal.τ).loc Cert.KernelIdeal.main_v68)) (v3 : (c : Dev Cert.KernelIdeal.nD) → Buf (Elt Ideal) ((c.tc : Thread Cert.KernelIdeal.nD Cert.KernelIdeal.τ).loc Cert.KernelIdeal.main_v71)) (v4 : (c : Dev Cert.KernelIdeal.nD) → Buf (Elt Ideal) ((c.tc : Thread Cert.KernelIdeal.nD Cert.KernelIdeal.τ).loc Cert.KernelIdeal.main_v83)) (v5 : (c : Dev Cert.KernelIdeal.nD) → Buf (Elt Ideal) ((c.tc : Thread Cert.KernelIdeal.nD Cert.KernelIdeal.τ).loc Cert.KernelIdeal.main_v95)) (v6 : (c : Dev Cert.KernelIdeal.nD) → Buf (Elt Ideal) ((c.tc : Thread Cert.KernelIdeal.nD Cert.KernelIdeal.τ).loc Cert.KernelIdeal.main_v107)) (v7 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_2) = v0 c
          ∧ r.2.mem ((c.tc : Thread Cert.KernelIdeal.nD Cert.KernelIdeal.τ).loc Cert.KernelIdeal.main_v65_0) = v1 c
          ∧ r.2.mem ((c.tc : Thread Cert.KernelIdeal.nD Cert.KernelIdeal.τ).loc Cert.KernelIdeal.main_v68) = v2 c
          ∧ r.2.mem ((c.tc : Thread Cert.KernelIdeal.nD Cert.KernelIdeal.τ).loc Cert.KernelIdeal.main_v71) = v3 c
          ∧ r.2.mem ((c.tc : Thread Cert.KernelIdeal.nD Cert.KernelIdeal.τ).loc Cert.KernelIdeal.main_v83) = v4 c
          ∧ r.2.mem ((c.tc : Thread Cert.KernelIdeal.nD Cert.KernelIdeal.τ).loc Cert.KernelIdeal.main_v95) = v5 c
          ∧ r.2.mem ((c.tc : Thread Cert.KernelIdeal.nD Cert.KernelIdeal.τ).loc Cert.KernelIdeal.main_v107) = v6 c
          ∧ r.2.mem ((c.tc : Thread Cert.KernelIdeal.nD Cert.KernelIdeal.τ).loc Cert.KernelIdeal.main_v120) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_v45) = v5 c
          ∧ r.2.mem ((c.tc : Thread Cert.ReferenceIdeal.nD Cert.ReferenceIdeal.τ).loc Cert.ReferenceIdeal.main_v32) = v6 c
          ∧ r.2.mem ((c.tc : Thread Cert.ReferenceIdeal.nD Cert.ReferenceIdeal.τ).loc Cert.ReferenceIdeal.main_v28) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Kernel.lean ====
abbrev S4352x3072 : Shape := ⟨2, ![4352, 3072]⟩
abbrev S4352x512 : Shape := ⟨2, ![4352, 512]⟩
abbrev S32x64 : Shape := ⟨2, ![32, 64]⟩
abbrev S32x64x16 : Shape := ⟨3, ![32, 64, 16]⟩
abbrev S32x16x64 : Shape := ⟨3, ![32, 16, 64]⟩
abbrev S1x2048 : Shape := ⟨2, ![1, 2048]⟩
abbrev S1x1x2048 : Shape := ⟨3, ![1, 1, 2048]⟩
abbrev S2x1x2048 : Shape := ⟨3, ![2, 1, 2048]⟩
abbrev S1x2x1x2048 : Shape := ⟨4, ![1, 2, 1, 2048]⟩
abbrev S16x32x64 : Shape := ⟨3, ![16, 32, 64]⟩
abbrev S1x16x32x64 : Shape := ⟨4, ![1, 16, 32, 64]⟩
abbrev S32x32 : Shape := ⟨2, ![32, 32]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S1x512x2048 : Shape := ⟨3, ![1, 512, 2048]⟩
abbrev S2x512x2048 : Shape := ⟨3, ![2, 512, 2048]⟩
abbrev S1x2x512x2048 : Shape := ⟨4, ![1, 2, 512, 2048]⟩
abbrev S4352x2048 : Shape := ⟨2, ![4352, 2048]⟩
abbrev S256x512 : Shape := ⟨2, ![256, 512]⟩
abbrev S256x2048 : Shape := ⟨2, ![256, 2048]⟩
abbrev S256x128 : Shape := ⟨2, ![256, 128]⟩
abbrev S1x1x128x512 : Shape := ⟨4, ![1, 1, 128, 512]⟩
abbrev S128x512 : Shape := ⟨2, ![128, 512]⟩
abbrev S1x1x1x2048 : Shape := ⟨4, ![1, 1, 1, 2048]⟩
abbrev S_ : Shape := ⟨0, ![]⟩
abbrev S8x2048 : Shape := ⟨2, ![8, 2048]⟩
abbrev S256x1 : Shape := ⟨2, ![256, 1]⟩
abbrev S2048 : Shape := ⟨1, ![2048]⟩
abbrev S1x1x512x2048 : Shape := ⟨4, ![1, 1, 512, 2048]⟩

abbrev nBuf : Space → Nat
  | .hbm => 141
  | .vmem => 37
  | .smem => 0
  | _ => 0

abbrev hbmTy0_0 (i : Nat) : BufTy := match i % 128 with
  | 0 => ⟨S4352x3072, .f32⟩
  | 1 => ⟨S4352x512, .f32⟩
  | 2 => ⟨S32x64, .f32⟩
  | 3 => ⟨S32x64, .f32⟩
  | 4 => ⟨S32x64x16, .f32⟩
  | 5 => ⟨S32x64x16, .f32⟩
  | 6 => ⟨S32x16x64, .f32⟩
  | 7 => ⟨S32x16x64, .f32⟩
  | 8 => ⟨S1x2048, .f32⟩
  | 9 => ⟨S1x2048, .f32⟩
  | 10 => ⟨S1x1x2048, .f32⟩
  | 11 => ⟨S1x1x2048, .f32⟩
  | 12 => ⟨S2x1x2048, .f32⟩
  | 13 => ⟨S1x2x1x2048, .f32⟩
  | 14 => ⟨S16x32x64, .f32⟩
  | 15 => ⟨S1x16x32x64, .f32⟩
  | 16 => ⟨S32x32, .i32⟩
  | 17 => ⟨S32x32, .i32⟩
  | 18 => ⟨S32x32, .i1⟩
  | 19 => ⟨S32x32, .f32⟩
  | 20 => ⟨S32x1x32x1, .f32⟩
  | 21 => ⟨S32x16x32x64, .f32⟩
  | 22 => ⟨S32x16x32x64, .f32⟩
  | 23 => ⟨S32x16x32x64, .f32⟩
  | 24 => ⟨S512x2048, .f32⟩
  | 25 => ⟨S16x32x64, .f32⟩
  | 26 => ⟨S1x16x32x64, .f32⟩
  | 27 => ⟨S32x32, .i32⟩
  | 28 => ⟨S32x32, .i32⟩
  | 29 => ⟨S32x32, .i1⟩
  | 30 => ⟨S32x32, .f32⟩
  | 31 => ⟨S32x1x32x1, .f32⟩
  | 32 => ⟨S32x16x32x64, .f32⟩
  | 33 => ⟨S32x16x32x64, .f32⟩
  | 34 => ⟨S32x16x32x64, .f32⟩
  | 35 => ⟨S512x2048, .f32⟩
  | 36 => ⟨S1x512x2048, .f32⟩
  | 37 => ⟨S1x512x2048, .f32⟩
  | 38 => ⟨S2x512x2048, .f32⟩
  | 39 => ⟨S1x2x512x2048, .f32⟩
  | 40 => ⟨S1x2x512x2048, .bf16⟩
  | 41 => ⟨S16x32x64, .f32⟩
  | 42 => ⟨S1x16x32x64, .f32⟩
  | 43 => ⟨S32x32, .i32⟩
  | 44 => ⟨S32x32, .i32⟩
  | 45 => ⟨S32x32, .i1⟩
  | 46 => ⟨S32x32, .f32⟩
  | 47 => ⟨S32x1x32x1, .f32⟩
  | 48 => ⟨S32x16x32x64, .f32⟩
  | 49 => ⟨S32x16x32x64, .f32⟩
  | 50 => ⟨S32x16x32x64, .f32⟩
  | 51 => ⟨S512x2048, .f32⟩
  | 52 => ⟨S16x32x64, .f32⟩
  | 53 => ⟨S16x32x64, .f32⟩
  | 54 => ⟨S1x16x32x64, .f32⟩
  | 55 => ⟨S32x32, .i32⟩
  | 56 => ⟨S32x32, .i32⟩
  | 57 => ⟨S32x32, .i1⟩
  | 58 => ⟨S32x32, .f32⟩
  | 59 => ⟨S32x1x32x1, .f32⟩
  | 60 => ⟨S32x16x32x64, .f32⟩
  | 61 => ⟨S32x16x32x64, .f32⟩
  | 62 => ⟨S32x16x32x64, .f32⟩
  | 63 => ⟨S512x2048, .f32⟩
  | 64 => ⟨S1x512x2048, .f32⟩
  | 65 => ⟨S1x512x2048, .f32⟩
  | 66 => ⟨S2x512x2048, .f32⟩
  | 67 => ⟨S1x2x512x2048, .f32⟩
  | 68 => ⟨S1x2x512x2048, .bf16⟩
  | 69 => ⟨S4352x2048, .f32⟩
  | 70 => ⟨S4352x2048, .f32⟩
  | 71 => ⟨S4352x512, .f32⟩
  | 72 => ⟨S_, .f32⟩
  | 73 => ⟨S1x2x1x2048, .f32⟩
  | 74 => ⟨S_, .f32⟩
  | 75 => ⟨S1x2x512x2048, .f32⟩
  | 76 => ⟨S_, .f32⟩
  | 77 => ⟨S1x2x512x2048, .f32⟩
  | 78 => ⟨S4352x512, .f32⟩
  | 79 => ⟨S1x2x1x2048, .f32⟩
  | 80 => ⟨S1x2x512x2048, .f32⟩
  | 81 => ⟨S1x2x512x2048, .f32⟩
  | 82 => ⟨S1x1x1x2048, .f32⟩
  | 83 => ⟨S1x2048, .f32⟩
  | 84 => ⟨S32x64, .f32⟩
  | 85 => ⟨S1x1x1x2048, .f32⟩
  | 86 => ⟨S1x2048, .f32⟩
  | 87 => ⟨S32x64, .f32⟩
  | 88 => ⟨S1x1x512x2048, .f32⟩
  | 89 => ⟨S512x2048, .f32⟩
  | 90 => ⟨S32x16x32x64, .f32⟩
  | 91 => ⟨S32x32, .i32⟩
  | 92 => ⟨S32x32, .i32⟩
  | 93 => ⟨S32x32, .i1⟩
  | 94 => ⟨S32x32, .f32⟩
  | 95 => ⟨S32x1x32x1, .f32⟩
  | 96 => ⟨S32x16x32x64, .f32⟩
  | 97 => ⟨S32x16x32x64, .f32⟩
  | 98 => ⟨S_, .f32⟩
  | 99 => ⟨S16x32x64, .f32⟩
  | 100 => ⟨S32x64x16, .f32⟩
  | 101 => ⟨S1x1x512x2048, .f32⟩
  | 102 => ⟨S512x2048, .f32⟩
  | 103 => ⟨S32x16x32x64, .f32⟩
  | 104 => ⟨S32x32, .i32⟩
  | 105 => ⟨S32x32, .i32⟩
  | 106 => ⟨S32x32, .i1⟩
  | 107 => ⟨S32x32, .f32⟩
  | 108 => ⟨S32x1x32x1, .f32⟩
  | 109 => ⟨S32x16x32x64, .f32⟩
  | 110 => ⟨S32x16x32x64, .f32⟩
  | 111 => ⟨S_, .f32⟩
  | 112 => ⟨S16x32x64, .f32⟩
  | 113 => ⟨S32x64x16, .f32⟩
  | 114 => ⟨S1x1x512x2048, .f32⟩
  | 115 => ⟨S512x2048, .f32⟩
  | 116 => ⟨S32x16x32x64, .f32⟩
  | 117 => ⟨S32x32, .i32⟩
  | 118 => ⟨S32x32, .i32⟩
  | 119 => ⟨S32x32, .i1⟩
  | 120 => ⟨S32x32, .f32⟩
  | 121 => ⟨S32x1x32x1, .f32⟩
  | 122 => ⟨S32x16x32x64, .f32⟩
  | 123 => ⟨S32x16x32x64, .f32⟩
  | 124 => ⟨S_, .f32⟩
  | 125 => ⟨S16x32x64, .f32⟩
  | 126 => ⟨S32x16x64, .f32⟩
  | 127 => ⟨S1x1x512x2048, .f32⟩
  | _ => ⟨S4352x3072, .f32⟩

abbrev hbmTy0_1 (i : Nat) : BufTy := match i % 128 with
  | 0 => ⟨S512x2048, .f32⟩
  | 1 => ⟨S32x16x32x64, .f32⟩
  | 2 => ⟨S32x32, .i32⟩
  | 3 => ⟨S32x32, .i32⟩
  | 4 => ⟨S32x32, .i1⟩
  | 5 => ⟨S32x32, .f32⟩
  | 6 => ⟨S32x1x32x1, .f32⟩
  | 7 => ⟨S32x16x32x64, .f32⟩
  | 8 => ⟨S32x16x32x64, .f32⟩
  | 9 => ⟨S_, .f32⟩
  | 10 => ⟨S16x32x64, .f32⟩
  | 11 => ⟨S32x16x64, .f32⟩
  | 12 => ⟨S32x16x64, .f32⟩
  | _ => ⟨S4352x3072, .f32⟩

abbrev hbmTy (i : Nat) : BufTy := match i / 128 with
  | 0 => hbmTy0_0 i
  | 1 => hbmTy0_1 i
  | _ => ⟨S4352x3072, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S1x2x1x2048, .f32⟩
  | .local _ .vmem, ⟨3, _⟩ => ⟨S1x2x512x2048, .bf16⟩
  | .local _ .vmem, ⟨4, _⟩ => ⟨S1x2x512x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x512, .f32⟩
  | .local _ .vmem, ⟨10, _⟩ => ⟨S256x512, .f32⟩
  | .local _ .vmem, ⟨11, _⟩ => ⟨S1x2048, .f32⟩
  | .local _ .vmem, ⟨12, _⟩ => ⟨S1x2048, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S8x2048, .f32⟩
  | .local _ .vmem, ⟨22, _⟩ => ⟨S8x2048, .f32⟩
  | .local _ .vmem, ⟨23, _⟩ => ⟨S8x2048, .f32⟩
  | .local _ .vmem, ⟨24, _⟩ => ⟨S8x2048, .f32⟩
  | .local _ .vmem, ⟨25, _⟩ => ⟨S1x2x1x2048, .f32⟩
  | .local _ .vmem, ⟨26, _⟩ => ⟨S1x2x512x2048, .bf16⟩
  | .local _ .vmem, ⟨27, _⟩ => ⟨S1x2x512x2048, .bf16⟩
  | .local _ .vmem, ⟨28, _⟩ => ⟨S256x512, .f32⟩
  | .local _ .vmem, ⟨29, _⟩ => ⟨S256x512, .f32⟩
  | .local _ .vmem, ⟨30, _⟩ => ⟨S1x2x1x2048, .f32⟩
  | .local _ .vmem, ⟨31, _⟩ => ⟨S1x2x512x2048, .f32⟩
  | .local _ .vmem, ⟨32, _⟩ => ⟨S1x2x512x2048, .f32⟩
  | .local _ .vmem, ⟨33, _⟩ => ⟨S256x2048, .f32⟩
  | .local _ .vmem, ⟨34, _⟩ => ⟨S256x2048, .f32⟩
  | .local _ .vmem, ⟨35, _⟩ => ⟨S1x2048, .f32⟩
  | .local _ .vmem, ⟨36, _⟩ => ⟨S1x2048, .f32⟩
  | _, _ => ⟨S4352x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61_0 : Ref sig .tc := ⟨.hbm, 69, rfl⟩
abbrev main_v61_1 : Ref sig .tc := ⟨.hbm, 70, rfl⟩
abbrev main_v61_2 : Ref sig .tc := ⟨.hbm, 71, rfl⟩
abbrev main_cst : Ref sig .tc := ⟨.hbm, 72, rfl⟩
abbrev main_v62 : Ref sig .tc := ⟨.hbm, 73, rfl⟩
abbrev main_cst_0 : Ref sig .tc := ⟨.hbm, 74, rfl⟩
abbrev main_v63 : Ref sig .tc := ⟨.hbm, 75, rfl⟩
abbrev main_cst_1 : Ref sig .tc := ⟨.hbm, 76, rfl⟩
abbrev main_v64 : Ref sig .tc := ⟨.hbm, 77, rfl⟩
abbrev main_v65_0 : Ref sig .tc := ⟨.hbm, 78, rfl⟩
abbrev main_v65_1 : Ref sig .tc := ⟨.hbm, 79, rfl⟩
abbrev main_v65_2 : Ref sig .tc := ⟨.hbm, 80, rfl⟩
abbrev main_v65_3 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_2 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_3 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_4 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_cst_5 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc1_scratch3 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem11_0 : DmaSem sig := 29
abbrev cc1_sem12_0 : DmaSem sig := 30

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32_50 : BitVec 32 := 0#32
  let c32_i32 : BitVec 32 := 32#32
  let v54 : BitVec 32 := Scalar.addi c0_i32_50 c32_i32
  let c1_i32 : BitVec 32 := 1#32
  ⟨c0_i32_50, v54, c1_i32⟩
def k0_off1 (k0_t1 : Fin k0_t1_loop.trips) (c0_i32_102 : BitVec 32) : Fin 2 → Nat :=
  let c0_i32_50 : BitVec 32 := 0#32
  let c1_i32 : BitVec 32 := 1#32
  let arg10 : BitVec 32 := Scf.iv c0_i32_50 c1_i32 k0_t1
  let c8_i32 : BitVec 32 := 8#32
  let v110 : BitVec 32 := Scalar.muli arg10 c8_i32
  let v111 : BitVec 32 := Scalar.addi v110 c0_i32_102
  let v115 : Index := Scalar.indexCast v111
  let c0_103 : Index := 0#32
  ![v115.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2x512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2x512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![17], ![false]⟩

@[reducible] def k1_t1_loop : Scf.Loop 32 :=
  let c0_i32_129 : BitVec 32 := 0#32
  let c32_i32 : BitVec 32 := 32#32
  let v153 : BitVec 32 := Scalar.addi c0_i32_129 c32_i32
  let c1_i32 : BitVec 32 := 1#32
  ⟨c0_i32_129, v153, c1_i32⟩
def k1_off1 (k1_t1 : Fin k1_t1_loop.trips) (c0_i32_280 : BitVec 32) : Fin 2 → Nat :=
  let c255_i32 : BitVec 32 := 255#32
  let c0_i32_129 : BitVec 32 := 0#32
  let c1_i32 : BitVec 32 := 1#32
  let arg21 : BitVec 32 := Scf.iv c0_i32_129 c1_i32 k1_t1
  let c8_i32 : BitVec 32 := 8#32
  let v344 : BitVec 32 := Scalar.muli arg21 c8_i32
  let v345 : BitVec 32 := Scalar.addi v344 c0_i32_280
  let v346 : BitVec 32 := Scalar.subi c255_i32 v345
  let v350 : Index := Scalar.indexCast v346
  let c0_281 : Index := 0#32
  ![v350.toNat, 0]
def cc1_transform_0 (i : grid1.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 32 := Scalar.muli v0 c32_i32
  let c1_i32_0 : BitVec 32 := 1#32
  let v4 : BitVec 32 := Scalar.subi v3 c1_i32_0
  let c0_i32_1 : BitVec 32 := 0#32
  let v5 : BitVec 32 := Scalar.maxsi v4 c0_i32_1
  let c0_i32_2 : BitVec 32 := 0#32
  let c0_i32_3 : BitVec 32 := 0#32
  ![v5.toNat, c0_i32_2.toNat]

def cc1_transform_5 (i : grid1.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 32 := Scalar.muli v0 c32_i32
  let c1_i32_0 : BitVec 32 := 1#32
  let v4 : BitVec 32 := Scalar.subi v3 c1_i32_0
  let c0_i32_1 : BitVec 32 := 0#32
  let v5 : BitVec 32 := Scalar.maxsi v4 c0_i32_1
  let c0_i32_2 : BitVec 32 := 0#32
  let c0_i32_3 : BitVec 32 := 0#32
  ![v5.toNat, c0_i32_2.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_12 (i : grid1.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc1_transform_13 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_14 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_15 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2x1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2x512x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2x512x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x2x1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x2x512x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x2x512x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== ReferenceIdeal.lean ====
abbrev S4352x3072 : Shape := ⟨2, ![4352, 3072]⟩
abbrev S4352x512 : Shape := ⟨2, ![4352, 512]⟩
abbrev S32x64 : Shape := ⟨2, ![32, 64]⟩
abbrev S32x64x16 : Shape := ⟨3, ![32, 64, 16]⟩
abbrev S32x16x64 : Shape := ⟨3, ![32, 16, 64]⟩
abbrev S4352x32x16 : Shape := ⟨3, ![4352, 32, 16]⟩
abbrev S32x64x4352 : Shape := ⟨3, ![32, 64, 4352]⟩
abbrev S4352x32x64 : Shape := ⟨3, ![4352, 32, 64]⟩
abbrev S_ : Shape := ⟨0, ![]⟩
abbrev S1x32x64 : Shape := ⟨3, ![1, 32, 64]⟩
abbrev S32x16x4352 : Shape := ⟨3, ![32, 16, 4352]⟩
abbrev S32x4352x64 : Shape := ⟨3, ![32, 4352, 64]⟩
abbrev S32x4352x16 : Shape := ⟨3, ![32, 4352, 16]⟩

abbrev nBuf : Space → Nat
  | .hbm => 206
  | .vmem => 0
  | .smem => 0
  | _ => 0

abbrev hbmTy0_0 (i : Nat) : BufTy := match i % 128 with
  | 0 => ⟨S4352x3072, .f32⟩
  | 1 => ⟨S4352x512, .f32⟩
  | 2 => ⟨S32x64, .f32⟩
  | 3 => ⟨S32x64, .f32⟩
  | 4 => ⟨S32x64x16, .f32⟩
  | 5 => ⟨S32x64x16, .f32⟩
  | 6 => ⟨S32x16x64, .f32⟩
  | 7 => ⟨S32x16x64, .f32⟩
  | 8 => ⟨S4352x512, .f32⟩
  | 9 => ⟨S4352x32x16, .f32⟩
  | 10 => ⟨S32x64x4352, .f32⟩
  | 11 => ⟨S4352x32x64, .f32⟩
  | 12 => ⟨S32x64x4352, .f32⟩
  | 13 => ⟨S4352x32x64, .f32⟩
  | 14 => ⟨S4352x32x64, .f32⟩
  | 15 => ⟨S4352x32x64, .f32⟩
  | 16 => ⟨S_, .f32⟩
  | 17 => ⟨S32x64, .f32⟩
  | 18 => ⟨S_, .f32⟩
  | 19 => ⟨S4352x32x64, .f32⟩
  | 20 => ⟨S_, .f32⟩
  | 21 => ⟨S4352x32x64, .f32⟩
  | 22 => ⟨S_, .f32⟩
  | 23 => ⟨S4352x32x64, .f32⟩
  | 24 => ⟨S_, .f32⟩
  | 25 => ⟨S4352x32x64, .f32⟩
  | 26 => ⟨S_, .i32⟩
  | 27 => ⟨S4352x32x64, .f32⟩
  | 28 => ⟨S4352x32x64, .f32⟩
  | 29 => ⟨S4352x32x64, .f32⟩
  | 30 => ⟨S4352x32x64, .f32⟩
  | 31 => ⟨S_, .i32⟩
  | 32 => ⟨S32x64, .f32⟩
  | 33 => ⟨S32x64, .f32⟩
  | 34 => ⟨S4352x32x64, .f32⟩
  | 35 => ⟨S4352x32x64, .f32⟩
  | 36 => ⟨S4352x32x64, .f32⟩
  | 37 => ⟨S4352x32x64, .f32⟩
  | 38 => ⟨S_, .i32⟩
  | 39 => ⟨S_, .i1⟩
  | 40 => ⟨S_, .i32⟩
  | 41 => ⟨S_, .i32⟩
  | 42 => ⟨S1x32x64, .f32⟩
  | 43 => ⟨S32x64, .f32⟩
  | 44 => ⟨S_, .i32⟩
  | 45 => ⟨S_, .i32⟩
  | 46 => ⟨S1x32x64, .f32⟩
  | 47 => ⟨S32x64, .f32⟩
  | 48 => ⟨S_, .i32⟩
  | 49 => ⟨S_, .i32⟩
  | 50 => ⟨S1x32x64, .f32⟩
  | 51 => ⟨S32x64, .f32⟩
  | 52 => ⟨S_, .i32⟩
  | 53 => ⟨S_, .i32⟩
  | 54 => ⟨S1x32x64, .f32⟩
  | 55 => ⟨S32x64, .f32⟩
  | 56 => ⟨S32x64, .f32⟩
  | 57 => ⟨S32x64, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S32x64, .f32⟩
  | 64 => ⟨S1x32x64, .f32⟩
  | 65 => ⟨S_, .i32⟩
  | 66 => ⟨S_, .i32⟩
  | 67 => ⟨S4352x32x64, .f32⟩
  | 68 => ⟨S1x32x64, .f32⟩
  | 69 => ⟨S_, .i32⟩
  | 70 => ⟨S_, .i32⟩
  | 71 => ⟨S4352x32x64, .f32⟩
  | 72 => ⟨S1x32x64, .f32⟩
  | 73 => ⟨S_, .i32⟩
  | 74 => ⟨S_, .i32⟩
  | 75 => ⟨S4352x32x64, .f32⟩
  | 76 => ⟨S1x32x64, .f32⟩
  | 77 => ⟨S_, .i32⟩
  | 78 => ⟨S_, .i32⟩
  | 79 => ⟨S4352x32x64, .f32⟩
  | 80 => ⟨S_, .i32⟩
  | 81 => ⟨S_, .i32⟩
  | 82 => ⟨S32x16x4352, .f32⟩
  | 83 => ⟨S4352x32x16, .f32⟩
  | 84 => ⟨S32x16x64, .f32⟩
  | 85 => ⟨S32x16x4352, .f32⟩
  | 86 => ⟨S4352x32x16, .f32⟩
  | 87 => ⟨S4352x32x16, .f32⟩
  | 88 => ⟨S4352x512, .f32⟩
  | 89 => ⟨S_, .f32⟩
  | 90 => ⟨S32x64, .f32⟩
  | 91 => ⟨S_, .f32⟩
  | 92 => ⟨S32x64, .f32⟩
  | 93 => ⟨S4352x32x16, .f32⟩
  | 94 => ⟨S32x16x4352, .f32⟩
  | 95 => ⟨S32x4352x64, .f32⟩
  | 96 => ⟨S4352x32x64, .f32⟩
  | 97 => ⟨S32x16x64, .f32⟩
  | 98 => ⟨S32x16x64, .f32⟩
  | 99 => ⟨S32x16x4352, .f32⟩
  | 100 => ⟨S32x4352x64, .f32⟩
  | 101 => ⟨S4352x32x64, .f32⟩
  | 102 => ⟨S32x16x64, .f32⟩
  | 103 => ⟨S_, .f32⟩
  | 104 => ⟨S32x64, .f32⟩
  | 105 => ⟨S_, .f32⟩
  | 106 => ⟨S32x64, .f32⟩
  | 107 => ⟨S_, .f32⟩
  | 108 => ⟨S4352x32x64, .f32⟩
  | 109 => ⟨S_, .f32⟩
  | 110 => ⟨S4352x32x64, .f32⟩
  | 111 => ⟨S_, .f32⟩
  | 112 => ⟨S4352x32x64, .f32⟩
  | 113 => ⟨S_, .f32⟩
  | 114 => ⟨S4352x32x64, .f32⟩
  | 115 => ⟨S_, .i32⟩
  | 116 => ⟨S4352x32x64, .f32⟩
  | 117 => ⟨S4352x32x64, .f32⟩
  | 118 => ⟨S4352x32x64, .f32⟩
  | 119 => ⟨S4352x32x64, .f32⟩
  | 120 => ⟨S4352x32x64, .f32⟩
  | 121 => ⟨S4352x32x64, .f32⟩
  | 122 => ⟨S_, .i32⟩
  | 123 => ⟨S32x64, .f32⟩
  | 124 => ⟨S32x64, .f32⟩
  | 125 => ⟨S4352x32x64, .f32⟩
  | 126 => ⟨S4352x32x64, .f32⟩
  | 127 => ⟨S4352x32x64, .f32⟩
  | _ => ⟨S4352x3072, .f32⟩

abbrev hbmTy0_1 (i : Nat) : BufTy := match i % 128 with
  | 0 => ⟨S4352x32x64, .f32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S1x32x64, .f32⟩
  | 10 => ⟨S32x64, .f32⟩
  | 11 => ⟨S_, .i32⟩
  | 12 => ⟨S_, .i32⟩
  | 13 => ⟨S1x32x64, .f32⟩
  | 14 => ⟨S32x64, .f32⟩
  | 15 => ⟨S_, .i32⟩
  | 16 => ⟨S_, .i32⟩
  | 17 => ⟨S1x32x64, .f32⟩
  | 18 => ⟨S32x64, .f32⟩
  | 19 => ⟨S_, .i32⟩
  | 20 => ⟨S_, .i32⟩
  | 21 => ⟨S1x32x64, .f32⟩
  | 22 => ⟨S32x64, .f32⟩
  | 23 => ⟨S_, .i32⟩
  | 24 => ⟨S_, .i32⟩
  | 25 => ⟨S1x32x64, .f32⟩
  | 26 => ⟨S32x64, .f32⟩
  | 27 => ⟨S_, .i32⟩
  | 28 => ⟨S_, .i32⟩
  | 29 => ⟨S1x32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S1x32x64, .f32⟩
  | 47 => ⟨S_, .i32⟩
  | 48 => ⟨S_, .i32⟩
  | 49 => ⟨S4352x32x64, .f32⟩
  | 50 => ⟨S1x32x64, .f32⟩
  | 51 => ⟨S_, .i32⟩
  | 52 => ⟨S_, .i32⟩
  | 53 => ⟨S4352x32x64, .f32⟩
  | 54 => ⟨S1x32x64, .f32⟩
  | 55 => ⟨S_, .i32⟩
  | 56 => ⟨S_, .i32⟩
  | 57 => ⟨S4352x32x64, .f32⟩
  | 58 => ⟨S1x32x64, .f32⟩
  | 59 => ⟨S_, .i32⟩
  | 60 => ⟨S_, .i32⟩
  | 61 => ⟨S4352x32x64, .f32⟩
  | 62 => ⟨S_, .i32⟩
  | 63 => ⟨S_, .i32⟩
  | 64 => ⟨S_, .f32⟩
  | 65 => ⟨S32x64, .f32⟩
  | 66 => ⟨S_, .f32⟩
  | 67 => ⟨S32x64, .f32⟩
  | 68 => ⟨S32x64x4352, .f32⟩
  | 69 => ⟨S32x4352x16, .f32⟩
  | 70 => ⟨S4352x32x16, .f32⟩
  | 71 => ⟨S32x64x16, .f32⟩
  | 72 => ⟨S32x64x4352, .f32⟩
  | 73 => ⟨S32x4352x16, .f32⟩
  | 74 => ⟨S4352x32x16, .f32⟩
  | 75 => ⟨S4352x32x16, .f32⟩
  | 76 => ⟨S32x64x16, .f32⟩
  | 77 => ⟨S4352x512, .f32⟩
  | _ => ⟨S4352x3072, .f32⟩

abbrev hbmTy (i : Nat) : BufTy := match i / 128 with
  | 0 => hbmTy0_0 i
  | 1 => hbmTy0_1 i
  | _ => ⟨S4352x3072, .f32⟩

abbrev bufTy : (tb : Table) → Fin (tcTables nBuf tb) → BufTy
  | .hbm, ⟨i, _⟩ => hbmTy i
  | _, _ => ⟨S4352x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_c : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v13_4 : Ref sig .tc := ⟨.hbm, 31, rfl⟩
abbrev main_v13_5 : Ref sig .tc := ⟨.hbm, 32, rfl⟩
abbrev main_v13_6 : Ref sig .tc := ⟨.hbm, 33, rfl⟩
abbrev main_v13_7 : Ref sig .tc := ⟨.hbm, 34, rfl⟩
abbrev main_v13_8 : Ref sig .tc := ⟨.hbm, 35, rfl⟩
abbrev main_v13_9 : Ref sig .tc := ⟨.hbm, 36, rfl⟩
abbrev main_v13_10 : Ref sig .tc := ⟨.hbm, 37, rfl⟩
abbrev main_while0c_c_25 : Ref sig .tc := ⟨.hbm, 38, rfl⟩
abbrev main_while0c_v52 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_v0 : Ref sig .tc := ⟨.hbm, 42, rfl⟩
abbrev main_while0b_v52 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_v0 : Ref sig .tc := ⟨.hbm, 46, rfl⟩
abbrev main_while0b_v53 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_v0 : Ref sig .tc := ⟨.hbm, 50, rfl⟩
abbrev main_while0b_v54 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_v0 : Ref sig .tc := ⟨.hbm, 54, rfl⟩
abbrev main_while0b_v55 : Ref sig .tc := ⟨.hbm, 55, rfl⟩
abbrev main_while0b_v56 : Ref sig .tc := ⟨.hbm, 56, rfl⟩
abbrev main_while0b_v57 : Ref sig .tc := ⟨.hbm, 57, rfl⟩
abbrev main_while0b_v58 : Ref sig .tc := ⟨.hbm, 58, rfl⟩
abbrev main_while0b_v59 : Ref sig .tc := ⟨.hbm, 59, rfl⟩
abbrev main_while0b_v60 : Ref sig .tc := ⟨.hbm, 60, rfl⟩
abbrev main_while0b_v61 : Ref sig .tc := ⟨.hbm, 61, rfl⟩
abbrev main_while0b_v62 : Ref sig .tc := ⟨.hbm, 62, rfl⟩
abbrev main_while0b_v63 : Ref sig .tc := ⟨.hbm, 63, rfl⟩
abbrev main_while0b_call4_v0 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_v64 : Ref sig .tc := ⟨.hbm, 67, rfl⟩
abbrev main_while0b_call5_v0 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_v65 : Ref sig .tc := ⟨.hbm, 71, rfl⟩
abbrev main_while0b_call6_v0 : Ref sig .tc := ⟨.hbm, 72, rfl⟩
abbrev main_while0b_call6_c : Ref sig .tc := ⟨.hbm, 73, rfl⟩
abbrev main_while0b_call6_c_0 : Ref sig .tc := ⟨.hbm, 74, rfl⟩
abbrev main_while0b_v66 : Ref sig .tc := ⟨.hbm, 75, rfl⟩
abbrev main_while0b_call7_v0 : Ref sig .tc := ⟨.hbm, 76, rfl⟩
abbrev main_while0b_call7_c : Ref sig .tc := ⟨.hbm, 77, rfl⟩
abbrev main_while0b_call7_c_0 : Ref sig .tc := ⟨.hbm, 78, rfl⟩
abbrev main_while0b_v67 : Ref sig .tc := ⟨.hbm, 79, rfl⟩
abbrev main_while0b_c_25 : Ref sig .tc := ⟨.hbm, 80, rfl⟩
abbrev main_while0b_v68 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_cst_4 : Ref sig .tc := ⟨.hbm, 89, rfl⟩
abbrev main_v21 : Ref sig .tc := ⟨.hbm, 90, rfl⟩
abbrev main_cst_5 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_cst_6 : Ref sig .tc := ⟨.hbm, 103, rfl⟩
abbrev main_v33 : Ref sig .tc := ⟨.hbm, 104, rfl⟩
abbrev main_cst_7 : Ref sig .tc := ⟨.hbm, 105, rfl⟩
abbrev main_v34 : Ref sig .tc := ⟨.hbm, 106, rfl⟩
abbrev main_cst_8 : Ref sig .tc := ⟨.hbm, 107, rfl⟩
abbrev main_v35 : Ref sig .tc := ⟨.hbm, 108, rfl⟩
abbrev main_cst_9 : Ref sig .tc := ⟨.hbm, 109, rfl⟩
abbrev main_v36 : Ref sig .tc := ⟨.hbm, 110, rfl⟩
abbrev main_cst_10 : Ref sig .tc := ⟨.hbm, 111, rfl⟩
abbrev main_v37 : Ref sig .tc := ⟨.hbm, 112, rfl⟩
abbrev main_cst_11 : Ref sig .tc := ⟨.hbm, 113, rfl⟩
abbrev main_v38 : Ref sig .tc := ⟨.hbm, 114, rfl⟩
abbrev main_c_12 : Ref sig .tc := ⟨.hbm, 115, rfl⟩
abbrev main_v39_0 : Ref sig .tc := ⟨.hbm, 116, rfl⟩
abbrev main_v39_1 : Ref sig .tc := ⟨.hbm, 117, rfl⟩
abbrev main_v39_2 : Ref sig .tc := ⟨.hbm, 118, rfl⟩
abbrev main_v39_3 : Ref sig .tc := ⟨.hbm, 119, rfl⟩
abbrev main_v39_4 : Ref sig .tc := ⟨.hbm, 120, rfl⟩
abbrev main_v39_5 : Ref sig .tc := ⟨.hbm, 121, rfl⟩
abbrev main_v39_6 : Ref sig .tc := ⟨.hbm, 122, rfl⟩
abbrev main_v39_7 : Ref sig .tc := ⟨.hbm, 123, rfl⟩
abbrev main_v39_8 : Ref sig .tc := ⟨.hbm, 124, rfl⟩
abbrev main_v39_9 : Ref sig .tc := ⟨.hbm, 125, rfl⟩
abbrev main_v39_10 : Ref sig .tc := ⟨.hbm, 126, rfl⟩
abbrev main_v39_11 : Ref sig .tc := ⟨.hbm, 127, rfl⟩
abbrev main_v39_12 : Ref sig .tc := ⟨.hbm, 128, rfl⟩
abbrev main_while1c_c_27 : Ref sig .tc := ⟨.hbm, 129, rfl⟩
abbrev main_while1c_v52 : Ref sig .tc := ⟨.hbm, 130, rfl⟩
abbrev main_while1b_c_27 : Ref sig .tc := ⟨.hbm, 131, rfl⟩
abbrev main_while1b_v52 : Ref sig .tc := ⟨.hbm, 132, rfl⟩
abbrev main_while1b_c_28 : Ref sig .tc := ⟨.hbm, 133, rfl⟩
abbrev main_while1b_v53 : Ref sig .tc := ⟨.hbm, 134, rfl⟩
abbrev main_while1b_call8_c : Ref sig .tc := ⟨.hbm, 135, rfl⟩
abbrev main_while1b_call8_c_0 : Ref sig .tc := ⟨.hbm, 136, rfl⟩
abbrev main_while1b_call8_v0 : Ref sig .tc := ⟨.hbm, 137, rfl⟩
abbrev main_while1b_v54 : Ref sig .tc := ⟨.hbm, 138, rfl⟩
abbrev main_while1b_call9_c : Ref sig .tc := ⟨.hbm, 139, rfl⟩
abbrev main_while1b_call9_c_0 : Ref sig .tc := ⟨.hbm, 140, rfl⟩
abbrev main_while1b_call9_v0 : Ref sig .tc := ⟨.hbm, 141, rfl⟩
abbrev main_while1b_v55 : Ref sig .tc := ⟨.hbm, 142, rfl⟩
abbrev main_while1b_call10_c : Ref sig .tc := ⟨.hbm, 143, rfl⟩
abbrev main_while1b_call10_c_0 : Ref sig .tc := ⟨.hbm, 144, rfl⟩
abbrev main_while1b_call10_v0 : Ref sig .tc := ⟨.hbm, 145, rfl⟩
abbrev main_while1b_v56 : Ref sig .tc := ⟨.hbm, 146, rfl⟩
abbrev main_while1b_call11_c : Ref sig .tc := ⟨.hbm, 147, rfl⟩
abbrev main_while1b_call11_c_0 : Ref sig .tc := ⟨.hbm, 148, rfl⟩
abbrev main_while1b_call11_v0 : Ref sig .tc := ⟨.hbm, 149, rfl⟩
abbrev main_while1b_v57 : Ref sig .tc := ⟨.hbm, 150, rfl⟩
abbrev main_while1b_call12_c : Ref sig .tc := ⟨.hbm, 151, rfl⟩
abbrev main_while1b_call12_c_0 : Ref sig .tc := ⟨.hbm, 152, rfl⟩
abbrev main_while1b_call12_v0 : Ref sig .tc := ⟨.hbm, 153, rfl⟩
abbrev main_while1b_v58 : Ref sig .tc := ⟨.hbm, 154, rfl⟩
abbrev main_while1b_call13_c : Ref sig .tc := ⟨.hbm, 155, rfl⟩
abbrev main_while1b_call13_c_0 : Ref sig .tc := ⟨.hbm, 156, rfl⟩
abbrev main_while1b_call13_v0 : Ref sig .tc := ⟨.hbm, 157, rfl⟩
abbrev main_while1b_v59 : Ref sig .tc := ⟨.hbm, 158, rfl⟩
abbrev main_while1b_v60 : Ref sig .tc := ⟨.hbm, 159, rfl⟩
abbrev main_while1b_v61 : Ref sig .tc := ⟨.hbm, 160, rfl⟩
abbrev main_while1b_v62 : Ref sig .tc := ⟨.hbm, 161, rfl⟩
abbrev main_while1b_v63 : Ref sig .tc := ⟨.hbm, 162, rfl⟩
abbrev main_while1b_v64 : Ref sig .tc := ⟨.hbm, 163, rfl⟩
abbrev main_while1b_v65 : Ref sig .tc := ⟨.hbm, 164, rfl⟩
abbrev main_while1b_v66 : Ref sig .tc := ⟨.hbm, 165, rfl⟩
abbrev main_while1b_v67 : Ref sig .tc := ⟨.hbm, 166, rfl⟩
abbrev main_while1b_v68 : Ref sig .tc := ⟨.hbm, 167, rfl⟩
abbrev main_while1b_v69 : Ref sig .tc := ⟨.hbm, 168, rfl⟩
abbrev main_while1b_v70 : Ref sig .tc := ⟨.hbm, 169, rfl⟩
abbrev main_while1b_v71 : Ref sig .tc := ⟨.hbm, 170, rfl⟩
abbrev main_while1b_v72 : Ref sig .tc := ⟨.hbm, 171, rfl⟩
abbrev main_while1b_v73 : Ref sig .tc := ⟨.hbm, 172, rfl⟩
abbrev main_while1b_v74 : Ref sig .tc := ⟨.hbm, 173, rfl⟩
abbrev main_while1b_call14_v0 : Ref sig .tc := ⟨.hbm, 174, rfl⟩
abbrev main_while1b_call14_c : Ref sig .tc := ⟨.hbm, 175, rfl⟩
abbrev main_while1b_call14_c_0 : Ref sig .tc := ⟨.hbm, 176, rfl⟩
abbrev main_while1b_v75 : Ref sig .tc := ⟨.hbm, 177, rfl⟩
abbrev main_while1b_call15_v0 : Ref sig .tc := ⟨.hbm, 178, rfl⟩
abbrev main_while1b_call15_c : Ref sig .tc := ⟨.hbm, 179, rfl⟩
abbrev main_while1b_call15_c_0 : Ref sig .tc := ⟨.hbm, 180, rfl⟩
abbrev main_while1b_v76 : Ref sig .tc := ⟨.hbm, 181, rfl⟩
abbrev main_while1b_call16_v0 : Ref sig .tc := ⟨.hbm, 182, rfl⟩
abbrev main_while1b_call16_c : Ref sig .tc := ⟨.hbm, 183, rfl⟩
abbrev main_while1b_call16_c_0 : Ref sig .tc := ⟨.hbm, 184, rfl⟩
abbrev main_while1b_v77 : Ref sig .tc := ⟨.hbm, 185, rfl⟩
abbrev main_while1b_call17_v0 : Ref sig .tc := ⟨.hbm, 186, rfl⟩
abbrev main_while1b_call17_c : Ref sig .tc := ⟨.hbm, 187, rfl⟩
abbrev main_while1b_call17_c_0 : Ref sig .tc := ⟨.hbm, 188, rfl⟩
abbrev main_while1b_v78 : Ref sig .tc := ⟨.hbm, 189, rfl⟩
abbrev main_while1b_c_29 : Ref sig .tc := ⟨.hbm, 190, rfl⟩
abbrev main_while1b_v79 : Ref sig .tc := ⟨.hbm, 191, rfl⟩
abbrev main_cst_13 : Ref sig .tc := ⟨.hbm, 192, rfl⟩
abbrev main_v40 : Ref sig .tc := ⟨.hbm, 193, rfl⟩
abbrev main_cst_14 : Ref sig .tc := ⟨.hbm, 194, rfl⟩
abbrev main_v41 : Ref sig .tc := ⟨.hbm, 195, rfl⟩
abbrev main_v42 : Ref sig .tc := ⟨.hbm, 196, rfl⟩
abbrev main_v43 : Ref sig .tc := ⟨.hbm, 197, rfl⟩
abbrev main_v44 : Ref sig .tc := ⟨.hbm, 198, rfl⟩
abbrev main_v45 : Ref sig .tc := ⟨.hbm, 199, rfl⟩
abbrev main_v46 : Ref sig .tc := ⟨.hbm, 200, rfl⟩
abbrev main_v47 : Ref sig .tc := ⟨.hbm, 201, rfl⟩
abbrev main_v48 : Ref sig .tc := ⟨.hbm, 202, rfl⟩
abbrev main_v49 : Ref sig .tc := ⟨.hbm, 203, rfl⟩
abbrev main_v50 : Ref sig .tc := ⟨.hbm, 204, rfl⟩
abbrev main_v51 : Ref sig .tc := ⟨.hbm, 205, rfl⟩

abbrev nD : Nat := 1
abbrev τ : Topo := Topo.v7x

variable {F : FTy → Type} [FloatOps F]

abbrev main_while0_count : Scf.Loop 32 := ⟨0#32, 4352#32, 1#32⟩

abbrev main_while1_count : Scf.Loop 32 := ⟨0#32, 4352#32, 1#32⟩
-- ==== Kernel2.lean ====
abbrev S4352x1024 : Shape := ⟨2, ![4352, 1024]⟩
abbrev S1024x5632 : Shape := ⟨2, ![1024, 5632]⟩
abbrev S4352x5632 : Shape := ⟨2, ![4352, 5632]⟩
abbrev S1088x1024 : Shape := ⟨2, ![1088, 1024]⟩
abbrev S1024x1408 : Shape := ⟨2, ![1024, 1408]⟩
abbrev S1088x1408 : Shape := ⟨2, ![1088, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x5632, .f32⟩
  | .local _ .vmem, ⟨0, _⟩ => ⟨S1088x1024, .bf16⟩
  | .local _ .vmem, ⟨1, _⟩ => ⟨S1088x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1088x1408, .f32⟩
  | .local _ .vmem, ⟨5, _⟩ => ⟨S1088x1408, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4352x1024 : Shape := ⟨2, ![4352, 1024]⟩
abbrev S1024x5632 : Shape := ⟨2, ![1024, 5632]⟩
abbrev S4352x5632 : Shape := ⟨2, ![4352, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x1024, .f32⟩
  | .hbm, ⟨3, _⟩ => ⟨S1024x5632, .f32⟩
  | .hbm, ⟨4, _⟩ => ⟨S4352x5632, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S4352x2816 : Shape := ⟨2, ![4352, 2816]⟩
abbrev S1024x5632 : Shape := ⟨2, ![1024, 5632]⟩
abbrev S4352x1024 : Shape := ⟨2, ![4352, 1024]⟩
abbrev S544x2816 : Shape := ⟨2, ![544, 2816]⟩
abbrev S1024x2816 : Shape := ⟨2, ![1024, 2816]⟩
abbrev S544x1024 : Shape := ⟨2, ![544, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x2816, .bf16⟩
  | .hbm, ⟨1, _⟩ => ⟨S4352x2816, .bf16⟩
  | .hbm, ⟨2, _⟩ => ⟨S1024x5632, .bf16⟩
  | .hbm, ⟨3, _⟩ => ⟨S4352x1024, .f32⟩
  | .local _ .vmem, ⟨0, _⟩ => ⟨S544x2816, .bf16⟩
  | .local _ .vmem, ⟨1, _⟩ => ⟨S544x2816, .bf16⟩
  | .local _ .vmem, ⟨2, _⟩ => ⟨S544x2816, .bf16⟩
  | .local _ .vmem, ⟨3, _⟩ => ⟨S544x2816, .bf16⟩
  | .local _ .vmem, ⟨4, _⟩ => ⟨S1024x2816, .bf16⟩
  | .local _ .vmem, ⟨5, _⟩ => ⟨S1024x2816, .bf16⟩
  | .local _ .vmem, ⟨6, _⟩ => ⟨S544x1024, .f32⟩
  | .local _ .vmem, ⟨7, _⟩ => ⟨S544x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S544x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4352x2816 : Shape := ⟨2, ![4352, 2816]⟩
abbrev S1024x5632 : Shape := ⟨2, ![1024, 5632]⟩
abbrev S_ : Shape := ⟨0, ![]⟩
abbrev S4352x1024 : Shape := ⟨2, ![4352, 1024]⟩
abbrev S4352x5632 : Shape := ⟨2, ![4352, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x2816, .bf16⟩
  | .hbm, ⟨2, _⟩ => ⟨S1024x5632, .bf16⟩
  | .hbm, ⟨3, _⟩ => ⟨S_, .f32⟩
  | .hbm, ⟨4, _⟩ => ⟨S4352x1024, .f32⟩
  | .hbm, ⟨5, _⟩ => ⟨S1024x5632, .f32⟩
  | .hbm, ⟨6, _⟩ => ⟨S4352x5632, .f32⟩
  | .hbm, ⟨7, _⟩ => ⟨S4352x5632, .bf16⟩
  | .hbm, ⟨8, _⟩ => ⟨S4352x5632, .f32⟩
  | .hbm, ⟨9, _⟩ => ⟨S4352x1024, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S4352x1024 : Shape := ⟨2, ![4352, 1024]⟩
abbrev S4352x2816 : Shape := ⟨2, ![4352, 2816]⟩
abbrev S1024x2816 : Shape := ⟨2, ![1024, 2816]⟩
abbrev S2176x1024 : Shape := ⟨2, ![2176, 1024]⟩
abbrev S2176x1408 : Shape := ⟨2, ![2176, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x2816, .bf16⟩
  | .hbm, ⟨2, _⟩ => ⟨S1024x2816, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1408, .bf16⟩
  | .local _ .vmem, ⟨3, _⟩ => ⟨S2176x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x1024 : Shape := ⟨2, ![4352, 1024]⟩
abbrev S4352x2816 : Shape := ⟨2, ![4352, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2816, .bf16⟩
  | .hbm, ⟨2, _⟩ => ⟨S_, .f32⟩
  | .hbm, ⟨3, _⟩ => ⟨S1024x2816, .f32⟩
  | .hbm, ⟨4, _⟩ => ⟨S4352x1024, .f32⟩
  | .hbm, ⟨5, _⟩ => ⟨S4352x2816, .f32⟩
  | .hbm, ⟨6, _⟩ => ⟨S4352x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4352x2816 : Shape := ⟨2, ![4352, 2816]⟩
abbrev S2816x1024 : Shape := ⟨2, ![2816, 1024]⟩
abbrev S4352x1024 : Shape := ⟨2, ![4352, 1024]⟩
abbrev S1088x2816 : Shape := ⟨2, ![1088, 2816]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .f32⟩
  | .local _ .vmem, ⟨0, _⟩ => ⟨S1088x2816, .bf16⟩
  | .local _ .vmem, ⟨1, _⟩ => ⟨S1088x2816, .bf16⟩
  | .local _ .vmem, ⟨2, _⟩ => ⟨S2816x1024, .bf16⟩
  | .local _ .vmem, ⟨3, _⟩ => ⟨S1088x1024, .f32⟩
  | .local _ .vmem, ⟨4, _⟩ => ⟨S1088x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4352x2816 : Shape := ⟨2, ![4352, 2816]⟩
abbrev S2816x1024 : Shape := ⟨2, ![2816, 1024]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x2816, .f32⟩
  | .hbm, ⟨3, _⟩ => ⟨S2816x1024, .f32⟩
  | .hbm, ⟨4, _⟩ => ⟨S4352x1024, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S4352x1024 : Shape := ⟨2, ![4352, 1024]⟩
abbrev S2816x1024 : Shape := ⟨2, ![2816, 1024]⟩
abbrev S4352x2816 : Shape := ⟨2, ![4352, 2816]⟩
abbrev S1088x1024 : Shape := ⟨2, ![1088, 1024]⟩
abbrev S1408x1024 : Shape := ⟨2, ![1408, 1024]⟩
abbrev S1088x1408 : Shape := ⟨2, ![1088, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S2816x1024, .bf16⟩
  | .hbm, ⟨2, _⟩ => ⟨S4352x2816, .f32⟩
  | .local _ .vmem, ⟨0, _⟩ => ⟨S1088x1024, .f32⟩
  | .local _ .vmem, ⟨1, _⟩ => ⟨S1088x1024, .f32⟩
  | .local _ .vmem, ⟨2, _⟩ => ⟨S1408x1024, .bf16⟩
  | .local _ .vmem, ⟨3, _⟩ => ⟨S1408x1024, .bf16⟩
  | .local _ .vmem, ⟨4, _⟩ => ⟨S1088x1408, .f32⟩
  | .local _ .vmem, ⟨5, _⟩ => ⟨S1088x1408, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4352x1024 : Shape := ⟨2, ![4352, 1024]⟩
abbrev S2816x1024 : Shape := ⟨2, ![2816, 1024]⟩
abbrev S_ : Shape := ⟨0, ![]⟩
abbrev S4352x2816 : Shape := ⟨2, ![4352, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2816x1024, .bf16⟩
  | .hbm, ⟨2, _⟩ => ⟨S_, .f32⟩
  | .hbm, ⟨3, _⟩ => ⟨S4352x2816, .f32⟩
  | .hbm, ⟨4, _⟩ => ⟨S2816x1024, .f32⟩
  | .hbm, ⟨5, _⟩ => ⟨S4352x1024, .f32⟩
  | .hbm, ⟨6, _⟩ => ⟨S4352x2816, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4352x2816 : Shape := ⟨2, ![4352, 2816]⟩
abbrev S4352x1024 : Shape := ⟨2, ![4352, 1024]⟩
abbrev S2816x1024 : Shape := ⟨2, ![2816, 1024]⟩
abbrev S1088x1408 : Shape := ⟨2, ![1088, 1408]⟩
abbrev S1088x1024 : Shape := ⟨2, ![1088, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .f32⟩
  | .hbm, ⟨2, _⟩ => ⟨S2816x1024, .bf16⟩
  | .local _ .vmem, ⟨0, _⟩ => ⟨S1088x1408, .bf16⟩
  | .local _ .vmem, ⟨1, _⟩ => ⟨S1088x1408, .bf16⟩
  | .local _ .vmem, ⟨2, _⟩ => ⟨S1088x1024, .f32⟩
  | .local _ .vmem, ⟨3, _⟩ => ⟨S1088x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .f32⟩
  | .hbm, ⟨2, _⟩ => ⟨S_, .f32⟩
  | .hbm, ⟨3, _⟩ => ⟨S2816x1024, .f32⟩
  | .hbm, ⟨4, _⟩ => ⟨S4352x2816, .f32⟩
  | .hbm, ⟨5, _⟩ => ⟨S4352x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4352x1024 : Shape := ⟨2, ![4352, 1024]⟩
abbrev S1024x3072 : Shape := ⟨2, ![1024, 3072]⟩
abbrev S4352x3072 : Shape := ⟨2, ![4352, 3072]⟩
abbrev S1088x1024 : Shape := ⟨2, ![1088, 1024]⟩
abbrev S1024x1536 : Shape := ⟨2, ![1024, 1536]⟩
abbrev S1088x1536 : Shape := ⟨2, ![1088, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x3072, .bf16⟩
  | .hbm, ⟨2, _⟩ => ⟨S4352x3072, .f32⟩
  | .local _ .vmem, ⟨0, _⟩ => ⟨S1088x1024, .bf16⟩
  | .local _ .vmem, ⟨1, _⟩ => ⟨S1088x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1088x1536, .f32⟩
  | .local _ .vmem, ⟨5, _⟩ => ⟨S1088x1536, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4352x1024 : Shape := ⟨2, ![4352, 1024]⟩
abbrev S1024x3072 : Shape := ⟨2, ![1024, 3072]⟩
abbrev S4352x3072 : Shape := ⟨2, ![4352, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x3072, .bf16⟩
  | .hbm, ⟨2, _⟩ => ⟨S4352x1024, .f32⟩
  | .hbm, ⟨3, _⟩ => ⟨S1024x3072, .f32⟩
  | .hbm, ⟨4, _⟩ => ⟨S4352x3072, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4352x3072 : Shape := ⟨2, ![4352, 3072]⟩
abbrev S1024x3072 : Shape := ⟨2, ![1024, 3072]⟩
abbrev S4352x1024 : Shape := ⟨2, ![4352, 1024]⟩
abbrev S1088x3072 : Shape := ⟨2, ![1088, 3072]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x3072, .bf16⟩
  | .hbm, ⟨1, _⟩ => ⟨S1024x3072, .bf16⟩
  | .hbm, ⟨2, _⟩ => ⟨S4352x1024, .f32⟩
  | .local _ .vmem, ⟨0, _⟩ => ⟨S1088x3072, .bf16⟩
  | .local _ .vmem, ⟨1, _⟩ => ⟨S1088x3072, .bf16⟩
  | .local _ .vmem, ⟨2, _⟩ => ⟨S1024x3072, .bf16⟩
  | .local _ .vmem, ⟨3, _⟩ => ⟨S1088x1024, .f32⟩
  | .local _ .vmem, ⟨4, _⟩ => ⟨S1088x1024, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4352x3072 : Shape := ⟨2, ![4352, 3072]⟩
abbrev S1024x3072 : Shape := ⟨2, ![1024, 3072]⟩
abbrev S_ : Shape := ⟨0, ![]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S1024x3072, .bf16⟩
  | .hbm, ⟨2, _⟩ => ⟨S_, .f32⟩
  | .hbm, ⟨3, _⟩ => ⟨S4352x1024, .f32⟩
  | .hbm, ⟨4, _⟩ => ⟨S1024x3072, .f32⟩
  | .hbm, ⟨5, _⟩ => ⟨S4352x3072, .f32⟩
  | .hbm, ⟨6, _⟩ => ⟨S4352x3072, .f32⟩
  | .hbm, ⟨7, _⟩ => ⟨S4352x1024, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4352x1024 : Shape := ⟨2, ![4352, 1024]⟩
abbrev S4352x3072 : Shape := ⟨2, ![4352, 3072]⟩
abbrev S1024x3072 : Shape := ⟨2, ![1024, 3072]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x3072, .bf16⟩
  | .hbm, ⟨2, _⟩ => ⟨S1024x3072, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x1024 : Shape := ⟨2, ![4352, 1024]⟩
abbrev S4352x3072 : Shape := ⟨2, ![4352, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x3072, .bf16⟩
  | .hbm, ⟨2, _⟩ => ⟨S_, .f32⟩
  | .hbm, ⟨3, _⟩ => ⟨S1024x3072, .f32⟩
  | .hbm, ⟨4, _⟩ => ⟨S4352x1024, .f32⟩
  | .hbm, ⟨5, _⟩ => ⟨S4352x3072, .f32⟩
  | .hbm, ⟨6, _⟩ => ⟨S4352x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4352x1024 : Shape := ⟨2, ![4352, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S1024x1024, .bf16⟩
  | .hbm, ⟨2, _⟩ => ⟨S4352x1024, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x1024, .bf16⟩
  | .hbm, ⟨2, _⟩ => ⟨S_, .f32⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S1024x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .f32⟩
  | .local _ .vmem, ⟨3, _⟩ => ⟨S1088x1024, .f32⟩
  | .local _ .vmem, ⟨4, _⟩ => ⟨S1024x1024, .bf16⟩
  | .local _ .vmem, ⟨5, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Scan.lean ====
/-
  The rows of a block as a sequence, and the recurrence `s' = a s + x` on rows of complex numbers held as two real
  rows: one step, the state after a number of steps, and the steps of a stretch after those before it.
-/
module

public import proofs.«01_k».proof.Proof.Gen.KernelIdeal.Skeleton
public import Idealize.ShloMosaic.Lib.WritesUnit
public import Idealize.ShloMosaic.Lib.Tactic

@[expose] public section

noncomputable section

namespace Cert.S5

open Idealize.ShloMosaic Idealize.ShloMosaic.TcCoe Cert.KernelIdeal

variable {F : FTy → Type} [FloatOps F]

/-- The real row of the next state: `ar·sr − ai·si + x`. -/
abbrev stR (ar ai sr si x : FVec F S1x2048 .f32) : FVec F S1x2048 .f32 := addf (subf (mulf ar sr) (mulf ai si)) x

/-- The imaginary row of the next state: `ar·si + ai·sr + y`. -/
abbrev stI (ar ai sr si y : FVec F S1x2048 .f32) : FVec F S1x2048 .f32 := addf (addf (mulf ar si) (mulf ai sr)) y

/-- The state after `n` steps from `s`, the inputs of step `j` being `x j` and `y j`. -/
def scanN (ar ai : FVec F S1x2048 .f32) (x y : ℕ → FVec F S1x2048 .f32) (s : FVec F S1x2048 .f32 × FVec F S1x2048 .f32) :
    ℕ → FVec F S1x2048 .f32 × FVec F S1x2048 .f32
  | 0 => s
  | n + 1 => (stR ar ai (scanN ar ai x y s n).1 (scanN ar ai x y s n).2 (x n), stI ar ai (scanN ar ai x y s n).1 (scanN ar ai x y s n).2 (y n))

/-- The steps from `a` on are the steps of the shifted inputs from the state after `a` steps. -/
theorem scanN_add (ar ai : FVec F S1x2048 .f32) (x y : ℕ → FVec F S1x2048 .f32) (s : FVec F S1x2048 .f32 × FVec F S1x2048 .f32) (a : ℕ) :
    ∀ n, scanN ar ai (fun j => x (a + j)) (fun j => y (a + j)) (scanN ar ai x y s a) n = scanN ar ai x y s (a + n)
  | 0 => rfl
  | n + 1 => by
    show (stR _ _ _ _ _, stI _ _ _ _ _) = (stR _ _ _ _ _, stI _ _ _ _ _)
    rw [scanN_add ar ai x y s a n]; rfl

/-- The state depends only on the inputs of the steps taken. -/
theorem scanN_congr (ar ai : FVec F S1x2048 .f32) {x y x' y' : ℕ → FVec F S1x2048 .f32} (s : FVec F S1x2048 .f32 × FVec F S1x2048 .f32) :
    ∀ n, (∀ j, j < n → x j = x' j) → (∀ j, j < n → y j = y' j) → scanN ar ai x y s n = scanN ar ai x' y' s n
  | 0, _, _ => rfl
  | n + 1, hx, hy => by
    show (stR _ _ _ _ _, stI _ _ _ _ _) = (stR _ _ _ _ _, stI _ _ _ _ _)
    rw [scanN_congr ar ai s n (fun j h => hx j (Nat.lt_succ_of_lt h)) (fun j h => hy j (Nat.lt_succ_of_lt h)), hx n n.lt_succ_self, hy n n.lt_succ_self]

end Cert.S5

end
-- ==== Proof.Rows.lean ====
/-
  A block of 256 rows gone through eight rows at a time, in an order `ρ` of the rows that is its own inverse: what a
  trip's eight row stores leave, and the block of states of the recurrence.
-/
module

public import proofs.«01_k».proof.Proof.Scan
public import Idealize.ShloMosaic.Lib.ValueIdxCore
public import Idealize.ShloMosaic.Lib.Pipeline.ValueKit.Tiles

@[expose] public section

noncomputable section

namespace Cert.S5

open Idealize.ShloMosaic Idealize.ShloMosaic.TcCoe Idealize.ShloMosaic.ValueIdx Cert.KernelIdeal

variable {F : FTy → Type} [FloatOps F]

/-- An order of the 256 rows which is its own inverse. -/
structure RowOrder where
  ρ : ℕ → ℕ
  lt : ∀ n, n < 256 → ρ n < 256
  inv : ∀ n, n < 256 → ρ (ρ n) = n

/-- The rows from the first to the last. -/
def upward : RowOrder := ⟨fun n => n, fun _ h => h, fun _ _ => rfl⟩

/-- The rows from the last to the first. -/
def downward : RowOrder := ⟨fun n => 255 - n, fun _ _ => by omega, fun _ _ => by omega⟩

/-- Row `n` of a block. -/
def rowv (X : FVec F S256x2048 .f32) (n : ℕ) : FVec F S1x2048 .f32 :=
  fun x => X (ix2 (n0 := 256) (n1 := 2048) ⟨n % 256, Nat.mod_lt _ (by decide)⟩ (x (1 : Fin 2)))

/-- The states of the recurrence over a block's rows in the order given: `scanN` of its rows. -/
abbrev scanB (o : RowOrder) (ar ai : FVec F S1x2048 .f32) (X Y : FVec F S256x2048 .f32) (s : FVec F S1x2048 .f32 × FVec F S1x2048 .f32)
    (n : ℕ) : FVec F S1x2048 .f32 × FVec F S1x2048 .f32 :=
  scanN ar ai (fun n => rowv X (o.ρ n)) (fun n => rowv Y (o.ρ n)) s n

/-- The block of the states' real rows, each in the row of its input. -/
def scanRe (o : RowOrder) (ar ai : FVec F S1x2048 .f32) (X Y : FVec F S256x2048 .f32) (s : FVec F S1x2048 .f32 × FVec F S1x2048 .f32) :
    FVec F S256x2048 .f32 :=
  fun i => (scanB o ar ai X Y s (o.ρ (i (0 : Fin 2)).val + 1)).1 (ix2 (n0 := 1) (n1 := 2048) 0 (i (1 : Fin 2)))

/-- The block of the states' imaginary rows, each in the row of its input. -/
def scanIm (o : RowOrder) (ar ai : FVec F S1x2048 .f32) (X Y : FVec F S256x2048 .f32) (s : FVec F S1x2048 .f32 × FVec F S1x2048 .f32) :
    FVec F S256x2048 .f32 :=
  fun i => (scanB o ar ai X Y s (o.ρ (i (0 : Fin 2)).val + 1)).2 (ix2 (n0 := 1) (n1 := 2048) 0 (i (1 : Fin 2)))

/-- What the rows before trip `k` of a block hold: the states; the others hold the inputs still. -/
def partB (o : RowOrder) (X S : FVec F S256x2048 .f32) (k : ℕ) : FVec F S256x2048 .f32 :=
  fun i => if o.ρ (i (0 : Fin 2)).val < 8 * k then S i else X i

theorem partB_zero (o : RowOrder) (X S : FVec F S256x2048 .f32) : partB o X S 0 = X :=
  funext fun i => if_neg (by omega)

theorem partB_last (o : RowOrder) (X S : FVec F S256x2048 .f32) : partB o X S 32 = S :=
  funext fun i => if_pos (o.lt _ (i (0 : Fin 2)).isLt)

/-- A row no trip before `k` stored is the input's. -/
theorem rowv_partB (o : RowOrder) (X S : FVec F S256x2048 .f32) {k n : ℕ} (h : 8 * k ≤ n) (hn : n < 256) :
    rowv (partB o X S k) (o.ρ n) = rowv X (o.ρ n) :=
  funext fun x => if_neg (by
    show ¬ o.ρ (o.ρ n % 256) < 8 * k
    rw [Nat.mod_eq_of_lt (o.lt n hn), o.inv n hn]
    omega)

variable {sig : RefSig} {κ : Kind} {sp : Space}

/-- The eight row stores of trip `k`, read back: at a row of theirs the payload, elsewhere what was there. -/
theorem read_trip (o : RowOrder) (v : View sig κ sp S256x2048 .f32) (f : v.ty.Contents (Elt F)) {off : Fin 8 → Fin 2 → ℕ}
    (inb : ∀ j, ∀ a : Fin 2, off j a + S1x2048.size a ≤ S256x2048.size a) {k : ℕ} (hk : k < 32)
    (hoff : ∀ j : Fin 8, off j = ![o.ρ (8 * k + j.val), 0]) (P : ℕ → FVec F S1x2048 .f32) (i : S256x2048.Idx) :
    v.read (Elt F) (v.writes (Elt F) f (View.tilePieces (s := S256x2048) S1x2048.size off inb (fun j => P j.val) 8 le_rfl)) i
      = if 8 * k ≤ o.ρ (i (0 : Fin 2)).val ∧ o.ρ (i (0 : Fin 2)).val < 8 * k + 8 then
          P (o.ρ (i (0 : Fin 2)).val - 8 * k) (ix2 (n0 := 1) (n1 := 2048) 0 (i (1 : Fin 2)))
        else v.read (Elt F) f i := by
  have hi : (i (0 : Fin 2)).val < 256 := (i (0 : Fin 2)).isLt
  split
  next h =>
    have hj : o.ρ (i (0 : Fin 2)).val - 8 * k < 8 := by omega
    refine View.read_tilePieces v f S1x2048.size off inb (fun j => P j.val) 8 le_rfl i ⟨_, hj⟩ hj
      (ix2 (n0 := 1) (n1 := 2048) 0 (i (1 : Fin 2))) (fun a => ?_) (0 : Fin 2) (fun j' hne => ?_)
    · rw [hoff]
      revert a
      refine Fin.forall_fin_two.mpr ⟨?_, ?_⟩
      · show (i (0 : Fin 2)).val = o.ρ (8 * k + (o.ρ (i (0 : Fin 2)).val - 8 * k)) + 0
        rw [Nat.add_sub_cancel' h.1, o.inv _ hi, Nat.add_zero]
      · show (i (1 : Fin 2)).val = 0 + (i (1 : Fin 2)).val
        rw [Nat.zero_add]
    · rw [hoff]
      show (i (0 : Fin 2)).val < o.ρ (8 * k + j'.val) ∨ o.ρ (8 * k + j'.val) + 1 ≤ (i (0 : Fin 2)).val
      have hne' : o.ρ (8 * k + j'.val) ≠ (i (0 : Fin 2)).val := fun e => hne (Fin.ext (by
        have h2 := o.inv (8 * k + j'.val) (by omega)
        rw [e] at h2
        show j'.val = o.ρ (i (0 : Fin 2)).val - 8 * k
        omega))
      omega
  next h =>
    refine View.read_tilePieces_miss v f S1x2048.size off inb (fun j => P j.val) 8 le_rfl i (0 : Fin 2) (fun j' _ => ?_)
    rw [hoff]
    show (i (0 : Fin 2)).val < o.ρ (8 * k + j'.val) ∨ o.ρ (8 * k + j'.val) + 1 ≤ (i (0 : Fin 2)).val
    have hne' : o.ρ (8 * k + j'.val) ≠ (i (0 : Fin 2)).val := fun e => h (by
      have h2 := o.inv (8 * k + j'.val) (by omega)
      rw [e] at h2
      omega)
    omega

/-- A load of row `ρ (8k + j)`. -/
theorem load_row (v : View sig κ sp S256x2048 .f32) (f : v.ty.Contents (Elt F)) {off : Fin 2 → ℕ} {n : ℕ}
    (inb : ∀ a : Fin 2, off a + S1x2048.size a ≤ S256x2048.size a) (hoff : off = ![n, 0]) (hn : n < 256) :
    (v.readAt (Elt F) (Rect.unit (s := S256x2048) off S1x2048.size inb).toLoadRect f : FVec F S1x2048 .f32)
      = rowv (v.read (Elt F) f) n := by
  subst hoff
  refine funext fun x => ?_
  refine View.ld_unit_apply_of (v.read (Elt F) f) ![n, 0] S1x2048.size inb x _ (Fin.forall_fin_two.mpr ⟨?_, ?_⟩)
  · show n % 256 = n + (x (0 : Fin 2)).val
    have : (x (0 : Fin 2)).val < 1 := (x (0 : Fin 2)).isLt
    rw [Nat.mod_eq_of_lt hn]; omega
  · show (x (1 : Fin 2)).val = 0 + (x (1 : Fin 2)).val
    rw [Nat.zero_add]

/-- Trip `k` of the recurrence: from the state after `8k` steps and the block's part before it, the eight steps' state
and stores give the state after `8(k+1)` steps and the block's next part. -/
theorem trip_state (o : RowOrder) (ar ai : FVec F S1x2048 .f32) (X Y : FVec F S256x2048 .f32) (s : FVec F S1x2048 .f32 × FVec F S1x2048 .f32)
    {k : ℕ} (hk : k < 32) {xs ys : ℕ → FVec F S1x2048 .f32} (SX SY : FVec F S256x2048 .f32)
    (hx : ∀ j, j < 8 → xs j = rowv (partB o X SX k) (o.ρ (8 * k + j))) (hy : ∀ j, j < 8 → ys j = rowv (partB o Y SY k) (o.ρ (8 * k + j)))
    {n : ℕ} (hn : n ≤ 8) :
    scanN ar ai xs ys (scanB o ar ai X Y s (8 * k)) n = scanB o ar ai X Y s (8 * k + n) := by
  rw [scanB, scanB, ← scanN_add]
  exact scanN_congr ar ai _ n (fun j hj => (hx j (by omega)).trans (rowv_partB o X SX (by omega) (by omega)))
    (fun j hj => (hy j (by omega)).trans (rowv_partB o Y SY (by omega) (by omega)))

theorem partB_step (o : RowOrder) (X S : FVec F S256x2048 .f32) {k : ℕ} (P : ℕ → FVec F S1x2048 .f32)
    (hP : ∀ i : S256x2048.Idx, 8 * k ≤ o.ρ (i (0 : Fin 2)).val → o.ρ (i (0 : Fin 2)).val < 8 * k + 8 →
      P (o.ρ (i (0 : Fin 2)).val - 8 * k) (ix2 (n0 := 1) (n1 := 2048) 0 (i (1 : Fin 2))) = S i) (i : S256x2048.Idx) :
    (if 8 * k ≤ o.ρ (i (0 : Fin 2)).val ∧ o.ρ (i (0 : Fin 2)).val < 8 * k + 8 then
      P (o.ρ (i (0 : Fin 2)).val - 8 * k) (ix2 (n0 := 1) (n1 := 2048) 0 (i (1 : Fin 2))) else partB o X S k i)
    = partB o X S (k + 1) i := by
  unfold partB
  split
  next h => rw [if_pos (by omega)]; exact hP i h.1 h.2
  next h =>
    by_cases h' : o.ρ (i (0 : Fin 2)).val < 8 * k
    · rw [if_pos h', if_pos (by omega)]
    · rw [if_neg h', if_neg (by omega)]

end Cert.S5

end
-- ==== Proof.Blocks.lean ====
/-
  Blocks stored whole or in tiles, read back: a block of rank 2 stored whole, the two rows of the multipliers' gradient,
  and the eight diagonal blocks of a pair of matrices.
-/
module

public import proofs.«01_k».proof.Proof.Rows
public import Idealize.ShloMosaic.Lib.Pipeline.Value

@[expose] public section

noncomputable section

namespace Cert.S5

open Idealize.ShloMosaic Idealize.ShloMosaic.TcCoe Idealize.ShloMosaic.ValueIdx Cert.KernelIdeal

variable {F : FTy → Type} [FloatOps F]

/-- A store of a whole block, read back. -/
theorem read_whole {d : Fin 2 → ℕ} {κ : Kind} {sp : Space} {e : EltTy} (v : View sig κ sp (⟨2, d⟩ : Shape) e) (f : v.ty.Contents (Elt F)) (inb : ∀ a : Fin 2, (![0, 0] : Fin 2 → ℕ) a + d a ≤ d a)
    (w : (⟨2, d⟩ : Shape).Idx → Elt F e) (L : List (View.Piece (Elt F) (⟨2, d⟩ : Shape) e)) :
    v.read (Elt F) (v.writes (Elt F) f (⟨Rect.unit (s := ⟨2, d⟩) ![0, 0] d inb, w⟩ :: L)) = w :=
  funext fun y => View.read_writes_cons_rows_of_mem v f inb w L y y rfl (Nat.zero_add _).symm rfl

/-- A load of a whole block. -/
theorem ld_whole {d : Fin 2 → ℕ} {e : EltTy} (X : (⟨2, d⟩ : Shape).Idx → Elt F e) (inb : ∀ a : Fin 2, (![0, 0] : Fin 2 → ℕ) a + d a ≤ d a) :
    View.ld X (Rect.unit (s := ⟨2, d⟩) ![0, 0] d inb) = X :=
  View.ld_unit_zero (S := ⟨2, d⟩) (funext (Fin.forall_fin_two.mpr ⟨rfl, rfl⟩)) inb X

/-- A store of a whole rank-4 block, read back. -/
theorem read_whole4 {d : Fin 4 → ℕ} {κ : Kind} {sp : Space} {e : EltTy} (v : View sig κ sp (⟨4, d⟩ : Shape) e) (f : v.ty.Contents (Elt F)) (inb : ∀ a : Fin 4, (![0, 0, 0, 0] : Fin 4 → ℕ) a + d a ≤ d a)
    (w : (⟨4, d⟩ : Shape).Idx → Elt F e) (L : List (View.Piece (Elt F) (⟨4, d⟩ : Shape) e)) :
    v.read (Elt F) (v.writes (Elt F) f (⟨Rect.unit (s := ⟨4, d⟩) ![0, 0, 0, 0] d inb, w⟩ :: L)) = w :=
  funext fun y => View.read_writes_cons_unit_of_mem v f inb w L y y rfl fun a => by
    fin_cases a <;> exact (Nat.zero_add _).symm

/-- The two rows side by side. -/
def twoRows (p q : S1x1x1x2048.Idx → Elt F .f32) : S1x2x1x2048.Idx → Elt F .f32 :=
  fun y => if (y (1 : Fin 4)).val = 0 then p (ix4 (n0 := 1) (n1 := 1) (n2 := 1) (n3 := 2048) 0 0 0 (y (3 : Fin 4)))
    else q (ix4 (n0 := 1) (n1 := 1) (n2 := 1) (n3 := 2048) 0 0 0 (y (3 : Fin 4)))

/-- The eight diagonal blocks over what was there. -/
def eightBlocks (P : Fin 8 → S1x1x128x512.Idx → Elt F .f32) (o : S1x2x512x2048.Idx → Elt F .f32) : S1x2x512x2048.Idx → Elt F .f32 :=
  fun y => if (y (2 : Fin 4)).val / 128 = (y (3 : Fin 4)).val / 512 then
      P ⟨4 * (y (1 : Fin 4)).val + (y (2 : Fin 4)).val / 128, by
        have h1 : (y (1 : Fin 4)).val < 2 := (y (1 : Fin 4)).isLt
        have h2 : (y (2 : Fin 4)).val < 512 := (y (2 : Fin 4)).isLt
        omega⟩
        (ix4 (n0 := 1) (n1 := 1) (n2 := 128) (n3 := 512) 0 0 ⟨(y (2 : Fin 4)).val % 128, Nat.mod_lt _ (by decide)⟩ ⟨(y (3 : Fin 4)).val % 512, Nat.mod_lt _ (by decide)⟩)
    else o y

/-- The corner of the `j`-th diagonal block. -/
def corner (j : Fin 8) : Fin 4 → ℕ := ![0, j.val / 4, 128 * (j.val % 4), 512 * (j.val % 4)]

theorem corner_inb (j : Fin 8) : ∀ a : Fin 4, corner j a + S1x1x128x512.size a ≤ S1x2x512x2048.size a := by
  revert j; decide

variable {s : Shape} {e : EltTy} {κ : Kind} {sp : Space} {NT : ℕ}

/-- An index in one tile and in no other reads that tile's payload. -/
theorem read_tiles_hit (v : View sig κ sp s e) (f : v.ty.Contents (Elt F)) (tsz : Fin s.rank → ℕ) (off : Fin NT → Fin s.rank → ℕ)
    (inb : ∀ i a, off i a + tsz a ≤ s.size a) (P : Fin NT → (⟨s.rank, tsz⟩ : Shape).Idx → Elt F e) (y : s.Idx) (i : Fin NT)
    (x : (⟨s.rank, tsz⟩ : Shape).Idx) (hx : ∀ a, (y a).val = off i a + (x a).val)
    (hdis : ∀ i' : Fin NT, i' ≠ i → ∃ a, (y a).val < off i' a ∨ off i' a + tsz a ≤ (y a).val) :
    ∀ (j : ℕ) (hj : j ≤ NT), i.val < j → v.read (Elt F) (v.writes (Elt F) f (View.tilePieces tsz off inb P j hj)) y = P i x
  | 0, _, h => absurd h (Nat.not_lt_zero _)
  | j + 1, hj, h => by
    rw [View.tilePieces_succ]
    by_cases hn : (⟨j, hj⟩ : Fin NT) = i
    · subst hn
      exact View.read_writes_cons_unit_of_mem v f (inb ⟨j, hj⟩) (P ⟨j, hj⟩) _ y x rfl hx
    · obtain ⟨a, ha⟩ := hdis ⟨j, hj⟩ hn
      rw [View.read_writes_cons_unit_of_not_mem v f (inb ⟨j, hj⟩) (P ⟨j, hj⟩) _ y rfl a ha]
      exact read_tiles_hit v f tsz off inb P y i x hx hdis j (Nat.le_of_succ_le hj)
        (Nat.lt_of_le_of_ne (Nat.le_of_lt_succ h) fun e => hn (Fin.ext e.symm))

/-- An index in no tile reads what was there. -/
theorem read_tiles_miss (v : View sig κ sp s e) (f : v.ty.Contents (Elt F)) (tsz : Fin s.rank → ℕ) (off : Fin NT → Fin s.rank → ℕ)
    (inb : ∀ i a, off i a + tsz a ≤ s.size a) (P : Fin NT → (⟨s.rank, tsz⟩ : Shape).Idx → Elt F e) (y : s.Idx)
    (hdis : ∀ i' : Fin NT, ∃ a, (y a).val < off i' a ∨ off i' a + tsz a ≤ (y a).val) :
    ∀ (j : ℕ) (hj : j ≤ NT), v.read (Elt F) (v.writes (Elt F) f (View.tilePieces tsz off inb P j hj)) y = v.read (Elt F) f y
  | 0, _ => rfl
  | j + 1, hj => by
    obtain ⟨a, ha⟩ := hdis ⟨j, hj⟩
    rw [View.tilePieces_succ, View.read_writes_cons_unit_of_not_mem v f (inb ⟨j, hj⟩) (P ⟨j, hj⟩) _ y rfl a ha]
    exact read_tiles_miss v f tsz off inb P y hdis j (Nat.le_of_succ_le hj)

/-- The eight blocks' stores, read back. -/
theorem read_eight (v : View sig κ sp S1x2x512x2048 .f32) (f : v.ty.Contents (Elt F)) (P : Fin 8 → S1x1x128x512.Idx → Elt F .f32) :
    v.read (Elt F) (v.writes (Elt F) f (View.tilePieces (s := S1x2x512x2048) S1x1x128x512.size corner corner_inb P 8 le_rfl))
      = eightBlocks P (v.read (Elt F) f) := by
  refine funext fun y => ?_
  have h0 : (y (0 : Fin 4)).val < 1 := (y (0 : Fin 4)).isLt
  have h1 : (y (1 : Fin 4)).val < 2 := (y (1 : Fin 4)).isLt
  have h2 : (y (2 : Fin 4)).val < 512 := (y (2 : Fin 4)).isLt
  have h3 : (y (3 : Fin 4)).val < 2048 := (y (3 : Fin 4)).isLt
  unfold eightBlocks
  split
  next h =>
    refine read_tiles_hit v f S1x1x128x512.size corner corner_inb P y ⟨4 * (y (1 : Fin 4)).val + (y (2 : Fin 4)).val / 128, by omega⟩ _ (fun a => ?_) (fun i' hne => ?_) 8 le_rfl (by show _ < 8; omega)
    · match a with
      | ⟨0, _⟩ => show (y (0 : Fin 4)).val = 0 + 0; omega
      | ⟨1, _⟩ => show (y (1 : Fin 4)).val = (4 * (y (1 : Fin 4)).val + (y (2 : Fin 4)).val / 128) / 4 + 0; omega
      | ⟨2, _⟩ => show (y (2 : Fin 4)).val = 128 * ((4 * (y (1 : Fin 4)).val + (y (2 : Fin 4)).val / 128) % 4) + (y (2 : Fin 4)).val % 128; omega
      | ⟨3, _⟩ => show (y (3 : Fin 4)).val = 512 * ((4 * (y (1 : Fin 4)).val + (y (2 : Fin 4)).val / 128) % 4) + (y (3 : Fin 4)).val % 512; omega
    · have hne' : i'.val ≠ 4 * (y (1 : Fin 4)).val + (y (2 : Fin 4)).val / 128 := fun e => hne (Fin.ext e)
      by_cases hp : i'.val / 4 = (y (1 : Fin 4)).val
      · refine ⟨(2 : Fin 4), ?_⟩
        show (y (2 : Fin 4)).val < 128 * (i'.val % 4) ∨ 128 * (i'.val % 4) + 128 ≤ (y (2 : Fin 4)).val
        omega
      · refine ⟨(1 : Fin 4), ?_⟩
        show (y (1 : Fin 4)).val < i'.val / 4 ∨ i'.val / 4 + 1 ≤ (y (1 : Fin 4)).val
        omega
  next h =>
    refine read_tiles_miss v f S1x1x128x512.size corner corner_inb P y (fun i' => ?_) 8 le_rfl
    by_cases hp : i'.val % 4 = (y (2 : Fin 4)).val / 128
    · refine ⟨(3 : Fin 4), ?_⟩
      show (y (3 : Fin 4)).val < 512 * (i'.val % 4) ∨ 512 * (i'.val % 4) + 512 ≤ (y (3 : Fin 4)).val
      omega
    · refine ⟨(2 : Fin 4), ?_⟩
      show (y (2 : Fin 4)).val < 128 * (i'.val % 4) ∨ 128 * (i'.val % 4) + 128 ≤ (y (2 : Fin 4)).val
      omega

/-- The same, the eight stores written out over earlier ones. -/
theorem read_eight_over (v : View sig κ sp S1x2x512x2048 .f32) (f : v.ty.Contents (Elt F)) (L : List (View.Piece (Elt F) S1x2x512x2048 .f32)) (p0 p1 p2 p3 p4 p5 p6 p7 : S1x1x128x512.Idx → Elt F .f32)
    (i0 : ∀ a : Fin 4, (![0, 0, 0, 0] : Fin 4 → ℕ) a + (![1, 1, 128, 512] : Fin 4 → ℕ) a ≤ S1x2x512x2048.size a)
    (i1 : ∀ a : Fin 4, (![0, 0, 128, 512] : Fin 4 → ℕ) a + (![1, 1, 128, 512] : Fin 4 → ℕ) a ≤ S1x2x512x2048.size a)
    (i2 : ∀ a : Fin 4, (![0, 0, 256, 1024] : Fin 4 → ℕ) a + (![1, 1, 128, 512] : Fin 4 → ℕ) a ≤ S1x2x512x2048.size a)
    (i3 : ∀ a : Fin 4, (![0, 0, 384, 1536] : Fin 4 → ℕ) a + (![1, 1, 128, 512] : Fin 4 → ℕ) a ≤ S1x2x512x2048.size a)
    (i4 : ∀ a : Fin 4, (![0, 1, 0, 0] : Fin 4 → ℕ) a + (![1, 1, 128, 512] : Fin 4 → ℕ) a ≤ S1x2x512x2048.size a)
    (i5 : ∀ a : Fin 4, (![0, 1, 128, 512] : Fin 4 → ℕ) a + (![1, 1, 128, 512] : Fin 4 → ℕ) a ≤ S1x2x512x2048.size a)
    (i6 : ∀ a : Fin 4, (![0, 1, 256, 1024] : Fin 4 → ℕ) a + (![1, 1, 128, 512] : Fin 4 → ℕ) a ≤ S1x2x512x2048.size a)
    (i7 : ∀ a : Fin 4, (![0, 1, 384, 1536] : Fin 4 → ℕ) a + (![1, 1, 128, 512] : Fin 4 → ℕ) a ≤ S1x2x512x2048.size a) :
    v.read (Elt F) (v.writes (Elt F) f (⟨Rect.unit (s := S1x2x512x2048) ![0, 1, 384, 1536] ![1, 1, 128, 512] i7, p7⟩ :: ⟨Rect.unit (s := S1x2x512x2048) ![0, 1, 256, 1024] ![1, 1, 128, 512] i6, p6⟩ :: ⟨Rect.unit (s := S1x2x512x2048) ![0, 1, 128, 512] ![1, 1, 128, 512] i5, p5⟩ :: ⟨Rect.unit (s := S1x2x512x2048) ![0, 1, 0, 0] ![1, 1, 128, 512] i4, p4⟩ :: ⟨Rect.unit (s := S1x2x512x2048) ![0, 0, 384, 1536] ![1, 1, 128, 512] i3, p3⟩ :: ⟨Rect.unit (s := S1x2x512x2048) ![0, 0, 256, 1024] ![1, 1, 128, 512] i2, p2⟩ :: ⟨Rect.unit (s := S1x2x512x2048) ![0, 0, 128, 512] ![1, 1, 128, 512] i1, p1⟩ :: ⟨Rect.unit (s := S1x2x512x2048) ![0, 0, 0, 0] ![1, 1, 128, 512] i0, p0⟩ :: L))
      = eightBlocks ![p0, p1, p2, p3, p4, p5, p6, p7] (v.read (Elt F) (v.writes (Elt F) f L)) :=
  read_eight v (v.writes (Elt F) f L) ![p0, p1, p2, p3, p4, p5, p6, p7]

/-- A load reads past a store it does not meet. -/
theorem skip_block {d o sz o' sz' : Fin 4 → ℕ} (v : View sig κ sp (⟨4, d⟩ : Shape) e) (f : v.ty.Contents (Elt F)) (inb : ∀ a : Fin 4, o a + sz a ≤ d a)
    (inb' : ∀ a : Fin 4, o' a + sz' a ≤ d a) (w : (⟨4, sz⟩ : Shape).Idx → Elt F e) (L : List (View.Piece (Elt F) (⟨4, d⟩ : Shape) e))
    (h : ∃ a : Fin 4, o' a + sz' a ≤ o a ∨ o a + sz a ≤ o' a) :
    View.ld (v.read (Elt F) (v.writes (Elt F) f (⟨Rect.unit (s := ⟨4, d⟩) o sz inb, w⟩ :: L))) (Rect.unit (s := ⟨4, d⟩) o' sz' inb')
      = View.ld (v.read (Elt F) (v.writes (Elt F) f L)) (Rect.unit (s := ⟨4, d⟩) o' sz' inb') := by
  obtain ⟨a, ha⟩ := h
  refine funext fun x => View.read_writes_cons_unit_of_not_mem v f inb w L _ rfl a ?_
  have hx : (x a).val < sz' a := (x a).isLt
  have hv : (((Rect.unit (s := ⟨4, d⟩) o' sz' inb').idx x) a).val = o' a + 1 * (x a).val := rfl
  rw [hv]
  omega

/-- The two rows' stores, read back. -/
theorem read_two (v : View sig κ sp S1x2x1x2048 .f32) (f : v.ty.Contents (Elt F)) (p q : S1x1x1x2048.Idx → Elt F .f32) (L : List (View.Piece (Elt F) S1x2x1x2048 .f32))
    (inb0 : ∀ a : Fin 4, (![0, 0, 0, 0] : Fin 4 → ℕ) a + (![1, 1, 1, 2048] : Fin 4 → ℕ) a ≤ S1x2x1x2048.size a) (inb1 : ∀ a : Fin 4, (![0, 1, 0, 0] : Fin 4 → ℕ) a + (![1, 1, 1, 2048] : Fin 4 → ℕ) a ≤ S1x2x1x2048.size a) :
    v.read (Elt F) (v.writes (Elt F) f (⟨Rect.unit (s := S1x2x1x2048) ![0, 1, 0, 0] ![1, 1, 1, 2048] inb1, q⟩ :: ⟨Rect.unit (s := S1x2x1x2048) ![0, 0, 0, 0] ![1, 1, 1, 2048] inb0, p⟩ :: L))
      = twoRows p q := by
  refine funext fun y => ?_
  have h0 : (y (0 : Fin 4)).val < 1 := (y (0 : Fin 4)).isLt
  have h1 : (y (1 : Fin 4)).val < 2 := (y (1 : Fin 4)).isLt
  have h2 : (y (2 : Fin 4)).val < 1 := (y (2 : Fin 4)).isLt
  unfold twoRows
  split
  next h =>
    rw [View.read_writes_cons_unit_of_not_mem v f inb1 q _ y rfl (1 : Fin 4) (Or.inl (by show _ < 1; omega))]
    refine View.read_writes_cons_unit_of_mem v f inb0 p L y _ rfl fun a => ?_
    match a with
    | ⟨0, _⟩ => show (y (0 : Fin 4)).val = 0 + 0; omega
    | ⟨1, _⟩ => show (y (1 : Fin 4)).val = 0 + 0; omega
    | ⟨2, _⟩ => show (y (2 : Fin 4)).val = 0 + 0; omega
    | ⟨3, _⟩ => exact (Nat.zero_add _).symm
  next h =>
    refine View.read_writes_cons_unit_of_mem v f inb1 q _ y _ rfl fun a => ?_
    match a with
    | ⟨0, _⟩ => show (y (0 : Fin 4)).val = 0 + 0; omega
    | ⟨1, _⟩ => show (y (1 : Fin 4)).val = 1 + 0; omega
    | ⟨2, _⟩ => show (y (2 : Fin 4)).val = 0 + 0; omega
    | ⟨3, _⟩ => exact (Nat.zero_add _).symm

end Cert.S5

end
-- ==== Proof.FwdTrip.lean ====
/-
  The forward call's loop over a block of 256 rows, eight rows a trip: each trip's yield and stores are eight steps of
  the recurrence on the rows it finds, so after the loop the carried rows are the state after 256 steps and the two
  blocks hold the states, row by row.
-/
module

public import proofs.«01_k».proof.Proof.Gen.KernelIdeal.Loops
public import proofs.«01_k».proof.Proof.Rows
public import Idealize.ShloMosaic.Lib.Pipeline.Value

@[expose] public section

set_option maxRecDepth 8192

noncomputable section

namespace Cert.KernelIdeal.Fwd

open Idealize.ShloMosaic Idealize.ShloMosaic.TcCoe Idealize.ShloMosaic.Tactic
open Idealize.SL Idealize.SL.RA Idealize.SL.BI
open Idealize.ShloMosaic.ValueIdx Cert.KernelIdeal Cert.KernelIdeal.Gen Cert.S5

variable {F : FTy → Type} [FloatOps F]

/-- The row of step `j` of trip `k`, loaded from the contents given. -/
abbrev xs (m : Memref sig .tc .vmem S256x2048 .f32) (f : BufTy.Contents (Elt F) m.view.ty) (k : Fin k0_t1_loop.trips) (j : ℕ) : FVec F S1x2048 .f32 :=
  if h : j < 8 then View.readAt (Elt F) m.view (Rect.unit (s := S256x2048) (k0_off1 k (BitVec.ofNat 32 (⟨j, h⟩ : Fin 8).val)) S1x2048.size (k0_off1_inb k ⟨j, h⟩)).toLoadRect f
  else View.readAt (Elt F) m.view (Rect.unit (s := S256x2048) (k0_off1 k (BitVec.ofNat 32 (0 : Fin 8).val)) S1x2048.size (k0_off1_inb k 0)).toLoadRect f

theorem xs_eq (m : Memref sig .tc .vmem S256x2048 .f32) (f : BufTy.Contents (Elt F) m.view.ty) (k : Fin k0_t1_loop.trips) {j : ℕ} (hj : j < 8) :
    xs m f k j = rowv (m.view.read (Elt F) f) (upward.ρ (8 * k.val + j)) := by
  have hk : k.val < 32 := Nat.lt_of_lt_of_le k.isLt k0_t1_abs.2.1
  rw [xs, dif_pos hj]
  exact load_row m.view f _ (k0_off1_eq k ⟨j, hj⟩) (show 8 * k.val + j < 256 by omega)

/-- A trip's eight row stores of the rows `P`, oldest last. -/
def rowStores (k : Fin k0_t1_loop.trips) (P : ℕ → FVec F S1x2048 .f32) : List (View.Piece (Elt F) S256x2048 .f32) :=
  View.tilePieces (s := S256x2048) S1x2048.size (fun j : Fin 8 => k0_off1 k (BitVec.ofNat 32 j.val)) (k0_off1_inb k) (fun j => P j.val) 8 le_rfl

theorem read_stores (m : Memref sig .tc .vmem S256x2048 .f32) (f : BufTy.Contents (Elt F) m.view.ty) (k : Fin k0_t1_loop.trips) (P : ℕ → FVec F S1x2048 .f32)
    (y : S256x2048.Idx) :
    m.view.read (Elt F) (m.view.writes (Elt F) f (rowStores k P)) y
      = if 8 * k.val ≤ upward.ρ (y (0 : Fin 2)).val ∧ upward.ρ (y (0 : Fin 2)).val < 8 * k.val + 8 then
          P (upward.ρ (y (0 : Fin 2)).val - 8 * k.val) (ix2 (n0 := 1) (n1 := 2048) 0 (y (1 : Fin 2)))
        else m.view.read (Elt F) f y :=
  read_trip upward m.view f (k0_off1_inb k) (Nat.lt_of_lt_of_le k.isLt k0_t1_abs.2.1) (fun j => k0_off1_eq k j) P y

theorem trip_all (𝒱 : Variants) (c : Dev nD) (bd : Option 𝒱.V) (i : grid0.Coords) (arg1 : Memref sig .tc .vmem S256x512 .f32) (harg1 : arg1.IsWhole) (arg2 : Memref sig .tc .vmem S1x2x1x2048 .f32) (harg2 : arg2.IsWhole) (arg3 : Memref sig .tc .vmem S1x2x512x2048 .bf16) (harg3 : arg3.IsWhole) (arg4 : Memref sig .tc .vmem S1x2x512x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x512 .f32) (harg7 : arg7.IsWhole) (arg8 : Memref sig .tc .vmem S1x2048 .f32) (harg8 : arg8.IsWhole) (arg9 : Memref sig .tc .vmem S1x2048 .f32) (harg9 : arg9.IsWhole) (v49 : FVec F S1x2048 .f32) (v51 : FVec F S1x2048 .f32) (v52 : Vec F S1x2048 .f32) (v53 : Vec F S1x2048 .f32) (c0_i32_50 : BitVec 32) (c32_i32 : BitVec 32) (k : Fin k0_t1_loop.trips) (acc : Vec F S1x2048 .f32 × Vec F S1x2048 .f32) (f5 : BufTy.Contents (Elt F) arg5.view.ty) (f6 : BufTy.Contents (Elt F) arg6.view.ty) :
    tripR_k0_t1 (F := F) 𝒱 c bd i arg1 harg1 arg2 harg2 arg3 harg3 arg4 harg4 arg5 harg5 arg6 harg6 arg7 harg7 arg8 harg8 arg9 harg9 v49 v51 v52 v53 c0_i32_50 c32_i32 k acc f5 f6 = scanN v49 v51 (xs arg5 f5 k) (xs arg6 f6 k) acc 8
      ∧ (tripL_k0_t1 (F := F) 𝒱 c bd i arg1 harg1 arg2 harg2 arg3 harg3 arg4 harg4 arg5 harg5 arg6 harg6 arg7 harg7 arg8 harg8 arg9 harg9 v49 v51 v52 v53 c0_i32_50 c32_i32 k acc f5 f6).1 = rowStores k (fun j => (scanN v49 v51 (xs arg5 f5 k) (xs arg6 f6 k) acc (j + 1)).1)
      ∧ (tripL_k0_t1 (F := F) 𝒱 c bd i arg1 harg1 arg2 harg2 arg3 harg3 arg4 harg4 arg5 harg5 arg6 harg6 arg7 harg7 arg8 harg8 arg9 harg9 v49 v51 v52 v53 c0_i32_50 c32_i32 k acc f5 f6).2 = rowStores k (fun j => (scanN v49 v51 (xs arg5 f5 k) (xs arg6 f6 k) acc (j + 1)).2) := by
  unfold tripR_k0_t1 tripL_k0_t1 trip_k0_t1
  dsimp only
  sl_unfold_run_names
  simp only [k0_pay2, k0_pay3, k0_pay4, k0_pay5, k0_pay6, k0_pay7, k0_pay8, k0_pay9, k0_pay10, k0_pay11, k0_pay12, k0_pay13, k0_pay14, k0_pay15, k0_pay16, k0_pay17, k0_pay25, k0_pay26, shapeCast_self]
  exact ⟨rfl, rfl, rfl⟩

theorem parts_of {α β : Type} {st : α × List β × List β} {a a' : α} {l l' p m m' q : List β} (h : st = (a, l ++ p, m ++ q))
    (ha : a = a') (hl : l = l') (hm : m = m') : st.1 = a' ∧ st.2.1 = l' ++ p ∧ st.2.2 = m' ++ q := by
  subst h ha hl hm; exact ⟨rfl, rfl, rfl⟩

/-- Before trip `k`: the state after `8k` steps is carried, and the blocks' rows before `8k` hold the states. -/
theorem st_eq (𝒱 : Variants) (c : Dev nD) (bd : Option 𝒱.V) (i : grid0.Coords) (arg1 : Memref sig .tc .vmem S256x512 .f32) (harg1 : arg1.IsWhole) (arg2 : Memref sig .tc .vmem S1x2x1x2048 .f32) (harg2 : arg2.IsWhole) (arg3 : Memref sig .tc .vmem S1x2x512x2048 .bf16) (harg3 : arg3.IsWhole) (arg4 : Memref sig .tc .vmem S1x2x512x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x512 .f32) (harg7 : arg7.IsWhole) (arg8 : Memref sig .tc .vmem S1x2048 .f32) (harg8 : arg8.IsWhole) (arg9 : Memref sig .tc .vmem S1x2048 .f32) (harg9 : arg9.IsWhole) (v49 : FVec F S1x2048 .f32) (v51 : FVec F S1x2048 .f32) (v52 : Vec F S1x2048 .f32) (v53 : Vec F S1x2048 .f32) (c0_i32_50 : BitVec 32) (c32_i32 : BitVec 32) (G5 : BufTy.Contents (Elt F) arg5.view.ty) (G6 : BufTy.Contents (Elt F) arg6.view.ty) (init : Vec F S1x2048 .f32 × Vec F S1x2048 .f32)
    (X Y : FVec F S256x2048 .f32) (hX : arg5.view.read (Elt F) G5 = X) (hY : arg6.view.read (Elt F) G6 = Y) :
    ∀ k, k ≤ k0_t1_loop.trips →
      (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).1 = scanB upward v49 v51 X Y init (8 * k)
      ∧ arg5.view.read (Elt F) (arg5.view.writes (Elt F) G5 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).2.1) = partB upward X (scanRe upward v49 v51 X Y init) k
      ∧ arg6.view.read (Elt F) (arg6.view.writes (Elt F) G6 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).2.2) = partB upward Y (scanIm upward v49 v51 X Y init) k
  | 0, _ => ⟨rfl, by rw [partB_zero]; exact hX, by rw [partB_zero]; exact hY⟩
  | k + 1, hk => by
    obtain ⟨h1, h5, h6⟩ := st_eq 𝒱 c bd i arg1 harg1 arg2 harg2 arg3 harg3 arg4 harg4 arg5 harg5 arg6 harg6 arg7 harg7 arg8 harg8 arg9 harg9 v49 v51 v52 v53 c0_i32_50 c32_i32 G5 G6 init X Y hX hY k (by omega)
    have hk32 : k < 32 := Nat.lt_of_lt_of_le hk k0_t1_abs.2.1
    obtain ⟨t1, t5, t6⟩ := trip_all (F := F) 𝒱 c bd i arg1 harg1 arg2 harg2 arg3 harg3 arg4 harg4 arg5 harg5 arg6 harg6 arg7 harg7 arg8 harg8 arg9 harg9 v49 v51 v52 v53 c0_i32_50 c32_i32 ⟨k, hk⟩ (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).1 (arg5.view.writes (Elt F) G5 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).2.1) (arg6.view.writes (Elt F) G6 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).2.2)
    have hst := st_k0_t1_succ (F := F) 𝒱 c bd i arg1 harg1 arg2 harg2 arg3 harg3 arg4 harg4 arg5 harg5 arg6 harg6 arg7 harg7 arg8 harg8 arg9 harg9 v49 v51 v52 v53 c0_i32_50 c32_i32 G5 G6 init ⟨k, hk⟩
    obtain ⟨e1, e5, e6⟩ := parts_of hst t1 t5 t6
    clear hst t1 t5 t6
    have hs : ∀ n, n ≤ 8 → scanN v49 v51 (xs arg5 (arg5.view.writes (Elt F) G5 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).2.1) ⟨k, hk⟩) (xs arg6 (arg6.view.writes (Elt F) G6 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).2.2) ⟨k, hk⟩) (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).1 n
        = scanB upward v49 v51 X Y init (8 * k + n) := fun n hn => by
      rw [h1]
      exact trip_state upward v49 v51 X Y init hk32 _ _ (fun j hj => (xs_eq arg5 _ ⟨k, hk⟩ hj).trans (by rw [h5])) (fun j hj => (xs_eq arg6 _ ⟨k, hk⟩ hj).trans (by rw [h6])) hn
    refine ⟨e1.trans (hs 8 le_rfl), ?_, ?_⟩
    · rw [e5, View.writes_append]
      refine funext fun y => (read_stores arg5 _ ⟨k, hk⟩ _ y).trans ?_
      rw [h5]
      refine partB_step (k := k) upward X (scanRe upward v49 v51 X Y init) (fun j => (scanN v49 v51 (xs arg5 (arg5.view.writes (Elt F) G5 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).2.1) ⟨k, hk⟩) (xs arg6 (arg6.view.writes (Elt F) G6 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).2.2) ⟨k, hk⟩) (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).1 (j + 1)).1) (fun y (ha : 8 * k ≤ _) (hb : _ < 8 * k + 8) => ?_) y
      show (scanN _ _ _ _ _ (upward.ρ (y (0 : Fin 2)).val - 8 * k + 1)).1 _ = _
      rw [hs _ (by omega)]
      show _ = (scanB upward v49 v51 X Y init (upward.ρ (y (0 : Fin 2)).val + 1)).1 _
      rw [show 8 * k + (upward.ρ (y (0 : Fin 2)).val - 8 * k + 1) = upward.ρ (y (0 : Fin 2)).val + 1 by omega]
    · rw [e6, View.writes_append]
      refine funext fun y => (read_stores arg6 _ ⟨k, hk⟩ _ y).trans ?_
      rw [h6]
      refine partB_step (k := k) upward Y (scanIm upward v49 v51 X Y init) (fun j => (scanN v49 v51 (xs arg5 (arg5.view.writes (Elt F) G5 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).2.1) ⟨k, hk⟩) (xs arg6 (arg6.view.writes (Elt F) G6 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).2.2) ⟨k, hk⟩) (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k).1 (j + 1)).2) (fun y (ha : 8 * k ≤ _) (hb : _ < 8 * k + 8) => ?_) y
      show (scanN _ _ _ _ _ (upward.ρ (y (0 : Fin 2)).val - 8 * k + 1)).2 _ = _
      rw [hs _ (by omega)]
      show _ = (scanB upward v49 v51 X Y init (upward.ρ (y (0 : Fin 2)).val + 1)).2 _
      rw [show 8 * k + (upward.ρ (y (0 : Fin 2)).val - 8 * k + 1) = upward.ρ (y (0 : Fin 2)).val + 1 by omega]

theorem trips_eq : k0_t1_loop.trips = 32 := by decide

/-- After the loop: the state after 256 steps is carried, and the blocks hold the states. -/
theorem loop_eq (𝒱 : Variants) (c : Dev nD) (bd : Option 𝒱.V) (i : grid0.Coords) (arg1 : Memref sig .tc .vmem S256x512 .f32) (harg1 : arg1.IsWhole) (arg2 : Memref sig .tc .vmem S1x2x1x2048 .f32) (harg2 : arg2.IsWhole) (arg3 : Memref sig .tc .vmem S1x2x512x2048 .bf16) (harg3 : arg3.IsWhole) (arg4 : Memref sig .tc .vmem S1x2x512x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x512 .f32) (harg7 : arg7.IsWhole) (arg8 : Memref sig .tc .vmem S1x2048 .f32) (harg8 : arg8.IsWhole) (arg9 : Memref sig .tc .vmem S1x2048 .f32) (harg9 : arg9.IsWhole) (v49 : FVec F S1x2048 .f32) (v51 : FVec F S1x2048 .f32) (v52 : Vec F S1x2048 .f32) (v53 : Vec F S1x2048 .f32) (c0_i32_50 : BitVec 32) (c32_i32 : BitVec 32) (G5 : BufTy.Contents (Elt F) arg5.view.ty) (G6 : BufTy.Contents (Elt F) arg6.view.ty) (init : Vec F S1x2048 .f32 × Vec F S1x2048 .f32)
    (X Y : FVec F S256x2048 .f32) (hX : arg5.view.read (Elt F) G5 = X) (hY : arg6.view.read (Elt F) G6 = Y) :
    (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k0_t1_loop.trips).1 = scanB upward v49 v51 X Y init 256
      ∧ arg5.view.read (Elt F) (arg5.view.writes (Elt F) G5 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k0_t1_loop.trips).2.1) = scanRe upward v49 v51 X Y init
      ∧ arg6.view.read (Elt F) (arg6.view.writes (Elt F) G6 (st_k0_t1 (F := F) 𝒱 c bd i arg1 harg1 arg2 harg2 arg3 harg3 arg4 harg4 arg5 harg5 arg6 harg6 arg7 harg7 arg8 harg8 arg9 harg9 v49 v51 v52 v53 c0_i32_50 c32_i32 G5 G6 init k0_t1_loop.trips).2.2) = scanIm upward v49 v51 X Y init := by
  obtain ⟨h1, h5, h6⟩ := st_eq (F := F) 𝒱 c bd i arg1 harg1 arg2 harg2 arg3 harg3 arg4 harg4 arg5 harg5 arg6 harg6 arg7 harg7 arg8 harg8 arg9 harg9 v49 v51 v52 v53 c0_i32_50 c32_i32 G5 G6 init X Y hX hY k0_t1_loop.trips le_rfl
  refine ⟨h1.trans (by rw [trips_eq]), h5.trans ?_, h6.trans ?_⟩ <;> rw [trips_eq] <;> exact partB_last _ _ _

end Cert.KernelIdeal.Fwd

end
-- ==== Proof.FwdBody.lean ====
/-
  One grid point of the forward call: from a tile of inputs, the matrices and the carried state, the tile of states,
  the tile of outputs and the state carried on.
-/
module

public import proofs.«01_k».proof.Proof.FwdTrip
public import Idealize.ShloMosaic.Lib.Pipeline.FrameBody

@[expose] public section

set_option maxRecDepth 16384

noncomputable section

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal Cert.KernelIdeal.Gen Cert.S5

variable {F : FTy → Type} [FloatOps F]

local notation "𝕄" => MT nD τ sig Unit (Elt F) ℕ (UR sig nD τ) ℕ

/-- A store of a whole block, read back. -/
theorem read_whole {d : Fin 2 → ℕ} {κ : Kind} {sp : Space} {e : EltTy} (v : View sig κ sp (⟨2, d⟩ : Shape) e) (f : v.ty.Contents (Elt F)) (inb : ∀ a : Fin 2, (![0, 0] : Fin 2 → ℕ) a + d a ≤ d a)
    (w : (⟨2, d⟩ : Shape).Idx → Elt F e) (L : List (View.Piece (Elt F) (⟨2, d⟩ : Shape) e)) :
    v.read (Elt F) (v.writes (Elt F) f (⟨Rect.unit (s := ⟨2, d⟩) ![0, 0] d inb, w⟩ :: L)) = w :=
  funext fun y => View.read_writes_cons_rows_of_mem v f inb w L y y rfl (Nat.zero_add _).symm rfl

/-- A load of a whole block. -/
theorem ld_whole {d : Fin 2 → ℕ} {e : EltTy} (X : (⟨2, d⟩ : Shape).Idx → Elt F e) (inb : ∀ a : Fin 2, (![0, 0] : Fin 2 → ℕ) a + d a ≤ d a) :
    View.ld X (Rect.unit (s := ⟨2, d⟩) ![0, 0] d inb) = X :=
  View.ld_unit_zero (S := ⟨2, d⟩) (funext (Fin.forall_fin_two.mpr ⟨rfl, rfl⟩)) inb X

theorem loop_end (𝒱 : Variants) (c : Dev nD) (bd : Option 𝒱.V) (i : grid0.Coords) (arg1 : Memref sig .tc .vmem S256x512 .f32) (harg1 : arg1.IsWhole) (arg2 : Memref sig .tc .vmem S1x2x1x2048 .f32) (harg2 : arg2.IsWhole) (arg3 : Memref sig .tc .vmem S1x2x512x2048 .bf16) (harg3 : arg3.IsWhole) (arg4 : Memref sig .tc .vmem S1x2x512x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x512 .f32) (harg7 : arg7.IsWhole) (arg8 : Memref sig .tc .vmem S1x2048 .f32) (harg8 : arg8.IsWhole) (arg9 : Memref sig .tc .vmem S1x2048 .f32) (harg9 : arg9.IsWhole) (v49 : FVec F S1x2048 .f32) (v51 : FVec F S1x2048 .f32) (v52 : Vec F S1x2048 .f32) (v53 : Vec F S1x2048 .f32) (c0_i32_50 : BitVec 32) (c32_i32 : BitVec 32) (f5 : BufTy.Contents (Elt F) arg5.view.ty) (f6 : BufTy.Contents (Elt F) arg6.view.ty) (L5 L6 : List (View.Piece (Elt F) S256x2048 .f32)) (init : Vec F S1x2048 .f32 × Vec F S1x2048 .f32) (X Y : FVec F S256x2048 .f32) :
    (st_k0_t1 (F := F) 𝒱 c bd i arg1 harg1 arg2 harg2 arg3 harg3 arg4 harg4 arg5 harg5 arg6 harg6 arg7 harg7 arg8 harg8 arg9 harg9 v49 v51 v52 v53 c0_i32_50 c32_i32 (arg5.view.writes (Elt F) f5 (⟨Rect.unit (s := S256x2048) ![0, 0] ![256, 2048] inb_S256x2048_S256x2048_0_0, X⟩ :: L5)) (arg6.view.writes (Elt F) f6 (⟨Rect.unit (s := S256x2048) ![0, 0] ![256, 2048] inb_S256x2048_S256x2048_0_0, Y⟩ :: L6)) init (Scf.trips (0#32) (Scalar.addi 0#32 32#32) 1#32)).1 = scanB upward v49 v51 X Y init 256 :=
  (loop_eq (F := F) 𝒱 c bd i arg1 harg1 arg2 harg2 arg3 harg3 arg4 harg4 arg5 harg5 arg6 harg6 arg7 harg7 arg8 harg8 arg9 harg9 v49 v51 v52 v53 c0_i32_50 c32_i32 _ _ init X Y (read_whole _ _ _ _ _) (read_whole _ _ _ _ _)).1

theorem loop_re (𝒱 : Variants) (c : Dev nD) (bd : Option 𝒱.V) (i : grid0.Coords) (arg1 : Memref sig .tc .vmem S256x512 .f32) (harg1 : arg1.IsWhole) (arg2 : Memref sig .tc .vmem S1x2x1x2048 .f32) (harg2 : arg2.IsWhole) (arg3 : Memref sig .tc .vmem S1x2x512x2048 .bf16) (harg3 : arg3.IsWhole) (arg4 : Memref sig .tc .vmem S1x2x512x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x512 .f32) (harg7 : arg7.IsWhole) (arg8 : Memref sig .tc .vmem S1x2048 .f32) (harg8 : arg8.IsWhole) (arg9 : Memref sig .tc .vmem S1x2048 .f32) (harg9 : arg9.IsWhole) (v49 : FVec F S1x2048 .f32) (v51 : FVec F S1x2048 .f32) (v52 : Vec F S1x2048 .f32) (v53 : Vec F S1x2048 .f32) (c0_i32_50 : BitVec 32) (c32_i32 : BitVec 32) (f5 : BufTy.Contents (Elt F) arg5.view.ty) (f6 : BufTy.Contents (Elt F) arg6.view.ty) (L5 L6 : List (View.Piece (Elt F) S256x2048 .f32)) (init : Vec F S1x2048 .f32 × Vec F S1x2048 .f32) (X Y : FVec F S256x2048 .f32) :
    arg5.view.read (Elt F) (arg5.view.writes (Elt F) (arg5.view.writes (Elt F) f5 (⟨Rect.unit (s := S256x2048) ![0, 0] ![256, 2048] inb_S256x2048_S256x2048_0_0, X⟩ :: L5)) (st_k0_t1 (F := F) 𝒱 c bd i arg1 harg1 arg2 harg2 arg3 harg3 arg4 harg4 arg5 harg5 arg6 harg6 arg7 harg7 arg8 harg8 arg9 harg9 v49 v51 v52 v53 c0_i32_50 c32_i32 (arg5.view.writes (Elt F) f5 (⟨Rect.unit (s := S256x2048) ![0, 0] ![256, 2048] inb_S256x2048_S256x2048_0_0, X⟩ :: L5)) (arg6.view.writes (Elt F) f6 (⟨Rect.unit (s := S256x2048) ![0, 0] ![256, 2048] inb_S256x2048_S256x2048_0_0, Y⟩ :: L6)) init (Scf.trips (0#32) (Scalar.addi 0#32 32#32) 1#32)).2.1) = scanRe upward v49 v51 X Y init :=
  (loop_eq (F := F) 𝒱 c bd i arg1 harg1 arg2 harg2 arg3 harg3 arg4 harg4 arg5 harg5 arg6 harg6 arg7 harg7 arg8 harg8 arg9 harg9 v49 v51 v52 v53 c0_i32_50 c32_i32 _ _ init X Y (read_whole _ _ _ _ _) (read_whole _ _ _ _ _)).2.1

theorem loop_im (𝒱 : Variants) (c : Dev nD) (bd : Option 𝒱.V) (i : grid0.Coords) (arg1 : Memref sig .tc .vmem S256x512 .f32) (harg1 : arg1.IsWhole) (arg2 : Memref sig .tc .vmem S1x2x1x2048 .f32) (harg2 : arg2.IsWhole) (arg3 : Memref sig .tc .vmem S1x2x512x2048 .bf16) (harg3 : arg3.IsWhole) (arg4 : Memref sig .tc .vmem S1x2x512x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x512 .f32) (harg7 : arg7.IsWhole) (arg8 : Memref sig .tc .vmem S1x2048 .f32) (harg8 : arg8.IsWhole) (arg9 : Memref sig .tc .vmem S1x2048 .f32) (harg9 : arg9.IsWhole) (v49 : FVec F S1x2048 .f32) (v51 : FVec F S1x2048 .f32) (v52 : Vec F S1x2048 .f32) (v53 : Vec F S1x2048 .f32) (c0_i32_50 : BitVec 32) (c32_i32 : BitVec 32) (f5 : BufTy.Contents (Elt F) arg5.view.ty) (f6 : BufTy.Contents (Elt F) arg6.view.ty) (L5 L6 : List (View.Piece (Elt F) S256x2048 .f32)) (init : Vec F S1x2048 .f32 × Vec F S1x2048 .f32) (X Y : FVec F S256x2048 .f32) :
    arg6.view.read (Elt F) (arg6.view.writes (Elt F) (arg6.view.writes (Elt F) f6 (⟨Rect.unit (s := S256x2048) ![0, 0] ![256, 2048] inb_S256x2048_S256x2048_0_0, Y⟩ :: L6)) (st_k0_t1 (F := F) 𝒱 c bd i arg1 harg1 arg2 harg2 arg3 harg3 arg4 harg4 arg5 harg5 arg6 harg6 arg7 harg7 arg8 harg8 arg9 harg9 v49 v51 v52 v53 c0_i32_50 c32_i32 (arg5.view.writes (Elt F) f5 (⟨Rect.unit (s := S256x2048) ![0, 0] ![256, 2048] inb_S256x2048_S256x2048_0_0, X⟩ :: L5)) (arg6.view.writes (Elt F) f6 (⟨Rect.unit (s := S256x2048) ![0, 0] ![256, 2048] inb_S256x2048_S256x2048_0_0, Y⟩ :: L6)) init (Scf.trips (0#32) (Scalar.addi 0#32 32#32) 1#32)).2.2) = scanIm upward v49 v51 X Y init :=
  (loop_eq (F := F) 𝒱 c bd i arg1 harg1 arg2 harg2 arg3 harg3 arg4 harg4 arg5 harg5 arg6 harg6 arg7 harg7 arg8 harg8 arg9 harg9 v49 v51 v52 v53 c0_i32_50 c32_i32 _ _ init X Y (read_whole _ _ _ _ _) (read_whole _ _ _ _ _)).2.2

/-- The multipliers' rows. -/
def aRe (a : Vec F S1x2x1x2048 .f32) : FVec F S1x2048 .f32 := k0_pay23 (View.ld a (Rect.unit (s := S1x2x1x2048) ![0, 0, 0, 0] S1x1x1x2048.size inb_S1x2x1x2048_S1x1x1x2048_0_0_0_0))
def aIm (a : Vec F S1x2x1x2048 .f32) : FVec F S1x2048 .f32 := k0_pay24 (View.ld a (Rect.unit (s := S1x2x1x2048) ![0, 1, 0, 0] S1x1x1x2048.size inb_S1x2x1x2048_S1x1x1x2048_0_1_0_0))

/-- The inputs of the recurrence: the tile times the matrices' diagonal blocks. -/
def inRe (u : Vec F S256x512 .f32) (b : Vec F S1x2x512x2048 .bf16) : FVec F S256x2048 .f32 :=
  k0_pay20 u (View.ld b (Rect.unit (s := S1x2x512x2048) ![0, 0, 0, 0] S1x1x128x512.size inb_S1x2x512x2048_S1x1x128x512_0_0_0_0))
    (View.ld b (Rect.unit (s := S1x2x512x2048) ![0, 0, 128, 512] S1x1x128x512.size inb_S1x2x512x2048_S1x1x128x512_0_0_128_512))
    (View.ld b (Rect.unit (s := S1x2x512x2048) ![0, 0, 256, 1024] S1x1x128x512.size inb_S1x2x512x2048_S1x1x128x512_0_0_256_1024))
    (View.ld b (Rect.unit (s := S1x2x512x2048) ![0, 0, 384, 1536] S1x1x128x512.size inb_S1x2x512x2048_S1x1x128x512_0_0_384_1536))
def inIm (u : Vec F S256x512 .f32) (b : Vec F S1x2x512x2048 .bf16) : FVec F S256x2048 .f32 :=
  k0_pay22 u (k0_pay21 u) (View.ld b (Rect.unit (s := S1x2x512x2048) ![0, 1, 0, 0] S1x1x128x512.size inb_S1x2x512x2048_S1x1x128x512_0_1_0_0))
    (View.ld b (Rect.unit (s := S1x2x512x2048) ![0, 1, 128, 512] S1x1x128x512.size inb_S1x2x512x2048_S1x1x128x512_0_1_128_512))
    (View.ld b (Rect.unit (s := S1x2x512x2048) ![0, 1, 256, 1024] S1x1x128x512.size inb_S1x2x512x2048_S1x1x128x512_0_1_256_1024))
    (View.ld b (Rect.unit (s := S1x2x512x2048) ![0, 1, 384, 1536] S1x1x128x512.size inb_S1x2x512x2048_S1x1x128x512_0_1_384_1536))

/-- The outputs: the states times the matrices' diagonal blocks. -/
def outY (xr xi : FVec F S256x2048 .f32) (c : Vec F S1x2x512x2048 .bf16) : FVec F S256x512 .f32 :=
  k0_pay1 (k0_pay30 xr (View.ld c (Rect.unit (s := S1x2x512x2048) ![0, 0, 0, 0] S1x1x128x512.size inb_S1x2x512x2048_S1x1x128x512_0_0_0_0)))
    (k0_pay31 xr (View.ld c (Rect.unit (s := S1x2x512x2048) ![0, 0, 128, 512] S1x1x128x512.size inb_S1x2x512x2048_S1x1x128x512_0_0_128_512)))
    (k0_pay32 xr (View.ld c (Rect.unit (s := S1x2x512x2048) ![0, 0, 256, 1024] S1x1x128x512.size inb_S1x2x512x2048_S1x1x128x512_0_0_256_1024)))
    (k0_pay33 xr (View.ld c (Rect.unit (s := S1x2x512x2048) ![0, 0, 384, 1536] S1x1x128x512.size inb_S1x2x512x2048_S1x1x128x512_0_0_384_1536)))
    xi (View.ld c (Rect.unit (s := S1x2x512x2048) ![0, 1, 0, 0] S1x1x128x512.size inb_S1x2x512x2048_S1x1x128x512_0_1_0_0))
    (View.ld c (Rect.unit (s := S1x2x512x2048) ![0, 1, 128, 512] S1x1x128x512.size inb_S1x2x512x2048_S1x1x128x512_0_1_128_512))
    (View.ld c (Rect.unit (s := S1x2x512x2048) ![0, 1, 256, 1024] S1x1x128x512.size inb_S1x2x512x2048_S1x1x128x512_0_1_256_1024))
    (View.ld c (Rect.unit (s := S1x2x512x2048) ![0, 1, 384, 1536] S1x1x128x512.size inb_S1x2x512x2048_S1x1x128x512_0_1_384_1536))

/-- The states of a tile, and the state after it. -/
def tileRe (u : Vec F S256x512 .f32) (a : Vec F S1x2x1x2048 .f32) (b : Vec F S1x2x512x2048 .bf16) (s : FVec F S1x2048 .f32 × FVec F S1x2048 .f32) : FVec F S256x2048 .f32 :=
  scanRe upward (aRe a) (aIm a) (inRe u b) (inIm u b) s
def tileIm (u : Vec F S256x512 .f32) (a : Vec F S1x2x1x2048 .f32) (b : Vec F S1x2x512x2048 .bf16) (s : FVec F S1x2048 .f32 × FVec F S1x2048 .f32) : FVec F S256x2048 .f32 :=
  scanIm upward (aRe a) (aIm a) (inRe u b) (inIm u b) s
def tileEnd (u : Vec F S256x512 .f32) (a : Vec F S1x2x1x2048 .f32) (b : Vec F S1x2x512x2048 .bf16) (s : FVec F S1x2048 .f32 × FVec F S1x2048 .f32) : FVec F S1x2048 .f32 × FVec F S1x2048 .f32 :=
  scanB upward (aRe a) (aIm a) (inRe u b) (inIm u b) s 256

/-- The condition of the point that clears the carried state. -/
abbrev first (i : grid0.Coords) : Prop := Scalar.cmpi .ne (Scalar.extui (Scalar.cmpi .eq (BitVec.ofNat 32 (i 0).val) 0#32)) 0#32 = 1#1

abbrev held (c : Dev nD) (arg1 : Memref sig .tc .vmem S256x512 .f32) (arg2 : Memref sig .tc .vmem S1x2x1x2048 .f32) (arg3 : Memref sig .tc .vmem S1x2x512x2048 .bf16) (arg4 : Memref sig .tc .vmem S1x2x512x2048 .bf16)
    (u : Vec F S256x512 .f32) (a : Vec F S1x2x1x2048 .f32) (b : Vec F S1x2x512x2048 .bf16) (d : Vec F S1x2x512x2048 .bf16) : sProp 𝕄 :=
  iprop(owns (c : Thread nD τ) arg1 fullShare u ∗ owns (c : Thread nD τ) arg2 fullShare a ∗ owns (c : Thread nD τ) arg3 fullShare b ∗ owns (c : Thread nD τ) arg4 fullShare d)

/-- What the point leaves. -/
abbrev left (c : Dev nD) (arg5 : Memref sig .tc .vmem S256x2048 .f32) (arg6 : Memref sig .tc .vmem S256x2048 .f32) (arg7 : Memref sig .tc .vmem S256x512 .f32) (arg8 : Memref sig .tc .vmem S1x2048 .f32) (arg9 : Memref sig .tc .vmem S1x2048 .f32)
    (u : Vec F S256x512 .f32) (a : Vec F S1x2x1x2048 .f32) (b : Vec F S1x2x512x2048 .bf16) (d : Vec F S1x2x512x2048 .bf16) (s : FVec F S1x2048 .f32 × FVec F S1x2048 .f32) : sProp 𝕄 :=
  iprop(owns (c : Thread nD τ) arg5 fullShare (tileRe u a b s) ∗ owns (c : Thread nD τ) arg6 fullShare (tileIm u a b s) ∗ owns (c : Thread nD τ) arg7 fullShare (outY (tileRe u a b s) (tileIm u a b s) d)
    ∗ owns (c : Thread nD τ) arg8 fullShare (tileEnd u a b s).1 ∗ owns (c : Thread nD τ) arg9 fullShare (tileEnd u a b s).2)

set_option maxHeartbeats 1000000 in
theorem run_next (c : Dev nD) (i : grid0.Coords) (arg1 : Memref sig .tc .vmem S256x512 .f32) (harg1 : arg1.IsWhole) (arg2 : Memref sig .tc .vmem S1x2x1x2048 .f32) (harg2 : arg2.IsWhole) (arg3 : Memref sig .tc .vmem S1x2x512x2048 .bf16) (harg3 : arg3.IsWhole) (arg4 : Memref sig .tc .vmem S1x2x512x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x512 .f32) (harg7 : arg7.IsWhole) (arg8 : Memref sig .tc .vmem S1x2048 .f32) (harg8 : arg8.IsWhole) (arg9 : Memref sig .tc .vmem S1x2048 .f32) (harg9 : arg9.IsWhole) (hc0 : ¬ first i)
    (u : Vec F S256x512 .f32) (a : Vec F S1x2x1x2048 .f32) (b : Vec F S1x2x512x2048 .bf16) (d : Vec F S1x2x512x2048 .bf16) (s : FVec F S1x2048 .f32 × FVec F S1x2048 .f32) (E : Set ℕ) (K : PUnit → sProp 𝕄) :
    iprop(owns (c : Thread nD τ) arg1 fullShare u ∗ owns (c : Thread nD τ) arg2 fullShare a ∗ owns (c : Thread nD τ) arg3 fullShare b ∗ owns (c : Thread nD τ) arg4 fullShare d
        ∗ (∃ x, owns (c : Thread nD τ) arg5 fullShare x) ∗ (∃ x, owns (c : Thread nD τ) arg6 fullShare x) ∗ (∃ x, owns (c : Thread nD τ) arg7 fullShare x) ∗ owns (c : Thread nD τ) arg8 fullShare s.1 ∗ owns (c : Thread nD τ) arg9 fullShare s.2
        ∗ (iprop(held c arg1 arg2 arg3 arg4 u a b d ∗ left c arg5 arg6 arg7 arg8 arg9 u a b d s) -∗ K ⟨⟩))
      ⊢ wp frame (wpE (defs₀ (F := F)) Variants.none c none) E (cc0_s5_fwd i arg1 harg1 arg2 harg2 arg3 harg3 arg4 harg4 arg5 harg5 arg6 harg6 arg7 harg7 arg8 harg8 arg9 harg9) K := by
  simp only [cc0_s5_fwd_eq_skeleton]; unfold cc0_s5_fwd_skel
  simp only [k0_part4_eq_skeleton, k0_part5_eq_skeleton, k0_part6_eq_skeleton]
  unfold held left owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg8.eq_unread hf7; obtain rfl := harg9.eq_unread hf8
  sl_exec (disch := first | sl_exact hc0)
  sl_step
  iapply Hk
  isplitl [H0 H1 H2 H3]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr; · ipureintro; exact harg4.read_unread _
    iexact H3
  isplitl [H4]
  · iexists _; isplitr; swap; · iexact H4
    ipureintro
    sl_unfold_run_names
    simp only [View.readCov, View.readAt_eq_ld, harg1.read_unread, harg2.read_unread, harg3.read_unread, harg4.read_unread, harg8.read_unread, harg9.read_unread, View.writes_append, ld_whole, read_whole, loop_re, loop_im, loop_end, k0_pay27, k0_pay28, shapeCast_self]
    rfl
  isplitl [H5]
  · iexists _; isplitr; swap; · iexact H5
    ipureintro
    sl_unfold_run_names
    simp only [View.readCov, View.readAt_eq_ld, harg1.read_unread, harg2.read_unread, harg3.read_unread, harg4.read_unread, harg8.read_unread, harg9.read_unread, View.writes_append, ld_whole, read_whole, loop_re, loop_im, loop_end, k0_pay27, k0_pay28, shapeCast_self]
    rfl
  isplitl [H6]
  · iexists _; isplitr; swap; · iexact H6
    ipureintro
    sl_unfold_run_names
    simp only [View.readCov, View.readAt_eq_ld, harg1.read_unread, harg2.read_unread, harg3.read_unread, harg4.read_unread, harg8.read_unread, harg9.read_unread, View.writes_append, ld_whole, read_whole, loop_re, loop_im, loop_end, k0_pay27, k0_pay28, shapeCast_self]
    rfl
  isplitl [H7]
  · iexists _; isplitr; swap; · iexact H7
    ipureintro
    sl_unfold_run_names
    simp only [View.readCov, View.readAt_eq_ld, harg1.read_unread, harg2.read_unread, harg3.read_unread, harg4.read_unread, harg8.read_unread, harg9.read_unread, View.writes_append, ld_whole, read_whole, loop_re, loop_im, loop_end, k0_pay27, k0_pay28, shapeCast_self]
    rfl
  iexists _; isplitr; swap; · iexact H8
  ipureintro
  sl_unfold_run_names
  simp only [View.readCov, View.readAt_eq_ld, harg1.read_unread, harg2.read_unread, harg3.read_unread, harg4.read_unread, harg8.read_unread, harg9.read_unread, View.writes_append, ld_whole, read_whole, loop_re, loop_im, loop_end, k0_pay27, k0_pay28, shapeCast_self]
  rfl

set_option maxHeartbeats 1000000 in
theorem run_first (c : Dev nD) (i : grid0.Coords) (arg1 : Memref sig .tc .vmem S256x512 .f32) (harg1 : arg1.IsWhole) (arg2 : Memref sig .tc .vmem S1x2x1x2048 .f32) (harg2 : arg2.IsWhole) (arg3 : Memref sig .tc .vmem S1x2x512x2048 .bf16) (harg3 : arg3.IsWhole) (arg4 : Memref sig .tc .vmem S1x2x512x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x512 .f32) (harg7 : arg7.IsWhole) (arg8 : Memref sig .tc .vmem S1x2048 .f32) (harg8 : arg8.IsWhole) (arg9 : Memref sig .tc .vmem S1x2048 .f32) (harg9 : arg9.IsWhole) (hc0 : first i)
    (u : Vec F S256x512 .f32) (a : Vec F S1x2x1x2048 .f32) (b : Vec F S1x2x512x2048 .bf16) (d : Vec F S1x2x512x2048 .bf16) (s : FVec F S1x2048 .f32 × FVec F S1x2048 .f32) (E : Set ℕ) (K : PUnit → sProp 𝕄) :
    iprop(owns (c : Thread nD τ) arg1 fullShare u ∗ owns (c : Thread nD τ) arg2 fullShare a ∗ owns (c : Thread nD τ) arg3 fullShare b ∗ owns (c : Thread nD τ) arg4 fullShare d
        ∗ (∃ x, owns (c : Thread nD τ) arg5 fullShare x) ∗ (∃ x, owns (c : Thread nD τ) arg6 fullShare x) ∗ (∃ x, owns (c : Thread nD τ) arg7 fullShare x) ∗ (∃ x, owns (c : Thread nD τ) arg8 fullShare x) ∗ (∃ x, owns (c : Thread nD τ) arg9 fullShare x)
        ∗ (iprop(held c arg1 arg2 arg3 arg4 u a b d ∗ left c arg5 arg6 arg7 arg8 arg9 u a b d (k0_pay18, k0_pay19)) -∗ K ⟨⟩))
      ⊢ wp frame (wpE (defs₀ (F := F)) Variants.none c none) E (cc0_s5_fwd i arg1 harg1 arg2 harg2 arg3 harg3 arg4 harg4 arg5 harg5 arg6 harg6 arg7 harg7 arg8 harg8 arg9 harg9) K := by
  simp only [cc0_s5_fwd_eq_skeleton]; unfold cc0_s5_fwd_skel
  simp only [k0_part4_eq_skeleton, k0_part5_eq_skeleton, k0_part6_eq_skeleton]
  unfold held left owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0 H1 H2 H3]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr; · ipureintro; exact harg4.read_unread _
    iexact H3
  isplitl [H4]
  · iexists _; isplitr; swap; · iexact H4
    ipureintro
    sl_unfold_run_names
    simp only [View.readCov, View.readAt_eq_ld, harg1.read_unread, harg2.read_unread, harg3.read_unread, harg4.read_unread, harg8.read_unread, harg9.read_unread, View.writes_append, ld_whole, read_whole, loop_re, loop_im, loop_end, k0_pay27, k0_pay28, shapeCast_self]
    rfl
  isplitl [H5]
  · iexists _; isplitr; swap; · iexact H5
    ipureintro
    sl_unfold_run_names
    simp only [View.readCov, View.readAt_eq_ld, harg1.read_unread, harg2.read_unread, harg3.read_unread, harg4.read_unread, harg8.read_unread, harg9.read_unread, View.writes_append, ld_whole, read_whole, loop_re, loop_im, loop_end, k0_pay27, k0_pay28, shapeCast_self]
    rfl
  isplitl [H6]
  · iexists _; isplitr; swap; · iexact H6
    ipureintro
    sl_unfold_run_names
    simp only [View.readCov, View.readAt_eq_ld, harg1.read_unread, harg2.read_unread, harg3.read_unread, harg4.read_unread, harg8.read_unread, harg9.read_unread, View.writes_append, ld_whole, read_whole, loop_re, loop_im, loop_end, k0_pay27, k0_pay28, shapeCast_self]
    rfl
  isplitl [H7]
  · iexists _; isplitr; swap; · iexact H7
    ipureintro
    sl_unfold_run_names
    simp only [View.readCov, View.readAt_eq_ld, harg1.read_unread, harg2.read_unread, harg3.read_unread, harg4.read_unread, harg8.read_unread, harg9.read_unread, View.writes_append, ld_whole, read_whole, loop_re, loop_im, loop_end, k0_pay27, k0_pay28, shapeCast_self]
    rfl
  iexists _; isplitr; swap; · iexact H8
  ipureintro
  sl_unfold_run_names
  simp only [View.readCov, View.readAt_eq_ld, harg1.read_unread, harg2.read_unread, harg3.read_unread, harg4.read_unread, harg8.read_unread, harg9.read_unread, View.writes_append, ld_whole, read_whole, loop_re, loop_im, loop_end, k0_pay27, k0_pay28, shapeCast_self]
  rfl

end Cert.KernelIdeal.Fwd

end
-- ==== Proof.FwdData.lean ====
/-
  The proof data of the forward call's pipeline from any contents of its arrays: what each point finds and
  leaves, and that the body keeps to it.
-/
module

public import proofs.«01_k».proof.Proof.FwdBody
public import proofs.«01_k».proof.Proof.Gen.KernelIdeal.Launch
public import proofs.«01_k».proof.Proof.Gen.KernelIdeal.Points
public import Idealize.ShloMosaic.Lib.Pipeline.Frame
public import Idealize.ShloMosaic.Lib.Pipeline.Regions
public import Idealize.ShloMosaic.Lib.WordCmp

@[expose] public section

set_option maxRecDepth 2048

noncomputable section

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.S5

variable {F : FTy → Type} [FloatOps F]

local notation "𝕄" => MT nD τ sig Unit (Elt F) ℕ (UR sig nD τ) ℕ

variable (W : Dev nD → Valuation τ sig (Elt F))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The states carried into the `n`-th point. -/
def carry (c : Dev nD) : (n : ℕ) → n ≤ cfg0.N → FVec F S1x2048 .f32 × FVec F S1x2048 .f32
  | 0, _ => (k0_pay18, k0_pay19)
  | n + 1, h => tileEnd (iblk W c 0 ⟨n, h⟩) (iblk W c 1 ⟨n, h⟩) (iblk W c 2 ⟨n, h⟩) (carry c n (Nat.le_of_succ_le h))

theorem carry_zero (c : Dev nD) (h : 0 ≤ cfg0.N) : carry W c 0 h = (k0_pay18, k0_pay19) := rfl

theorem carry_succ (c : Dev nD) (t : Fin cfg0.N) : carry W c (t.val + 1) t.isLt
    = tileEnd (iblk W c 0 t) (iblk W c 1 t) (iblk W c 2 t) (carry W c t.val (Nat.le_of_lt t.isLt)) := rfl

/-- The carried buffers before the `n`-th point: at anything before the first. -/
def Inv (c : Dev nD) : (n : ℕ) → n ≤ cfg0.N → sProp 𝕄
  | 0, _ => Pipeline.scopedRest spec0 c
  | n + 1, h => iprop((owns (c : Thread nD τ) (Memref.whole cc0_scratch0) fullShare (carry W c (n + 1) h).1 ∗ owns (c : Thread nD τ) (Memref.whole cc0_scratch1) fullShare (carry W c (n + 1) h).2) ∗ Pipeline.scopedRestBut (Ix := Unit) (Name := ℕ) (U := UR sig nD τ) (Lvl := ℕ) (Val := Elt F) spec0 c [cc0_scratch0, cc0_scratch1])

theorem rest_eq (c : Dev nD) : (Pipeline.scopedRest (Ix := Unit) (Name := ℕ) (U := UR sig nD τ) (Lvl := ℕ) (Val := Elt F) spec0 c : sProp 𝕄)
      = iprop(((∃ x, owns (c : Thread nD τ) (Memref.whole cc0_scratch0) fullShare x) ∗ (∃ x, owns (c : Thread nD τ) (Memref.whole cc0_scratch1) fullShare x)) ∗ Pipeline.scopedRestBut (Ix := Unit) (Name := ℕ) (U := UR sig nD τ) (Lvl := ℕ) (Val := Elt F) spec0 c [cc0_scratch0, cc0_scratch1]) := by
  simp only [owns_whole]
  exact Pipeline.scopedRest_split_of_list spec0 c [cc0_scratch0, cc0_scratch1] (by decide) (by decide)

theorem Inv_pos (c : Dev nD) (n : ℕ) (h : n ≤ cfg0.N) (hz : n ≠ 0) :
    Inv W c n h = iprop((owns (c : Thread nD τ) (Memref.whole cc0_scratch0) fullShare (carry W c n h).1 ∗ owns (c : Thread nD τ) (Memref.whole cc0_scratch1) fullShare (carry W c n h).2) ∗ Pipeline.scopedRestBut (Ix := Unit) (Name := ℕ) (U := UR sig nD τ) (Lvl := ℕ) (Val := Elt F) spec0 c [cc0_scratch0, cc0_scratch1]) := by
  cases n with
  | zero => exact absurd rfl hz
  | succ n => rfl

/-- The proof data: the arrays as found, each point's inputs at their blocks and its outputs at the body's values. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => iblk W c 3 t
    | ⟨4, _⟩ => tileRe (iblk W c 0 t) (iblk W c 1 t) (iblk W c 2 t) (carry W c t.val (Nat.le_of_lt t.isLt))
    | ⟨5, _⟩ => tileIm (iblk W c 0 t) (iblk W c 1 t) (iblk W c 2 t) (carry W c t.val (Nat.le_of_lt t.isLt))
    | ⟨6, _⟩ => outY (tileRe (iblk W c 0 t) (iblk W c 1 t) (iblk W c 2 t) (carry W c t.val (Nat.le_of_lt t.isLt))) (tileIm (iblk W c 0 t) (iblk W c 1 t) (iblk W c 2 t) (carry W c t.val (Nat.le_of_lt t.isLt))) (iblk W c 3 t)
  Φ t := Inv W c t.val (Nat.le_of_lt_succ t.isLt)
  q w := Pipeline.shareOf spec0 w
  owed _ := 0

theorem A_eq (c : Dev nD) (w : Fin cfg0.W) : (dat W c).A w = W c (Proc.devRef .tc (Pipeline.arrRef spec0 w)) := by
  dsimp only [dat]

theorem Inv_castSucc (c : Dev nD) (t : Fin cfg0.N) : (dat W c).Φ t.castSucc = Inv W c t.val (Nat.le_of_lt t.isLt) := by
  dsimp only [dat]; exact Pipeline.Dat.Φ_castSucc (Inv W c) t

theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = iblk W c 2 t := by dsimp only [dat]
theorem after_3 (c : Dev nD) (t : Fin cfg0.N) : (dat W c).after 3 t = iblk W c 3 t := by dsimp only [dat]
theorem after_4 (c : Dev nD) (t : Fin cfg0.N) : (dat W c).after 4 t = tileRe (iblk W c 0 t) (iblk W c 1 t) (iblk W c 2 t) (carry W c t.val (Nat.le_of_lt t.isLt)) := by dsimp only [dat]
theorem after_5 (c : Dev nD) (t : Fin cfg0.N) : (dat W c).after 5 t = tileIm (iblk W c 0 t) (iblk W c 1 t) (iblk W c 2 t) (carry W c t.val (Nat.le_of_lt t.isLt)) := by dsimp only [dat]
theorem after_6 (c : Dev nD) (t : Fin cfg0.N) : (dat W c).after 6 t = outY (tileRe (iblk W c 0 t) (iblk W c 1 t) (iblk W c 2 t) (carry W c t.val (Nat.le_of_lt t.isLt))) (tileIm (iblk W c 0 t) (iblk W c 1 t) (iblk W c 2 t) (carry W c t.val (Nat.le_of_lt t.isLt))) (iblk W c 3 t) := by dsimp only [dat]

theorem before_0 (c : Dev nD) (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dat W c).before 1 t d = iblk W c 1 t :=
  ((dat W c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dat W c).before 2 t d = iblk W c 2 t :=
  ((dat W c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg0.N) (d) : (dat W c).before 3 t d = iblk W c 3 t :=
  ((dat W c).before_in_eq_fetched 3 rfl (fun _ => rfl) (fun _ _ _ => rfl) (fun t => by rw [after_3]; unfold Dat.blockOf iblk; rw [A_eq]) t d).trans
    (by unfold Dat.fetched Dat.blockOf iblk; rw [A_eq]; rfl)

/-- The clearing point is the first. -/
theorem first_iff : ∀ t : Fin cfg0.N, first (grid0.coords t) ↔ t.val = 0 :=
  (fun t => by
    have ht : t.val < 17 := Nat.lt_of_lt_of_eq t.isLt N_0
    have e0 : (grid0.coords t 0).val = t.val / 1 % 17 := Pipeline.Grid.coords_val t 0 (by decide) rfl
    simp only [first, e0]
    word_cmp
   : ∀ t : Fin grid0.N, first (grid0.coords t) ↔ t.val = 0)

/-- What the body is called with, -/
def bodyPre (c : Dev nD) (t : Fin cfg0.N) : sProp 𝕄 :=
  iprop((dat W c).Φ t.castSucc ∗ (dat W c).owesAt () t.castSucc
    ∗ (∃ d, owns (c : Thread nD τ) (win0_0.stage (cfg0.slots t 0)) fullShare ((dat W c).before 0 t d))
    ∗ (∃ d, owns (c : Thread nD τ) (win0_1.stage (cfg0.slots t 1)) fullShare ((dat W c).before 1 t d))
    ∗ (∃ d, owns (c : Thread nD τ) (win0_2.stage (cfg0.slots t 2)) fullShare ((dat W c).before 2 t d))
    ∗ (∃ d, owns (c : Thread nD τ) (win0_3.stage (cfg0.slots t 3)) fullShare ((dat W c).before 3 t d))
    ∗ (∃ d, owns (c : Thread nD τ) (win0_4.stage (cfg0.slots t 4)) fullShare ((dat W c).before 4 t d))
    ∗ (∃ d, owns (c : Thread nD τ) (win0_5.stage (cfg0.slots t 5)) fullShare ((dat W c).before 5 t d))
    ∗ (∃ d, owns (c : Thread nD τ) (win0_6.stage (cfg0.slots t 6)) fullShare ((dat W c).before 6 t d)))

/-- and what it returns. -/
def bodyPost (c : Dev nD) (t : Fin cfg0.N) : sProp 𝕄 :=
  iprop((dat W c).Φ t.succ ∗ (dat W c).owesAt () t.succ
    ∗ owns (c : Thread nD τ) (win0_0.stage (cfg0.slots t 0)) fullShare ((dat W c).after 0 t)
    ∗ owns (c : Thread nD τ) (win0_1.stage (cfg0.slots t 1)) fullShare ((dat W c).after 1 t)
    ∗ owns (c : Thread nD τ) (win0_2.stage (cfg0.slots t 2)) fullShare ((dat W c).after 2 t)
    ∗ owns (c : Thread nD τ) (win0_3.stage (cfg0.slots t 3)) fullShare ((dat W c).after 3 t)
    ∗ owns (c : Thread nD τ) (win0_4.stage (cfg0.slots t 4)) fullShare ((dat W c).after 4 t)
    ∗ owns (c : Thread nD τ) (win0_5.stage (cfg0.slots t 5)) fullShare ((dat W c).after 5 t)
    ∗ owns (c : Thread nD τ) (win0_6.stage (cfg0.slots t 6)) fullShare ((dat W c).after 6 t))

set_option maxHeartbeats 6400000 in
/-- The body at any point. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2, before_3]
  rw [show (dat W c).owesAt () t.succ = (dat W c).owesAt () t.castSucc from rfl,
    after_0, after_1, after_2, after_3, after_4, after_5, after_6]
  rw [show (dat W c).Φ t.succ = Inv W c (t.val + 1) t.isLt from rfl, Inv_pos W c (t.val + 1) _ (Nat.succ_ne_zero _), Inv_castSucc W c t, carry_succ]
  by_cases h0 : t.val = 0
  · obtain ⟨n, hn⟩ := t
    obtain rfl : n = 0 := h0
    rw [show Inv W c 0 (Nat.le_of_lt hn) = Pipeline.scopedRest spec0 c from rfl, rest_eq]
    simp only [carry_zero]
    iintro ⟨⟨⟨S0, S1⟩, HR⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords ⟨0, hn⟩) _ _ _ _ _ _ _ _ _ _ _ _ _ _ _ _ _ _ ((first_iff ⟨0, hn⟩).mpr rfl) (iblk W c 0 ⟨0, hn⟩) (iblk W c 1 ⟨0, hn⟩) (iblk W c 2 ⟨0, hn⟩) (iblk W c 3 ⟨0, hn⟩) (k0_pay18, k0_pay19) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [S0]; · iexact S0
    isplitl [S1]; · iexact S1
    iintro ⟨⟨H0, H1, H2, H3⟩, H4, H5, H6, S0, S1⟩
    isplitl [S0 S1 HR]
    · isplitl [S0 S1]
      · isplitl [S0]; · iexact S0
        iexact S1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Inv_pos W c _ _ h0]
    iintro ⟨⟨⟨S0, S1⟩, HR⟩, Ho, ⟨%d0, H0⟩, ⟨%d1, H1⟩, ⟨%d2, H2⟩, ⟨%d3, H3⟩, ⟨%d4, H4⟩, ⟨%d5, H5⟩, ⟨%d6, H6⟩⟩
    iapply (run_next c (grid0.coords t) _ _ _ _ _ _ _ _ _ _ _ _ _ _ _ _ _ _ (fun h => h0 ((first_iff t).mp h)) (iblk W c 0 t) (iblk W c 1 t) (iblk W c 2 t) (iblk W c 3 t) (carry W c t.val (Nat.le_of_lt t.isLt)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [S0]; · iexact S0
    isplitl [S1]; · iexact S1
    iintro ⟨⟨H0, H1, H2, H3⟩, H4, H5, H6, S0, S1⟩
    isplitl [S0 S1 HR]
    · isplitl [S0 S1]
      · isplitl [S0]; · iexact S0
        iexact S1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row_eq (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) W c) (defs₀ (F := F)) Variants.none () Set.univ := fun t => by
  rw [bigSep_W0, bigSep_W0, row_eq]
  exact triple_restated (sound_body W c t) rfl .rfl fun _ => .rfl

/-- Entering and leaving: the carried buffers at anything. -/
theorem Inv_in (c : Dev nD) : iprop(Pipeline.scopedRest spec0 c ∗ emp) ⊢ (dat W c).Φ 0 := by
  rw [show (dat W c).Φ 0 = Pipeline.scopedRest spec0 c from rfl]
  iintro ⟨H, -⟩; iexact H

theorem Inv_out (c : Dev nD) : (dat W c).Φ (Fin.last cfg0.N) ⊢ iprop(Pipeline.scopedRest spec0 c ∗ emp) := by
  rw [show (dat W c).Φ (Fin.last cfg0.N) = Inv W c cfg0.N le_rfl from rfl, Inv_pos W c cfg0.N _ (by rw [show cfg0.N = 17 from N_0]; decide), rest_eq]
  iintro ⟨⟨S0, S1⟩, HR⟩
  isplitl [S0 S1 HR]
  · isplitl [S0 S1]
    · isplitl [S0]; · iexists _; iexact S0
      iexists _; iexact S1
    iexact HR
  iempintro

end Cert.KernelIdeal.Fwd

end
-- ==== Proof.BwdTrip.lean ====
/-
  The backward call's loop over a block of 256 rows, eight rows a trip from the last row up: each trip's yield and stores are eight steps of
  the recurrence on the rows it finds, so after the loop the carried rows are the state after 256 steps and the two
  blocks hold the states, row by row.
-/
module

public import proofs.«01_k».proof.Proof.Gen.KernelIdeal.Loops
public import proofs.«01_k».proof.Proof.Rows
public import Idealize.ShloMosaic.Lib.Pipeline.Value

@[expose] public section

set_option maxRecDepth 8192

noncomputable section

namespace Cert.KernelIdeal.Bwd

open Idealize.ShloMosaic Idealize.ShloMosaic.TcCoe Idealize.ShloMosaic.Tactic
open Idealize.SL Idealize.SL.RA Idealize.SL.BI
open Idealize.ShloMosaic.ValueIdx Cert.KernelIdeal Cert.KernelIdeal.Gen Cert.S5

variable {F : FTy → Type} [FloatOps F]

/-- The row of step `j` of trip `k`, loaded from the contents given. -/
abbrev xs (m : Memref sig .tc .vmem S256x2048 .f32) (f : BufTy.Contents (Elt F) m.view.ty) (k : Fin k1_t1_loop.trips) (j : ℕ) : FVec F S1x2048 .f32 :=
  if h : j < 8 then View.readAt (Elt F) m.view (Rect.unit (s := S256x2048) (k1_off1 k (BitVec.ofNat 32 (⟨j, h⟩ : Fin 8).val)) S1x2048.size (k1_off1_inb k ⟨j, h⟩)).toLoadRect f
  else View.readAt (Elt F) m.view (Rect.unit (s := S256x2048) (k1_off1 k (BitVec.ofNat 32 (0 : Fin 8).val)) S1x2048.size (k1_off1_inb k 0)).toLoadRect f

theorem xs_eq (m : Memref sig .tc .vmem S256x2048 .f32) (f : BufTy.Contents (Elt F) m.view.ty) (k : Fin k1_t1_loop.trips) {j : ℕ} (hj : j < 8) :
    xs m f k j = rowv (m.view.read (Elt F) f) (downward.ρ (8 * k.val + j)) := by
  have hk : k.val < 32 := Nat.lt_of_lt_of_le k.isLt k1_t1_abs.2.1
  rw [xs, dif_pos hj]
  exact load_row m.view f _ (k1_off1_eq k ⟨j, hj⟩) (show 255 - (8 * k.val + j) < 256 by omega)

/-- A trip's eight row stores of the rows `P`, oldest last. -/
def rowStores (k : Fin k1_t1_loop.trips) (P : ℕ → FVec F S1x2048 .f32) : List (View.Piece (Elt F) S256x2048 .f32) :=
  View.tilePieces (s := S256x2048) S1x2048.size (fun j : Fin 8 => k1_off1 k (BitVec.ofNat 32 j.val)) (k1_off1_inb k) (fun j => P j.val) 8 le_rfl

theorem read_stores (m : Memref sig .tc .vmem S256x2048 .f32) (f : BufTy.Contents (Elt F) m.view.ty) (k : Fin k1_t1_loop.trips) (P : ℕ → FVec F S1x2048 .f32)
    (y : S256x2048.Idx) :
    m.view.read (Elt F) (m.view.writes (Elt F) f (rowStores k P)) y
      = if 8 * k.val ≤ downward.ρ (y (0 : Fin 2)).val ∧ downward.ρ (y (0 : Fin 2)).val < 8 * k.val + 8 then
          P (downward.ρ (y (0 : Fin 2)).val - 8 * k.val) (ix2 (n0 := 1) (n1 := 2048) 0 (y (1 : Fin 2)))
        else m.view.read (Elt F) f y :=
  read_trip downward m.view f (k1_off1_inb k) (Nat.lt_of_lt_of_le k.isLt k1_t1_abs.2.1) (fun j => k1_off1_eq k j) P y

/-- A row of a trip is read past the trip's store of another row. -/
theorem skip_row (v : View sig .tc .vmem S256x2048 .f32) (f : v.ty.Contents (Elt F)) (k : Fin k1_t1_loop.trips) (p q : BitVec 32)
    (h : decide (p.toNat < 8 ∧ q.toNat < 8 ∧ p.toNat ≠ q.toNat) = true)
    (inbp : ∀ a, (k1_off1 k p) a + S1x2048.size a ≤ S256x2048.size a) (inbq : ∀ a, (k1_off1 k q) a + S1x2048.size a ≤ S256x2048.size a)
    (w : S1x2048.Idx → Elt F .f32) (L : List (View.Piece (Elt F) S256x2048 .f32)) :
    v.readAt (Elt F) (Rect.unit (s := S256x2048) (k1_off1 k p) ![1, 2048] inbp).toLoadRect
        (v.writes (Elt F) f (⟨Rect.unit (s := S256x2048) (k1_off1 k q) ![1, 2048] inbq, w⟩ :: L))
      = v.readAt (Elt F) (Rect.unit (s := S256x2048) (k1_off1 k p) ![1, 2048] inbp).toLoadRect (v.writes (Elt F) f L) := by
  obtain ⟨hp, hq, hpq⟩ := of_decide_eq_true h
  have hk : k.val < 32 := Nat.lt_of_lt_of_le k.isLt k1_t1_abs.2.1
  have ep : k1_off1 k p = ![255 - (8 * k.val + p.toNat), 0] := by
    have := k1_off1_eq k ⟨p.toNat, hp⟩
    rwa [show (BitVec.ofNat 32 p.toNat) = p by simp] at this
  have eq : k1_off1 k q = ![255 - (8 * k.val + q.toNat), 0] := by
    have := k1_off1_eq k ⟨q.toNat, hq⟩
    rwa [show (BitVec.ofNat 32 q.toNat) = q by simp] at this
  rw [load_row v _ inbp ep (by omega), load_row v _ inbp ep (by omega)]
  refine funext fun x => ?_
  refine View.read_writes_cons_rows_of_not_mem v f inbq w L _ eq rfl ?_
  show (255 - (8 * k.val + p.toNat)) % 256 < 255 - (8 * k.val + q.toNat) ∨ 255 - (8 * k.val + q.toNat) + 1 ≤ (255 - (8 * k.val + p.toNat)) % 256
  omega

theorem trip_all (𝒱 : Variants) (c : Dev nD) (bd : Option 𝒱.V) (i : grid1.Coords) (arg1 : Memref sig .tc .vmem S256x512 .f32) (harg1 : arg1.IsWhole) (arg2 : Memref sig .tc .vmem S256x512 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S1x2x1x2048 .f32) (harg7 : arg7.IsWhole) (arg8 : Memref sig .tc .vmem S1x2x512x2048 .bf16) (harg8 : arg8.IsWhole) (arg9 : Memref sig .tc .vmem S1x2x512x2048 .bf16) (harg9 : arg9.IsWhole) (arg10 : Memref sig .tc .hbm S1x2x1x2048 .f32) (harg10 : arg10.IsWhole) (arg11 : Memref sig .tc .hbm S1x2x512x2048 .f32) (harg11 : arg11.IsWhole) (arg12 : Memref sig .tc .hbm S1x2x512x2048 .f32) (harg12 : arg12.IsWhole) (arg13 : Memref sig .tc .vmem S256x512 .f32) (harg13 : arg13.IsWhole) (arg14 : Memref sig .tc .vmem S1x2x1x2048 .f32) (harg14 : arg14.IsWhole) (arg15 : Memref sig .tc .vmem S1x2x512x2048 .f32) (harg15 : arg15.IsWhole) (arg16 : Memref sig .tc .vmem S1x2x512x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S1x2048 .f32) (harg19 : arg19.IsWhole) (arg20 : Memref sig .tc .vmem S1x2048 .f32) (harg20 : arg20.IsWhole) (arg0 : BitVec 32) (v6 : FVec F S256x2048 .f32) (v146 : FVec F S1x2048 .f32) (v150 : FVec F S1x2048 .f32) (k : Fin k1_t1_loop.trips) (acc : Vec F S1x2048 .f32 × Vec F S1x2048 .f32) (f5 : BufTy.Contents (Elt F) arg17.view.ty) (f6 : BufTy.Contents (Elt F) arg18.view.ty) :
    tripR_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 k acc f5 f6 = scanN v146 v150 (xs arg17 f5 k) (xs arg18 f6 k) acc 8
      ∧ (tripL_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 k acc f5 f6).1 = rowStores k (fun j => (scanN v146 v150 (xs arg17 f5 k) (xs arg18 f6 k) acc (j + 1)).1)
      ∧ (tripL_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 k acc f5 f6).2 = rowStores k (fun j => (scanN v146 v150 (xs arg17 f5 k) (xs arg18 f6 k) acc (j + 1)).2) := by
  unfold tripR_k1_t1 tripL_k1_t1 trip_k1_t1
  dsimp only
  sl_unfold_run_names
  simp (config := { decide := false }) (disch := decide) only [skip_row, View.writes_nil]
  simp only [k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay57, shapeCast_self]
  exact ⟨rfl, rfl, rfl⟩

theorem parts_of {α β : Type} {st : α × List β × List β} {a a' : α} {l l' p m m' q : List β} (h : st = (a, l ++ p, m ++ q))
    (ha : a = a') (hl : l = l') (hm : m = m') : st.1 = a' ∧ st.2.1 = l' ++ p ∧ st.2.2 = m' ++ q := by
  subst h ha hl hm; exact ⟨rfl, rfl, rfl⟩

/-- Before trip `k`: the state after `8k` steps is carried, and the blocks' rows before `8k` hold the states. -/
theorem st_eq (𝒱 : Variants) (c : Dev nD) (bd : Option 𝒱.V) (i : grid1.Coords) (arg1 : Memref sig .tc .vmem S256x512 .f32) (harg1 : arg1.IsWhole) (arg2 : Memref sig .tc .vmem S256x512 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S1x2x1x2048 .f32) (harg7 : arg7.IsWhole) (arg8 : Memref sig .tc .vmem S1x2x512x2048 .bf16) (harg8 : arg8.IsWhole) (arg9 : Memref sig .tc .vmem S1x2x512x2048 .bf16) (harg9 : arg9.IsWhole) (arg10 : Memref sig .tc .hbm S1x2x1x2048 .f32) (harg10 : arg10.IsWhole) (arg11 : Memref sig .tc .hbm S1x2x512x2048 .f32) (harg11 : arg11.IsWhole) (arg12 : Memref sig .tc .hbm S1x2x512x2048 .f32) (harg12 : arg12.IsWhole) (arg13 : Memref sig .tc .vmem S256x512 .f32) (harg13 : arg13.IsWhole) (arg14 : Memref sig .tc .vmem S1x2x1x2048 .f32) (harg14 : arg14.IsWhole) (arg15 : Memref sig .tc .vmem S1x2x512x2048 .f32) (harg15 : arg15.IsWhole) (arg16 : Memref sig .tc .vmem S1x2x512x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S1x2048 .f32) (harg19 : arg19.IsWhole) (arg20 : Memref sig .tc .vmem S1x2048 .f32) (harg20 : arg20.IsWhole) (arg0 : BitVec 32) (v6 : FVec F S256x2048 .f32) (v146 : FVec F S1x2048 .f32) (v150 : FVec F S1x2048 .f32) (G5 : BufTy.Contents (Elt F) arg17.view.ty) (G6 : BufTy.Contents (Elt F) arg18.view.ty) (init : Vec F S1x2048 .f32 × Vec F S1x2048 .f32)
    (X Y : FVec F S256x2048 .f32) (hX : arg17.view.read (Elt F) G5 = X) (hY : arg18.view.read (Elt F) G6 = Y) :
    ∀ k, k ≤ k1_t1_loop.trips →
      (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).1 = scanB downward v146 v150 X Y init (8 * k)
      ∧ arg17.view.read (Elt F) (arg17.view.writes (Elt F) G5 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).2.1) = partB downward X (scanRe downward v146 v150 X Y init) k
      ∧ arg18.view.read (Elt F) (arg18.view.writes (Elt F) G6 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).2.2) = partB downward Y (scanIm downward v146 v150 X Y init) k
  | 0, _ => ⟨rfl, by rw [partB_zero]; exact hX, by rw [partB_zero]; exact hY⟩
  | k + 1, hk => by
    obtain ⟨h1, h5, h6⟩ := st_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init X Y hX hY k (by omega)
    have hk32 : k < 32 := Nat.lt_of_lt_of_le hk k1_t1_abs.2.1
    obtain ⟨t1, t5, t6⟩ := trip_all (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 ⟨k, hk⟩ (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).1 (arg17.view.writes (Elt F) G5 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).2.1) (arg18.view.writes (Elt F) G6 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).2.2)
    have hst := st_k1_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init ⟨k, hk⟩
    obtain ⟨e1, e5, e6⟩ := parts_of hst t1 t5 t6
    clear hst t1 t5 t6
    have hs : ∀ n, n ≤ 8 → scanN v146 v150 (xs arg17 (arg17.view.writes (Elt F) G5 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).2.1) ⟨k, hk⟩) (xs arg18 (arg18.view.writes (Elt F) G6 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).2.2) ⟨k, hk⟩) (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).1 n
        = scanB downward v146 v150 X Y init (8 * k + n) := fun n hn => by
      rw [h1]
      exact trip_state downward v146 v150 X Y init hk32 _ _ (fun j hj => (xs_eq arg17 _ ⟨k, hk⟩ hj).trans (by rw [h5])) (fun j hj => (xs_eq arg18 _ ⟨k, hk⟩ hj).trans (by rw [h6])) hn
    refine ⟨e1.trans (hs 8 le_rfl), ?_, ?_⟩
    · rw [e5, View.writes_append]
      refine funext fun y => (read_stores arg17 _ ⟨k, hk⟩ _ y).trans ?_
      rw [h5]
      refine partB_step (k := k) downward X (scanRe downward v146 v150 X Y init) (fun j => (scanN v146 v150 (xs arg17 (arg17.view.writes (Elt F) G5 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).2.1) ⟨k, hk⟩) (xs arg18 (arg18.view.writes (Elt F) G6 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).2.2) ⟨k, hk⟩) (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).1 (j + 1)).1) (fun y (ha : 8 * k ≤ _) (hb : _ < 8 * k + 8) => ?_) y
      show (scanN _ _ _ _ _ (downward.ρ (y (0 : Fin 2)).val - 8 * k + 1)).1 _ = _
      rw [hs _ (by omega)]
      show _ = (scanB downward v146 v150 X Y init (downward.ρ (y (0 : Fin 2)).val + 1)).1 _
      rw [show 8 * k + (downward.ρ (y (0 : Fin 2)).val - 8 * k + 1) = downward.ρ (y (0 : Fin 2)).val + 1 by omega]
    · rw [e6, View.writes_append]
      refine funext fun y => (read_stores arg18 _ ⟨k, hk⟩ _ y).trans ?_
      rw [h6]
      refine partB_step (k := k) downward Y (scanIm downward v146 v150 X Y init) (fun j => (scanN v146 v150 (xs arg17 (arg17.view.writes (Elt F) G5 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).2.1) ⟨k, hk⟩) (xs arg18 (arg18.view.writes (Elt F) G6 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).2.2) ⟨k, hk⟩) (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k).1 (j + 1)).2) (fun y (ha : 8 * k ≤ _) (hb : _ < 8 * k + 8) => ?_) y
      show (scanN _ _ _ _ _ (downward.ρ (y (0 : Fin 2)).val - 8 * k + 1)).2 _ = _
      rw [hs _ (by omega)]
      show _ = (scanB downward v146 v150 X Y init (downward.ρ (y (0 : Fin 2)).val + 1)).2 _
      rw [show 8 * k + (downward.ρ (y (0 : Fin 2)).val - 8 * k + 1) = downward.ρ (y (0 : Fin 2)).val + 1 by omega]

theorem trips_eq : k1_t1_loop.trips = 32 := by decide

/-- After the loop: the state after 256 steps is carried, and the blocks hold the states. -/
theorem loop_eq (𝒱 : Variants) (c : Dev nD) (bd : Option 𝒱.V) (i : grid1.Coords) (arg1 : Memref sig .tc .vmem S256x512 .f32) (harg1 : arg1.IsWhole) (arg2 : Memref sig .tc .vmem S256x512 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S1x2x1x2048 .f32) (harg7 : arg7.IsWhole) (arg8 : Memref sig .tc .vmem S1x2x512x2048 .bf16) (harg8 : arg8.IsWhole) (arg9 : Memref sig .tc .vmem S1x2x512x2048 .bf16) (harg9 : arg9.IsWhole) (arg10 : Memref sig .tc .hbm S1x2x1x2048 .f32) (harg10 : arg10.IsWhole) (arg11 : Memref sig .tc .hbm S1x2x512x2048 .f32) (harg11 : arg11.IsWhole) (arg12 : Memref sig .tc .hbm S1x2x512x2048 .f32) (harg12 : arg12.IsWhole) (arg13 : Memref sig .tc .vmem S256x512 .f32) (harg13 : arg13.IsWhole) (arg14 : Memref sig .tc .vmem S1x2x1x2048 .f32) (harg14 : arg14.IsWhole) (arg15 : Memref sig .tc .vmem S1x2x512x2048 .f32) (harg15 : arg15.IsWhole) (arg16 : Memref sig .tc .vmem S1x2x512x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S1x2048 .f32) (harg19 : arg19.IsWhole) (arg20 : Memref sig .tc .vmem S1x2048 .f32) (harg20 : arg20.IsWhole) (arg0 : BitVec 32) (v6 : FVec F S256x2048 .f32) (v146 : FVec F S1x2048 .f32) (v150 : FVec F S1x2048 .f32) (G5 : BufTy.Contents (Elt F) arg17.view.ty) (G6 : BufTy.Contents (Elt F) arg18.view.ty) (init : Vec F S1x2048 .f32 × Vec F S1x2048 .f32)
    (X Y : FVec F S256x2048 .f32) (hX : arg17.view.read (Elt F) G5 = X) (hY : arg18.view.read (Elt F) G6 = Y) :
    (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k1_t1_loop.trips).1 = scanB downward v146 v150 X Y init 256
      ∧ arg17.view.read (Elt F) (arg17.view.writes (Elt F) G5 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k1_t1_loop.trips).2.1) = scanRe downward v146 v150 X Y init
      ∧ arg18.view.read (Elt F) (arg18.view.writes (Elt F) G6 (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init k1_t1_loop.trips).2.2) = scanIm downward v146 v150 X Y init := by
  obtain ⟨h1, h5, h6⟩ := st_eq (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 G5 G6 init X Y hX hY k1_t1_loop.trips le_rfl
  refine ⟨h1.trans (by rw [trips_eq]), h5.trans ?_, h6.trans ?_⟩ <;> rw [trips_eq] <;> exact partB_last _ _ _

end Cert.KernelIdeal.Bwd

end
-- ==== Proof.BwdBody.lean ====
/-
  One grid point of the backward call: from a tile of inputs, outputs' gradients and states, the matrices, what is
  carried and the sums so far, the tile of inputs' gradients, the sums after it and what is carried on.
-/
module

public import proofs.«01_k».proof.Proof.BwdTrip
public import proofs.«01_k».proof.Proof.Blocks
public import Idealize.ShloMosaic.Lib.Pipeline.FrameBody

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal Cert.KernelIdeal.Gen Cert.S5

variable {F : FTy → Type} [FloatOps F]

local notation "𝕄" => MT nD τ sig Unit (Elt F) ℕ (UR sig nD τ) ℕ

theorem loop_end (𝒱 : Variants) (c : Dev nD) (bd : Option 𝒱.V) (i : grid1.Coords) (arg1 : Memref sig .tc .vmem S256x512 .f32) (harg1 : arg1.IsWhole) (arg2 : Memref sig .tc .vmem S256x512 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S1x2x1x2048 .f32) (harg7 : arg7.IsWhole) (arg8 : Memref sig .tc .vmem S1x2x512x2048 .bf16) (harg8 : arg8.IsWhole) (arg9 : Memref sig .tc .vmem S1x2x512x2048 .bf16) (harg9 : arg9.IsWhole) (arg10 : Memref sig .tc .hbm S1x2x1x2048 .f32) (harg10 : arg10.IsWhole) (arg11 : Memref sig .tc .hbm S1x2x512x2048 .f32) (harg11 : arg11.IsWhole) (arg12 : Memref sig .tc .hbm S1x2x512x2048 .f32) (harg12 : arg12.IsWhole) (arg13 : Memref sig .tc .vmem S256x512 .f32) (harg13 : arg13.IsWhole) (arg14 : Memref sig .tc .vmem S1x2x1x2048 .f32) (harg14 : arg14.IsWhole) (arg15 : Memref sig .tc .vmem S1x2x512x2048 .f32) (harg15 : arg15.IsWhole) (arg16 : Memref sig .tc .vmem S1x2x512x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S1x2048 .f32) (harg19 : arg19.IsWhole) (arg20 : Memref sig .tc .vmem S1x2048 .f32) (harg20 : arg20.IsWhole) (arg0 : BitVec 32) (v6 : FVec F S256x2048 .f32) (v146 : FVec F S1x2048 .f32) (v150 : FVec F S1x2048 .f32) (f17 : BufTy.Contents (Elt F) arg17.view.ty) (f18 : BufTy.Contents (Elt F) arg18.view.ty) (L17 L18 : List (View.Piece (Elt F) S256x2048 .f32)) (init : Vec F S1x2048 .f32 × Vec F S1x2048 .f32) (X Y : FVec F S256x2048 .f32) :
    (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 (arg17.view.writes (Elt F) f17 (⟨Rect.unit (s := S256x2048) ![0, 0] ![256, 2048] inb_S256x2048_S256x2048_0_0, X⟩ :: L17)) (arg18.view.writes (Elt F) f18 (⟨Rect.unit (s := S256x2048) ![0, 0] ![256, 2048] inb_S256x2048_S256x2048_0_0, Y⟩ :: L18)) init (Scf.trips (0#32) (Scalar.addi 0#32 32#32) 1#32)).1 = scanB downward v146 v150 X Y init 256 :=
  (loop_eq (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 _ _ init X Y (read_whole _ _ _ _ _) (read_whole _ _ _ _ _)).1

theorem loop_re (𝒱 : Variants) (c : Dev nD) (bd : Option 𝒱.V) (i : grid1.Coords) (arg1 : Memref sig .tc .vmem S256x512 .f32) (harg1 : arg1.IsWhole) (arg2 : Memref sig .tc .vmem S256x512 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S1x2x1x2048 .f32) (harg7 : arg7.IsWhole) (arg8 : Memref sig .tc .vmem S1x2x512x2048 .bf16) (harg8 : arg8.IsWhole) (arg9 : Memref sig .tc .vmem S1x2x512x2048 .bf16) (harg9 : arg9.IsWhole) (arg10 : Memref sig .tc .hbm S1x2x1x2048 .f32) (harg10 : arg10.IsWhole) (arg11 : Memref sig .tc .hbm S1x2x512x2048 .f32) (harg11 : arg11.IsWhole) (arg12 : Memref sig .tc .hbm S1x2x512x2048 .f32) (harg12 : arg12.IsWhole) (arg13 : Memref sig .tc .vmem S256x512 .f32) (harg13 : arg13.IsWhole) (arg14 : Memref sig .tc .vmem S1x2x1x2048 .f32) (harg14 : arg14.IsWhole) (arg15 : Memref sig .tc .vmem S1x2x512x2048 .f32) (harg15 : arg15.IsWhole) (arg16 : Memref sig .tc .vmem S1x2x512x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S1x2048 .f32) (harg19 : arg19.IsWhole) (arg20 : Memref sig .tc .vmem S1x2048 .f32) (harg20 : arg20.IsWhole) (arg0 : BitVec 32) (v6 : FVec F S256x2048 .f32) (v146 : FVec F S1x2048 .f32) (v150 : FVec F S1x2048 .f32) (f17 : BufTy.Contents (Elt F) arg17.view.ty) (f18 : BufTy.Contents (Elt F) arg18.view.ty) (L17 L18 : List (View.Piece (Elt F) S256x2048 .f32)) (init : Vec F S1x2048 .f32 × Vec F S1x2048 .f32) (X Y : FVec F S256x2048 .f32) :
    arg17.view.read (Elt F) (arg17.view.writes (Elt F) (arg17.view.writes (Elt F) f17 (⟨Rect.unit (s := S256x2048) ![0, 0] ![256, 2048] inb_S256x2048_S256x2048_0_0, X⟩ :: L17)) (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 (arg17.view.writes (Elt F) f17 (⟨Rect.unit (s := S256x2048) ![0, 0] ![256, 2048] inb_S256x2048_S256x2048_0_0, X⟩ :: L17)) (arg18.view.writes (Elt F) f18 (⟨Rect.unit (s := S256x2048) ![0, 0] ![256, 2048] inb_S256x2048_S256x2048_0_0, Y⟩ :: L18)) init (Scf.trips (0#32) (Scalar.addi 0#32 32#32) 1#32)).2.1) = scanRe downward v146 v150 X Y init :=
  (loop_eq (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 _ _ init X Y (read_whole _ _ _ _ _) (read_whole _ _ _ _ _)).2.1

theorem loop_im (𝒱 : Variants) (c : Dev nD) (bd : Option 𝒱.V) (i : grid1.Coords) (arg1 : Memref sig .tc .vmem S256x512 .f32) (harg1 : arg1.IsWhole) (arg2 : Memref sig .tc .vmem S256x512 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S1x2x1x2048 .f32) (harg7 : arg7.IsWhole) (arg8 : Memref sig .tc .vmem S1x2x512x2048 .bf16) (harg8 : arg8.IsWhole) (arg9 : Memref sig .tc .vmem S1x2x512x2048 .bf16) (harg9 : arg9.IsWhole) (arg10 : Memref sig .tc .hbm S1x2x1x2048 .f32) (harg10 : arg10.IsWhole) (arg11 : Memref sig .tc .hbm S1x2x512x2048 .f32) (harg11 : arg11.IsWhole) (arg12 : Memref sig .tc .hbm S1x2x512x2048 .f32) (harg12 : arg12.IsWhole) (arg13 : Memref sig .tc .vmem S256x512 .f32) (harg13 : arg13.IsWhole) (arg14 : Memref sig .tc .vmem S1x2x1x2048 .f32) (harg14 : arg14.IsWhole) (arg15 : Memref sig .tc .vmem S1x2x512x2048 .f32) (harg15 : arg15.IsWhole) (arg16 : Memref sig .tc .vmem S1x2x512x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S1x2048 .f32) (harg19 : arg19.IsWhole) (arg20 : Memref sig .tc .vmem S1x2048 .f32) (harg20 : arg20.IsWhole) (arg0 : BitVec 32) (v6 : FVec F S256x2048 .f32) (v146 : FVec F S1x2048 .f32) (v150 : FVec F S1x2048 .f32) (f17 : BufTy.Contents (Elt F) arg17.view.ty) (f18 : BufTy.Contents (Elt F) arg18.view.ty) (L17 L18 : List (View.Piece (Elt F) S256x2048 .f32)) (init : Vec F S1x2048 .f32 × Vec F S1x2048 .f32) (X Y : FVec F S256x2048 .f32) :
    arg18.view.read (Elt F) (arg18.view.writes (Elt F) (arg18.view.writes (Elt F) f18 (⟨Rect.unit (s := S256x2048) ![0, 0] ![256, 2048] inb_S256x2048_S256x2048_0_0, Y⟩ :: L18)) (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 (arg17.view.writes (Elt F) f17 (⟨Rect.unit (s := S256x2048) ![0, 0] ![256, 2048] inb_S256x2048_S256x2048_0_0, X⟩ :: L17)) (arg18.view.writes (Elt F) f18 (⟨Rect.unit (s := S256x2048) ![0, 0] ![256, 2048] inb_S256x2048_S256x2048_0_0, Y⟩ :: L18)) init (Scf.trips (0#32) (Scalar.addi 0#32 32#32) 1#32)).2.2) = scanIm downward v146 v150 X Y init :=
  (loop_eq (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v6 v146 v150 _ _ init X Y (read_whole _ _ _ _ _) (read_whole _ _ _ _ _)).2.2

/-- The multipliers' rows, the imaginary one negated. -/
def aRe (a : Vec F S1x2x1x2048 .f32) : FVec F S1x2048 .f32 := k1_pay55 (View.ld a (Rect.unit (s := S1x2x1x2048) ![0, 0, 0, 0] S1x1x1x2048.size inb_S1x2x1x2048_S1x1x1x2048_0_0_0_0))
def aNeg (a : Vec F S1x2x1x2048 .f32) : FVec F S1x2048 .f32 := k1_pay56 (View.ld a (Rect.unit (s := S1x2x1x2048) ![0, 1, 0, 0] S1x1x1x2048.size inb_S1x2x1x2048_S1x1x1x2048_0_1_0_0))

/-- The inputs of the reverse recurrence: the outputs' gradient times the transposed output matrices' blocks. -/
def inRe (dy : Vec F S256x512 .f32) (d : Vec F S1x2x512x2048 .bf16) : FVec F S256x2048 .f32 :=
  k1_pay45 (k1_pay40 dy (View.ld d (Rect.unit (s := S1x2x512x2048) ![0, 0, 0, 0] S1x1x128x512.size inb_S1x2x512x2048_S1x1x128x512_0_0_0_0))) (k1_pay41 dy (View.ld d (Rect.unit (s := S1x2x512x2048) ![0, 0, 128, 512] S1x1x128x512.size inb_S1x2x512x2048_S1x1x128x512_0_0_128_512))) (k1_pay42 dy (View.ld d (Rect.unit (s := S1x2x512x2048) ![0, 0, 256, 1024] S1x1x128x512.size inb_S1x2x512x2048_S1x1x128x512_0_0_256_1024))) (k1_pay43 (View.ld d (Rect.unit (s := S1x2x512x2048) ![0, 0, 384, 1536] S1x1x128x512.size inb_S1x2x512x2048_S1x1x128x512_0_0_384_1536))) (k1_pay44 dy) (constant S256x512 .f32 0x00000000#32)
def inIm (dy : Vec F S256x512 .f32) (d : Vec F S1x2x512x2048 .bf16) : FVec F S256x2048 .f32 :=
  k1_pay46 dy (View.ld d (Rect.unit (s := S1x2x512x2048) ![0, 1, 0, 0] S1x1x128x512.size inb_S1x2x512x2048_S1x1x128x512_0_1_0_0)) (View.ld d (Rect.unit (s := S1x2x512x2048) ![0, 1, 128, 512] S1x1x128x512.size inb_S1x2x512x2048_S1x1x128x512_0_1_128_512)) (View.ld d (Rect.unit (s := S1x2x512x2048) ![0, 1, 256, 1024] S1x1x128x512.size inb_S1x2x512x2048_S1x1x128x512_0_1_256_1024)) (View.ld d (Rect.unit (s := S1x2x512x2048) ![0, 1, 384, 1536] S1x1x128x512.size inb_S1x2x512x2048_S1x1x128x512_0_1_384_1536))

/-- The gradients of a tile's states, and the state carried to the tile before. -/
def gRe (dy : Vec F S256x512 .f32) (a : Vec F S1x2x1x2048 .f32) (d : Vec F S1x2x512x2048 .bf16) (s : FVec F S1x2048 .f32 × FVec F S1x2048 .f32) : FVec F S256x2048 .f32 :=
  scanRe downward (aRe a) (aNeg a) (inRe dy d) (inIm dy d) s
def gIm (dy : Vec F S256x512 .f32) (a : Vec F S1x2x1x2048 .f32) (d : Vec F S1x2x512x2048 .bf16) (s : FVec F S1x2048 .f32 × FVec F S1x2048 .f32) : FVec F S256x2048 .f32 :=
  scanIm downward (aRe a) (aNeg a) (inRe dy d) (inIm dy d) s
def gEnd (dy : Vec F S256x512 .f32) (a : Vec F S1x2x1x2048 .f32) (d : Vec F S1x2x512x2048 .bf16) (s : FVec F S1x2048 .f32 × FVec F S1x2048 .f32) : FVec F S1x2048 .f32 × FVec F S1x2048 .f32 :=
  scanB downward (aRe a) (aNeg a) (inRe dy d) (inIm dy d) s 256

/-- The inputs' gradient of a tile. -/
def outDu (gr gi : FVec F S256x2048 .f32) (b : Vec F S1x2x512x2048 .bf16) : FVec F S256x512 .f32 :=
  k1_pay74 (k1_pay69 gr (k1_pay67 gr (View.ld b (Rect.unit (s := S1x2x512x2048) ![0, 0, 0, 0] S1x1x128x512.size inb_S1x2x512x2048_S1x1x128x512_0_0_0_0))) (k1_pay68 gr) (View.ld b (Rect.unit (s := S1x2x512x2048) ![0, 0, 128, 512] S1x1x128x512.size inb_S1x2x512x2048_S1x1x128x512_0_0_128_512)) (View.ld b (Rect.unit (s := S1x2x512x2048) ![0, 0, 256, 1024] S1x1x128x512.size inb_S1x2x512x2048_S1x1x128x512_0_0_256_1024)) (View.ld b (Rect.unit (s := S1x2x512x2048) ![0, 0, 384, 1536] S1x1x128x512.size inb_S1x2x512x2048_S1x1x128x512_0_0_384_1536)))
    (k1_pay70 gi (View.ld b (Rect.unit (s := S1x2x512x2048) ![0, 1, 0, 0] S1x1x128x512.size inb_S1x2x512x2048_S1x1x128x512_0_1_0_0))) (k1_pay71 gi (View.ld b (Rect.unit (s := S1x2x512x2048) ![0, 1, 128, 512] S1x1x128x512.size inb_S1x2x512x2048_S1x1x128x512_0_1_128_512))) (k1_pay72 gi (View.ld b (Rect.unit (s := S1x2x512x2048) ![0, 1, 256, 1024] S1x1x128x512.size inb_S1x2x512x2048_S1x1x128x512_0_1_256_1024))) (k1_pay73 gi) (View.ld b (Rect.unit (s := S1x2x512x2048) ![0, 1, 384, 1536] S1x1x128x512.size inb_S1x2x512x2048_S1x1x128x512_0_1_384_1536))

/-- What one tile adds to the multipliers' gradient. -/
def outDa (i : grid1.Coords) (xr xi : Vec F S256x2048 .f32) (er ei : Vec F S8x2048 .f32) (gr gi : FVec F S256x2048 .f32) (o : Vec F S1x2x1x2048 .f32) : Vec F S1x2x1x2048 .f32 :=
  twoRows (k1_pay65 (k1_pay39 xi) gr gi (k1_pay61 (BitVec.ofNat 32 (i 0).val) (k1_pay38 xr) (View.ld er (Rect.unit (s := S8x2048) ![7, 0] S1x2048.size inb_S8x2048_S1x2048_7_0))) k1_pay62 (k1_pay63 (BitVec.ofNat 32 (i 0).val) (View.ld ei (Rect.unit (s := S8x2048) ![7, 0] S1x2048.size inb_S8x2048_S1x2048_7_0))) 1#32 (View.ld o (Rect.unit (s := S1x2x1x2048) ![0, 0, 0, 0] S1x1x1x2048.size inb_S1x2x1x2048_S1x1x1x2048_0_0_0_0)))
    (k1_pay66 (k1_pay39 xi) gr gi (k1_pay61 (BitVec.ofNat 32 (i 0).val) (k1_pay38 xr) (View.ld er (Rect.unit (s := S8x2048) ![7, 0] S1x2048.size inb_S8x2048_S1x2048_7_0))) k1_pay62 (k1_pay63 (BitVec.ofNat 32 (i 0).val) (View.ld ei (Rect.unit (s := S8x2048) ![7, 0] S1x2048.size inb_S8x2048_S1x2048_7_0))) 1#32 (View.ld o (Rect.unit (s := S1x2x1x2048) ![0, 1, 0, 0] S1x1x1x2048.size inb_S1x2x1x2048_S1x1x1x2048_0_1_0_0)))

/-- What one tile adds to the input matrices' gradient: the eight diagonal blocks. -/
def outDb (u : Vec F S256x512 .f32) (gr gi : FVec F S256x2048 .f32) (o : Vec F S1x2x512x2048 .f32) : Vec F S1x2x512x2048 .f32 :=
  eightBlocks ![
    k1_pay75 u gr (View.ld o (Rect.unit (s := S1x2x512x2048) ![0, 0, 0, 0] S1x1x128x512.size inb_S1x2x512x2048_S1x1x128x512_0_0_0_0)),
    k1_pay76 u gr (View.ld o (Rect.unit (s := S1x2x512x2048) ![0, 0, 128, 512] S1x1x128x512.size inb_S1x2x512x2048_S1x1x128x512_0_0_128_512)),
    k1_pay77 u gr (View.ld o (Rect.unit (s := S1x2x512x2048) ![0, 0, 256, 1024] S1x1x128x512.size inb_S1x2x512x2048_S1x1x128x512_0_0_256_1024)),
    k1_pay78 u gr (View.ld o (Rect.unit (s := S1x2x512x2048) ![0, 0, 384, 1536] S1x1x128x512.size inb_S1x2x512x2048_S1x1x128x512_0_0_384_1536)),
    k1_pay79 u gi (View.ld o (Rect.unit (s := S1x2x512x2048) ![0, 1, 0, 0] S1x1x128x512.size inb_S1x2x512x2048_S1x1x128x512_0_1_0_0)),
    k1_pay80 u gi (View.ld o (Rect.unit (s := S1x2x512x2048) ![0, 1, 128, 512] S1x1x128x512.size inb_S1x2x512x2048_S1x1x128x512_0_1_128_512)),
    k1_pay81 u gi (View.ld o (Rect.unit (s := S1x2x512x2048) ![0, 1, 256, 1024] S1x1x128x512.size inb_S1x2x512x2048_S1x1x128x512_0_1_256_1024)),
    k1_pay1 (k1_pay82 u gi (View.ld o (Rect.unit (s := S1x2x512x2048) ![0, 1, 384, 1536] S1x1x128x512.size inb_S1x2x512x2048_S1x1x128x512_0_1_384_1536)))] o

/-- What one tile adds to the output matrices' gradient: the eight diagonal blocks. -/
def outDc (dy : Vec F S256x512 .f32) (xr xi : Vec F S256x2048 .f32) (o : Vec F S1x2x512x2048 .f32) : Vec F S1x2x512x2048 .f32 :=
  eightBlocks ![
    k1_pay47 dy (k1_pay38 xr) (View.ld o (Rect.unit (s := S1x2x512x2048) ![0, 0, 0, 0] S1x1x128x512.size inb_S1x2x512x2048_S1x1x128x512_0_0_0_0)),
    k1_pay48 dy (k1_pay38 xr) (View.ld o (Rect.unit (s := S1x2x512x2048) ![0, 0, 128, 512] S1x1x128x512.size inb_S1x2x512x2048_S1x1x128x512_0_0_128_512)),
    k1_pay49 dy (k1_pay38 xr) (View.ld o (Rect.unit (s := S1x2x512x2048) ![0, 0, 256, 1024] S1x1x128x512.size inb_S1x2x512x2048_S1x1x128x512_0_0_256_1024)),
    k1_pay50 dy (k1_pay38 xr) (View.ld o (Rect.unit (s := S1x2x512x2048) ![0, 0, 384, 1536] S1x1x128x512.size inb_S1x2x512x2048_S1x1x128x512_0_0_384_1536)),
    k1_pay51 dy (k1_pay39 xi) (View.ld o (Rect.unit (s := S1x2x512x2048) ![0, 1, 0, 0] S1x1x128x512.size inb_S1x2x512x2048_S1x1x128x512_0_1_0_0)),
    k1_pay52 dy (k1_pay39 xi) (View.ld o (Rect.unit (s := S1x2x512x2048) ![0, 1, 128, 512] S1x1x128x512.size inb_S1x2x512x2048_S1x1x128x512_0_1_128_512)),
    k1_pay53 dy (k1_pay39 xi) (View.ld o (Rect.unit (s := S1x2x512x2048) ![0, 1, 256, 1024] S1x1x128x512.size inb_S1x2x512x2048_S1x1x128x512_0_1_256_1024)),
    k1_pay54 dy (k1_pay39 xi) (View.ld o (Rect.unit (s := S1x2x512x2048) ![0, 1, 384, 1536] S1x1x128x512.size inb_S1x2x512x2048_S1x1x128x512_0_1_384_1536))] o

/-- The condition of the point that clears what is carried. -/
abbrev first (i : grid1.Coords) : Prop := Scalar.cmpi .ne (Scalar.extui (Scalar.cmpi .eq (BitVec.ofNat 32 (i 0).val) 0#32)) 0#32 = 1#1

abbrev held (c : Dev nD) (arg1 : Memref sig .tc .vmem S256x512 .f32) (arg2 : Memref sig .tc .vmem S256x512 .f32) (arg3 : Memref sig .tc .vmem S256x2048 .f32) (arg4 : Memref sig .tc .vmem S256x2048 .f32) (arg5 : Memref sig .tc .vmem S8x2048 .f32) (arg6 : Memref sig .tc .vmem S8x2048 .f32) (arg7 : Memref sig .tc .vmem S1x2x1x2048 .f32) (arg8 : Memref sig .tc .vmem S1x2x512x2048 .bf16) (arg9 : Memref sig .tc .vmem S1x2x512x2048 .bf16) (u : Vec F S256x512 .f32) (dy : Vec F S256x512 .f32) (xr : Vec F S256x2048 .f32) (xi : Vec F S256x2048 .f32) (er : Vec F S8x2048 .f32) (ei : Vec F S8x2048 .f32) (a : Vec F S1x2x1x2048 .f32) (b : Vec F S1x2x512x2048 .bf16) (d : Vec F S1x2x512x2048 .bf16) : sProp 𝕄 :=
  iprop(owns (c : Thread nD τ) arg1 fullShare u ∗ owns (c : Thread nD τ) arg2 fullShare dy ∗ owns (c : Thread nD τ) arg3 fullShare xr ∗ owns (c : Thread nD τ) arg4 fullShare xi ∗ owns (c : Thread nD τ) arg5 fullShare er ∗ owns (c : Thread nD τ) arg6 fullShare ei ∗ owns (c : Thread nD τ) arg7 fullShare a ∗ owns (c : Thread nD τ) arg8 fullShare b ∗ owns (c : Thread nD τ) arg9 fullShare d)

/-- What the point leaves. -/
abbrev left (c : Dev nD) (i : grid1.Coords) (arg13 : Memref sig .tc .vmem S256x512 .f32) (arg14 : Memref sig .tc .vmem S1x2x1x2048 .f32) (arg15 : Memref sig .tc .vmem S1x2x512x2048 .f32) (arg16 : Memref sig .tc .vmem S1x2x512x2048 .f32) (arg17 : Memref sig .tc .vmem S256x2048 .f32) (arg18 : Memref sig .tc .vmem S256x2048 .f32) (arg19 : Memref sig .tc .vmem S1x2048 .f32) (arg20 : Memref sig .tc .vmem S1x2048 .f32) (u : Vec F S256x512 .f32) (dy : Vec F S256x512 .f32) (xr : Vec F S256x2048 .f32) (xi : Vec F S256x2048 .f32) (er : Vec F S8x2048 .f32) (ei : Vec F S8x2048 .f32) (a : Vec F S1x2x1x2048 .f32) (b : Vec F S1x2x512x2048 .bf16) (d : Vec F S1x2x512x2048 .bf16)
    (oa : Vec F S1x2x1x2048 .f32) (ob oc : Vec F S1x2x512x2048 .f32) (s : FVec F S1x2048 .f32 × FVec F S1x2048 .f32) : sProp 𝕄 :=
  iprop(owns (c : Thread nD τ) arg13 fullShare (outDu (gRe dy a d s) (gIm dy a d s) b) ∗ owns (c : Thread nD τ) arg14 fullShare (outDa i xr xi er ei (gRe dy a d s) (gIm dy a d s) oa) ∗ owns (c : Thread nD τ) arg15 fullShare (outDb u (gRe dy a d s) (gIm dy a d s) ob) ∗ owns (c : Thread nD τ) arg16 fullShare (outDc dy xr xi oc)
    ∗ owns (c : Thread nD τ) arg17 fullShare (gRe dy a d s) ∗ owns (c : Thread nD τ) arg18 fullShare (gIm dy a d s) ∗ owns (c : Thread nD τ) arg19 fullShare (gEnd dy a d s).1 ∗ owns (c : Thread nD τ) arg20 fullShare (gEnd dy a d s).2)

set_option maxHeartbeats 4000000 in
theorem run_next (c : Dev nD) (i : grid1.Coords) (arg1 : Memref sig .tc .vmem S256x512 .f32) (harg1 : arg1.IsWhole) (arg2 : Memref sig .tc .vmem S256x512 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S1x2x1x2048 .f32) (harg7 : arg7.IsWhole) (arg8 : Memref sig .tc .vmem S1x2x512x2048 .bf16) (harg8 : arg8.IsWhole) (arg9 : Memref sig .tc .vmem S1x2x512x2048 .bf16) (harg9 : arg9.IsWhole) (arg10 : Memref sig .tc .hbm S1x2x1x2048 .f32) (harg10 : arg10.IsWhole) (arg11 : Memref sig .tc .hbm S1x2x512x2048 .f32) (harg11 : arg11.IsWhole) (arg12 : Memref sig .tc .hbm S1x2x512x2048 .f32) (harg12 : arg12.IsWhole) (arg13 : Memref sig .tc .vmem S256x512 .f32) (harg13 : arg13.IsWhole) (arg14 : Memref sig .tc .vmem S1x2x1x2048 .f32) (harg14 : arg14.IsWhole) (arg15 : Memref sig .tc .vmem S1x2x512x2048 .f32) (harg15 : arg15.IsWhole) (arg16 : Memref sig .tc .vmem S1x2x512x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S1x2048 .f32) (harg19 : arg19.IsWhole) (arg20 : Memref sig .tc .vmem S1x2048 .f32) (harg20 : arg20.IsWhole) (hc0 : ¬ first i)
    (u : Vec F S256x512 .f32) (dy : Vec F S256x512 .f32) (xr : Vec F S256x2048 .f32) (xi : Vec F S256x2048 .f32) (er : Vec F S8x2048 .f32) (ei : Vec F S8x2048 .f32) (a : Vec F S1x2x1x2048 .f32) (b : Vec F S1x2x512x2048 .bf16) (d : Vec F S1x2x512x2048 .bf16) (oa : Vec F S1x2x1x2048 .f32) (ob oc : Vec F S1x2x512x2048 .f32) (s : FVec F S1x2048 .f32 × FVec F S1x2048 .f32) (E : Set ℕ) (K : PUnit → sProp 𝕄) :
    iprop(owns (c : Thread nD τ) arg1 fullShare u ∗ owns (c : Thread nD τ) arg2 fullShare dy ∗ owns (c : Thread nD τ) arg3 fullShare xr ∗ owns (c : Thread nD τ) arg4 fullShare xi ∗ owns (c : Thread nD τ) arg5 fullShare er ∗ owns (c : Thread nD τ) arg6 fullShare ei ∗ owns (c : Thread nD τ) arg7 fullShare a ∗ owns (c : Thread nD τ) arg8 fullShare b ∗ owns (c : Thread nD τ) arg9 fullShare d ∗ (∃ x, owns (c : Thread nD τ) arg13 fullShare x) ∗ owns (c : Thread nD τ) arg14 fullShare oa ∗ owns (c : Thread nD τ) arg15 fullShare ob ∗ owns (c : Thread nD τ) arg16 fullShare oc ∗ (∃ x, owns (c : Thread nD τ) arg17 fullShare x) ∗ (∃ x, owns (c : Thread nD τ) arg18 fullShare x) ∗ owns (c : Thread nD τ) arg19 fullShare s.1 ∗ owns (c : Thread nD τ) arg20 fullShare s.2
        ∗ (iprop(held c arg1 arg2 arg3 arg4 arg5 arg6 arg7 arg8 arg9 u dy xr xi er ei a b d ∗ left c i arg13 arg14 arg15 arg16 arg17 arg18 arg19 arg20 u dy xr xi er ei a b d oa ob oc s) -∗ K ⟨⟩))
      ⊢ wp frame (wpE (defs₀ (F := F)) Variants.none c none) E (cc1_s5_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1_s5_bwd_eq_skeleton]; unfold cc1_s5_bwd_skel
  simp only [k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
  unfold held left owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d13, %f13, -, H13⟩, ⟨%f14, %hf14, H14⟩, ⟨%f15, %hf15, H15⟩, ⟨%f16, %hf16, H16⟩, ⟨%d17, %f17, -, H17⟩, ⟨%d18, %f18, -, H18⟩, ⟨%f19, %hf19, H19⟩, ⟨%f20, %hf20, H20⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg14.eq_unread hf14; obtain rfl := harg15.eq_unread hf15; obtain rfl := harg16.eq_unread hf16; obtain rfl := harg19.eq_unread hf19; obtain rfl := harg20.eq_unread hf20
  sl_exec (disch := first | sl_exact hc0)
  sl_step
  iapply Hk
  isplitl [H1 H2 H3 H4 H5 H6 H7 H8 H9]
  · isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9
  isplitl [H13]
  · iexists _; isplitr; swap; · iexact H13
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    rfl
  isplitl [H14]
  · iexists _; isplitr; swap; · iexact H14
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    rw [read_two]
    rfl
  isplitl [H15]
  · iexists _; isplitr; swap; · iexact H15
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    simp only [read_eight_over, View.writes_nil, read_whole4, harg15.read_unread]
    rfl
  isplitl [H16]
  · iexists _; isplitr; swap; · iexact H16
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    simp only [read_eight_over, View.writes_nil, read_whole4, harg16.read_unread]
    rfl
  isplitl [H17]
  · iexists _; isplitr; swap; · iexact H17
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    rfl
  isplitl [H18]
  · iexists _; isplitr; swap; · iexact H18
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    rfl
  isplitl [H19]
  · iexists _; isplitr; swap; · iexact H19
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    rfl
  iexists _; isplitr; swap; · iexact H20
  ipureintro
  sl_unfold_run_names
  simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
  rfl

set_option maxHeartbeats 4000000 in
theorem run_first (c : Dev nD) (i : grid1.Coords) (arg1 : Memref sig .tc .vmem S256x512 .f32) (harg1 : arg1.IsWhole) (arg2 : Memref sig .tc .vmem S256x512 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S1x2x1x2048 .f32) (harg7 : arg7.IsWhole) (arg8 : Memref sig .tc .vmem S1x2x512x2048 .bf16) (harg8 : arg8.IsWhole) (arg9 : Memref sig .tc .vmem S1x2x512x2048 .bf16) (harg9 : arg9.IsWhole) (arg10 : Memref sig .tc .hbm S1x2x1x2048 .f32) (harg10 : arg10.IsWhole) (arg11 : Memref sig .tc .hbm S1x2x512x2048 .f32) (harg11 : arg11.IsWhole) (arg12 : Memref sig .tc .hbm S1x2x512x2048 .f32) (harg12 : arg12.IsWhole) (arg13 : Memref sig .tc .vmem S256x512 .f32) (harg13 : arg13.IsWhole) (arg14 : Memref sig .tc .vmem S1x2x1x2048 .f32) (harg14 : arg14.IsWhole) (arg15 : Memref sig .tc .vmem S1x2x512x2048 .f32) (harg15 : arg15.IsWhole) (arg16 : Memref sig .tc .vmem S1x2x512x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S1x2048 .f32) (harg19 : arg19.IsWhole) (arg20 : Memref sig .tc .vmem S1x2048 .f32) (harg20 : arg20.IsWhole) (hc0 : first i)
    (u : Vec F S256x512 .f32) (dy : Vec F S256x512 .f32) (xr : Vec F S256x2048 .f32) (xi : Vec F S256x2048 .f32) (er : Vec F S8x2048 .f32) (ei : Vec F S8x2048 .f32) (a : Vec F S1x2x1x2048 .f32) (b : Vec F S1x2x512x2048 .bf16) (d : Vec F S1x2x512x2048 .bf16) (oa : Vec F S1x2x1x2048 .f32) (ob oc : Vec F S1x2x512x2048 .f32) (s : FVec F S1x2048 .f32 × FVec F S1x2048 .f32) (E : Set ℕ) (K : PUnit → sProp 𝕄) :
    iprop(owns (c : Thread nD τ) arg1 fullShare u ∗ owns (c : Thread nD τ) arg2 fullShare dy ∗ owns (c : Thread nD τ) arg3 fullShare xr ∗ owns (c : Thread nD τ) arg4 fullShare xi ∗ owns (c : Thread nD τ) arg5 fullShare er ∗ owns (c : Thread nD τ) arg6 fullShare ei ∗ owns (c : Thread nD τ) arg7 fullShare a ∗ owns (c : Thread nD τ) arg8 fullShare b ∗ owns (c : Thread nD τ) arg9 fullShare d ∗ (∃ x, owns (c : Thread nD τ) arg13 fullShare x) ∗ (∃ x, owns (c : Thread nD τ) arg14 fullShare x) ∗ (∃ x, owns (c : Thread nD τ) arg15 fullShare x) ∗ (∃ x, owns (c : Thread nD τ) arg16 fullShare x) ∗ (∃ x, owns (c : Thread nD τ) arg17 fullShare x) ∗ (∃ x, owns (c : Thread nD τ) arg18 fullShare x) ∗ (∃ x, owns (c : Thread nD τ) arg19 fullShare x) ∗ (∃ x, owns (c : Thread nD τ) arg20 fullShare x)
        ∗ (iprop(held c arg1 arg2 arg3 arg4 arg5 arg6 arg7 arg8 arg9 u dy xr xi er ei a b d ∗ left c i arg13 arg14 arg15 arg16 arg17 arg18 arg19 arg20 u dy xr xi er ei a b d k1_pay35 k1_pay36 k1_pay37 (k1_pay33, k1_pay34)) -∗ K ⟨⟩))
      ⊢ wp frame (wpE (defs₀ (F := F)) Variants.none c none) E (cc1_s5_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1_s5_bwd_eq_skeleton]; unfold cc1_s5_bwd_skel
  simp only [k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
  unfold held left owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0)
  sl_step
  iapply Hk
  isplitl [H1 H2 H3 H4 H5 H6 H7 H8 H9]
  · isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9
  isplitl [H13]
  · iexists _; isplitr; swap; · iexact H13
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    rfl
  isplitl [H14]
  · iexists _; isplitr; swap; · iexact H14
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    simp (disch := decide) only [skip_block, read_whole4, View.writes_nil, harg14.read_unread]
    rw [read_two]
    rfl
  isplitl [H15]
  · iexists _; isplitr; swap; · iexact H15
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    simp (disch := decide) only [skip_block, read_whole4, View.writes_nil, harg15.read_unread]
    simp only [read_eight_over, View.writes_nil, read_whole4, harg15.read_unread]
    rfl
  isplitl [H16]
  · iexists _; isplitr; swap; · iexact H16
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    simp (disch := decide) only [skip_block, read_whole4, View.writes_nil, harg16.read_unread]
    simp only [read_eight_over, View.writes_nil, read_whole4, harg16.read_unread]
    rfl
  isplitl [H17]
  · iexists _; isplitr; swap; · iexact H17
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    rfl
  isplitl [H18]
  · iexists _; isplitr; swap; · iexact H18
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    rfl
  isplitl [H19]
  · iexists _; isplitr; swap; · iexact H19
    ipureintro
    sl_unfold_run_names
    simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
    rfl
  iexists _; isplitr; swap; · iexact H20
  ipureintro
  sl_unfold_run_names
  simp only [View.readCov, View.readAt_eq_ld, harg1.read_unread, harg2.read_unread, harg3.read_unread, harg4.read_unread, harg5.read_unread, harg6.read_unread, harg7.read_unread, harg8.read_unread, harg9.read_unread, harg14.read_unread, harg15.read_unread, harg16.read_unread, harg19.read_unread, harg20.read_unread, View.writes_append, ld_whole, read_whole, read_whole4, loop_re, loop_im, loop_end, k1_pay58, k1_pay59, shapeCast_self]
  rfl

end Cert.KernelIdeal.Bwd

end
-- ==== Proof.BwdData.lean ====
/-
  The proof data of the backward call's pipeline from any contents of its arrays: what each point finds and
  leaves, and that the body keeps to it.
-/
module

public import proofs.«01_k».proof.Proof.BwdBody
public import proofs.«01_k».proof.Proof.Gen.KernelIdeal.Launch
public import proofs.«01_k».proof.Proof.Gen.KernelIdeal.Points
public import Idealize.ShloMosaic.Lib.Pipeline.Frame
public import Idealize.ShloMosaic.Lib.Pipeline.Regions
public import Idealize.ShloMosaic.Lib.WordCmp

@[expose] public section

set_option maxRecDepth 2048

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.S5

variable {F : FTy → Type} [FloatOps F]

local notation "𝕄" => MT nD τ sig Unit (Elt F) ℕ (UR sig nD τ) ℕ

variable (W : Dev nD → Valuation τ sig (Elt F))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The state's gradient and the three sums carried into the `n`-th point. -/
def carry (c : Dev nD) : (n : ℕ) → n ≤ cfg1.N → (FVec F S1x2048 .f32 × FVec F S1x2048 .f32) × Vec F S1x2x1x2048 .f32 × Vec F S1x2x512x2048 .f32 × Vec F S1x2x512x2048 .f32
  | 0, _ => ((k1_pay33, k1_pay34), k1_pay35, k1_pay36, k1_pay37)
  | n + 1, h =>
    (gEnd (iblk W c 1 ⟨n, h⟩) (iblk W c 6 ⟨n, h⟩) (iblk W c 8 ⟨n, h⟩) (carry c n (Nat.le_of_succ_le h)).1,
      outDa (grid1.coords ⟨n, h⟩) (iblk W c 2 ⟨n, h⟩) (iblk W c 3 ⟨n, h⟩) (iblk W c 4 ⟨n, h⟩) (iblk W c 5 ⟨n, h⟩) (gRe (iblk W c 1 ⟨n, h⟩) (iblk W c 6 ⟨n, h⟩) (iblk W c 8 ⟨n, h⟩) (carry c n (Nat.le_of_succ_le h)).1) (gIm (iblk W c 1 ⟨n, h⟩) (iblk W c 6 ⟨n, h⟩) (iblk W c 8 ⟨n, h⟩) (carry c n (Nat.le_of_succ_le h)).1) (carry c n (Nat.le_of_succ_le h)).2.1,
      outDb (iblk W c 0 ⟨n, h⟩) (gRe (iblk W c 1 ⟨n, h⟩) (iblk W c 6 ⟨n, h⟩) (iblk W c 8 ⟨n, h⟩) (carry c n (Nat.le_of_succ_le h)).1) (gIm (iblk W c 1 ⟨n, h⟩) (iblk W c 6 ⟨n, h⟩) (iblk W c 8 ⟨n, h⟩) (carry c n (Nat.le_of_succ_le h)).1) (carry c n (Nat.le_of_succ_le h)).2.2.1,
      outDc (iblk W c 1 ⟨n, h⟩) (iblk W c 2 ⟨n, h⟩) (iblk W c 3 ⟨n, h⟩) (carry c n (Nat.le_of_succ_le h)).2.2.2)

theorem carry_zero (c : Dev nD) (h : 0 ≤ cfg1.N) : carry W c 0 h = ((k1_pay33, k1_pay34), k1_pay35, k1_pay36, k1_pay37) := rfl

theorem carry_succ (c : Dev nD) (t : Fin cfg1.N) : carry W c (t.val + 1) t.isLt
    = (gEnd (iblk W c 1 t) (iblk W c 6 t) (iblk W c 8 t) (carry W c t.val (Nat.le_of_lt t.isLt)).1,
      outDa (grid1.coords t) (iblk W c 2 t) (iblk W c 3 t) (iblk W c 4 t) (iblk W c 5 t) (gRe (iblk W c 1 t) (iblk W c 6 t) (iblk W c 8 t) (carry W c t.val (Nat.le_of_lt t.isLt)).1) (gIm (iblk W c 1 t) (iblk W c 6 t) (iblk W c 8 t) (carry W c t.val (Nat.le_of_lt t.isLt)).1) (carry W c t.val (Nat.le_of_lt t.isLt)).2.1,
      outDb (iblk W c 0 t) (gRe (iblk W c 1 t) (iblk W c 6 t) (iblk W c 8 t) (carry W c t.val (Nat.le_of_lt t.isLt)).1) (gIm (iblk W c 1 t) (iblk W c 6 t) (iblk W c 8 t) (carry W c t.val (Nat.le_of_lt t.isLt)).1) (carry W c t.val (Nat.le_of_lt t.isLt)).2.2.1,
      outDc (iblk W c 1 t) (iblk W c 2 t) (iblk W c 3 t) (carry W c t.val (Nat.le_of_lt t.isLt)).2.2.2) := rfl

/-- The carried buffers before the `n`-th point: at anything before the first. -/
def Inv (c : Dev nD) : (n : ℕ) → n ≤ cfg1.N → sProp 𝕄
  | 0, _ => Pipeline.scopedRest spec1 c
  | n + 1, h => iprop(((∃ x, owns (c : Thread nD τ) (Memref.whole cc1_scratch0) fullShare x) ∗ (∃ x, owns (c : Thread nD τ) (Memref.whole cc1_scratch1) fullShare x) ∗ owns (c : Thread nD τ) (Memref.whole cc1_scratch2) fullShare (carry W c (n + 1) h).1.1 ∗ owns (c : Thread nD τ) (Memref.whole cc1_scratch3) fullShare (carry W c (n + 1) h).1.2) ∗ Pipeline.scopedRestBut (Ix := Unit) (Name := ℕ) (U := UR sig nD τ) (Lvl := ℕ) (Val := Elt F) spec1 c [cc1_scratch0, cc1_scratch1, cc1_scratch2, cc1_scratch3])

theorem rest_eq (c : Dev nD) : (Pipeline.scopedRest (Ix := Unit) (Name := ℕ) (U := UR sig nD τ) (Lvl := ℕ) (Val := Elt F) spec1 c : sProp 𝕄)
      = iprop(((∃ x, owns (c : Thread nD τ) (Memref.whole cc1_scratch0) fullShare x) ∗ (∃ x, owns (c : Thread nD τ) (Memref.whole cc1_scratch1) fullShare x) ∗ (∃ x, owns (c : Thread nD τ) (Memref.whole cc1_scratch2) fullShare x) ∗ (∃ x, owns (c : Thread nD τ) (Memref.whole cc1_scratch3) fullShare x)) ∗ Pipeline.scopedRestBut (Ix := Unit) (Name := ℕ) (U := UR sig nD τ) (Lvl := ℕ) (Val := Elt F) spec1 c [cc1_scratch0, cc1_scratch1, cc1_scratch2, cc1_scratch3]) := by
  simp only [owns_whole]
  exact Pipeline.scopedRest_split_of_list spec1 c [cc1_scratch0, cc1_scratch1, cc1_scratch2, cc1_scratch3] (by decide) (by decide)

theorem Inv_pos (c : Dev nD) (n : ℕ) (h : n ≤ cfg1.N) (hz : n ≠ 0) :
    Inv W c n h = iprop(((∃ x, owns (c : Thread nD τ) (Memref.whole cc1_scratch0) fullShare x) ∗ (∃ x, owns (c : Thread nD τ) (Memref.whole cc1_scratch1) fullShare x) ∗ owns (c : Thread nD τ) (Memref.whole cc1_scratch2) fullShare (carry W c n h).1.1 ∗ owns (c : Thread nD τ) (Memref.whole cc1_scratch3) fullShare (carry W c n h).1.2) ∗ Pipeline.scopedRestBut (Ix := Unit) (Name := ℕ) (U := UR sig nD τ) (Lvl := ℕ) (Val := Elt F) spec1 c [cc1_scratch0, cc1_scratch1, cc1_scratch2, cc1_scratch3]) := by
  cases n with
  | zero => exact absurd rfl hz
  | succ n => rfl

/-- The proof data: the arrays as found, each point's inputs at their blocks and its outputs at the body's values. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => outDu (gRe (iblk W c 1 t) (iblk W c 6 t) (iblk W c 8 t) (carry W c t.val (Nat.le_of_lt t.isLt)).1) (gIm (iblk W c 1 t) (iblk W c 6 t) (iblk W c 8 t) (carry W c t.val (Nat.le_of_lt t.isLt)).1) (iblk W c 7 t)
    | ⟨10, _⟩ => (carry W c (t.val + 1) t.isLt).2.1
    | ⟨11, _⟩ => (carry W c (t.val + 1) t.isLt).2.2.1
    | ⟨12, _⟩ => (carry W c (t.val + 1) t.isLt).2.2.2
  Φ t := Inv W c t.val (Nat.le_of_lt_succ t.isLt)
  q w := Pipeline.shareOf spec1 w
  owed _ := 0

theorem A_eq (c : Dev nD) (w : Fin cfg1.W) : (dat W c).A w = W c (Proc.devRef .tc (Pipeline.arrRef spec1 w)) := by
  dsimp only [dat]

theorem Inv_castSucc (c : Dev nD) (t : Fin cfg1.N) : (dat W c).Φ t.castSucc = Inv W c t.val (Nat.le_of_lt t.isLt) := by
  dsimp only [dat]; exact Pipeline.Dat.Φ_castSucc (Inv W c) t

theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = iblk W c 3 t := by dsimp only [dat]
theorem after_4 (c : Dev nD) (t : Fin cfg1.N) : (dat W c).after 4 t = iblk W c 4 t := by dsimp only [dat]
theorem after_5 (c : Dev nD) (t : Fin cfg1.N) : (dat W c).after 5 t = iblk W c 5 t := by dsimp only [dat]
theorem after_6 (c : Dev nD) (t : Fin cfg1.N) : (dat W c).after 6 t = iblk W c 6 t := by dsimp only [dat]
theorem after_7 (c : Dev nD) (t : Fin cfg1.N) : (dat W c).after 7 t = iblk W c 7 t := by dsimp only [dat]
theorem after_8 (c : Dev nD) (t : Fin cfg1.N) : (dat W c).after 8 t = iblk W c 8 t := by dsimp only [dat]
theorem after_9 (c : Dev nD) (t : Fin cfg1.N) : (dat W c).after 9 t = outDu (gRe (iblk W c 1 t) (iblk W c 6 t) (iblk W c 8 t) (carry W c t.val (Nat.le_of_lt t.isLt)).1) (gIm (iblk W c 1 t) (iblk W c 6 t) (iblk W c 8 t) (carry W c t.val (Nat.le_of_lt t.isLt)).1) (iblk W c 7 t) := by dsimp only [dat]
theorem after_10 (c : Dev nD) (t : Fin cfg1.N) : (dat W c).after 10 t = (carry W c (t.val + 1) t.isLt).2.1 := by dsimp only [dat]
theorem after_11 (c : Dev nD) (t : Fin cfg1.N) : (dat W c).after 11 t = (carry W c (t.val + 1) t.isLt).2.2.1 := by dsimp only [dat]
theorem after_12 (c : Dev nD) (t : Fin cfg1.N) : (dat W c).after 12 t = (carry W c (t.val + 1) t.isLt).2.2.2 := by dsimp only [dat]

theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg1.N) (d) : (dat W c).before 1 t d = iblk W c 1 t :=
  ((dat W c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg1.N) (d) : (dat W c).before 3 t d = iblk W c 3 t :=
  ((dat W c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin cfg1.N) (d) : (dat W c).before 4 t d = iblk W c 4 t :=
  ((dat W c).before_in_eq_fetched 4 rfl (fun _ => rfl) (fun _ _ _ => rfl) (fun t => by rw [after_4]; unfold Dat.blockOf iblk; rw [A_eq]) t d).trans
    (by unfold Dat.fetched Dat.blockOf iblk; rw [A_eq]; rfl)
theorem before_5 (c : Dev nD) (t : Fin cfg1.N) (d) : (dat W c).before 5 t d = iblk W c 5 t :=
  ((dat W c).before_in_eq_fetched 5 rfl (fun _ => rfl) (fun _ _ _ => rfl) (fun t => by rw [after_5]; unfold Dat.blockOf iblk; rw [A_eq]) t d).trans
    (by unfold Dat.fetched Dat.blockOf iblk; rw [A_eq]; rfl)
theorem before_6 (c : Dev nD) (t : Fin cfg1.N) (d) : (dat W c).before 6 t d = iblk W c 6 t :=
  ((dat W c).before_in_eq_fetched 6 rfl (fun _ => rfl) (fun _ _ _ => rfl) (fun t => by rw [after_6]; unfold Dat.blockOf iblk; rw [A_eq]) t d).trans
    (by unfold Dat.fetched Dat.blockOf iblk; rw [A_eq]; rfl)
theorem before_7 (c : Dev nD) (t : Fin cfg1.N) (d) : (dat W c).before 7 t d = iblk W c 7 t :=
  ((dat W c).before_in_eq_fetched 7 rfl (fun _ => rfl) (fun _ _ _ => rfl) (fun t => by rw [after_7]; unfold Dat.blockOf iblk; rw [A_eq]) t d).trans
    (by unfold Dat.fetched Dat.blockOf iblk; rw [A_eq]; rfl)
theorem before_8 (c : Dev nD) (t : Fin cfg1.N) (d) : (dat W c).before 8 t d = iblk W c 8 t :=
  ((dat W c).before_in_eq_fetched 8 rfl (fun _ => rfl) (fun _ _ _ => rfl) (fun t => by rw [after_8]; unfold Dat.blockOf iblk; rw [A_eq]) t d).trans
    (by unfold Dat.fetched Dat.blockOf iblk; rw [A_eq]; rfl)
theorem before_10 (c : Dev nD) (t : Fin cfg1.N) (h0 : t.val ≠ 0) (d) : (dat W c).before 10 t d = (carry W c t.val (Nat.le_of_lt t.isLt)).2.1 := by
  have hN : t.val < 17 := lt_of_lt_of_eq t.isLt (show cfg1.N = 17 from N_1)
  rw [Dat.before_out_kept _ 10 rfl t (by omega) (Bool.eq_false_iff.mpr fun h => by have := (flush1_10 _).mp h; dsimp only at this; omega)
    (fun _ => rfl) (fun _ _ => rfl)]
  obtain ⟨n, hn⟩ := t
  cases n with
  | zero => exact absurd rfl h0
  | succ n => dsimp only [dat]; rfl

theorem before_11 (c : Dev nD) (t : Fin cfg1.N) (h0 : t.val ≠ 0) (d) : (dat W c).before 11 t d = (carry W c t.val (Nat.le_of_lt t.isLt)).2.2.1 := by
  have hN : t.val < 17 := lt_of_lt_of_eq t.isLt (show cfg1.N = 17 from N_1)
  rw [Dat.before_out_kept _ 11 rfl t (by omega) (Bool.eq_false_iff.mpr fun h => by have := (flush1_11 _).mp h; dsimp only at this; omega)
    (fun _ => rfl) (fun _ _ => rfl)]
  obtain ⟨n, hn⟩ := t
  cases n with
  | zero => exact absurd rfl h0
  | succ n => dsimp only [dat]; rfl

theorem before_12 (c : Dev nD) (t : Fin cfg1.N) (h0 : t.val ≠ 0) (d) : (dat W c).before 12 t d = (carry W c t.val (Nat.le_of_lt t.isLt)).2.2.2 := by
  have hN : t.val < 17 := lt_of_lt_of_eq t.isLt (show cfg1.N = 17 from N_1)
  rw [Dat.before_out_kept _ 12 rfl t (by omega) (Bool.eq_false_iff.mpr fun h => by have := (flush1_12 _).mp h; dsimp only at this; omega)
    (fun _ => rfl) (fun _ _ => rfl)]
  obtain ⟨n, hn⟩ := t
  cases n with
  | zero => exact absurd rfl h0
  | succ n => dsimp only [dat]; rfl

/-- The clearing point is the first. -/
theorem first_iff : ∀ t : Fin cfg1.N, first (grid1.coords t) ↔ t.val = 0 :=
  (fun t => by
    have ht : t.val < 17 := Nat.lt_of_lt_of_eq t.isLt N_1
    have e0 : (grid1.coords t 0).val = t.val / 1 % 17 := Pipeline.Grid.coords_val t 0 (by decide) rfl
    simp only [first, e0]
    word_cmp
   : ∀ t : Fin grid1.N, first (grid1.coords t) ↔ t.val = 0)

/-- What the body is called with, -/
def bodyPre (c : Dev nD) (t : Fin cfg1.N) : sProp 𝕄 :=
  iprop((dat W c).Φ t.castSucc ∗ (dat W c).owesAt () t.castSucc
    ∗ (∃ d, owns (c : Thread nD τ) (win1_0.stage (cfg1.slots t 0)) fullShare ((dat W c).before 0 t d))
    ∗ (∃ d, owns (c : Thread nD τ) (win1_1.stage (cfg1.slots t 1)) fullShare ((dat W c).before 1 t d))
    ∗ (∃ d, owns (c : Thread nD τ) (win1_2.stage (cfg1.slots t 2)) fullShare ((dat W c).before 2 t d))
    ∗ (∃ d, owns (c : Thread nD τ) (win1_3.stage (cfg1.slots t 3)) fullShare ((dat W c).before 3 t d))
    ∗ (∃ d, owns (c : Thread nD τ) (win1_4.stage (cfg1.slots t 4)) fullShare ((dat W c).before 4 t d))
    ∗ (∃ d, owns (c : Thread nD τ) (win1_5.stage (cfg1.slots t 5)) fullShare ((dat W c).before 5 t d))
    ∗ (∃ d, owns (c : Thread nD τ) (win1_6.stage (cfg1.slots t 6)) fullShare ((dat W c).before 6 t d))
    ∗ (∃ d, owns (c : Thread nD τ) (win1_7.stage (cfg1.slots t 7)) fullShare ((dat W c).before 7 t d))
    ∗ (∃ d, owns (c : Thread nD τ) (win1_8.stage (cfg1.slots t 8)) fullShare ((dat W c).before 8 t d))
    ∗ (∃ d, owns (c : Thread nD τ) (win1_9.stage (cfg1.slots t 9)) fullShare ((dat W c).before 9 t d))
    ∗ (∃ d, owns (c : Thread nD τ) (win1_10.stage (cfg1.slots t 10)) fullShare ((dat W c).before 10 t d))
    ∗ (∃ d, owns (c : Thread nD τ) (win1_11.stage (cfg1.slots t 11)) fullShare ((dat W c).before 11 t d))
    ∗ (∃ d, owns (c : Thread nD τ) (win1_12.stage (cfg1.slots t 12)) fullShare ((dat W c).before 12 t d)))

/-- and what it returns. -/
def bodyPost (c : Dev nD) (t : Fin cfg1.N) : sProp 𝕄 :=
  iprop((dat W c).Φ t.succ ∗ (dat W c).owesAt () t.succ
    ∗ owns (c : Thread nD τ) (win1_0.stage (cfg1.slots t 0)) fullShare ((dat W c).after 0 t)
    ∗ owns (c : Thread nD τ) (win1_1.stage (cfg1.slots t 1)) fullShare ((dat W c).after 1 t)
    ∗ owns (c : Thread nD τ) (win1_2.stage (cfg1.slots t 2)) fullShare ((dat W c).after 2 t)
    ∗ owns (c : Thread nD τ) (win1_3.stage (cfg1.slots t 3)) fullShare ((dat W c).after 3 t)
    ∗ owns (c : Thread nD τ) (win1_4.stage (cfg1.slots t 4)) fullShare ((dat W c).after 4 t)
    ∗ owns (c : Thread nD τ) (win1_5.stage (cfg1.slots t 5)) fullShare ((dat W c).after 5 t)
    ∗ owns (c : Thread nD τ) (win1_6.stage (cfg1.slots t 6)) fullShare ((dat W c).after 6 t)
    ∗ owns (c : Thread nD τ) (win1_7.stage (cfg1.slots t 7)) fullShare ((dat W c).after 7 t)
    ∗ owns (c : Thread nD τ) (win1_8.stage (cfg1.slots t 8)) fullShare ((dat W c).after 8 t)
    ∗ owns (c : Thread nD τ) (win1_9.stage (cfg1.slots t 9)) fullShare ((dat W c).after 9 t)
    ∗ owns (c : Thread nD τ) (win1_10.stage (cfg1.slots t 10)) fullShare ((dat W c).after 10 t)
    ∗ owns (c : Thread nD τ) (win1_11.stage (cfg1.slots t 11)) fullShare ((dat W c).after 11 t)
    ∗ owns (c : Thread nD τ) (win1_12.stage (cfg1.slots t 12)) fullShare ((dat W c).after 12 t))

set_option maxHeartbeats 6400000 in
/-- The body at any point. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6, before_7, before_8]
  rw [show (dat W c).owesAt () t.succ = (dat W c).owesAt () t.castSucc from rfl,
    after_0, after_1, after_2, after_3, after_4, after_5, after_6, after_7, after_8, after_9, after_10, after_11, after_12]
  rw [show (dat W c).Φ t.succ = Inv W c (t.val + 1) t.isLt from rfl, Inv_pos W c (t.val + 1) _ (Nat.succ_ne_zero _), Inv_castSucc W c t, carry_succ]
  by_cases h0 : t.val = 0
  · obtain ⟨n, hn⟩ := t
    obtain rfl : n = 0 := h0
    rw [show Inv W c 0 (Nat.le_of_lt hn) = Pipeline.scopedRest spec1 c from rfl, rest_eq]
    simp only [carry_zero]
    iintro ⟨⟨⟨S0, S1, S2, S3⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_first c (grid1.coords ⟨0, hn⟩) _ _ _ _ _ _ _ _ _ _ _ _ _ _ _ _ _ _ _ _ _ _ _ _ _ _ _ _ _ _ _ _ _ _ _ _ _ _ _ _ ((first_iff ⟨0, hn⟩).mpr rfl) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩) (iblk W c 7 ⟨0, hn⟩) (iblk W c 8 ⟨0, hn⟩) k1_pay35 k1_pay36 k1_pay37 (k1_pay33, k1_pay34) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [S0]; · iexact S0
    isplitl [S1]; · iexact S1
    isplitl [S2]; · iexact S2
    isplitl [S3]; · iexact S3
    iintro ⟨⟨H0, H1, H2, H3, H4, H5, H6, H7, H8⟩, H9, H10, H11, H12, S0, S1, S2, S3⟩
    isplitl [S0 S1 S2 S3 HR]
    · isplitl [S0 S1 S2 S3]
      · isplitl [S0]; · iexists _; iexact S0
        isplitl [S1]; · iexists _; iexact S1
        isplitl [S2]; · iexact S2
        iexact S3
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [Inv_pos W c _ _ h0]
    simp only [before_10 W c t h0, before_11 W c t h0, before_12 W c t h0]
    iintro ⟨⟨⟨S0, S1, S2, S3⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_next c (grid1.coords t) _ _ _ _ _ _ _ _ _ _ _ _ _ _ _ _ _ _ _ _ _ _ _ _ _ _ _ _ _ _ _ _ _ _ _ _ _ _ _ _ (fun h => h0 ((first_iff t).mp h)) (iblk W c 0 t) (iblk W c 1 t) (iblk W c 2 t) (iblk W c 3 t) (iblk W c 4 t) (iblk W c 5 t) (iblk W c 6 t) (iblk W c 7 t) (iblk W c 8 t) (carry W c t.val (Nat.le_of_lt t.isLt)).2.1 (carry W c t.val (Nat.le_of_lt t.isLt)).2.2.1 (carry W c t.val (Nat.le_of_lt t.isLt)).2.2.2 (carry W c t.val (Nat.le_of_lt t.isLt)).1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    iintro ⟨⟨H0, H1, H2, H3, H4, H5, H6, H7, H8⟩, H9, H10, H11, H12, S0, S1, S2, S3⟩
    isplitl [S0 S1 S2 S3 HR]
    · isplitl [S0 S1 S2 S3]
      · isplitl [S0]; · iexists _; iexact S0
        isplitl [S1]; · iexists _; iexact S1
        isplitl [S2]; · iexact S2
        iexact S3
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem row_eq (t : Fin cfg1.N) : defs₀ (F := F) .tc cfg1.body (cfg1.bodyArgs t (cfg1.slots t)) = bodyAt1 t := by
  unfold defs₀; rw [Defs.onTc_tc]

/-- The body obligation at every point. -/
theorem body_obligation (c : Dev nD) : BodyObligation (dat (F := F) W c) (defs₀ (F := F)) Variants.none () Set.univ := fun t => by
  rw [bigSep_W1, bigSep_W1, row_eq]
  exact triple_restated (sound_body W c t) rfl .rfl fun _ => .rfl

/-- Entering and leaving: the carried buffers at anything. -/
theorem Inv_in (c : Dev nD) : iprop(Pipeline.scopedRest spec1 c ∗ emp) ⊢ (dat W c).Φ 0 := by
  rw [show (dat W c).Φ 0 = Pipeline.scopedRest spec1 c from rfl]
  iintro ⟨H, -⟩; iexact H

theorem Inv_out (c : Dev nD) : (dat W c).Φ (Fin.last cfg1.N) ⊢ iprop(Pipeline.scopedRest spec1 c ∗ emp) := by
  rw [show (dat W c).Φ (Fin.last cfg1.N) = Inv W c cfg1.N le_rfl from rfl, Inv_pos W c cfg1.N _ (by rw [show cfg1.N = 17 from N_1]; decide), rest_eq]
  iintro ⟨⟨S0, S1, S2, S3⟩, HR⟩
  isplitl [S0 S1 S2 S3 HR]
  · isplitl [S0 S1 S2 S3]
    · isplitl [S0]; · iexact S0
      isplitl [S1]; · iexact S1
      isplitl [S2]; · iexists _; iexact S2
      iexists _; iexact S3
    iexact HR
  iempintro

end Cert.KernelIdeal.Bwd

end
-- ==== Proof.Run.lean ====
/-
  Every run of the program ends, with each buffer outside the kernels' own memory at named contents: the host's
  values, the forward call's arrays, the backward call's arrays.
-/
module

public import proofs.«01_k».proof.Proof.FwdData
public import proofs.«01_k».proof.Proof.BwdData
public import proofs.«01_k».proof.Proof.Gen.KernelIdeal.Regions
public import Idealize.ShloMosaic.Lib.Pipeline.RegionArrays
public import Idealize.ShloMosaic.Lib.Pipeline.FrameSuffix
public import Idealize.ShloMosaic.Lib.Pipeline.RegionsLoop

@[expose] public section

set_option maxRecDepth 2048

noncomputable section

namespace Cert.KernelIdeal.S5Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What each call leaves -/

/-- The buffers after the forward call. -/
def A2 (c : Dev nD) : Valuation τ sig (Elt F) :=
  Pipeline.withArrays spec0 c (V1 m c) fun w => (Fwd.dat (V1 m) c).arrAt w cfg0.N

/-- The forward call's leavings, as the valuations between items read them. -/
def outs2 : Outs (F := F) := fun _ r c => A2 m c (Proc.devRef .tc r)

/-- The buffers after the backward call. -/
def A4 (c : Dev nD) : Valuation τ sig (Elt F) :=
  Pipeline.withArrays spec1 c (V3 m (outs2 m) c) fun w => (Bwd.dat (V3 m (outs2 m)) c).arrAt w cfg1.N

/-- Both calls' leavings. -/
def outs : Outs (F := F) := fun J r c => match J with
  | 2 => A2 m c (Proc.devRef .tc r)
  | _ => A4 m c (Proc.devRef .tc r)

theorem V3_outs (c : Dev nD) : V3 m (outs m) c = V3 m (outs2 m) c := rfl

theorem arrAt_0 (c : Dev nD) (w : Fin cfg0.W) : A2 m c (Proc.devRef .tc (Pipeline.arrRef spec0 w)) = (Fwd.dat (V1 m) c).arrAt w cfg0.N :=
  (Fwd.dat (V1 m) c).withArrays_arrAt launch0.to₀.sharedIn (V1 m c) (fun w => Fwd.A_eq (V1 m) c w) w

theorem arrAt_1 (c : Dev nD) (w : Fin cfg1.W) : A4 m c (Proc.devRef .tc (Pipeline.arrRef spec1 w)) = (Bwd.dat (V3 m (outs2 m)) c).arrAt w cfg1.N :=
  (Bwd.dat (V3 m (outs2 m)) c).withArrays_arrAt sharedIn1 (V3 m (outs2 m) c) (fun w => Bwd.A_eq (V3 m (outs2 m)) c w) w

theorem outWins_0 : ∀ w : Fin cfg0.W, (spec0 w).isOut = true → Pipeline.arrRef spec0 w ∈ ([main_v61_0, main_v61_1, main_v61_2] : List (Ref sig .tc)) := by decide

theorem outWins_1 : ∀ w : Fin cfg1.W, (spec1 w).isOut = true → Pipeline.arrRef spec1 w ∈ ([main_v65_0, main_v65_1, main_v65_2, main_v65_3, main_v62, main_v63, main_v64] : List (Ref sig .tc)) := by decide

/-- The forward call changes its outputs alone. -/
theorem V2_eq (c : Dev nD) (b : Ref sig .tc) : V2 m (outs m) c (Proc.devRef .tc b) = A2 m c (Proc.devRef .tc b) := by
  by_cases hb : b ∈ ([main_v61_0, main_v61_1, main_v61_2] : List (Ref sig .tc))
  · simp only [List.mem_cons, List.not_mem_nil, or_false] at hb
    rcases hb with rfl | rfl | rfl <;>
      simp (disch := decide) only [V2, Function.update_self, Function.update_of_ne, ne_eq] <;> rfl
  · refine (V2_of m (outs m) c b hb).trans ?_
    by_cases hw : ∃ w, Pipeline.arrRef spec0 w = b
    · obtain ⟨w, rfl⟩ := hw
      rw [arrAt_0]
      have hin : (spec0 w).isOut = false := by
        cases h : (spec0 w).isOut
        · rfl
        · exact absurd (outWins_0 w h) hb
      exact ((Fwd.dat (V1 m) c).arrAt_in w hin _).symm
    · exact (Pipeline.withArrays_of_ne spec0 c (V1 m c) _ b fun w h => hw ⟨w, h⟩).symm

/-- The backward call changes its outputs alone. -/
theorem V4_eq (c : Dev nD) (b : Ref sig .tc) : V4 m (outs m) c (Proc.devRef .tc b) = A4 m c (Proc.devRef .tc b) := by
  by_cases hb : b ∈ ([main_v65_0, main_v65_1, main_v65_2, main_v65_3, main_v62, main_v63, main_v64] : List (Ref sig .tc))
  · simp only [List.mem_cons, List.not_mem_nil, or_false] at hb
    rcases hb with rfl | rfl | rfl | rfl | rfl | rfl | rfl <;>
      simp (disch := decide) only [V4, Function.update_self, Function.update_of_ne, ne_eq] <;> rfl
  · refine (V4_of m (outs m) c b hb).trans ?_
    by_cases hw : ∃ w, Pipeline.arrRef spec1 w = b
    · obtain ⟨w, rfl⟩ := hw
      rw [arrAt_1]
      have hin : (spec1 w).isOut = false := by
        cases h : (spec1 w).isOut
        · rfl
        · exact absurd (outWins_1 w h) hb
      exact ((Bwd.dat (V3 m (outs2 m)) c).arrAt_in w hin _).symm
    · exact (Pipeline.withArrays_of_ne spec1 c (V3 m (outs2 m) c) _ b fun w h => hw ⟨w, h⟩).symm

/-! ## The two calls as segments -/

/-- The proof data of the two calls. -/
def pdats : (p : Fin 2) → (c : Dev nD) → Dat τ (Elt F) Unit ℕ (UR sig nD τ) ℕ (cfgs p) c
  | ⟨0, _⟩ => Fwd.dat (V1 m)
  | ⟨1, _⟩ => Bwd.dat (V3 m (outs2 m))

/-- One level on every core's semaphores. -/
abbrev L : GSem nD τ sig → Finset Unit := fun g => if g.1.2 = .tc then {()} else ∅
abbrev lv : GSem nD τ sig → Unit → ℕ := fun _ _ => 0

/-- Beside the buffers a core holds that it owes nothing. -/
abbrev E (_ : Fin 3) (c : Dev nD) : sProp 𝕄 := iprop(∃ W, owes (c : Thread nD τ) (0 : CellTallies nD τ sig Unit) W)

theorem levels (p : Fin 2) : Pipeline.LevelCut (pcfgs (F := F)) adm () L lv p (fun _ => 0) (fun _ => 0) where
  hι _ _ _ := by simp [L]
  hιb _ _ _ := Nat.le_refl 0
  hD _ _ _ h := absurd h (Nat.lt_irrefl 0)

set_option backward.isDefEq.respectTransparency.types false in
/-- The forward call. -/
def seg1 : RegionSeg (pcfgs (F := F)) adm (pdats m) () defs₀ Variants.none L lv 0 :=
  RegionSeg.ofArrays (pcfgs (F := F)) adm (pdats m) () defs₀ Variants.none L lv 0 (fun _ => 0)
    (fun _ => iprop(emp)) (fun _ => iprop(emp)) launch0.to₀.toP rfl (fun c => (Fwd.body_obligation (V1 m) c).loose)
    (fun _ _ => rfl) (fun _ => rfl) (fun c => Fwd.Inv_in (V1 m) c) (fun c => Fwd.Inv_out (V1 m) c) (fun _ => 0) (levels 0)
    (fun c => Pipeline.unscopedRest spec0 c fun b => V1 m c (Proc.devRef .tc b))

set_option backward.isDefEq.respectTransparency.types false in
/-- The backward call. -/
def seg3 : RegionSeg (pcfgs (F := F)) adm (pdats m) () defs₀ Variants.none L lv 1 :=
  RegionSeg.ofArrays (pcfgs (F := F)) adm (pdats m) () defs₀ Variants.none L lv 1 (fun _ => 0)
    (fun _ => iprop(emp)) (fun _ => iprop(emp)) launch₀1.toP rfl (fun c => (Bwd.body_obligation (V3 m (outs2 m)) c).loose)
    (fun _ _ => rfl) (fun _ => rfl) (fun c => Bwd.Inv_in (V3 m (outs2 m)) c) (fun c => Bwd.Inv_out (V3 m (outs2 m)) c) (fun _ => 0) (levels 1)
    (fun c => Pipeline.unscopedRest spec1 c fun b => V3 m (outs2 m) c (Proc.devRef .tc b))

set_option backward.isDefEq.respectTransparency.types false in
theorem enter_0 (c : Dev nD) : iprop(StableHlo.held (c : Thread nD τ) (Pipeline.ucRefs τ sig) (V1 m c) ∗ E 0 c) ⊢ (seg1 m).pre c := by
  rw [← Pipeline.unscopedBufs_held (Ix := Unit) (Name := ℕ) (U := UR sig nD τ) (Lvl := ℕ) c (V1 m c)]
  have hs := Pipeline.arrays_of_unscopedBufs_shared (pcfgs (F := F)) adm (pdats m) (p := 0) launch0.to₀.win launch0.to₀.sharedIn
    arr_whole0 c (fun _ _ => rfl) (fun b => V1 m c (Proc.devRef .tc b)) (fun w => Fwd.A_eq (V1 m) c w)
  dsimp only [seg1, RegionSeg.ofArrays]
  iintro ⟨Hb, HO⟩
  ihave H := hs $$ Hb
  icases H with ⟨Ha, Hr⟩
  isplitl [Ha]; · iexact Ha
  isplitr; · iempintro
  isplitl [Hr]; · iexact Hr
  iexact HO

set_option backward.isDefEq.respectTransparency.types false in
theorem enter_1 (c : Dev nD) : iprop(StableHlo.held (c : Thread nD τ) (Pipeline.ucRefs τ sig) (V3 m (outs m) c) ∗ E 1 c) ⊢ (seg3 m).pre c := by
  rw [V3_outs, ← Pipeline.unscopedBufs_held (Ix := Unit) (Name := ℕ) (U := UR sig nD τ) (Lvl := ℕ) c (V3 m (outs2 m) c)]
  have hs := Pipeline.arrays_of_unscopedBufs_shared (pcfgs (F := F)) adm (pdats m) (p := 1) winFacts₀1 sharedIn1
    arr_whole1 c (fun _ _ => rfl) (fun b => V3 m (outs2 m) c (Proc.devRef .tc b)) (fun w => Bwd.A_eq (V3 m (outs2 m)) c w)
  dsimp only [seg3, RegionSeg.ofArrays]
  iintro ⟨Hb, HO⟩
  ihave H := hs $$ Hb
  icases H with ⟨Ha, Hr⟩
  isplitl [Ha]; · iexact Ha
  isplitr; · iempintro
  isplitl [Hr]; · iexact Hr
  iexact HO

set_option backward.isDefEq.respectTransparency.types false in
theorem leave_0 (c : Dev nD) : (seg1 m).post c ⊢ iprop(StableHlo.held (c : Thread nD τ) (Pipeline.ucRefs τ sig) (V2 m (outs m) c) ∗ E 1 c) := by
  rw [← Pipeline.unscopedBufs_held (Ix := Unit) (Name := ℕ) (U := UR sig nD τ) (Lvl := ℕ) c (V2 m (outs m) c)]
  have hs := Pipeline.unscopedBufs_of_arrays_shared (pcfgs (F := F)) adm (p := 0) launch0.to₀.win launch0.to₀.sharedIn
    arr_whole0 c (pdats m) (fun _ _ => rfl) (fun b => V1 m c (Proc.devRef .tc b)) (fun b => V2 m (outs m) c (Proc.devRef .tc b))
    (fun w => (Fwd.dat (V1 m) c).arrAt w cfg0.N)
    (fun w => ((V2_eq m c _).trans (arrAt_0 m c w)).symm)
    (fun b hb => (V2_eq m c b).trans (Pipeline.withArrays_of_ne spec0 c (V1 m c) _ b fun w h => hb (Finset.mem_image.mpr ⟨w, Finset.mem_univ w, h⟩)))
  dsimp only [seg1, RegionSeg.ofArrays]
  iintro ⟨Ha, -, Hr, HO⟩
  isplitr [HO]
  · iapply hs
    isplitl [Ha]; · iexact Ha
    iexact Hr
  · iexact HO

set_option backward.isDefEq.respectTransparency.types false in
theorem leave_1 (c : Dev nD) : (seg3 m).post c ⊢ iprop(StableHlo.held (c : Thread nD τ) (Pipeline.ucRefs τ sig) (V4 m (outs m) c) ∗ E 2 c) := by
  rw [← Pipeline.unscopedBufs_held (Ix := Unit) (Name := ℕ) (U := UR sig nD τ) (Lvl := ℕ) c (V4 m (outs m) c)]
  have hs := Pipeline.unscopedBufs_of_arrays_shared (pcfgs (F := F)) adm (p := 1) winFacts₀1 sharedIn1
    arr_whole1 c (pdats m) (fun _ _ => rfl) (fun b => V3 m (outs2 m) c (Proc.devRef .tc b)) (fun b => V4 m (outs m) c (Proc.devRef .tc b))
    (fun w => (Bwd.dat (V3 m (outs2 m)) c).arrAt w cfg1.N)
    (fun w => ((V4_eq m c _).trans (arrAt_1 m c w)).symm)
    (fun b hb => (V4_eq m c b).trans (Pipeline.withArrays_of_ne spec1 c (V3 m (outs2 m) c) _ b fun w h => hb (Finset.mem_image.mpr ⟨w, Finset.mem_univ w, h⟩)))
  dsimp only [seg3, RegionSeg.ofArrays]
  iintro ⟨Ha, -, Hr, HO⟩
  isplitr [HO]
  · iapply hs
    isplitl [Ha]; · iexact Ha
    iexact Hr
  · iexact HO

/-! ## The run -/

/-- A core's buffers at the end. -/
def Ends (c : Dev nD) (s : MemSt nD τ sig (Elt F)) : Prop := ∀ b ∈ Pipeline.ucRefs τ sig, s.mem (c, b) = V5 m (outs m) c b

set_option backward.isDefEq.respectTransparency.types false in
/-- Every run ends with the buffers at the last valuation and every semaphore at zero. -/
theorem run_main (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (seg1 m) (seg3 m))
    (fun c Q => by
      rewrite [main_chain c, Pipeline.Seg.run_eq_chain,
        show (segs m (outs m) Variants.none L lv E () (pdats m) (seg1 m) (seg3 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    0 (fun g h => if_neg h) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, enter_0 m c, leave_0 m c, enter_1 m c, leave_1 m c, sep_mono .rfl .rfl⟩)
    (hinit := ?_) (QY := fun c s => Ends m c s)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  · refine Pipeline.initEach L lv fun c => ?_
    rw [← Pipeline.unscopedBufs_held (Ix := Unit) (Name := ℕ) (U := UR sig nD τ) (Lvl := ℕ) c (V0 m c)]
    iintro ⟨⟨Hb, -, HO, -, -, -⟩, -⟩
    imodintro
    isplitl [Hb]; · iexact Hb
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro; exact h
    · iexact HSI

/-- A buffer of the host at the end of a run. -/
theorem Ends.at {m : (ℓ : Loc nD τ sig) → Buf (Elt F) ℓ} {c : Dev nD} {s : MemSt nD τ sig (Elt F)} (h : Ends m c s) (b : Ref sig .tc) (hb : b.isScoped = false) :
    s.mem ((c.tc : Thread nD τ).loc b) = V5 m (outs m) c (Proc.devRef .tc b) :=
  h (Proc.devRef .tc b) (Finset.mem_filter.mpr ⟨StableHlo.devRef_mem_tcRefs b, fun h' => Bool.false_ne_true (hb.symm.trans h')⟩)

end Cert.KernelIdeal.S5Run

end
-- ==== Proof.RefRun.lean ====
/-
  The reference as lists of host operations: what is computed before its two loops, between them and after them, and the
  condition and the body of each. Every run of it ends, with each buffer at the fold of these lists.
-/
module

public import proofs.«01_k».proof.Proof.Gen.ReferenceIdeal
public import Idealize.ShloMosaic.Lib.StableHlo.RunLoop
public import Idealize.ShloMosaic.Lib.StableHlo.RunRead
public import Idealize.ShloMosaic.Lib.Scf.Counter
public import Idealize.ShloMosaic.Lib.Scf.ExitTest
public import Idealize.ShloMosaic.Adequacy
public import Idealize.ShloMosaic.Init

@[expose] public section

set_option maxRecDepth 4096

noncomputable section

namespace Cert.ReferenceIdeal.RefRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after afterL atTrip held Plain segsOf loopSeg launchContents)
open Idealize.ShloMosaic.Pipeline (CSeg Ticket ucRefs)
open Cert.ReferenceIdeal Cert.ReferenceIdeal.Gen

variable {F : FTy → Type} [FloatOps F]

/-! ## The lists -/

/-- A row of a stack of rows, at a computed number. -/
abbrev indexOps (arg0 : StableHlo.TRef sig ⟨S4352x32x64, .f32⟩) (arg1 : StableHlo.TRef sig ⟨S_, .i32⟩) (φ : fn_dynamic_index_in_dim.Bufs) : List (HloOp τ sig (Elt F)) :=
  [ StableHlo.TRef.nullary φ.c (constantI S_ 32 0#32),
    StableHlo.TRef.nullary φ.c_0 (constantI S_ 32 0#32),
    StableHlo.TRef.unaryIndexed arg0 ![arg1, φ.c, φ.c_0] φ.v0 (fun x i => Host.dynamicSlice S1x32x64 x (fun k => (i k (Shape.Idx.first h_S_)).toInt) sliceFits_S4352x32x64_S1x32x64),
    StableHlo.TRef.reshape φ.v0 φ.v1 (rfl : (.f32 : EltTy) = .f32) shapeCasts_S1x32x64_S32x64 ]

/-- A row of a stack of rows overwritten, at a computed number. -/
abbrev updateOps (arg0 : StableHlo.TRef sig ⟨S4352x32x64, .f32⟩) (arg1 : StableHlo.TRef sig ⟨S32x64, .f32⟩) (arg2 : StableHlo.TRef sig ⟨S_, .i32⟩) (φ : fn_dynamic_update_index_in_dim.Bufs) : List (HloOp τ sig (Elt F)) :=
  [ StableHlo.TRef.unary arg1 φ.v0 (broadcastInDim S1x32x64 ![1, 2] bcast_S32x64_S1x32x64_1_2),
    StableHlo.TRef.nullary φ.c (constantI S_ 32 0#32),
    StableHlo.TRef.nullary φ.c_0 (constantI S_ 32 0#32),
    StableHlo.TRef.binaryIndexed arg0 φ.v0 ![arg2, φ.c, φ.c_0] φ.v1 (fun x u i => Host.dynamicUpdateSlice x u (fun k => (i k (Shape.Idx.first h_S_)).toInt) updateFits_S4352x32x64_S1x32x64) ]

/-- Before the first loop. -/
abbrev pre0 : List (HloOp τ sig (Elt F)) :=
  [ StableHlo.unary main_arg0 main_v0 ((extractStridedSlice S4352x512 ![0, 0] · slices_S4352x3072_S4352x512_0_0) : (⟨S4352x3072, .f32⟩ : BufTy).Contents (Elt F) → (⟨S4352x512, .f32⟩ : BufTy).Contents (Elt F)),
    StableHlo.reshape main_v0 main_v1 (rfl : (.f32 : EltTy) = .f32) shapeCasts_S4352x512_S4352x32x16,
    StableHlo.binary main_arg4 main_v1 main_v2 ((fun l r => Host.dotGeneral dot_S32x64x16_S4352x32x16_S32x64x4352_2_2_1_0_0_1 none l r) : (⟨S32x64x16, .f32⟩ : BufTy).Contents (Elt F) → (⟨S4352x32x16, .f32⟩ : BufTy).Contents (Elt F) → (⟨S32x64x4352, .f32⟩ : BufTy).Contents (Elt F)),
    StableHlo.unary main_v2 main_v3 ((transpose S4352x32x64 [2, 0, 1] · transposes_S32x64x4352_S4352x32x64_2_0_1) : (⟨S32x64x4352, .f32⟩ : BufTy).Contents (Elt F) → (⟨S4352x32x64, .f32⟩ : BufTy).Contents (Elt F)),
    StableHlo.binary main_arg5 main_v1 main_v4 ((fun l r => Host.dotGeneral dot_S32x64x16_S4352x32x16_S32x64x4352_2_2_1_0_0_1 none l r) : (⟨S32x64x16, .f32⟩ : BufTy).Contents (Elt F) → (⟨S4352x32x16, .f32⟩ : BufTy).Contents (Elt F) → (⟨S32x64x4352, .f32⟩ : BufTy).Contents (Elt F)),
    StableHlo.unary main_v4 main_v5 ((transpose S4352x32x64 [2, 0, 1] · transposes_S32x64x4352_S4352x32x64_2_0_1) : (⟨S32x64x4352, .f32⟩ : BufTy).Contents (Elt F) → (⟨S4352x32x64, .f32⟩ : BufTy).Contents (Elt F)),
    StableHlo.unary main_arg2 main_v6 (broadcastInDim S4352x32x64 ![1, 2] bcast_S32x64_S4352x32x64_1_2 : (⟨S32x64, .f32⟩ : BufTy).Contents (Elt F) → (⟨S4352x32x64, .f32⟩ : BufTy).Contents (Elt F)),
    StableHlo.unary main_arg3 main_v7 (broadcastInDim S4352x32x64 ![1, 2] bcast_S32x64_S4352x32x64_1_2 : (⟨S32x64, .f32⟩ : BufTy).Contents (Elt F) → (⟨S4352x32x64, .f32⟩ : BufTy).Contents (Elt F)),
    StableHlo.nullary main_cst (constant S_ .f32 0x00000000#32),
    StableHlo.unary main_cst main_v8 (broadcastInDim S32x64 ![] bcast_S_S32x64 : (⟨S_, .f32⟩ : BufTy).Contents (Elt F) → (⟨S32x64, .f32⟩ : BufTy).Contents (Elt F)),
    StableHlo.nullary main_cst_0 (constant S_ .f32 0x00000000#32),
    StableHlo.unary main_cst_0 main_v9 (broadcastInDim S4352x32x64 ![] bcast_S_S4352x32x64 : (⟨S_, .f32⟩ : BufTy).Contents (Elt F) → (⟨S4352x32x64, .f32⟩ : BufTy).Contents (Elt F)),
    StableHlo.nullary main_cst_1 (constant S_ .f32 0x00000000#32),
    StableHlo.unary main_cst_1 main_v10 (broadcastInDim S4352x32x64 ![] bcast_S_S4352x32x64 : (⟨S_, .f32⟩ : BufTy).Contents (Elt F) → (⟨S4352x32x64, .f32⟩ : BufTy).Contents (Elt F)),
    StableHlo.nullary main_cst_2 (constant S_ .f32 0x00000000#32),
    StableHlo.unary main_cst_2 main_v11 (broadcastInDim S4352x32x64 ![] bcast_S_S4352x32x64 : (⟨S_, .f32⟩ : BufTy).Contents (Elt F) → (⟨S4352x32x64, .f32⟩ : BufTy).Contents (Elt F)),
    StableHlo.nullary main_cst_3 (constant S_ .f32 0x00000000#32),
    StableHlo.unary main_cst_3 main_v12 (broadcastInDim S4352x32x64 ![] bcast_S_S4352x32x64 : (⟨S_, .f32⟩ : BufTy).Contents (Elt F) → (⟨S4352x32x64, .f32⟩ : BufTy).Contents (Elt F)),
    StableHlo.nullary main_c (constantI S_ 32 0#32),
    StableHlo.unary main_v6 main_v13_0 id,
    StableHlo.unary main_v7 main_v13_1 id,
    StableHlo.unary main_v3 main_v13_2 id,
    StableHlo.unary main_v5 main_v13_3 id,
    StableHlo.unary main_c main_v13_4 id,
    StableHlo.unary main_v8 main_v13_5 id,
    StableHlo.unary main_v8 main_v13_6 id,
    StableHlo.unary main_v9 main_v13_7 id,
    StableHlo.unary main_v10 main_v13_8 id,
    StableHlo.unary main_v11 main_v13_9 id,
    StableHlo.unary main_v12 main_v13_10 id ]

/-- Between the loops, first part. -/
abbrev mid0 : List (HloOp τ sig (Elt F)) :=
  [ StableHlo.binary main_arg6 main_v13_7 main_v14 ((fun l r => Host.dotGeneral dot_S32x16x64_S4352x32x64_S32x16x4352_2_2_1_0_0_1 none l r) : (⟨S32x16x64, .f32⟩ : BufTy).Contents (Elt F) → (⟨S4352x32x64, .f32⟩ : BufTy).Contents (Elt F) → (⟨S32x16x4352, .f32⟩ : BufTy).Contents (Elt F)),
    StableHlo.unary main_v14 main_v15 ((transpose S4352x32x16 [2, 0, 1] · transposes_S32x16x4352_S4352x32x16_2_0_1) : (⟨S32x16x4352, .f32⟩ : BufTy).Contents (Elt F) → (⟨S4352x32x16, .f32⟩ : BufTy).Contents (Elt F)),
    StableHlo.unary main_arg7 main_v16 (Host.negf : (⟨S32x16x64, .f32⟩ : BufTy).Contents (Elt F) → (⟨S32x16x64, .f32⟩ : BufTy).Contents (Elt F)),
    StableHlo.binary main_v16 main_v13_8 main_v17 ((fun l r => Host.dotGeneral dot_S32x16x64_S4352x32x64_S32x16x4352_2_2_1_0_0_1 none l r) : (⟨S32x16x64, .f32⟩ : BufTy).Contents (Elt F) → (⟨S4352x32x64, .f32⟩ : BufTy).Contents (Elt F) → (⟨S32x16x4352, .f32⟩ : BufTy).Contents (Elt F)),
    StableHlo.unary main_v17 main_v18 ((transpose S4352x32x16 [2, 0, 1] · transposes_S32x16x4352_S4352x32x16_2_0_1) : (⟨S32x16x4352, .f32⟩ : BufTy).Contents (Elt F) → (⟨S4352x32x16, .f32⟩ : BufTy).Contents (Elt F)),
    StableHlo.binary main_v15 main_v18 main_v19 (addf : (⟨S4352x32x16, .f32⟩ : BufTy).Contents (Elt F) → (⟨S4352x32x16, .f32⟩ : BufTy).Contents (Elt F) → (⟨S4352x32x16, .f32⟩ : BufTy).Contents (Elt F)),
    StableHlo.reshape main_v19 main_v20 (rfl : (.f32 : EltTy) = .f32) shapeCasts_S4352x32x16_S4352x512,
    StableHlo.nullary main_cst_4 (constant S_ .f32 0x00000000#32),
    StableHlo.unary main_cst_4 main_v21 (broadcastInDim S32x64 ![] bcast_S_S32x64 : (⟨S_, .f32⟩ : BufTy).Contents (Elt F) → (⟨S32x64, .f32⟩ : BufTy).Contents (Elt F)),
    StableHlo.nullary main_cst_5 (constant S_ .f32 0x00000000#32),
    StableHlo.unary main_cst_5 main_v22 (broadcastInDim S32x64 ![] bcast_S_S32x64 : (⟨S_, .f32⟩ : BufTy).Contents (Elt F) → (⟨S32x64, .f32⟩ : BufTy).Contents (Elt F)),
    StableHlo.reshape main_arg1 main_v23 (rfl : (.f32 : EltTy) = .f32) shapeCasts_S4352x512_S4352x32x16,
    StableHlo.unary main_v23 main_v24 ((transpose S32x16x4352 [1, 2, 0] · transposes_S4352x32x16_S32x16x4352_1_2_0) : (⟨S4352x32x16, .f32⟩ : BufTy).Contents (Elt F) → (⟨S32x16x4352, .f32⟩ : BufTy).Contents (Elt F)),
    StableHlo.binary main_v24 main_v16 main_v25 ((fun l r => Host.dotGeneral dot_S32x16x4352_S32x16x64_S32x4352x64_1_1_2_2_0_0 none l r) : (⟨S32x16x4352, .f32⟩ : BufTy).Contents (Elt F) → (⟨S32x16x64, .f32⟩ : BufTy).Contents (Elt F) → (⟨S32x4352x64, .f32⟩ : BufTy).Contents (Elt F)),
    StableHlo.unary main_v25 main_v26 ((transpose S4352x32x64 [1, 0, 2] · transposes_S32x4352x64_S4352x32x64_1_0_2) : (⟨S32x4352x64, .f32⟩ : BufTy).Contents (Elt F) → (⟨S4352x32x64, .f32⟩ : BufTy).Contents (Elt F)),
    StableHlo.binary main_v24 main_v13_8 main_v27 ((fun l r => Host.dotGeneral dot_S32x16x4352_S4352x32x64_S32x16x64_2_0_1_2_0_1 none l r) : (⟨S32x16x4352, .f32⟩ : BufTy).Contents (Elt F) → (⟨S4352x32x64, .f32⟩ : BufTy).Contents (Elt F) → (⟨S32x16x64, .f32⟩ : BufTy).Contents (Elt F)),
    StableHlo.unary main_v27 main_v28 (Host.negf : (⟨S32x16x64, .f32⟩ : BufTy).Contents (Elt F) → (⟨S32x16x64, .f32⟩ : BufTy).Contents (Elt F)),
    StableHlo.unary main_v23 main_v29 ((transpose S32x16x4352 [1, 2, 0] · transposes_S4352x32x16_S32x16x4352_1_2_0) : (⟨S4352x32x16, .f32⟩ : BufTy).Contents (Elt F) → (⟨S32x16x4352, .f32⟩ : BufTy).Contents (Elt F)),
    StableHlo.binary main_v29 main_arg6 main_v30 ((fun l r => Host.dotGeneral dot_S32x16x4352_S32x16x64_S32x4352x64_1_1_2_2_0_0 none l r) : (⟨S32x16x4352, .f32⟩ : BufTy).Contents (Elt F) → (⟨S32x16x64, .f32⟩ : BufTy).Contents (Elt F) → (⟨S32x4352x64, .f32⟩ : BufTy).Contents (Elt F)),
    StableHlo.unary main_v30 main_v31 ((transpose S4352x32x64 [1, 0, 2] · transposes_S32x4352x64_S4352x32x64_1_0_2) : (⟨S32x4352x64, .f32⟩ : BufTy).Contents (Elt F) → (⟨S4352x32x64, .f32⟩ : BufTy).Contents (Elt F)),
    StableHlo.binary main_v29 main_v13_7 main_v32 ((fun l r => Host.dotGeneral dot_S32x16x4352_S4352x32x64_S32x16x64_2_0_1_2_0_1 none l r) : (⟨S32x16x4352, .f32⟩ : BufTy).Contents (Elt F) → (⟨S4352x32x64, .f32⟩ : BufTy).Contents (Elt F) → (⟨S32x16x64, .f32⟩ : BufTy).Contents (Elt F)),
    StableHlo.nullary main_cst_6 (constant S_ .f32 0x00000000#32),
    StableHlo.unary main_cst_6 main_v33 (broadcastInDim S32x64 ![] bcast_S_S32x64 : (⟨S_, .f32⟩ : BufTy).Contents (Elt F) → (⟨S32x64, .f32⟩ : BufTy).Contents (Elt F)),
    StableHlo.nullary main_cst_7 (constant S_ .f32 0x00000000#32),
    StableHlo.unary main_cst_7 main_v34 (broadcastInDim S32x64 ![] bcast_S_S32x64 : (⟨S_, .f32⟩ : BufTy).Contents (Elt F) → (⟨S32x64, .f32⟩ : BufTy).Contents (Elt F)),
    StableHlo.nullary main_cst_8 (constant S_ .f32 0x00000000#32),
    StableHlo.unary main_cst_8 main_v35 (broadcastInDim S4352x32x64 ![] bcast_S_S4352x32x64 : (⟨S_, .f32⟩ : BufTy).Contents (Elt F) → (⟨S4352x32x64, .f32⟩ : BufTy).Contents (Elt F)),
    StableHlo.nullary main_cst_9 (constant S_ .f32 0x00000000#32),
    StableHlo.unary main_cst_9 main_v36 (broadcastInDim S4352x32x64 ![] bcast_S_S4352x32x64 : (⟨S_, .f32⟩ : BufTy).Contents (Elt F) → (⟨S4352x32x64, .f32⟩ : BufTy).Contents (Elt F)) ]

/-- Between the loops, second part. -/
abbrev mid1 : List (HloOp τ sig (Elt F)) :=
  [ StableHlo.nullary main_cst_10 (constant S_ .f32 0x00000000#32),
    StableHlo.unary main_cst_10 main_v37 (broadcastInDim S4352x32x64 ![] bcast_S_S4352x32x64 : (⟨S_, .f32⟩ : BufTy).Contents (Elt F) → (⟨S4352x32x64, .f32⟩ : BufTy).Contents (Elt F)),
    StableHlo.nullary main_cst_11 (constant S_ .f32 0x00000000#32),
    StableHlo.unary main_cst_11 main_v38 (broadcastInDim S4352x32x64 ![] bcast_S_S4352x32x64 : (⟨S_, .f32⟩ : BufTy).Contents (Elt F) → (⟨S4352x32x64, .f32⟩ : BufTy).Contents (Elt F)),
    StableHlo.nullary main_c_12 (constantI S_ 32 0#32),
    StableHlo.unary main_v31 main_v39_0 id,
    StableHlo.unary main_v26 main_v39_1 id,
    StableHlo.unary main_v13_9 main_v39_2 id,
    StableHlo.unary main_v6 main_v39_3 id,
    StableHlo.unary main_v13_10 main_v39_4 id,
    StableHlo.unary main_v7 main_v39_5 id,
    StableHlo.unary main_c_12 main_v39_6 id,
    StableHlo.unary main_v33 main_v39_7 id,
    StableHlo.unary main_v34 main_v39_8 id,
    StableHlo.unary main_v35 main_v39_9 id,
    StableHlo.unary main_v36 main_v39_10 id,
    StableHlo.unary main_v37 main_v39_11 id,
    StableHlo.unary main_v38 main_v39_12 id ]

/-- After the second loop. -/
abbrev post0 : List (HloOp τ sig (Elt F)) :=
  [ StableHlo.nullary main_cst_13 (constant S_ .f32 0x00000000#32),
    StableHlo.binary main_v39_10 main_cst_13 main_v40 ((fun x v => Host.reduceAdd x v reducesTo_S4352x32x64_S32x64_d0 h_S_) : (⟨S4352x32x64, .f32⟩ : BufTy).Contents (Elt F) → (⟨S_, .f32⟩ : BufTy).Contents (Elt F) → (⟨S32x64, .f32⟩ : BufTy).Contents (Elt F)),
    StableHlo.nullary main_cst_14 (constant S_ .f32 0x00000000#32),
    StableHlo.binary main_v39_9 main_cst_14 main_v41 ((fun x v => Host.reduceAdd x v reducesTo_S4352x32x64_S32x64_d0 h_S_) : (⟨S4352x32x64, .f32⟩ : BufTy).Contents (Elt F) → (⟨S_, .f32⟩ : BufTy).Contents (Elt F) → (⟨S32x64, .f32⟩ : BufTy).Contents (Elt F)),
    StableHlo.unary main_v39_12 main_v42 ((transpose S32x64x4352 [1, 2, 0] · transposes_S4352x32x64_S32x64x4352_1_2_0) : (⟨S4352x32x64, .f32⟩ : BufTy).Contents (Elt F) → (⟨S32x64x4352, .f32⟩ : BufTy).Contents (Elt F)),
    StableHlo.binary main_v42 main_arg5 main_v43 ((fun l r => Host.dotGeneral dot_S32x64x4352_S32x64x16_S32x4352x16_1_1_2_2_0_0 none l r) : (⟨S32x64x4352, .f32⟩ : BufTy).Contents (Elt F) → (⟨S32x64x16, .f32⟩ : BufTy).Contents (Elt F) → (⟨S32x4352x16, .f32⟩ : BufTy).Contents (Elt F)),
    StableHlo.unary main_v43 main_v44 ((transpose S4352x32x16 [1, 0, 2] · transposes_S32x4352x16_S4352x32x16_1_0_2) : (⟨S32x4352x16, .f32⟩ : BufTy).Contents (Elt F) → (⟨S4352x32x16, .f32⟩ : BufTy).Contents (Elt F)),
    StableHlo.binary main_v42 main_v1 main_v45 ((fun l r => Host.dotGeneral dot_S32x64x4352_S4352x32x16_S32x64x16_2_0_1_2_0_1 none l r) : (⟨S32x64x4352, .f32⟩ : BufTy).Contents (Elt F) → (⟨S4352x32x16, .f32⟩ : BufTy).Contents (Elt F) → (⟨S32x64x16, .f32⟩ : BufTy).Contents (Elt F)),
    StableHlo.unary main_v39_11 main_v46 ((transpose S32x64x4352 [1, 2, 0] · transposes_S4352x32x64_S32x64x4352_1_2_0) : (⟨S4352x32x64, .f32⟩ : BufTy).Contents (Elt F) → (⟨S32x64x4352, .f32⟩ : BufTy).Contents (Elt F)),
    StableHlo.binary main_v46 main_arg4 main_v47 ((fun l r => Host.dotGeneral dot_S32x64x4352_S32x64x16_S32x4352x16_1_1_2_2_0_0 none l r) : (⟨S32x64x4352, .f32⟩ : BufTy).Contents (Elt F) → (⟨S32x64x16, .f32⟩ : BufTy).Contents (Elt F) → (⟨S32x4352x16, .f32⟩ : BufTy).Contents (Elt F)),
    StableHlo.unary main_v47 main_v48 ((transpose S4352x32x16 [1, 0, 2] · transposes_S32x4352x16_S4352x32x16_1_0_2) : (⟨S32x4352x16, .f32⟩ : BufTy).Contents (Elt F) → (⟨S4352x32x16, .f32⟩ : BufTy).Contents (Elt F)),
    StableHlo.binary main_v44 main_v48 main_v49 (addf : (⟨S4352x32x16, .f32⟩ : BufTy).Contents (Elt F) → (⟨S4352x32x16, .f32⟩ : BufTy).Contents (Elt F) → (⟨S4352x32x16, .f32⟩ : BufTy).Contents (Elt F)),
    StableHlo.binary main_v46 main_v1 main_v50 ((fun l r => Host.dotGeneral dot_S32x64x4352_S4352x32x16_S32x64x16_2_0_1_2_0_1 none l r) : (⟨S32x64x4352, .f32⟩ : BufTy).Contents (Elt F) → (⟨S4352x32x16, .f32⟩ : BufTy).Contents (Elt F) → (⟨S32x64x16, .f32⟩ : BufTy).Contents (Elt F)),
    StableHlo.reshape main_v49 main_v51 (rfl : (.f32 : EltTy) = .f32) shapeCasts_S4352x32x16_S4352x512 ]

/-- The condition of loop 0. -/
abbrev cond0 : List (HloOp τ sig (Elt F)) :=
  [ StableHlo.nullary main_while0c_c_25 (constantI S_ 32 4352#32),
    StableHlo.binary main_v13_4 main_while0c_c_25 main_while0c_v52 (cmpi .slt : (⟨S_, .i32⟩ : BufTy).Contents (Elt F) → (⟨S_, .i32⟩ : BufTy).Contents (Elt F) → (⟨S_, .i1⟩ : BufTy).Contents (Elt F)) ]

/-- Operations of the body of loop 0. -/
abbrev body0_0 : List (HloOp τ sig (Elt F)) :=
  [ StableHlo.binary main_while0b_v52 main_v13_5 main_while0b_v56 (mulf : (⟨S32x64, .f32⟩ : BufTy).Contents (Elt F) → (⟨S32x64, .f32⟩ : BufTy).Contents (Elt F) → (⟨S32x64, .f32⟩ : BufTy).Contents (Elt F)),
    StableHlo.binary main_while0b_v53 main_v13_6 main_while0b_v57 (mulf : (⟨S32x64, .f32⟩ : BufTy).Contents (Elt F) → (⟨S32x64, .f32⟩ : BufTy).Contents (Elt F) → (⟨S32x64, .f32⟩ : BufTy).Contents (Elt F)),
    StableHlo.binary main_while0b_v56 main_while0b_v57 main_while0b_v58 (subf : (⟨S32x64, .f32⟩ : BufTy).Contents (Elt F) → (⟨S32x64, .f32⟩ : BufTy).Contents (Elt F) → (⟨S32x64, .f32⟩ : BufTy).Contents (Elt F)),
    StableHlo.binary main_while0b_v58 main_while0b_v54 main_while0b_v59 (addf : (⟨S32x64, .f32⟩ : BufTy).Contents (Elt F) → (⟨S32x64, .f32⟩ : BufTy).Contents (Elt F) → (⟨S32x64, .f32⟩ : BufTy).Contents (Elt F)),
    StableHlo.binary main_while0b_v52 main_v13_6 main_while0b_v60 (mulf : (⟨S32x64, .f32⟩ : BufTy).Contents (Elt F) → (⟨S32x64, .f32⟩ : BufTy).Contents (Elt F) → (⟨S32x64, .f32⟩ : BufTy).Contents (Elt F)),
    StableHlo.binary main_while0b_v53 main_v13_5 main_while0b_v61 (mulf : (⟨S32x64, .f32⟩ : BufTy).Contents (Elt F) → (⟨S32x64, .f32⟩ : BufTy).Contents (Elt F) → (⟨S32x64, .f32⟩ : BufTy).Contents (Elt F)),
    StableHlo.binary main_while0b_v60 main_while0b_v61 main_while0b_v62 (addf : (⟨S32x64, .f32⟩ : BufTy).Contents (Elt F) → (⟨S32x64, .f32⟩ : BufTy).Contents (Elt F) → (⟨S32x64, .f32⟩ : BufTy).Contents (Elt F)),
    StableHlo.binary main_while0b_v62 main_while0b_v55 main_while0b_v63 (addf : (⟨S32x64, .f32⟩ : BufTy).Contents (Elt F) → (⟨S32x64, .f32⟩ : BufTy).Contents (Elt F) → (⟨S32x64, .f32⟩ : BufTy).Contents (Elt F)) ]

/-- Operations of the body of loop 0. -/
abbrev body0_1 : List (HloOp τ sig (Elt F)) :=
  [ StableHlo.nullary main_while0b_c_25 (constantI S_ 32 1#32),
    StableHlo.binary main_v13_4 main_while0b_c_25 main_while0b_v68 (addi : (⟨S_, .i32⟩ : BufTy).Contents (Elt F) → (⟨S_, .i32⟩ : BufTy).Contents (Elt F) → (⟨S_, .i32⟩ : BufTy).Contents (Elt F)),
    StableHlo.unary main_while0b_v68 main_v13_4 id,
    StableHlo.unary main_while0b_v59 main_v13_5 id,
    StableHlo.unary main_while0b_v63 main_v13_6 id,
    StableHlo.unary main_while0b_v64 main_v13_7 id,
    StableHlo.unary main_while0b_v65 main_v13_8 id,
    StableHlo.unary main_while0b_v66 main_v13_9 id,
    StableHlo.unary main_while0b_v67 main_v13_10 id ]

/-- The body of loop 0. -/
abbrev body0 : List (List (HloOp τ sig (Elt F))) :=
  [ indexOps (.of main_v13_0) (.of main_v13_4) main_while0b_call0,
    indexOps (.of main_v13_1) (.of main_v13_4) main_while0b_call1,
    indexOps (.of main_v13_2) (.of main_v13_4) main_while0b_call2,
    indexOps (.of main_v13_3) (.of main_v13_4) main_while0b_call3,
    body0_0,
    updateOps (.of main_v13_7) (.of main_while0b_v59) (.of main_v13_4) main_while0b_call4,
    updateOps (.of main_v13_8) (.of main_while0b_v63) (.of main_v13_4) main_while0b_call5,
    updateOps (.of main_v13_9) (.of main_v13_5) (.of main_v13_4) main_while0b_call6,
    updateOps (.of main_v13_10) (.of main_v13_6) (.of main_v13_4) main_while0b_call7,
    body0_1 ]

/-- The condition of loop 1. -/
abbrev cond1 : List (HloOp τ sig (Elt F)) :=
  [ StableHlo.nullary main_while1c_c_27 (constantI S_ 32 4352#32),
    StableHlo.binary main_v39_6 main_while1c_c_27 main_while1c_v52 (cmpi .slt : (⟨S_, .i32⟩ : BufTy).Contents (Elt F) → (⟨S_, .i32⟩ : BufTy).Contents (Elt F) → (⟨S_, .i1⟩ : BufTy).Contents (Elt F)) ]

/-- Operations of the body of loop 1. -/
abbrev body1_0 : List (HloOp τ sig (Elt F)) :=
  [ StableHlo.nullary main_while1b_c_27 (constantI S_ 32 4352#32),
    StableHlo.binary main_while1b_c_27 main_v39_6 main_while1b_v52 (subi : (⟨S_, .i32⟩ : BufTy).Contents (Elt F) → (⟨S_, .i32⟩ : BufTy).Contents (Elt F) → (⟨S_, .i32⟩ : BufTy).Contents (Elt F)),
    StableHlo.nullary main_while1b_c_28 (constantI S_ 32 1#32),
    StableHlo.binary main_while1b_v52 main_while1b_c_28 main_while1b_v53 (subi : (⟨S_, .i32⟩ : BufTy).Contents (Elt F) → (⟨S_, .i32⟩ : BufTy).Contents (Elt F) → (⟨S_, .i32⟩ : BufTy).Contents (Elt F)) ]

/-- Operations of the body of loop 1. -/
abbrev body1_1 : List (HloOp τ sig (Elt F)) :=
  [ StableHlo.binary main_v39_7 main_while1b_v54 main_while1b_v60 (addf : (⟨S32x64, .f32⟩ : BufTy).Contents (Elt F) → (⟨S32x64, .f32⟩ : BufTy).Contents (Elt F) → (⟨S32x64, .f32⟩ : BufTy).Contents (Elt F)),
    StableHlo.binary main_v39_8 main_while1b_v55 main_while1b_v61 (addf : (⟨S32x64, .f32⟩ : BufTy).Contents (Elt F) → (⟨S32x64, .f32⟩ : BufTy).Contents (Elt F) → (⟨S32x64, .f32⟩ : BufTy).Contents (Elt F)),
    StableHlo.binary main_while1b_v59 main_while1b_v61 main_while1b_v62 (mulf : (⟨S32x64, .f32⟩ : BufTy).Contents (Elt F) → (⟨S32x64, .f32⟩ : BufTy).Contents (Elt F) → (⟨S32x64, .f32⟩ : BufTy).Contents (Elt F)),
    StableHlo.binary main_while1b_v61 main_while1b_v56 main_while1b_v63 (mulf : (⟨S32x64, .f32⟩ : BufTy).Contents (Elt F) → (⟨S32x64, .f32⟩ : BufTy).Contents (Elt F) → (⟨S32x64, .f32⟩ : BufTy).Contents (Elt F)),
    StableHlo.binary main_while1b_v57 main_while1b_v61 main_while1b_v64 (mulf : (⟨S32x64, .f32⟩ : BufTy).Contents (Elt F) → (⟨S32x64, .f32⟩ : BufTy).Contents (Elt F) → (⟨S32x64, .f32⟩ : BufTy).Contents (Elt F)),
    StableHlo.binary main_while1b_v61 main_while1b_v58 main_while1b_v65 (mulf : (⟨S32x64, .f32⟩ : BufTy).Contents (Elt F) → (⟨S32x64, .f32⟩ : BufTy).Contents (Elt F) → (⟨S32x64, .f32⟩ : BufTy).Contents (Elt F)),
    StableHlo.unary main_while1b_v60 main_while1b_v66 (Host.negf : (⟨S32x64, .f32⟩ : BufTy).Contents (Elt F) → (⟨S32x64, .f32⟩ : BufTy).Contents (Elt F)),
    StableHlo.binary main_while1b_v59 main_while1b_v66 main_while1b_v67 (mulf : (⟨S32x64, .f32⟩ : BufTy).Contents (Elt F) → (⟨S32x64, .f32⟩ : BufTy).Contents (Elt F) → (⟨S32x64, .f32⟩ : BufTy).Contents (Elt F)),
    StableHlo.binary main_while1b_v64 main_while1b_v67 main_while1b_v68 (addf : (⟨S32x64, .f32⟩ : BufTy).Contents (Elt F) → (⟨S32x64, .f32⟩ : BufTy).Contents (Elt F) → (⟨S32x64, .f32⟩ : BufTy).Contents (Elt F)),
    StableHlo.binary main_while1b_v66 main_while1b_v58 main_while1b_v69 (mulf : (⟨S32x64, .f32⟩ : BufTy).Contents (Elt F) → (⟨S32x64, .f32⟩ : BufTy).Contents (Elt F) → (⟨S32x64, .f32⟩ : BufTy).Contents (Elt F)),
    StableHlo.binary main_while1b_v63 main_while1b_v69 main_while1b_v70 (addf : (⟨S32x64, .f32⟩ : BufTy).Contents (Elt F) → (⟨S32x64, .f32⟩ : BufTy).Contents (Elt F) → (⟨S32x64, .f32⟩ : BufTy).Contents (Elt F)),
    StableHlo.binary main_while1b_v57 main_while1b_v60 main_while1b_v71 (mulf : (⟨S32x64, .f32⟩ : BufTy).Contents (Elt F) → (⟨S32x64, .f32⟩ : BufTy).Contents (Elt F) → (⟨S32x64, .f32⟩ : BufTy).Contents (Elt F)),
    StableHlo.binary main_while1b_v62 main_while1b_v71 main_while1b_v72 (addf : (⟨S32x64, .f32⟩ : BufTy).Contents (Elt F) → (⟨S32x64, .f32⟩ : BufTy).Contents (Elt F) → (⟨S32x64, .f32⟩ : BufTy).Contents (Elt F)),
    StableHlo.binary main_while1b_v60 main_while1b_v56 main_while1b_v73 (mulf : (⟨S32x64, .f32⟩ : BufTy).Contents (Elt F) → (⟨S32x64, .f32⟩ : BufTy).Contents (Elt F) → (⟨S32x64, .f32⟩ : BufTy).Contents (Elt F)),
    StableHlo.binary main_while1b_v65 main_while1b_v73 main_while1b_v74 (addf : (⟨S32x64, .f32⟩ : BufTy).Contents (Elt F) → (⟨S32x64, .f32⟩ : BufTy).Contents (Elt F) → (⟨S32x64, .f32⟩ : BufTy).Contents (Elt F)) ]

/-- Operations of the body of loop 1. -/
abbrev body1_2 : List (HloOp τ sig (Elt F)) :=
  [ StableHlo.nullary main_while1b_c_29 (constantI S_ 32 1#32),
    StableHlo.binary main_v39_6 main_while1b_c_29 main_while1b_v79 (addi : (⟨S_, .i32⟩ : BufTy).Contents (Elt F) → (⟨S_, .i32⟩ : BufTy).Contents (Elt F) → (⟨S_, .i32⟩ : BufTy).Contents (Elt F)),
    StableHlo.unary main_while1b_v79 main_v39_6 id,
    StableHlo.unary main_while1b_v72 main_v39_7 id,
    StableHlo.unary main_while1b_v68 main_v39_8 id,
    StableHlo.unary main_while1b_v75 main_v39_9 id,
    StableHlo.unary main_while1b_v76 main_v39_10 id,
    StableHlo.unary main_while1b_v77 main_v39_11 id,
    StableHlo.unary main_while1b_v78 main_v39_12 id ]

/-- The body of loop 1. -/
abbrev body1 : List (List (HloOp τ sig (Elt F))) :=
  [ body1_0,
    indexOps (.of main_v39_0) (.of main_while1b_v53) main_while1b_call8,
    indexOps (.of main_v39_1) (.of main_while1b_v53) main_while1b_call9,
    indexOps (.of main_v39_2) (.of main_while1b_v53) main_while1b_call10,
    indexOps (.of main_v39_3) (.of main_while1b_v53) main_while1b_call11,
    indexOps (.of main_v39_4) (.of main_while1b_v53) main_while1b_call12,
    indexOps (.of main_v39_5) (.of main_while1b_v53) main_while1b_call13,
    body1_1,
    updateOps (.of main_v39_9) (.of main_while1b_v74) (.of main_while1b_v53) main_while1b_call14,
    updateOps (.of main_v39_10) (.of main_while1b_v70) (.of main_while1b_v53) main_while1b_call15,
    updateOps (.of main_v39_11) (.of main_while1b_v60) (.of main_while1b_v53) main_while1b_call16,
    updateOps (.of main_v39_12) (.of main_while1b_v61) (.of main_while1b_v53) main_while1b_call17,
    body1_2 ]

/-! ## The operations read and write plain buffers -/

theorem index_sub (a i φ) : (indexOps (F := F) a i φ).Forall fun op => op.bufs ⊆ StableHlo.tcRefs τ sig :=
  ⟨StableHlo.nullary_bufs_sub .., StableHlo.nullary_bufs_sub .., StableHlo.unaryIndexed_bufs_sub .., StableHlo.reshape_bufs_sub ..⟩

theorem update_sub (a u i φ) : (updateOps (F := F) a u i φ).Forall fun op => op.bufs ⊆ StableHlo.tcRefs τ sig :=
  ⟨StableHlo.unary_bufs_sub .., StableHlo.nullary_bufs_sub .., StableHlo.nullary_bufs_sub .., StableHlo.binaryIndexed_bufs_sub ..⟩

theorem pre0_sub : (pre0 (F := F)).Forall fun op => op.bufs ⊆ StableHlo.tcRefs τ sig :=
  ⟨StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem mid0_sub : (mid0 (F := F)).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.binary_bufs_sub .., StableHlo.reshape_bufs_sub .., StableHlo.nullary_bufs_sub .., StableHlo.unary_bufs_sub .., StableHlo.nullary_bufs_sub .., StableHlo.unary_bufs_sub .., StableHlo.reshape_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub ..⟩

theorem mid1_sub : (mid1 (F := F)).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem post0_sub : (post0 (F := F)).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.reshape_bufs_sub ..⟩

theorem body0_0_sub : (body0_0 (F := F)).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩

theorem body0_1_sub : (body0_1 (F := F)).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem body1_0_sub : (body1_0 (F := F)).Forall fun op => op.bufs ⊆ StableHlo.tcRefs τ sig :=
  ⟨StableHlo.nullary_bufs_sub .., StableHlo.binary_bufs_sub .., StableHlo.nullary_bufs_sub .., StableHlo.binary_bufs_sub ..⟩

theorem body1_1_sub : (body1_1 (F := F)).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩

theorem body1_2_sub : (body1_2 (F := F)).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem body0_plain : Plain (body0 (F := F)) :=
  .cons (index_sub _ _ _)
    (.cons (index_sub _ _ _)
    (.cons (index_sub _ _ _)
    (.cons (index_sub _ _ _)
    (.cons (body0_0_sub)
    (.cons (update_sub _ _ _ _)
    (.cons (update_sub _ _ _ _)
    (.cons (update_sub _ _ _ _)
    (.cons (update_sub _ _ _ _)
    (.cons (body0_1_sub) .nil)))))))))

theorem body1_plain : Plain (body1 (F := F)) :=
  .cons (body1_0_sub)
    (.cons (index_sub _ _ _)
    (.cons (index_sub _ _ _)
    (.cons (index_sub _ _ _)
    (.cons (index_sub _ _ _)
    (.cons (index_sub _ _ _)
    (.cons (index_sub _ _ _)
    (.cons (body1_1_sub)
    (.cons (update_sub _ _ _ _)
    (.cons (update_sub _ _ _ _)
    (.cons (update_sub _ _ _ _)
    (.cons (update_sub _ _ _ _)
    (.cons (body1_2_sub) .nil))))))))))))

theorem pre_plain : Plain [pre0 (F := F)] := .cons pre0_sub .nil

theorem mid_plain : Plain [mid0 (F := F), mid1] := .cons mid0_sub (.cons mid1_sub .nil)

theorem post_plain : Plain [post0 (F := F)] := .cons post0_sub .nil

/-! ## The program is these lists -/

theorem part0_chain (c : Dev nD) : main_part0 (F := F) c = (Pipeline.chainK [StableHlo.seq pre0, HostLoop.enter 0] (StableHlo.seq mid0)
    : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

theorem part1_chain (c : Dev nD) : main_part1 (F := F) c = (Pipeline.chain [StableHlo.seq mid1, HostLoop.enter 1, StableHlo.seq post0]
    : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

theorem main_chain (c : Dev nD) : main (F := F) c = (Pipeline.chain
    [StableHlo.seq pre0, HostLoop.enter 0, StableHlo.seq mid0, StableHlo.seq mid1, HostLoop.enter 1, StableHlo.seq post0]
    : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [part1_chain, part0_chain, Pipeline.chainK_bind_chain]
  chain_rfl

theorem body0_chain : main_while0_body (F := F) = (Pipeline.chain (body0.map fun ops => (StableHlo.seq ops : Prog _ PUnit))
    : Prog (TpuEff nD τ sig (Elt F) (HostLoop.Sig (Pipeline.Sig Λ₀ (Fin 0) fun p => (pcfgs (F := F) p).Adm) 2) .tc) PUnit) := by
  show _ = Pipeline.chain [StableHlo.seq (indexOps (.of main_v13_0) (.of main_v13_4) main_while0b_call0), StableHlo.seq (indexOps (.of main_v13_1) (.of main_v13_4) main_while0b_call1), StableHlo.seq (indexOps (.of main_v13_2) (.of main_v13_4) main_while0b_call2), StableHlo.seq (indexOps (.of main_v13_3) (.of main_v13_4) main_while0b_call3), StableHlo.seq body0_0, StableHlo.seq (updateOps (.of main_v13_7) (.of main_while0b_v59) (.of main_v13_4) main_while0b_call4), StableHlo.seq (updateOps (.of main_v13_8) (.of main_while0b_v63) (.of main_v13_4) main_while0b_call5), StableHlo.seq (updateOps (.of main_v13_9) (.of main_v13_5) (.of main_v13_4) main_while0b_call6), StableHlo.seq (updateOps (.of main_v13_10) (.of main_v13_6) (.of main_v13_4) main_while0b_call7), StableHlo.seq body0_1]
  rewrite [Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

theorem body1_chain : main_while1_body (F := F) = (Pipeline.chain (body1.map fun ops => (StableHlo.seq ops : Prog _ PUnit))
    : Prog (TpuEff nD τ sig (Elt F) (HostLoop.Sig (Pipeline.Sig Λ₀ (Fin 0) fun p => (pcfgs (F := F) p).Adm) 2) .tc) PUnit) := by
  show _ = Pipeline.chain [StableHlo.seq body1_0, StableHlo.seq (indexOps (.of main_v39_0) (.of main_while1b_v53) main_while1b_call8), StableHlo.seq (indexOps (.of main_v39_1) (.of main_while1b_v53) main_while1b_call9), StableHlo.seq (indexOps (.of main_v39_2) (.of main_while1b_v53) main_while1b_call10), StableHlo.seq (indexOps (.of main_v39_3) (.of main_while1b_v53) main_while1b_call11), StableHlo.seq (indexOps (.of main_v39_4) (.of main_while1b_v53) main_while1b_call12), StableHlo.seq (indexOps (.of main_v39_5) (.of main_while1b_v53) main_while1b_call13), StableHlo.seq body1_1, StableHlo.seq (updateOps (.of main_v39_9) (.of main_while1b_v74) (.of main_while1b_v53) main_while1b_call14), StableHlo.seq (updateOps (.of main_v39_10) (.of main_while1b_v70) (.of main_while1b_v53) main_while1b_call15), StableHlo.seq (updateOps (.of main_v39_11) (.of main_while1b_v60) (.of main_while1b_v53) main_while1b_call16), StableHlo.seq (updateOps (.of main_v39_12) (.of main_while1b_v61) (.of main_while1b_v53) main_while1b_call17), StableHlo.seq body1_2]
  rewrite [StableHlo.chain_seq_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

/-! ## The conditions -/

/-- The counter of loop 0 grows by one a trip. -/
theorem ctr0_step (V : Valuation τ sig (Elt F)) : afterL body0 (after cond0 V) main_v13_4 = addi (V main_v13_4) (constantI S_ 32 1#32) := by
  simp only [body0, StableHlo.afterL_cons, StableHlo.afterL_nil]
  after_reads_simp
  rfl

theorem ctr0 (W₀ : Dev nD → Valuation τ sig (Elt F)) (h0 : ∀ c, W₀ c main_v13_4 = constantI S_ 32 0#32) (c : Dev nD) :
    ∀ k, atTrip cond0 body0 W₀ k c main_v13_4 = constantI S_ 32 (Scf.iv 0#32 1#32 k)
  | 0 => (h0 c).trans (by rw [Scf.iv_zero])
  | k + 1 => by
    rw [StableHlo.atTrip_succ, ctr0_step, ctr0 W₀ h0 c k, Scf.iv_succ]
    rfl

/-- The counter of loop 1 grows by one a trip. -/
theorem ctr1_step (V : Valuation τ sig (Elt F)) : afterL body1 (after cond1 V) main_v39_6 = addi (V main_v39_6) (constantI S_ 32 1#32) := by
  simp only [body1, StableHlo.afterL_cons, StableHlo.afterL_nil]
  after_reads_simp
  rfl

theorem ctr1 (W₀ : Dev nD → Valuation τ sig (Elt F)) (h0 : ∀ c, W₀ c main_v39_6 = constantI S_ 32 0#32) (c : Dev nD) :
    ∀ k, atTrip cond1 body1 W₀ k c main_v39_6 = constantI S_ 32 (Scf.iv 0#32 1#32 k)
  | 0 => (h0 c).trans (by rw [Scf.iv_zero])
  | k + 1 => by
    rw [StableHlo.atTrip_succ, ctr1_step, ctr1 W₀ h0 c k, Scf.iv_succ]
    rfl

/-! ## The run -/

local notation "𝕄" => MT nD τ sig Unit (Elt F) ℕ (Option PUnit) ℕ

/-- Nothing is admitted, there being no kernel. -/
abbrev adm : (p : Fin 0) → (pcfgs (F := F) p).Adm := fun p => p.elim0
/-- No ticket. -/
abbrev tk : Fin 0 → Ticket (Ix := Unit) (Name := ℕ) (U := Option PUnit) (Lvl := ℕ) (nD := nD) (τ := τ) (pcfgs (F := F)) adm := fun j => j.elim0
/-- No level. -/
abbrev L : GSem nD τ sig → Finset Unit := fun _ => ∅
abbrev lv : GSem nD τ sig → Unit → ℕ := fun _ _ => 0

/-- Beside the buffers a core holds that it owes nothing. -/
abbrev Rw (c : Dev nD) : sProp 𝕄 := iprop(∃ W, owes (c : Thread nD τ) (0 : CellTallies nD τ sig Unit) W)

theorem trips_eq : Scf.trips 0#32 4352#32 1#32 = 4352 := by decide

set_option backward.isDefEq.respectTransparency.types false in
theorem cond0_spec (W₀ : Dev nD → Valuation τ sig (Elt F)) (h0 : ∀ c, W₀ c main_v13_4 = constantI S_ 32 0#32) :
    StableHlo.LoopCond (pcfgs (F := F)) defs₀ Variants.none loops (Rw (F := F)) main_while0_cond cond0 body0 W₀ 4352 := fun k hk c bd => by
  have hctr := ctr0 W₀ h0 c k
  unfold main_while0_cond
  simp only [bind_pure]
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 W₀ k c) main_v13_4 HostLoop.idx0)
        (HloOp.result _ (atTrip cond0 body0 W₀ k c) main_while0c_c_25 HostLoop.idx0) = 1#1) (k < 4352)
    rw [StableHlo.nullary_result_ne _ _ _ _ (by decide), StableHlo.nullary_result, hctr]
    have h := Scf.cmpi_slt_iv_ub_iff (lb := 0#32) (ub := 4352#32) (st := 1#32) main_while0_ok (k := k) (by rw [trips_eq]; exact hk)
    rw [trips_eq] at h
    exact h
  isplitl [Hb]; · iexact Hb
  isplitl [Hh]; · rw [StableHlo.after_cons, StableHlo.after_cons, StableHlo.after_nil]; iexact Hh
  iexact HR

set_option backward.isDefEq.respectTransparency.types false in
theorem cond1_spec (W₀ : Dev nD → Valuation τ sig (Elt F)) (h0 : ∀ c, W₀ c main_v39_6 = constantI S_ 32 0#32) :
    StableHlo.LoopCond (pcfgs (F := F)) defs₀ Variants.none loops (Rw (F := F)) main_while1_cond cond1 body1 W₀ 4352 := fun k hk c bd => by
  have hctr := ctr1 W₀ h0 c k
  unfold main_while1_cond
  simp only [bind_pure]
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 W₀ k c) main_v39_6 HostLoop.idx0)
        (HloOp.result _ (atTrip cond1 body1 W₀ k c) main_while1c_c_27 HostLoop.idx0) = 1#1) (k < 4352)
    rw [StableHlo.nullary_result_ne _ _ _ _ (by decide), StableHlo.nullary_result, hctr]
    have h := Scf.cmpi_slt_iv_ub_iff (lb := 0#32) (ub := 4352#32) (st := 1#32) main_while1_ok (k := k) (by rw [trips_eq]; exact hk)
    rw [trips_eq] at h
    exact h
  isplitl [Hb]; · iexact Hb
  isplitl [Hh]; · rw [StableHlo.after_cons, StableHlo.after_cons, StableHlo.after_nil]; iexact Hh
  iexact HR

variable (m : (ℓ : Loc nD τ sig) → Buf (Elt F) ℓ)

/-- The buffers before loop 0, before loop 1, and at the end. -/
def E0 (c : Dev nD) : Valuation τ sig (Elt F) := after pre0 (launchContents m c)
def X0 (c : Dev nD) : Valuation τ sig (Elt F) := after cond0 (atTrip cond0 body0 (E0 m) 4352 c)
def E1 (c : Dev nD) : Valuation τ sig (Elt F) := after mid1 (after mid0 (X0 m c))
def X1 (c : Dev nD) : Valuation τ sig (Elt F) := after cond1 (atTrip cond1 body1 (E1 m) 4352 c)
def Z (c : Dev nD) : Valuation τ sig (Elt F) := after post0 (X1 m c)

theorem E0_ctr (c : Dev nD) : E0 m c main_v13_4 = constantI S_ 32 0#32 := by
  unfold E0
  after_reads_simp
  rfl

theorem E1_ctr (c : Dev nD) : E1 m c main_v39_6 = constantI S_ 32 0#32 := by
  unfold E1
  after_reads_simp
  rfl

set_option backward.isDefEq.respectTransparency.types false in
/-- The program's items as segments. -/
def segs : List (CSeg (pcfgs (F := F)) adm defs₀ Variants.none L lv loops tk) :=
  segsOf _ _ _ _ _ _ _ _ Rw [pre0] pre_plain (launchContents m)
    ++ (loopSeg _ _ _ _ _ _ _ _ 0 main_while0_cond main_while0_body rfl cond0 body0 body0_plain body0_chain 4352 (E0 m) Rw (cond0_spec (E0 m) (E0_ctr m))
      :: (segsOf _ _ _ _ _ _ _ _ Rw [mid0, mid1] mid_plain (X0 m)
        ++ (loopSeg _ _ _ _ _ _ _ _ 1 main_while1_cond main_while1_body rfl cond1 body1 body1_plain body1_chain 4352 (E1 m) Rw (cond1_spec (E1 m) (E1_ctr m))
          :: segsOf _ _ _ _ _ _ _ _ Rw [post0] post_plain (X1 m))))

set_option backward.isDefEq.respectTransparency.types false in
theorem segs_prog : (segs m).map CSeg.prog = ([StableHlo.seq pre0, HostLoop.enter 0, StableHlo.seq mid0, StableHlo.seq mid1, HostLoop.enter 1, StableHlo.seq post0]
    : List (Prog (TpuEff nD τ sig (Elt F) (HostLoop.Sig (Pipeline.Sig Λ₀ (Fin 0) fun p => (pcfgs (F := F) p).Adm) 2) .tc) PUnit)) := by
  unfold segs
  rw [List.map_append, List.map_cons, List.map_append, List.map_cons, StableHlo.segsOf_prog, StableHlo.segsOf_prog, StableHlo.segsOf_prog]
  rfl

set_option backward.isDefEq.respectTransparency.types false in
theorem segs_chains : CSeg.Chains (fun c => iprop(held (c : Thread nD τ) (ucRefs τ sig) (launchContents m c) ∗ Rw c)) (segs m)
    (fun c => iprop(held (c : Thread nD τ) (ucRefs τ sig) (Z m c) ∗ ∃ W, owes (c : Thread nD τ) (0 : CellTallies nD τ sig Unit) W)) := by
  unfold segs
  refine CSeg.Chains.append (StableHlo.segsOf_chains _ _ _ _ _ _ _ _ Rw [pre0] pre_plain _) ⟨fun _ => .rfl, ?_⟩
  refine CSeg.Chains.append (StableHlo.segsOf_chains _ _ _ _ _ _ _ _ Rw [mid0, mid1] mid_plain (X0 m)) ⟨fun _ => .rfl, ?_⟩
  exact StableHlo.segsOf_chains _ _ _ _ _ _ _ _ Rw [post0] post_plain (X1 m)

theorem main_eq (c : Dev nD) : main (F := F) c = CSeg.runL (segs m) := by
  unfold CSeg.runL
  exact (main_chain c).trans (congrArg Pipeline.chain (segs_prog m).symm)

theorem no_unscoped : ∀ sm : SemLoc sig, sm.isScoped .tc = true := by decide

set_option backward.isDefEq.respectTransparency.types false in
/-- Every run ends with the buffers at the last fold and every semaphore at zero. -/
theorem run_main (ρ : Dev nD → PrngReg) :
    θ_run defs (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = Z m c (Proc.devRef .tc b)) ∧ r.2.sem = fun _ => 0) := by
  refine Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none L lv loops tk m ρ main (segs m)
    (fun c Q => by
      rewrite [main_eq m c]
      exact .rfl)
    (CSeg.pairwise_disjoint_of_T_empty _ fun s _ => Finset.eq_empty_of_isEmpty s.T)
    (O₀ := 0) (hL := fun _ _ => rfl) (G := fun _ => iprop(emp)) (u₀ := 1) (hu₀ := ?_)
    (T₀ := fun c => iprop(held (c : Thread nD τ) (ucRefs τ sig) (launchContents m c) ∗ Rw c))
    (Tₙ := fun c => iprop(held (c : Thread nD τ) (ucRefs τ sig) (Z m c)))
    (hch := segs_chains m) (hinit := ?_)
    (QY := fun c s => ∀ b ∈ ucRefs τ sig, s.mem ((c : Dev nD), b) = Z m c b) (hfin := fun c s' => ?_)
    (hQ := fun _ h hz => ⟨fun c b hb => h c _ (StableHlo.devRef_mem_ucRefs b hb), funext fun g => hz g (.inr (no_unscoped g.2))⟩)
  · iintro -
    imodintro
    isplitl []
    · rw [Finset.univ_eq_empty, BI.bigSep_empty]; iempintro
    · iapply (show (BI.emp : sProp 𝕄) ⊢ bigSep Finset.univ (fun _ : Dev nD => (BI.emp : sProp 𝕄)) from by rw [BI.bigSep_emp_const])
      iempintro
  · refine Pipeline.initEach L lv fun c => ?_
    rw [show unscopedBufs c (fun b => m ((c : Thread nD τ).loc b)) = held (c : Thread nD τ) (ucRefs τ sig) (launchContents m c)
      from Pipeline.unscopedBufs_held c (launchContents m c)]
    iintro ⟨⟨Hh, -, HO, -, -, -⟩, -⟩
    imodintro
    isplitl [Hh]; · iexact Hh
    iexists ∅; iexact HO
  · unfold held
    iintro ⟨Hh, HSI⟩
    ihave Hr := (pointsTo_read_all (ucRefs τ sig) (fun b => ((c : Dev nD), b)) (fun b => Z m c b) s') $$ [Hh HSI]
    · isplitl [Hh] <;> iassumption
    icases Hr with ⟨%h, HSI⟩
    imodintro
    isplitr; · ipureintro; exact h
    iexact HSI

end Cert.ReferenceIdeal.RefRun

end
-- ==== Proof.RefKeep.lean ====
/-
  The buffers the reference's loops leave as they found them: the arguments, what is read after the loops, and the stacks
  a loop only reads. With them the arguments at the end of a run, and the values the loops start from.
-/
module

public import proofs.«01_k».proof.Proof.RefRun

@[expose] public section

set_option maxRecDepth 4096

noncomputable section

namespace Cert.ReferenceIdeal.RefRun

open Idealize.ShloMosaic Idealize.ShloMosaic.TcCoe
open Idealize.ShloMosaic.StableHlo (after afterL atTrip launchContents)
open Cert.ReferenceIdeal Cert.ReferenceIdeal.Gen

variable {F : FTy → Type} [FloatOps F]

/-- What loop 0 leaves alone. -/
def kept0 : List (Ref sig .tc) := [main_arg0, main_arg1, main_arg2, main_arg3, main_arg4, main_arg5, main_arg6, main_arg7, main_v1, main_v6, main_v7, main_v13_0, main_v13_1, main_v13_2, main_v13_3]

/-- What loop 1 leaves alone. -/
def kept1 : List (Ref sig .tc) := [main_arg0, main_arg1, main_arg2, main_arg3, main_arg4, main_arg5, main_arg6, main_arg7, main_v1, main_v20, main_v28, main_v32, main_v39_0, main_v39_1, main_v39_2, main_v39_3, main_v39_4, main_v39_5]

theorem keep0_step (V : Valuation τ sig (Elt F)) : ∀ b ∈ kept0, afterL body0 (after cond0 V) (Proc.devRef .tc b) = V (Proc.devRef .tc b) := by
  unfold kept0
  simp only [List.forall_mem_cons, List.forall_mem_nil]
  refine ⟨?_, ?_, ?_, ?_, ?_, ?_, ?_, ?_, ?_, ?_, ?_, ?_, ?_, ?_, ?_, ?_⟩
  case refine_16 => intro _ h; cases h
  all_goals
    simp only [body0, StableHlo.afterL_cons, StableHlo.afterL_nil]
    after_reads_simp

theorem keep1_step (V : Valuation τ sig (Elt F)) : ∀ b ∈ kept1, afterL body1 (after cond1 V) (Proc.devRef .tc b) = V (Proc.devRef .tc b) := by
  unfold kept1
  simp only [List.forall_mem_cons, List.forall_mem_nil]
  refine ⟨?_, ?_, ?_, ?_, ?_, ?_, ?_, ?_, ?_, ?_, ?_, ?_, ?_, ?_, ?_, ?_, ?_, ?_, ?_⟩
  case refine_19 => intro _ h; cases h
  all_goals
    simp only [body1, StableHlo.afterL_cons, StableHlo.afterL_nil]
    after_reads_simp

theorem keep0 (W : Dev nD → Valuation τ sig (Elt F)) (c : Dev nD) (b : Ref sig .tc) (hb : b ∈ kept0) : ∀ k, atTrip cond0 body0 W k c (Proc.devRef .tc b) = W c (Proc.devRef .tc b)
  | 0 => rfl
  | k + 1 => (keep0_step _ b hb).trans (keep0 W c b hb k)

theorem keep1 (W : Dev nD → Valuation τ sig (Elt F)) (c : Dev nD) (b : Ref sig .tc) (hb : b ∈ kept1) : ∀ k, atTrip cond1 body1 W k c (Proc.devRef .tc b) = W c (Proc.devRef .tc b)
  | 0 => rfl
  | k + 1 => (keep1_step _ b hb).trans (keep1 W c b hb k)

/-- The arguments. -/
def theArgs : List (Ref sig .tc) := [main_arg0, main_arg1, main_arg2, main_arg3, main_arg4, main_arg5, main_arg6, main_arg7]

theorem stretch_args (V : Valuation τ sig (Elt F)) : ∀ b ∈ theArgs,
    after pre0 V (Proc.devRef .tc b) = V (Proc.devRef .tc b) ∧ after cond0 V (Proc.devRef .tc b) = V (Proc.devRef .tc b)
      ∧ after mid1 (after mid0 V) (Proc.devRef .tc b) = V (Proc.devRef .tc b) ∧ after cond1 V (Proc.devRef .tc b) = V (Proc.devRef .tc b)
      ∧ after post0 V (Proc.devRef .tc b) = V (Proc.devRef .tc b) := by
  unfold theArgs
  simp only [List.forall_mem_cons]
  refine ⟨?_, ?_, ?_, ?_, ?_, ?_, ?_, ?_, fun _ h => by cases h⟩
  all_goals
    refine ⟨?_, ?_, ?_, ?_, ?_⟩ <;> after_reads_simp

variable (m : (ℓ : Loc nD τ sig) → Buf (Elt F) ℓ)

theorem E0_arg (c : Dev nD) (b : Ref sig .tc) (hb : b ∈ theArgs) : E0 m c (Proc.devRef .tc b) = m (c.tc.loc b) := (stretch_args _ b hb).1

theorem X0_arg (c : Dev nD) (b : Ref sig .tc) (hb : b ∈ theArgs) : X0 m c (Proc.devRef .tc b) = m (c.tc.loc b) :=
  (stretch_args _ b hb).2.1.trans ((keep0 _ c b (by revert b; decide) _).trans (E0_arg m c b hb))

theorem E1_arg (c : Dev nD) (b : Ref sig .tc) (hb : b ∈ theArgs) : E1 m c (Proc.devRef .tc b) = m (c.tc.loc b) :=
  (stretch_args _ b hb).2.2.1.trans (X0_arg m c b hb)

theorem X1_arg (c : Dev nD) (b : Ref sig .tc) (hb : b ∈ theArgs) : X1 m c (Proc.devRef .tc b) = m (c.tc.loc b) :=
  (stretch_args _ b hb).2.2.2.1.trans ((keep1 _ c b (by revert b; decide) _).trans (E1_arg m c b hb))

theorem Z_arg (c : Dev nD) (b : Ref sig .tc) (hb : b ∈ theArgs) : Z m c (Proc.devRef .tc b) = m (c.tc.loc b) :=
  (stretch_args _ b hb).2.2.2.2.trans (X1_arg m c b hb)

end Cert.ReferenceIdeal.RefRun

end
-- ==== Proof.Frames.lean ====
/-
  The frames: a run of the kernel's program, at either reading of the floating types, and a run of the reference's, end with the
  arguments unchanged and every semaphore at zero.
-/
module

public import proofs.«01_k».proof.Defs
public import proofs.«01_k».proof.Proof.Words.Run
public import proofs.«01_k».proof.Proof.Run
public import proofs.«01_k».proof.Proof.RefKeep

@[expose] public section

noncomputable section

namespace Cert.Proof

open Idealize.ShloMosaic Idealize.SL.Sem

/-- The kernel's frame over the reals. -/
theorem frame_kernel_ideal : Cert.quiescent_KernelIdeal := fun m ρ _ =>
  (θ_run Cert.KernelIdeal.defs _ _).mono (fun _ h => ⟨fun c =>
    ⟨((h.1 c).at _ rfl).trans (Cert.KernelIdeal.Gen.V5_main_arg0 m _ c), ((h.1 c).at _ rfl).trans (Cert.KernelIdeal.Gen.V5_main_arg1 m _ c),
      ((h.1 c).at _ rfl).trans (Cert.KernelIdeal.Gen.V5_main_arg2 m _ c), ((h.1 c).at _ rfl).trans (Cert.KernelIdeal.Gen.V5_main_arg3 m _ c),
      ((h.1 c).at _ rfl).trans (Cert.KernelIdeal.Gen.V5_main_arg4 m _ c), ((h.1 c).at _ rfl).trans (Cert.KernelIdeal.Gen.V5_main_arg5 m _ c),
      ((h.1 c).at _ rfl).trans (Cert.KernelIdeal.Gen.V5_main_arg6 m _ c), ((h.1 c).at _ rfl).trans (Cert.KernelIdeal.Gen.V5_main_arg7 m _ c)⟩, h.2⟩)
    (Cert.KernelIdeal.S5Run.run_main m ρ)

/-- The kernel's frame over the bits. -/
theorem frame_kernel : Cert.quiescent_Kernel := fun m ρ _ =>
  (θ_run Cert.Kernel.defs _ _).mono (fun _ h => ⟨fun c =>
    ⟨((h.1 c).at _ rfl).trans (Cert.Kernel.Gen.V5_main_arg0 m _ c), ((h.1 c).at _ rfl).trans (Cert.Kernel.Gen.V5_main_arg1 m _ c),
      ((h.1 c).at _ rfl).trans (Cert.Kernel.Gen.V5_main_arg2 m _ c), ((h.1 c).at _ rfl).trans (Cert.Kernel.Gen.V5_main_arg3 m _ c),
      ((h.1 c).at _ rfl).trans (Cert.Kernel.Gen.V5_main_arg4 m _ c), ((h.1 c).at _ rfl).trans (Cert.Kernel.Gen.V5_main_arg5 m _ c),
      ((h.1 c).at _ rfl).trans (Cert.Kernel.Gen.V5_main_arg6 m _ c), ((h.1 c).at _ rfl).trans (Cert.Kernel.Gen.V5_main_arg7 m _ c)⟩, h.2⟩)
    (Cert.Kernel.S5Run.run_main m ρ)

/-- What a run of the reference leaves in an argument. -/
theorem reference_arg {m : (ℓ : Loc Cert.ReferenceIdeal.nD Cert.ReferenceIdeal.τ Cert.ReferenceIdeal.sig) → Buf (Elt Ideal) ℓ} {s : MemSt Cert.ReferenceIdeal.nD Cert.ReferenceIdeal.τ Cert.ReferenceIdeal.sig (Elt Ideal)} {c : Dev Cert.ReferenceIdeal.nD}
    (h : ∀ b : Ref Cert.ReferenceIdeal.sig .tc, (Proc.devRef (τ := Cert.ReferenceIdeal.τ) .tc b).isScoped = false → s.mem (c.tc.loc b) = Cert.ReferenceIdeal.RefRun.Z m c (Proc.devRef .tc b))
    (b : Ref Cert.ReferenceIdeal.sig .tc) (hb : b ∈ Cert.ReferenceIdeal.RefRun.theArgs) : s.mem (c.tc.loc b) = m (c.tc.loc b) :=
  (h b (by revert b; decide)).trans (Cert.ReferenceIdeal.RefRun.Z_arg m c b hb)

theorem frame_reference : Cert.quiescent_ReferenceIdeal := fun m ρ _ =>
  (θ_run Cert.ReferenceIdeal.defs _ _).mono (fun _ h => ⟨fun c =>
    ⟨reference_arg (h.1 c) Cert.ReferenceIdeal.main_arg0 (by decide), reference_arg (h.1 c) Cert.ReferenceIdeal.main_arg1 (by decide),
      reference_arg (h.1 c) Cert.ReferenceIdeal.main_arg2 (by decide), reference_arg (h.1 c) Cert.ReferenceIdeal.main_arg3 (by decide),
      reference_arg (h.1 c) Cert.ReferenceIdeal.main_arg4 (by decide), reference_arg (h.1 c) Cert.ReferenceIdeal.main_arg5 (by decide),
      reference_arg (h.1 c) Cert.ReferenceIdeal.main_arg6 (by decide), reference_arg (h.1 c) Cert.ReferenceIdeal.main_arg7 (by decide)⟩, h.2⟩)
    (Cert.ReferenceIdeal.RefRun.run_main m ρ)

end Cert.Proof

end
-- ==== Proof.Recur.lean ====
/-
  The recurrence of one state on extended reals, with real and imaginary part apart, and sums over tiles of a sequence.
-/
module

public import Idealize.ShloMosaic.Lib.Pointwise

@[expose] public section

noncomputable section

namespace Cert.S5

/-- The state after `n` inputs `x`, `y`, from the state `s`. -/
def rec (ar ai : EReal) (x y : ℕ → EReal) (s : EReal × EReal) : ℕ → EReal × EReal
  | 0 => s
  | n + 1 => (ar * (rec ar ai x y s n).1 - ai * (rec ar ai x y s n).2 + x n, ar * (rec ar ai x y s n).2 + ai * (rec ar ai x y s n).1 + y n)

theorem rec_add (ar ai : EReal) (x y : ℕ → EReal) (s : EReal × EReal) (n : ℕ) :
    ∀ k, rec ar ai (fun i => x (n + i)) (fun i => y (n + i)) (rec ar ai x y s n) k = rec ar ai x y s (n + k)
  | 0 => rfl
  | k + 1 => by rw [← Nat.add_assoc]; simp only [rec, rec_add ar ai x y s n k]

theorem rec_congr {ar ai : EReal} {x y x' y' : ℕ → EReal} {s : EReal × EReal} : ∀ n, (∀ i < n, x i = x' i) → (∀ i < n, y i = y' i) → rec ar ai x y s n = rec ar ai x' y' s n
  | 0, _, _ => rfl
  | n + 1, hx, hy => by
    have h := rec_congr (ar := ar) (ai := ai) (s := s) n (fun i hi => hx i (by omega)) fun i hi => hy i (by omega)
    simp only [rec, h, hx n (by omega), hy n (by omega)]

/-- What the transposed recurrence carries: the conjugate coefficient times the state. -/
theorem carry_re (ar ai : EReal) (g : EReal × EReal) : ai * g.2 + ar * g.1 = ar * g.1 - -ai * g.2 := by
  rw [sub_eq_add_neg, EReal.neg_mul, neg_neg, add_comm]

theorem carry_im (ar ai : EReal) (g : EReal × EReal) : ar * g.2 + ai * -g.1 = ar * g.2 + -ai * g.1 := by
  rw [mul_comm ai, EReal.neg_mul, EReal.neg_mul, mul_comm ai]

/-- A sum over 4352 rows, tile by tile of 256 rows, the tiles taken from the last to the first. -/
theorem sum_tiles_down (f : ℕ → EReal) : ∑ s ∈ Finset.range 17, ∑ r : Fin 256, f (256 * (16 - s) + r.val) = ∑ t : Fin 4352, f t.val := by
  have h1 : ∑ t : Fin 4352, f t.val = ∑ s : Fin 17, ∑ r : Fin 256, f (256 * s.val + r.val) := by
    rw [← Fintype.sum_prod_type', ← (finProdFinEquiv (m := 17) (n := 256)).sum_comp (fun t : Fin 4352 => f t.val)]
    refine Finset.sum_congr rfl fun p _ => ?_
    congr 1
    simp only [finProdFinEquiv_apply_val]
    omega
  rw [h1, ← Fin.sum_univ_eq_sum_range (fun s => ∑ r : Fin 256, f (256 * (16 - s) + r.val)) 17, ← Equiv.sum_comp (Fin.revPerm (n := 17))]
  refine Finset.sum_congr rfl fun s _ => Finset.sum_congr rfl fun r _ => ?_
  congr 1
  simp only [Fin.revPerm_apply, Fin.val_rev]
  omega

end Cert.S5

end
-- ==== Proof.Spec.lean ====
/-
  The recurrence of the layer and its gradient, element by element on extended reals: 32 groups of 64 states and 16
  channels over 4352 tokens. Both programs are shown to compute these.
-/
module

public import proofs.«01_k».proof.Proof.Recur

@[expose] public section

noncomputable section

namespace Cert.S5

open Idealize.ShloMosaic

/-- The inputs: the channels and their cotangents by token, group and channel; the coefficients by group and state; the
    input and the output matrices of each group. -/
structure Args where
  U : Fin 4352 → Fin 32 → Fin 16 → EReal
  DY : Fin 4352 → Fin 32 → Fin 16 → EReal
  AR : Fin 32 → Fin 64 → EReal
  AI : Fin 32 → Fin 64 → EReal
  BR : Fin 32 → Fin 64 → Fin 16 → EReal
  BI : Fin 32 → Fin 64 → Fin 16 → EReal
  CR : Fin 32 → Fin 16 → Fin 64 → EReal
  CI : Fin 32 → Fin 16 → Fin 64 → EReal

/-- The token of a number. -/
def tok (n : ℕ) : Fin 4352 := ⟨n % 4352, Nat.mod_lt _ (by decide)⟩

theorem tok_val (t : Fin 4352) : tok t.val = t := Fin.ext (Nat.mod_eq_of_lt t.isLt)

/-- Channel `h` of group `g` among the 512. -/
def chan (g : Fin 32) (h : Fin 16) : Fin 512 := ⟨g.val * 16 + h.val, by have := g.isLt; have := h.isLt; omega⟩

/-- The arguments of the programs as these inputs; of the first only the first 512 columns are used. -/
def Args.of (x0 : (⟨2, ![4352, 3072]⟩ : Shape).Idx → EReal) (x1 : (⟨2, ![4352, 512]⟩ : Shape).Idx → EReal) (x2 x3 : (⟨2, ![32, 64]⟩ : Shape).Idx → EReal)
    (x4 x5 : (⟨3, ![32, 64, 16]⟩ : Shape).Idx → EReal) (x6 x7 : (⟨3, ![32, 16, 64]⟩ : Shape).Idx → EReal) : Args where
  U t g h := x0 (ix2 t ⟨g.val * 16 + h.val, by have := g.isLt; have := h.isLt; omega⟩)
  DY t g h := x1 (ix2 t (chan g h))
  AR g p := x2 (ix2 g p)
  AI g p := x3 (ix2 g p)
  BR g p h := x4 (ix3 g p h)
  BI g p h := x5 (ix3 g p h)
  CR g h p := x6 (ix3 g h p)
  CI g h p := x7 (ix3 g h p)

namespace Args

variable (A : Args)

/-- What a token gives a state, real and imaginary part. -/
def inRe (g : Fin 32) (p : Fin 64) (n : ℕ) : EReal := ∑ h, A.BR g p h * A.U (tok n) g h
def inIm (g : Fin 32) (p : Fin 64) (n : ℕ) : EReal := ∑ h, A.BI g p h * A.U (tok n) g h

/-- A state after a number of tokens. -/
def st (g : Fin 32) (p : Fin 64) : ℕ → EReal × EReal := S5.rec (A.AR g p) (A.AI g p) (A.inRe g p) (A.inIm g p) (0, 0)

/-- The output. -/
def y (t : Fin 4352) (g : Fin 32) (h : Fin 16) : EReal := ∑ p, A.CR g h p * (A.st g p (t.val + 1)).1 + ∑ p, -A.CI g h p * (A.st g p (t.val + 1)).2

/-- What the cotangents give the gradient of a state. -/
def ctRe (g : Fin 32) (p : Fin 64) (n : ℕ) : EReal := ∑ h, A.DY (tok n) g h * A.CR g h p
def ctIm (g : Fin 32) (p : Fin 64) (n : ℕ) : EReal := ∑ h, A.DY (tok n) g h * -A.CI g h p

/-- The gradients of a state, by the number of tokens from the last. -/
def gr (g : Fin 32) (p : Fin 64) : ℕ → EReal × EReal := S5.rec (A.AR g p) (-A.AI g p) (fun n => A.ctRe g p (4351 - n)) (fun n => A.ctIm g p (4351 - n)) (0, 0)

/-- The gradients of the arguments. -/
def du (t : Fin 4352) (g : Fin 32) (h : Fin 16) : EReal := ∑ p, (A.gr g p (4352 - t.val)).2 * A.BI g p h + ∑ p, (A.gr g p (4352 - t.val)).1 * A.BR g p h
def daRe (g : Fin 32) (p : Fin 64) : EReal := ∑ t : Fin 4352, ((A.gr g p (4352 - t.val)).2 * (A.st g p t.val).2 + (A.gr g p (4352 - t.val)).1 * (A.st g p t.val).1)
def daIm (g : Fin 32) (p : Fin 64) : EReal := ∑ t : Fin 4352, ((A.gr g p (4352 - t.val)).2 * (A.st g p t.val).1 + -(A.gr g p (4352 - t.val)).1 * (A.st g p t.val).2)
def dbRe (g : Fin 32) (p : Fin 64) (h : Fin 16) : EReal := ∑ t : Fin 4352, (A.gr g p (4352 - t.val)).1 * A.U t g h
def dbIm (g : Fin 32) (p : Fin 64) (h : Fin 16) : EReal := ∑ t : Fin 4352, (A.gr g p (4352 - t.val)).2 * A.U t g h
def dcRe (g : Fin 32) (h : Fin 16) (p : Fin 64) : EReal := ∑ t : Fin 4352, A.DY t g h * (A.st g p (t.val + 1)).1
def dcIm (g : Fin 32) (h : Fin 16) (p : Fin 64) : EReal := -∑ t : Fin 4352, A.DY t g h * (A.st g p (t.val + 1)).2

end Args

end Cert.S5

end
-- ==== Proof.KerPay.lean ====
/-
  The blocks of the two kernel bodies, element by element.
-/
module
public import proofs.«01_k».proof.Proof.FwdBody
public import proofs.«01_k».proof.Proof.BwdBody
public import proofs.«01_k».proof.Proof.Spec
import Idealize.ShloMosaic.Lib.Pointwise

@[expose] public section

set_option maxRecDepth 16384

namespace Cert.S5
open Idealize.ShloMosaic

theorem select_nat {n k : ℕ} (hn : n < 2 ^ 32) (hk : k < 2 ^ 32) (a b : EReal) : Scalar.select (IntOp.cmpi .eq (BitVec.ofNat 32 n) (BitVec.ofNat 32 k)) a b = if n = k then a else b := by
  have e : BitVec.ofNat 32 n = BitVec.ofNat 32 k ↔ n = k := by
    rw [← BitVec.toNat_inj, BitVec.toNat_ofNat, BitVec.toNat_ofNat, Nat.mod_eq_of_lt hn, Nat.mod_eq_of_lt hk]
  unfold Scalar.select IntOp.cmpi
  by_cases h : n = k
  · rw [if_pos h, if_pos]; simp [h]
  · rw [if_neg h, if_neg]; show ¬ BitVec.ofBool (BitVec.ofNat 32 n == BitVec.ofNat 32 k) = 1#1; rw [beq_eq_false_iff_ne.mpr (mt e.mp h)]; decide

end Cert.S5

namespace Cert.KernelIdeal.Fwd
open Idealize.ShloMosaic Cert.KernelIdeal Cert.KernelIdeal.Gen Cert.S5
open scoped BigOperators

theorem aRe_at (a : Vec Ideal S1x2x1x2048 .f32) (k : Fin 2048) : aRe a (ix2 0 k) = a (ix4 0 0 0 k) := by
  unfold aRe k0_pay23
  pointwise
theorem aIm_at (a : Vec Ideal S1x2x1x2048 .f32) (k : Fin 2048) : aIm a (ix2 0 k) = a (ix4 0 1 0 k) := by
  unfold aIm k0_pay24
  pointwise

theorem inRe_at (u : Vec Ideal S256x512 .f32) (b : Vec Ideal S1x2x512x2048 .bf16) (r : Fin 256) (k : Fin 2048) : inRe u b (ix2 r k) = ∑ i : Fin 128, u (ix2 r ⟨128 * (k.val / 512) + i.val, by omega⟩) * b (ix4 0 0 ⟨128 * (k.val / 512) + i.val, by omega⟩ k) := by
  unfold inRe k0_pay20
  pointwise
  split_ifs <;> refine Finset.sum_congr rfl fun i _ => ?_ <;> congr 3 <;> exact Fin.ext (by first | (dsimp only; omega) | rfl)
theorem inIm_at (u : Vec Ideal S256x512 .f32) (b : Vec Ideal S1x2x512x2048 .bf16) (r : Fin 256) (k : Fin 2048) : inIm u b (ix2 r k) = ∑ i : Fin 128, u (ix2 r ⟨128 * (k.val / 512) + i.val, by omega⟩) * b (ix4 0 1 ⟨128 * (k.val / 512) + i.val, by omega⟩ k) := by
  unfold inIm k0_pay22 k0_pay21
  pointwise
  split_ifs <;> refine Finset.sum_congr rfl fun i _ => ?_ <;> congr 3 <;> exact Fin.ext (by first | (dsimp only; omega) | rfl)
theorem outY_at (xr xi : FVec Ideal S256x2048 .f32) (d : Vec Ideal S1x2x512x2048 .bf16) (r : Fin 256) (i : Fin 512) : outY xr xi d (ix2 r i) = ∑ k : Fin 512, xr (ix2 r ⟨512 * (i.val / 128) + k.val, by omega⟩) * d (ix4 0 0 i ⟨512 * (i.val / 128) + k.val, by omega⟩) + ∑ k : Fin 512, xi (ix2 r ⟨512 * (i.val / 128) + k.val, by omega⟩) * d (ix4 0 1 i ⟨512 * (i.val / 128) + k.val, by omega⟩) := by
  unfold outY k0_pay1 k0_pay30 k0_pay31 k0_pay32 k0_pay33 k0_pay29
  pointwise
  refine congrArg₂ (fun a b : EReal => a + b) ?_ ?_ <;> split_ifs <;> refine Finset.sum_congr rfl fun i _ => ?_ <;> congr 3 <;> exact Fin.ext (by first | (dsimp only; omega) | rfl)

end Cert.KernelIdeal.Fwd

namespace Cert.KernelIdeal.Bwd
open Idealize.ShloMosaic Cert.KernelIdeal Cert.KernelIdeal.Gen Cert.S5
open scoped BigOperators

theorem aRe_at (a : Vec Ideal S1x2x1x2048 .f32) (k : Fin 2048) : aRe a (ix2 0 k) = a (ix4 0 0 0 k) := by
  unfold aRe k1_pay55
  pointwise
theorem aNeg_at (a : Vec Ideal S1x2x1x2048 .f32) (k : Fin 2048) : aNeg a (ix2 0 k) = -a (ix4 0 1 0 k) := by
  unfold aNeg k1_pay56
  pointwise
  exact zero_sub _

theorem inRe_at (dy : Vec Ideal S256x512 .f32) (d : Vec Ideal S1x2x512x2048 .bf16) (r : Fin 256) (k : Fin 2048) : inRe dy d (ix2 r k) = ∑ i : Fin 128, dy (ix2 r ⟨128 * (k.val / 512) + i.val, by omega⟩) * d (ix4 0 0 ⟨128 * (k.val / 512) + i.val, by omega⟩ k) := by
  unfold inRe k1_pay45 k1_pay40 k1_pay41 k1_pay42 k1_pay43 k1_pay44
  pointwise
  split_ifs <;> refine Finset.sum_congr rfl fun i _ => ?_ <;> congr 3 <;> exact Fin.ext (by first | (dsimp only; omega) | rfl)
theorem inIm_at (dy : Vec Ideal S256x512 .f32) (d : Vec Ideal S1x2x512x2048 .bf16) (r : Fin 256) (k : Fin 2048) : inIm dy d (ix2 r k) = ∑ i : Fin 128, dy (ix2 r ⟨128 * (k.val / 512) + i.val, by omega⟩) * d (ix4 0 1 ⟨128 * (k.val / 512) + i.val, by omega⟩ k) := by
  unfold inIm k1_pay46
  pointwise
  split_ifs <;> refine Finset.sum_congr rfl fun i _ => ?_ <;> congr 3 <;> exact Fin.ext (by first | (dsimp only; omega) | rfl)
theorem outDu_at (gr gi : FVec Ideal S256x2048 .f32) (b : Vec Ideal S1x2x512x2048 .bf16) (r : Fin 256) (i : Fin 512) : outDu gr gi b (ix2 r i) = ∑ k : Fin 512, gr (ix2 r ⟨512 * (i.val / 128) + k.val, by omega⟩) * b (ix4 0 0 i ⟨512 * (i.val / 128) + k.val, by omega⟩) + ∑ k : Fin 512, gi (ix2 r ⟨512 * (i.val / 128) + k.val, by omega⟩) * b (ix4 0 1 i ⟨512 * (i.val / 128) + k.val, by omega⟩) := by
  unfold outDu k1_pay74 k1_pay69 k1_pay67 k1_pay68 k1_pay70 k1_pay71 k1_pay72 k1_pay73
  pointwise
  refine congrArg₂ (fun a b : EReal => a + b) ?_ ?_ <;> split_ifs <;> refine Finset.sum_congr rfl fun i _ => ?_ <;> congr 3 <;> exact Fin.ext (by first | (dsimp only; omega) | rfl)

theorem eightBlocks_at (P : Fin 8 → S1x1x128x512.Idx → EReal) (o : S1x2x512x2048.Idx → EReal) (z : Fin 2) (q : Fin 4) (i : Fin 128) (k : Fin 512) :
    eightBlocks (F := Ideal) P o (ix4 0 z ⟨128 * q.val + i.val, by omega⟩ ⟨512 * q.val + k.val, by omega⟩) = P ⟨4 * z.val + q.val, by omega⟩ (ix4 0 0 i k) := by
  unfold eightBlocks
  refine (if_pos (show (128 * q.val + i.val) / 128 = (512 * q.val + k.val) / 512 by omega)).trans ?_
  have e1 : (⟨4 * z.val + (128 * q.val + i.val) / 128, by omega⟩ : Fin 8) = ⟨4 * z.val + q.val, by omega⟩ := Fin.ext (by dsimp only; omega)
  have e2 : (⟨(128 * q.val + i.val) % 128, Nat.mod_lt _ (by decide)⟩ : Fin 128) = i := Fin.ext (by dsimp only; omega)
  have e3 : (⟨(512 * q.val + k.val) % 512, Nat.mod_lt _ (by decide)⟩ : Fin 512) = k := Fin.ext (by dsimp only; omega)
  exact congr (congrArg P e1) (congrArg₂ (ix4 (n0 := 1) (n1 := 1) 0 0) e2 e3)

theorem outDb_at (u : Vec Ideal S256x512 .f32) (gr gi : FVec Ideal S256x2048 .f32) (o : Vec Ideal S1x2x512x2048 .f32) (z : Fin 2) (q : Fin 4) (i : Fin 128) (k : Fin 512) :
    outDb u gr gi o (ix4 0 z ⟨128 * q.val + i.val, by omega⟩ ⟨512 * q.val + k.val, by omega⟩) = o (ix4 0 z ⟨128 * q.val + i.val, by omega⟩ ⟨512 * q.val + k.val, by omega⟩) + ∑ r : Fin 256, u (ix2 r ⟨128 * q.val + i.val, by omega⟩) * (if z = 0 then gr else gi) (ix2 r ⟨512 * q.val + k.val, by omega⟩) := by
  unfold outDb
  fin_cases z <;> fin_cases q <;> refine (eightBlocks_at _ o _ _ i k).trans ?_ <;> simp <;>
    simp only [k1_pay75, k1_pay76, k1_pay77, k1_pay78, k1_pay79, k1_pay80, k1_pay81, k1_pay82, k1_pay1] <;> pointwise

theorem outDc_at (u : Vec Ideal S256x512 .f32) (gr gi : FVec Ideal S256x2048 .f32) (o : Vec Ideal S1x2x512x2048 .f32) (z : Fin 2) (q : Fin 4) (i : Fin 128) (k : Fin 512) :
    outDc u gr gi o (ix4 0 z ⟨128 * q.val + i.val, by omega⟩ ⟨512 * q.val + k.val, by omega⟩) = o (ix4 0 z ⟨128 * q.val + i.val, by omega⟩ ⟨512 * q.val + k.val, by omega⟩) + ∑ r : Fin 256, u (ix2 r ⟨128 * q.val + i.val, by omega⟩) * (if z = 0 then gr else gi) (ix2 r ⟨512 * q.val + k.val, by omega⟩) := by
  unfold outDc
  fin_cases z <;> fin_cases q <;> refine (eightBlocks_at _ o _ _ i k).trans ?_ <;> simp <;>
    simp only [k1_pay47, k1_pay48, k1_pay49, k1_pay50, k1_pay51, k1_pay52, k1_pay53, k1_pay54, k1_pay38, k1_pay39] <;> pointwise

/-- The state before a row: the row above, or for the first row the last row of the tile before, dropped in the first tile. -/
noncomputable def prev (s : ℕ) (x : FVec Ideal S256x2048 .f32) (e : FVec Ideal S8x2048 .f32) (r : Fin 256) (k : Fin 2048) : EReal :=
  if r.val = 0 then (if s = 16 then 0 else e (ix2 7 k)) else x (ix2 ⟨r.val - 1, by omega⟩ k)

theorem prev_eq (i : grid1.Coords) (x : FVec Ideal S256x2048 .f32) (e : FVec Ideal S8x2048 .f32) (r : Fin 256) (k : Fin 2048) :
    Scalar.select (IntOp.cmpi CmpIPredicate.eq (BitVec.ofNat 32 r.val) 0#32) (Scalar.select (Scalar.cmpi CmpIPredicate.eq (BitVec.ofNat 32 (i 0).val) 16#32) 0 (e (ix2 7 k))) (x (ix2 ⟨(r.val + 256 - 1) % 256, Nat.mod_lt _ (by decide)⟩ k)) = prev (i 0).val x e r k := by
  have hi : (i 0).val < 17 := (i 0).isLt
  have h1 := select_nat (n := r.val) (k := 0) (by omega) (by decide) (Scalar.select (Scalar.cmpi CmpIPredicate.eq (BitVec.ofNat 32 (i 0).val) 16#32) 0 (e (ix2 7 k))) (x (ix2 ⟨(r.val + 256 - 1) % 256, Nat.mod_lt _ (by decide)⟩ k))
  have h2 := select_nat (n := (i 0).val) (k := 16) (by omega) (by decide) 0 (e (ix2 7 k))
  refine h1.trans ?_
  unfold prev
  by_cases h : r.val = 0
  · rw [if_pos h, if_pos h]; exact h2
  · rw [if_neg h, if_neg h]; congr 2; exact Fin.ext (by dsimp only; omega)

theorem outDa_at0 (i : grid1.Coords) (xr xi : Vec Ideal S256x2048 .f32) (er ei : Vec Ideal S8x2048 .f32) (gr gi : FVec Ideal S256x2048 .f32) (o : Vec Ideal S1x2x1x2048 .f32) (k : Fin 2048) :
    outDa i xr xi er ei gr gi o (ix4 0 0 0 k) = o (ix4 0 0 0 k) + ∑ r : Fin 256, (gr (ix2 r k) * prev (i 0).val xr er r k + gi (ix2 r k) * prev (i 0).val xi ei r k) := by
  unfold outDa twoRows
  refine (if_pos rfl).trans ?_
  show k1_pay65 _ _ _ _ _ _ _ _ (ix4 (0 : Fin 1) (0 : Fin 1) (0 : Fin 1) k) = _
  unfold k1_pay65 k1_pay61 k1_pay62 k1_pay63 k1_pay64 k1_pay60 k1_pay38 k1_pay39
  pointwise
  exact congrArg (fun a : EReal => o (ix4 0 0 0 k) + a) (Finset.sum_congr rfl fun r _ => congrArg₂ (fun a b : EReal => gr (ix2 r k) * a + gi (ix2 r k) * b) (prev_eq i xr er r k) (prev_eq i xi ei r k))

theorem outDa_at1 (i : grid1.Coords) (xr xi : Vec Ideal S256x2048 .f32) (er ei : Vec Ideal S8x2048 .f32) (gr gi : FVec Ideal S256x2048 .f32) (o : Vec Ideal S1x2x1x2048 .f32) (k : Fin 2048) :
    outDa i xr xi er ei gr gi o (ix4 0 1 0 k) = o (ix4 0 1 0 k) + ∑ r : Fin 256, (gi (ix2 r k) * prev (i 0).val xr er r k - gr (ix2 r k) * prev (i 0).val xi ei r k) := by
  unfold outDa twoRows
  refine (if_neg one_ne_zero).trans ?_
  show k1_pay66 _ _ _ _ _ _ _ _ (ix4 (0 : Fin 1) (0 : Fin 1) (0 : Fin 1) k) = _
  unfold k1_pay66 k1_pay61 k1_pay62 k1_pay63 k1_pay64 k1_pay60 k1_pay38 k1_pay39
  pointwise
  exact congrArg (fun a : EReal => o (ix4 0 1 0 k) + a) (Finset.sum_congr rfl fun r _ => congrArg₂ (fun a b : EReal => gi (ix2 r k) * a - gr (ix2 r k) * b) (prev_eq i xr er r k) (prev_eq i xi ei r k))

end Cert.KernelIdeal.Bwd

end
-- ==== Proof.KerMath.lean ====
/-
  Sums over a block of a block-diagonal matrix, and the scan of one column.
-/
module

public import proofs.«01_k».proof.Proof.Rows
public import proofs.«01_k».proof.Proof.Spec

@[expose] public section

noncomputable section

namespace Cert.S5

open Idealize.ShloMosaic Cert.KernelIdeal
open scoped BigOperators

/-- The column of a group's state. -/
def col (g : Fin 32) (p : Fin 64) : Fin 2048 := ⟨g.val * 64 + p.val, by omega⟩

/-- A sum over the rows of a diagonal block of eight groups, when only one group's rows count. -/
theorem sum_block (m : ℕ) (g : ℕ) (G : ℕ → EReal) (hG : ∀ g' < 8, 8 * (g / 8) + g' ≠ g → ∀ h < m, G (m * (8 * (g / 8) + g') + h) = 0) :
    ∑ i : Fin (8 * m), G (8 * m * (g / 8) + i.val) = ∑ h : Fin m, G (m * g + h.val) := by
  rw [← (finProdFinEquiv (m := 8) (n := m)).sum_comp (fun i : Fin (8 * m) => G (8 * m * (g / 8) + i.val)), Fintype.sum_prod_type]
  have e : ∀ (l : Fin 8) (h : Fin m), 8 * m * (g / 8) + (finProdFinEquiv (l, h)).val = m * (8 * (g / 8) + l.val) + h.val := fun l h => by
    rw [finProdFinEquiv_apply_val]; ring
  simp only [e]
  rw [Finset.sum_eq_single (⟨g % 8, Nat.mod_lt _ (by decide)⟩ : Fin 8)]
  · have : 8 * (g / 8) + g % 8 = g := by omega
    simp only [this]
  · intro l _ hl
    refine Finset.sum_eq_zero fun h _ => hG l.val l.isLt (fun he => hl (Fin.ext ?_)) h.val h.isLt
    dsimp only; omega
  · exact fun h => absurd (Finset.mem_univ _) h

theorem sum_rows (g : Fin 32) (p : Fin 64) (F : Fin 512 → EReal) (hF : ∀ g' h, g' ≠ g → F (chan g' h) = 0) :
    ∑ i : Fin 128, F ⟨128 * ((col g p).val / 512) + i.val, by have := (col g p).isLt; omega⟩ = ∑ h : Fin 16, F (chan g h) := by
  have key := sum_block 16 g.val (fun n => if h : n < 512 then F ⟨n, h⟩ else 0) fun g' hg' hne h hh => by
    rw [dif_pos (by omega)]
    exact (congrArg F (Fin.ext (by unfold chan; dsimp only; omega))).trans (hF ⟨8 * (g.val / 8) + g', by omega⟩ ⟨h, hh⟩ fun he => hne (congrArg Fin.val he))
  refine Eq.trans (Finset.sum_congr rfl fun i _ => ?_) (key.trans (Finset.sum_congr rfl fun h _ => ?_))
  · rw [dif_pos (by omega)]; exact congrArg F (Fin.ext (by unfold col; dsimp only; omega))
  · rw [dif_pos (by omega)]; exact congrArg F (Fin.ext (by unfold chan; dsimp only; omega))

theorem sum_cols (g : Fin 32) (h : Fin 16) (F : Fin 2048 → EReal) (hF : ∀ g' p, g' ≠ g → F (col g' p) = 0) :
    ∑ k : Fin 512, F ⟨512 * ((chan g h).val / 128) + k.val, by have := (chan g h).isLt; omega⟩ = ∑ p : Fin 64, F (col g p) := by
  have key := sum_block 64 g.val (fun n => if h : n < 2048 then F ⟨n, h⟩ else 0) fun g' hg' hne h hh => by
    rw [dif_pos (by omega)]
    exact (congrArg F (Fin.ext (by unfold col; dsimp only; omega))).trans (hF ⟨8 * (g.val / 8) + g', by omega⟩ ⟨h, hh⟩ fun he => hne (congrArg Fin.val he))
  refine Eq.trans (Finset.sum_congr rfl fun i _ => ?_) (key.trans (Finset.sum_congr rfl fun h _ => ?_))
  · rw [dif_pos (by omega)]; exact congrArg F (Fin.ext (by unfold chan; dsimp only; omega))
  · rw [dif_pos (by omega)]; exact congrArg F (Fin.ext (by unfold col; dsimp only; omega))

/-- The scan of one column. -/
theorem scan_rec (ar ai : FVec Ideal S1x2048 .f32) (x y : ℕ → FVec Ideal S1x2048 .f32) (s : FVec Ideal S1x2048 .f32 × FVec Ideal S1x2048 .f32) (k : S1x2048.Idx) :
    ∀ n, ((scanN ar ai x y s n).1 k, (scanN ar ai x y s n).2 k) = S5.rec (ar k) (ai k) (fun n => x n k) (fun n => y n k) (s.1 k, s.2 k) n
  | 0 => rfl
  | n + 1 => by rw [S5.rec, ← scan_rec ar ai x y s k n]; rfl

/-- The scan of one column over a block's rows. -/
theorem scanB_at (o : RowOrder) (ar ai : FVec Ideal S1x2048 .f32) (X Y : FVec Ideal S256x2048 .f32) (s : FVec Ideal S1x2048 .f32 × FVec Ideal S1x2048 .f32) (k : Fin 2048)
    {AR AI : EReal} {x y : ℕ → EReal} {s0 : EReal × EReal} (h1 : ar (ix2 0 k) = AR) (h2 : ai (ix2 0 k) = AI)
    (hx : ∀ n (h : o.ρ n < 256), n < 256 → X (ix2 ⟨o.ρ n, h⟩ k) = x n) (hy : ∀ n (h : o.ρ n < 256), n < 256 → Y (ix2 ⟨o.ρ n, h⟩ k) = y n) (hs : (s.1 (ix2 0 k), s.2 (ix2 0 k)) = s0) (n : ℕ) (hn : n ≤ 256) :
    ((scanB o ar ai X Y s n).1 (ix2 0 k), (scanB o ar ai X Y s n).2 (ix2 0 k)) = S5.rec AR AI x y s0 n := by
  rw [scanB, scan_rec, h1, h2, hs]
  have e : ∀ (Z : FVec Ideal S256x2048 .f32) (z : ℕ → EReal) (hz : ∀ n (h : o.ρ n < 256), n < 256 → Z (ix2 ⟨o.ρ n, h⟩ k) = z n), ∀ i < n, rowv Z (o.ρ i) (ix2 0 k) = z i := fun Z z hz i hi => by
    have hlt := o.lt i (by omega)
    refine Eq.trans ?_ (hz i hlt (by omega))
    show Z (ix2 ⟨o.ρ i % 256, _⟩ k) = _
    congr 2; exact Fin.ext (Nat.mod_eq_of_lt hlt)
  exact rec_congr n (e X x hx) (e Y y hy)

theorem scanRe_at (o : RowOrder) (ar ai : FVec Ideal S1x2048 .f32) (X Y : FVec Ideal S256x2048 .f32) (s : FVec Ideal S1x2048 .f32 × FVec Ideal S1x2048 .f32) (r : Fin 256) (k : Fin 2048) :
    scanRe o ar ai X Y s (ix2 r k) = (scanB o ar ai X Y s (o.ρ r.val + 1)).1 (ix2 0 k) := rfl
theorem scanIm_at (o : RowOrder) (ar ai : FVec Ideal S1x2048 .f32) (X Y : FVec Ideal S256x2048 .f32) (s : FVec Ideal S1x2048 .f32 × FVec Ideal S1x2048 .f32) (r : Fin 256) (k : Fin 2048) :
    scanIm o ar ai X Y s (ix2 r k) = (scanB o ar ai X Y s (o.ρ r.val + 1)).2 (ix2 0 k) := rfl

end Cert.S5

end
-- ==== Proof.KerTile.lean ====
/-
  One tile of the two kernels: the states, their gradients and what the tile adds to the sums, of the arguments.
-/
module

public import proofs.«01_k».proof.Proof.KerPay
public import proofs.«01_k».proof.Proof.KerMath

@[expose] public section

noncomputable section

namespace Cert.S5

open Idealize.ShloMosaic Cert.KernelIdeal
open scoped BigOperators

/-- The multipliers, laid along the columns. -/
def IsMul (X : Args) (a : Vec Ideal S1x2x1x2048 .f32) : Prop :=
  (∀ g p, a (ix4 0 0 0 (col g p)) = X.AR g p) ∧ ∀ g p, a (ix4 0 1 0 (col g p)) = X.AI g p

/-- A pair of block-diagonal matrices. -/
def IsMat (R I : Fin 32 → Fin 64 → Fin 16 → EReal) (b : Vec Ideal S1x2x512x2048 .bf16) : Prop :=
  (∀ g' h g p, b (ix4 0 0 (chan g' h) (col g p)) = if g' = g then R g p h else 0) ∧ ∀ g' h g p, b (ix4 0 1 (chan g' h) (col g p)) = if g' = g then I g p h else 0

/-- The channels are the first of the 3072 columns. -/
theorem chan_lt (g : Fin 32) (h : Fin 16) : (chan g h).val < 3072 := Nat.lt_trans (chan g h).isLt (by decide)

/-- Tile `j` of a sequence of tokens. -/
def IsTok (Z : Fin 4352 → Fin 32 → Fin 16 → EReal) (j : ℕ) (u : Vec Ideal S256x512 .f32) : Prop :=
  ∀ r g h, u (ix2 r (chan g h)) = Z (tok (256 * j + r.val)) g h

/-- The columns of a row of states. -/
def IsRow (f : Fin 32 → Fin 64 → EReal × EReal) (s : FVec Ideal S1x2048 .f32 × FVec Ideal S1x2048 .f32) : Prop :=
  ∀ g p, (s.1 (ix2 0 (col g p)), s.2 (ix2 0 (col g p))) = f g p

theorem sum_tok {Z : Fin 4352 → Fin 32 → Fin 16 → EReal} {j : ℕ} {u : Vec Ideal S256x512 .f32} (hu : IsTok Z j u) {R : Fin 32 → Fin 64 → Fin 16 → EReal} {b : Fin 512 → Fin 2048 → EReal}
    (hb : ∀ g' h g p, b (chan g' h) (col g p) = if g' = g then R g p h else 0) (r : Fin 256) (g : Fin 32) (p : Fin 64) :
    ∑ i : Fin 128, u (ix2 r ⟨128 * ((col g p).val / 512) + i.val, by have := (col g p).isLt; omega⟩) * b ⟨128 * ((col g p).val / 512) + i.val, by have := (col g p).isLt; omega⟩ (col g p)
      = ∑ h : Fin 16, Z (tok (256 * j + r.val)) g h * R g p h := by
  refine (sum_rows g p (fun i => u (ix2 r i) * b i (col g p)) fun g' h hne => ?_).trans (Finset.sum_congr rfl fun h _ => ?_)
  · rw [hb, if_neg hne, mul_zero]
  · rw [hb, if_pos rfl, hu]

theorem sum_sta {f : Fin 32 → Fin 64 → EReal} {x : Fin 2048 → EReal} (hx : ∀ g p, x (col g p) = f g p) {R : Fin 32 → Fin 64 → Fin 16 → EReal} {b : Fin 512 → Fin 2048 → EReal}
    (hb : ∀ g' h g p, b (chan g' h) (col g p) = if g' = g then R g p h else 0) (g : Fin 32) (h : Fin 16) :
    ∑ k : Fin 512, x ⟨512 * ((chan g h).val / 128) + k.val, by have := (chan g h).isLt; omega⟩ * b (chan g h) ⟨512 * ((chan g h).val / 128) + k.val, by have := (chan g h).isLt; omega⟩
      = ∑ p : Fin 64, f g p * R g p h := by
  refine (sum_cols g h (fun k => x k * b (chan g h) k) fun g' p hne => ?_).trans (Finset.sum_congr rfl fun p _ => ?_)
  · rw [hb, if_neg (Ne.symm hne), mul_zero]
  · rw [hb, if_pos rfl, hx]

end Cert.S5

namespace Cert.KernelIdeal.Fwd

open Idealize.ShloMosaic Cert.KernelIdeal Cert.S5
open scoped BigOperators

variable {X : Args} {j : ℕ} {u : Vec Ideal S256x512 .f32} {a : Vec Ideal S1x2x1x2048 .f32} {b d : Vec Ideal S1x2x512x2048 .bf16} {s : FVec Ideal S1x2048 .f32 × FVec Ideal S1x2048 .f32}

theorem inRe_val (hu : IsTok X.U j u) (hb : IsMat X.BR X.BI b) (r : Fin 256) (g : Fin 32) (p : Fin 64) : inRe u b (ix2 r (col g p)) = X.inRe g p (256 * j + r.val) := by
  rw [inRe_at, sum_tok hu (b := fun i k => b (ix4 0 0 i k)) hb.1 r g p]
  exact Finset.sum_congr rfl fun h _ => mul_comm _ _
theorem inIm_val (hu : IsTok X.U j u) (hb : IsMat X.BR X.BI b) (r : Fin 256) (g : Fin 32) (p : Fin 64) : inIm u b (ix2 r (col g p)) = X.inIm g p (256 * j + r.val) := by
  rw [inIm_at, sum_tok hu (b := fun i k => b (ix4 0 1 i k)) hb.2 r g p]
  exact Finset.sum_congr rfl fun h _ => mul_comm _ _

/-- The states over a tile. -/
theorem tile_val (hu : IsTok X.U j u) (ha : IsMul X a) (hb : IsMat X.BR X.BI b) (hs : IsRow (fun g p => X.st g p (256 * j)) s) (n : ℕ) (hn : n ≤ 256) :
    IsRow (fun g p => X.st g p (256 * j + n)) (scanB upward (aRe a) (aIm a) (inRe u b) (inIm u b) s n) := fun g p => by
  refine (scanB_at upward _ _ _ _ s (col g p) ((aRe_at a _).trans (ha.1 g p)) ((aIm_at a _).trans (ha.2 g p)) (x := fun n => X.inRe g p (256 * j + n)) (y := fun n => X.inIm g p (256 * j + n))
    (fun n h _ => inRe_val hu hb ⟨n, h⟩ g p) (fun n h _ => inIm_val hu hb ⟨n, h⟩ g p) (hs g p) n hn).trans ?_
  exact rec_add _ _ _ _ _ _ n

theorem tileRe_val (hu : IsTok X.U j u) (ha : IsMul X a) (hb : IsMat X.BR X.BI b) (hs : IsRow (fun g p => X.st g p (256 * j)) s) (r : Fin 256) (g : Fin 32) (p : Fin 64) :
    tileRe u a b s (ix2 r (col g p)) = (X.st g p (256 * j + r.val + 1)).1 := congrArg Prod.fst (tile_val hu ha hb hs (r.val + 1) (by omega) g p)
theorem tileIm_val (hu : IsTok X.U j u) (ha : IsMul X a) (hb : IsMat X.BR X.BI b) (hs : IsRow (fun g p => X.st g p (256 * j)) s) (r : Fin 256) (g : Fin 32) (p : Fin 64) :
    tileIm u a b s (ix2 r (col g p)) = (X.st g p (256 * j + r.val + 1)).2 := congrArg Prod.snd (tile_val hu ha hb hs (r.val + 1) (by omega) g p)
theorem tileEnd_val (hu : IsTok X.U j u) (ha : IsMul X a) (hb : IsMat X.BR X.BI b) (hs : IsRow (fun g p => X.st g p (256 * j)) s) : IsRow (fun g p => X.st g p (256 * (j + 1))) (tileEnd u a b s) :=
  tile_val hu ha hb hs 256 le_rfl

theorem outY_val (hu : IsTok X.U j u) (ha : IsMul X a) (hb : IsMat X.BR X.BI b) (hd : IsMat (fun g p h => X.CR g h p) (fun g p h => -X.CI g h p) d) (hs : IsRow (fun g p => X.st g p (256 * j)) s)
    (r : Fin 256) (g : Fin 32) (h : Fin 16) (t : Fin 4352) (ht : t.val = 256 * j + r.val) : outY (tileRe u a b s) (tileIm u a b s) d (ix2 r (chan g h)) = X.y t g h := by
  rw [outY_at, sum_sta (x := fun k => tileRe u a b s (ix2 r k)) (tileRe_val hu ha hb hs r) (b := fun i k => d (ix4 0 0 i k)) hd.1, sum_sta (x := fun k => tileIm u a b s (ix2 r k)) (tileIm_val hu ha hb hs r) (b := fun i k => d (ix4 0 1 i k)) hd.2]
  unfold Args.y
  rw [ht]
  exact congrArg₂ (fun a b : EReal => a + b) (Finset.sum_congr rfl fun p _ => mul_comm _ _) (Finset.sum_congr rfl fun p _ => mul_comm _ _)

end Cert.KernelIdeal.Fwd

namespace Cert.KernelIdeal.Bwd

open Idealize.ShloMosaic Cert.KernelIdeal Cert.S5
open scoped BigOperators

variable {X : Args} {n j : ℕ} {u dy : Vec Ideal S256x512 .f32} {a : Vec Ideal S1x2x1x2048 .f32} {b d : Vec Ideal S1x2x512x2048 .bf16} {s : FVec Ideal S1x2048 .f32 × FVec Ideal S1x2048 .f32}

/-- The gradients `n` tiles from the end. -/
abbrev Held (X : Args) (n : ℕ) (s : FVec Ideal S1x2048 .f32 × FVec Ideal S1x2048 .f32) : Prop := IsRow (fun g p => X.gr g p (256 * n)) s

theorem inRe_val (hu : IsTok X.DY j dy) (hd : IsMat (fun g p h => X.CR g h p) (fun g p h => -X.CI g h p) d) (r : Fin 256) (g : Fin 32) (p : Fin 64) : inRe dy d (ix2 r (col g p)) = X.ctRe g p (256 * j + r.val) := by
  rw [inRe_at, sum_tok hu (b := fun i k => d (ix4 0 0 i k)) hd.1 r g p]; rfl
theorem inIm_val (hu : IsTok X.DY j dy) (hd : IsMat (fun g p h => X.CR g h p) (fun g p h => -X.CI g h p) d) (r : Fin 256) (g : Fin 32) (p : Fin 64) : inIm dy d (ix2 r (col g p)) = X.ctIm g p (256 * j + r.val) := by
  rw [inIm_at, sum_tok hu (b := fun i k => d (ix4 0 1 i k)) hd.2 r g p]; rfl

/-- The gradients over a tile. -/
theorem tile_val (hj : n + j = 16) (hu : IsTok X.DY j dy) (ha : IsMul X a) (hd : IsMat (fun g p h => X.CR g h p) (fun g p h => -X.CI g h p) d) (hs : Held X n s) (k : ℕ) (hk : k ≤ 256) :
    IsRow (fun g p => X.gr g p (256 * n + k)) (scanB downward (aRe a) (aNeg a) (inRe dy d) (inIm dy d) s k) := fun g p => by
  refine (scanB_at downward _ _ _ _ s (col g p) ((aRe_at a _).trans (ha.1 g p)) ((aNeg_at a _).trans (congrArg (fun a : EReal => -a) (ha.2 g p))) (x := fun i => X.ctRe g p (4351 - (256 * n + i))) (y := fun i => X.ctIm g p (4351 - (256 * n + i)))
    (fun i h hi => (inRe_val hu hd ⟨_, h⟩ g p).trans (congrArg (X.ctRe g p) ?_)) (fun i h hi => (inIm_val hu hd ⟨_, h⟩ g p).trans (congrArg (X.ctIm g p) ?_)) (hs g p) k hk).trans ?_
  · show 256 * j + (255 - i) = _; omega
  · show 256 * j + (255 - i) = _; omega
  · exact rec_add _ _ (fun n => X.ctRe g p (4351 - n)) (fun n => X.ctIm g p (4351 - n)) _ _ k

theorem gRe_val (hj : n + j = 16) (hu : IsTok X.DY j dy) (ha : IsMul X a) (hd : IsMat (fun g p h => X.CR g h p) (fun g p h => -X.CI g h p) d) (hs : Held X n s) (r : Fin 256) (g : Fin 32) (p : Fin 64) :
    gRe dy a d s (ix2 r (col g p)) = (X.gr g p (4352 - (256 * j + r.val))).1 := by
  refine (congrArg Prod.fst (tile_val hj hu ha hd hs (255 - r.val + 1) (by omega) g p)).trans ?_
  dsimp only; congr 2; omega
theorem gIm_val (hj : n + j = 16) (hu : IsTok X.DY j dy) (ha : IsMul X a) (hd : IsMat (fun g p h => X.CR g h p) (fun g p h => -X.CI g h p) d) (hs : Held X n s) (r : Fin 256) (g : Fin 32) (p : Fin 64) :
    gIm dy a d s (ix2 r (col g p)) = (X.gr g p (4352 - (256 * j + r.val))).2 := by
  refine (congrArg Prod.snd (tile_val hj hu ha hd hs (255 - r.val + 1) (by omega) g p)).trans ?_
  dsimp only; congr 2; omega
theorem gEnd_val (hj : n + j = 16) (hu : IsTok X.DY j dy) (ha : IsMul X a) (hd : IsMat (fun g p h => X.CR g h p) (fun g p h => -X.CI g h p) d) (hs : Held X n s) : Held X (n + 1) (gEnd dy a d s) :=
  tile_val hj hu ha hd hs 256 le_rfl

theorem outDu_val (hj : n + j = 16) (hu : IsTok X.DY j dy) (ha : IsMul X a) (hb : IsMat X.BR X.BI b) (hd : IsMat (fun g p h => X.CR g h p) (fun g p h => -X.CI g h p) d) (hs : Held X n s)
    (r : Fin 256) (g : Fin 32) (h : Fin 16) (t : Fin 4352) (ht : t.val = 256 * j + r.val) : outDu (gRe dy a d s) (gIm dy a d s) b (ix2 r (chan g h)) = X.du t g h := by
  rw [outDu_at, sum_sta (x := fun k => gRe dy a d s (ix2 r k)) (gRe_val hj hu ha hd hs r) (b := fun i k => b (ix4 0 0 i k)) hb.1, sum_sta (x := fun k => gIm dy a d s (ix2 r k)) (gIm_val hj hu ha hd hs r) (b := fun i k => b (ix4 0 1 i k)) hb.2]
  unfold Args.du
  rw [ht, add_comm]

/-- A tile's states. -/
def IsStates (X : Args) (j : ℕ) (xr xi : FVec Ideal S256x2048 .f32) : Prop :=
  ∀ r g p, xr (ix2 r (col g p)) = (X.st g p (256 * j + r.val + 1)).1 ∧ xi (ix2 r (col g p)) = (X.st g p (256 * j + r.val + 1)).2

/-- The last row of the states before a tile, if there is one. -/
def IsEdge (X : Args) (j : ℕ) (er ei : FVec Ideal S8x2048 .f32) : Prop :=
  j ≠ 0 → ∀ g p, er (ix2 7 (col g p)) = (X.st g p (256 * j)).1 ∧ ei (ix2 7 (col g p)) = (X.st g p (256 * j)).2

variable {xr xi : Vec Ideal S256x2048 .f32} {er ei : Vec Ideal S8x2048 .f32}

theorem prev_val (hj : n + j = 16) (hx : IsStates X j xr xi) (he : IsEdge X j er ei) (r : Fin 256) (g : Fin 32) (p : Fin 64) :
    prev n xr er r (col g p) = (X.st g p (256 * j + r.val)).1 ∧ prev n xi ei r (col g p) = (X.st g p (256 * j + r.val)).2 := by
  unfold prev
  by_cases h : r.val = 0
  · rw [if_pos h, if_pos h, h, add_zero]
    by_cases h' : n = 16
    · rw [if_pos h', if_pos h']
      obtain rfl : j = 0 := by omega
      exact ⟨rfl, rfl⟩
    · rw [if_neg h', if_neg h']
      exact he (by omega) g p
  · rw [if_neg h, if_neg h]
    have e := hx ⟨r.val - 1, by omega⟩ g p
    rw [show 256 * j + (⟨r.val - 1, by omega⟩ : Fin 256).val + 1 = 256 * j + r.val by dsimp only; omega] at e
    exact e

/-- What a token adds to the sums. -/
def daReAt (X : Args) (g : Fin 32) (p : Fin 64) (t : ℕ) : EReal := (X.gr g p (4352 - t)).2 * (X.st g p t).2 + (X.gr g p (4352 - t)).1 * (X.st g p t).1
def daImAt (X : Args) (g : Fin 32) (p : Fin 64) (t : ℕ) : EReal := (X.gr g p (4352 - t)).2 * (X.st g p t).1 + -(X.gr g p (4352 - t)).1 * (X.st g p t).2
def dbReAt (X : Args) (g : Fin 32) (p : Fin 64) (h : Fin 16) (t : ℕ) : EReal := (X.gr g p (4352 - t)).1 * X.U (tok t) g h
def dbImAt (X : Args) (g : Fin 32) (p : Fin 64) (h : Fin 16) (t : ℕ) : EReal := (X.gr g p (4352 - t)).2 * X.U (tok t) g h
def dcReAt (X : Args) (g : Fin 32) (h : Fin 16) (p : Fin 64) (t : ℕ) : EReal := X.DY (tok t) g h * (X.st g p (t + 1)).1
def dcImAt (X : Args) (g : Fin 32) (h : Fin 16) (p : Fin 64) (t : ℕ) : EReal := X.DY (tok t) g h * (X.st g p (t + 1)).2

theorem outDa_val (i : grid1.Coords) (hi : (i 0).val = n) (hj : n + j = 16) (hu : IsTok X.DY j dy) (ha : IsMul X a) (hd : IsMat (fun g p h => X.CR g h p) (fun g p h => -X.CI g h p) d) (hs : Held X n s)
    (hx : IsStates X j xr xi) (he : IsEdge X j er ei) (o : Vec Ideal S1x2x1x2048 .f32) (g : Fin 32) (p : Fin 64) :
    outDa i xr xi er ei (gRe dy a d s) (gIm dy a d s) o (ix4 0 0 0 (col g p)) = o (ix4 0 0 0 (col g p)) + ∑ r : Fin 256, daReAt X g p (256 * j + r.val)
    ∧ outDa i xr xi er ei (gRe dy a d s) (gIm dy a d s) o (ix4 0 1 0 (col g p)) = o (ix4 0 1 0 (col g p)) + ∑ r : Fin 256, daImAt X g p (256 * j + r.val) := by
  rw [outDa_at0, outDa_at1, hi]
  refine ⟨congrArg (fun a : EReal => _ + a) (Finset.sum_congr rfl fun r _ => ?_), congrArg (fun a : EReal => _ + a) (Finset.sum_congr rfl fun r _ => ?_)⟩
  · rw [gRe_val hj hu ha hd hs, gIm_val hj hu ha hd hs, (prev_val hj hx he r g p).1, (prev_val hj hx he r g p).2, add_comm]; rfl
  · rw [gRe_val hj hu ha hd hs, gIm_val hj hu ha hd hs, (prev_val hj hx he r g p).1, (prev_val hj hx he r g p).2, sub_eq_add_neg, ← EReal.neg_mul]; rfl

theorem col_div (g : Fin 32) (p : Fin 64) : (col g p).val = g.val * 64 + p.val := rfl

/-- An entry of a diagonal block, by the block's number. -/
theorem in_block (g : Fin 32) (h : Fin 16) (p : Fin 64) : ∃ (q : Fin 4) (i : Fin 128) (k : Fin 512), chan g h = ⟨128 * q.val + i.val, by omega⟩ ∧ col g p = ⟨512 * q.val + k.val, by omega⟩ :=
  ⟨⟨g.val / 8, by omega⟩, ⟨g.val % 8 * 16 + h.val, by omega⟩, ⟨g.val % 8 * 64 + p.val, by omega⟩, Fin.ext (by unfold chan; dsimp only; omega), Fin.ext (by unfold col; dsimp only; omega)⟩

theorem outDb_val (hj : n + j = 16) (hu : IsTok X.DY j dy) (hU : IsTok X.U j u) (ha : IsMul X a) (hd : IsMat (fun g p h => X.CR g h p) (fun g p h => -X.CI g h p) d) (hs : Held X n s)
    (o : Vec Ideal S1x2x512x2048 .f32) (g : Fin 32) (p : Fin 64) (h : Fin 16) :
    outDb u (gRe dy a d s) (gIm dy a d s) o (ix4 0 0 (chan g h) (col g p)) = o (ix4 0 0 (chan g h) (col g p)) + ∑ r : Fin 256, dbReAt X g p h (256 * j + r.val)
    ∧ outDb u (gRe dy a d s) (gIm dy a d s) o (ix4 0 1 (chan g h) (col g p)) = o (ix4 0 1 (chan g h) (col g p)) + ∑ r : Fin 256, dbImAt X g p h (256 * j + r.val) := by
  obtain ⟨q, i, k, e1, e2⟩ := in_block g h p
  have f0 := outDb_at u (gRe dy a d s) (gIm dy a d s) o 0 q i k
  have f1 := outDb_at u (gRe dy a d s) (gIm dy a d s) o 1 q i k
  rw [← e1, ← e2] at f0 f1
  refine ⟨f0.trans (congrArg (fun a : EReal => _ + a) (Finset.sum_congr rfl fun r _ => ?_)), f1.trans (congrArg (fun a : EReal => _ + a) (Finset.sum_congr rfl fun r _ => ?_))⟩
  · rw [if_pos rfl, hU, gRe_val hj hu ha hd hs, mul_comm]; rfl
  · rw [if_neg one_ne_zero, hU, gIm_val hj hu ha hd hs, mul_comm]; rfl

theorem outDc_val (hu : IsTok X.DY j dy) (hx : IsStates X j xr xi) (o : Vec Ideal S1x2x512x2048 .f32) (g : Fin 32) (h : Fin 16) (p : Fin 64) :
    outDc dy xr xi o (ix4 0 0 (chan g h) (col g p)) = o (ix4 0 0 (chan g h) (col g p)) + ∑ r : Fin 256, dcReAt X g h p (256 * j + r.val)
    ∧ outDc dy xr xi o (ix4 0 1 (chan g h) (col g p)) = o (ix4 0 1 (chan g h) (col g p)) + ∑ r : Fin 256, dcImAt X g h p (256 * j + r.val) := by
  obtain ⟨q, i, k, e1, e2⟩ := in_block g h p
  have f0 := outDc_at dy xr xi o 0 q i k
  have f1 := outDc_at dy xr xi o 1 q i k
  rw [← e1, ← e2] at f0 f1
  refine ⟨f0.trans (congrArg (fun a : EReal => _ + a) (Finset.sum_congr rfl fun r _ => ?_)), f1.trans (congrArg (fun a : EReal => _ + a) (Finset.sum_congr rfl fun r _ => ?_))⟩
  · rw [if_pos rfl, hu, (hx r g p).1]; rfl
  · rw [if_neg one_ne_zero, hu, (hx r g p).2]; rfl

end Cert.KernelIdeal.Bwd

end
-- ==== Proof.KerHost.lean ====
/-
  The kernel's own operations before, between and after the two calls, read element by element.
-/
module

public import proofs.«01_k».proof.Proof.Gen.KernelIdeal.Launch
public import proofs.«01_k».proof.Proof.KerTile
public import Idealize.ShloMosaic.Lib.StableHlo.RunRead
import Idealize.ShloMosaic.Lib.Pointwise

@[expose] public section

set_option maxRecDepth 16384

noncomputable section

namespace Cert.KernelIdeal.S5Host

open Idealize.ShloMosaic Idealize.ShloMosaic.TcCoe
open Idealize.ShloMosaic.StableHlo (after)
open Cert.KernelIdeal Cert.KernelIdeal.Gen
open Cert.S5
open scoped BigOperators

variable (V : Valuation τ sig (Elt Ideal))

/-- An entry of the mask of groups. -/
theorem mask_at (x g : Fin 32) : @Eq EReal ((FloatOps.uitofp FTy.f32 (IntOp.cmpi CmpIPredicate.eq (BitVec.ofNat 32 x.val) (BitVec.ofNat 32 g.val)) : Ideal .f32)) (if x = g then 1 else 0) := by
  have e : IntOp.cmpi CmpIPredicate.eq (BitVec.ofNat 32 x.val) (BitVec.ofNat 32 g.val) = if x = g then 1#1 else 0#1 := by
    revert x g; decide +kernel
  rw [e]
  split_ifs <;> simp [FloatOps.uitofp]

/-- A masked entry. -/
theorem mul_mask (a : EReal) (x g : Fin 32) : @Eq EReal (a * (FloatOps.uitofp FTy.f32 (IntOp.cmpi CmpIPredicate.eq (BitVec.ofNat 32 x.val) (BitVec.ofNat 32 g.val)) : Ideal .f32)) (if x = g then a else 0) := by
  rw [mask_at]; split_ifs
  · exact mul_one a
  · exact mul_zero a

/-- A sum of masked entries. -/
theorem sum_mask (f : Fin 32 → EReal) (g : Fin 32) : @Eq EReal (∑ x, f x * (FloatOps.uitofp FTy.f32 (IntOp.cmpi CmpIPredicate.eq (BitVec.ofNat 32 x.val) (BitVec.ofNat 32 g.val)) : Ideal .f32)) (f g) := by
  refine (Finset.sum_congr rfl fun x _ => mul_mask (f x) x g).trans ?_
  rw [Finset.sum_ite_eq']; exact if_pos (Finset.mem_univ _)

theorem col_q (g : Fin 32) (p : Fin 64) : (g.val * 64 + p.val) / 64 = g.val := by omega
theorem col_r (g : Fin 32) (p : Fin 64) : (g.val * 64 + p.val) % 64 = p.val := by omega
theorem chan_q (g : Fin 32) (h : Fin 16) : (g.val * 16 + h.val) / 16 = g.val := by omega
theorem chan_r (g : Fin 32) (h : Fin 16) : (g.val * 16 + h.val) % 16 = h.val := by omega

theorem v5_at {AR AI : Fin 32 → Fin 64 → EReal} (h2 : ∀ g p, (V main_arg2 : FVec Ideal S32x64 .f32) (ix2 g p) = AR g p) (h3 : ∀ g p, (V main_arg3 : FVec Ideal S32x64 .f32) (ix2 g p) = AI g p) (g : Fin 32) (p : Fin 64) :
    (after hostOps0 V main_v5 : FVec Ideal S1x2x1x2048 .f32) (ix4 0 0 0 (col g p)) = AR g p ∧ (after hostOps0 V main_v5 : FVec Ideal S1x2x1x2048 .f32) (ix4 0 1 0 (col g p)) = AI g p := by
  unfold col
  constructor <;> (after_reads_simp; (try simp only [id_eq]); pointwise; after_reads_simp; pointwise; simp only [col_q, col_r])
  · exact h2 g p
  · exact h3 g p

theorem v32_at0 {B : Fin 32 → Fin 64 → Fin 16 → EReal} (h : ∀ g p h, (V main_arg4 : FVec Ideal S32x64x16 .f32) (ix3 g p h) = B g p h) (g' : Fin 32) (h' : Fin 16) (g : Fin 32) (p : Fin 64) :
    (after hostOps0 V main_v32 : FVec Ideal S1x2x512x2048 .bf16) (ix4 0 0 (chan g' h') (col g p)) = if g' = g then B g p h' else (0 : EReal) := by
  unfold col chan
  after_reads_simp; (try simp only [id_eq]); pointwise; after_reads_simp; pointwise; simp only [col_q, col_r, chan_q, chan_r]
  exact (mul_mask _ g' g).trans (congrArg (fun a : EReal => if g' = g then a else 0) (h g p h'))

theorem v32_at1 {B : Fin 32 → Fin 64 → Fin 16 → EReal} (h : ∀ g p h, (V main_arg5 : FVec Ideal S32x64x16 .f32) (ix3 g p h) = B g p h) (g' : Fin 32) (h' : Fin 16) (g : Fin 32) (p : Fin 64) :
    (after hostOps0 V main_v32 : FVec Ideal S1x2x512x2048 .bf16) (ix4 0 1 (chan g' h') (col g p)) = if g' = g then B g p h' else (0 : EReal) := by
  unfold col chan
  after_reads_simp; (try simp only [id_eq]); pointwise; after_reads_simp; pointwise; simp only [col_q, col_r, chan_q, chan_r]
  exact (mul_mask _ g' g).trans (congrArg (fun a : EReal => if g' = g then a else 0) (h g p h'))

theorem v60_at0 {B : Fin 32 → Fin 16 → Fin 64 → EReal} (h : ∀ g h p, (V main_arg6 : FVec Ideal S32x16x64 .f32) (ix3 g h p) = B g h p) (g' : Fin 32) (h' : Fin 16) (g : Fin 32) (p : Fin 64) :
    (after hostOps0 V main_v60 : FVec Ideal S1x2x512x2048 .bf16) (ix4 0 0 (chan g' h') (col g p)) = if g' = g then B g h' p else (0 : EReal) := by
  unfold col chan
  after_reads_simp; (try simp only [id_eq]); pointwise; after_reads_simp; pointwise; simp only [col_q, col_r, chan_q, chan_r]
  exact (mul_mask _ g' g).trans (congrArg (fun a : EReal => if g' = g then a else 0) (h g h' p))

theorem v60_at1 {B : Fin 32 → Fin 16 → Fin 64 → EReal} (h : ∀ g h p, (V main_arg7 : FVec Ideal S32x16x64 .f32) (ix3 g h p) = B g h p) (g' : Fin 32) (h' : Fin 16) (g : Fin 32) (p : Fin 64) :
    (after hostOps0 V main_v60 : FVec Ideal S1x2x512x2048 .bf16) (ix4 0 1 (chan g' h') (col g p)) = if g' = g then -B g h' p else (0 : EReal) := by
  unfold col chan
  after_reads_simp; (try simp only [id_eq]); pointwise; after_reads_simp; pointwise; simp only [col_q, col_r, chan_q, chan_r]
  exact (mul_mask _ g' g).trans (congrArg (fun a : EReal => if g' = g then a else 0) (congrArg (fun a : EReal => -a) (h g h' p)))

theorem v68_at (g : Fin 32) (p : Fin 64) : (after hostOps2 V main_v68 : FVec Ideal S32x64 .f32) (ix2 g p) = (V main_v65_1 : FVec Ideal S1x2x1x2048 .f32) (ix4 0 0 0 (col g p)) := by
  unfold col
  after_reads_simp; (try simp only [id_eq]); pointwise

theorem v71_at (g : Fin 32) (p : Fin 64) : (after hostOps2 V main_v71 : FVec Ideal S32x64 .f32) (ix2 g p) = (V main_v65_1 : FVec Ideal S1x2x1x2048 .f32) (ix4 0 1 0 (col g p)) := by
  unfold col
  after_reads_simp; (try simp only [id_eq]); pointwise

theorem v83_at (g : Fin 32) (p : Fin 64) (h : Fin 16) : @Eq EReal ((after hostOps2 V main_v83 : FVec Ideal S32x64x16 .f32) (ix3 g p h)) ((V main_v65_2 : FVec Ideal S1x2x512x2048 .f32) (ix4 0 0 (chan g h) (col g p))) := by
  after_reads_simp; (try simp only [id_eq]); pointwise
  exact sum_mask (fun x => (V main_v65_2 : FVec Ideal S1x2x512x2048 .f32) (ix4 0 0 (chan x h) (col g p))) g

theorem v95_at (g : Fin 32) (p : Fin 64) (h : Fin 16) : @Eq EReal ((after hostOps2 V main_v95 : FVec Ideal S32x64x16 .f32) (ix3 g p h)) ((V main_v65_2 : FVec Ideal S1x2x512x2048 .f32) (ix4 0 1 (chan g h) (col g p))) := by
  after_reads_simp; (try simp only [id_eq]); pointwise
  exact sum_mask (fun x => (V main_v65_2 : FVec Ideal S1x2x512x2048 .f32) (ix4 0 1 (chan x h) (col g p))) g

theorem v107_at (g : Fin 32) (h : Fin 16) (p : Fin 64) : @Eq EReal ((after hostOps2 V main_v107 : FVec Ideal S32x16x64 .f32) (ix3 g h p)) ((V main_v65_3 : FVec Ideal S1x2x512x2048 .f32) (ix4 0 0 (chan g h) (col g p))) := by
  after_reads_simp; (try simp only [id_eq]); pointwise
  exact sum_mask (fun x => (V main_v65_3 : FVec Ideal S1x2x512x2048 .f32) (ix4 0 0 (chan x h) (col g p))) g

theorem v120_at (g : Fin 32) (h : Fin 16) (p : Fin 64) : @Eq EReal ((after hostOps2 V main_v120 : FVec Ideal S32x16x64 .f32) (ix3 g h p)) (@Neg.neg EReal _ ((V main_v65_3 : FVec Ideal S1x2x512x2048 .f32) (ix4 0 1 (chan g h) (col g p)))) := by
  after_reads_simp; (try simp only [id_eq]); pointwise
  exact congrArg (fun a : EReal => -a) (sum_mask (fun x => (V main_v65_3 : FVec Ideal S1x2x512x2048 .f32) (ix4 0 1 (chan x h) (col g p))) g)

end Cert.KernelIdeal.S5Host

end
-- ==== Proof.KerFwd.lean ====
/-
  The arrays the forward call leaves, of the arguments.
-/
module

public import proofs.«01_k».proof.Proof.FwdData
public import proofs.«01_k».proof.Proof.KerTile
public import Idealize.ShloMosaic.Lib.Pipeline.ValueKit.Geometry
import Idealize.ShloMosaic.Lib.Pointwise

@[expose] public section

set_option maxRecDepth 4096

noncomputable section

namespace Cert.S5

open Idealize.ShloMosaic

/-- Every channel is one of a group, every column one of a group. -/
theorem exists_chan (i : Fin 512) : ∃ g h, i = chan g h := ⟨⟨i.val / 16, by omega⟩, ⟨i.val % 16, by omega⟩, Fin.ext (by unfold chan; dsimp only; omega)⟩
theorem exists_col (k : Fin 2048) : ∃ g p, k = col g p := ⟨⟨k.val / 64, by omega⟩, ⟨k.val % 64, by omega⟩, Fin.ext (by unfold col; dsimp only; omega)⟩

end Cert.S5

namespace Cert.KernelIdeal.Fwd

open Idealize.ShloMosaic Idealize.ShloMosaic.TcCoe
open Idealize.ShloMosaic.Pipeline (Dat)
open Cert.KernelIdeal Cert.KernelIdeal.Gen Cert.S5
open scoped BigOperators

theorem index_0 : ∀ t : Fin cfg0.N, win0_0.index t = ![t.val, 0] := (by decide +kernel : ∀ t : Fin grid0.N, win0_0.index t = ![t.val, 0])
theorem index_1 : ∀ t : Fin cfg0.N, win0_1.index t = ![0, 0, 0, 0] := (by decide +kernel : ∀ t : Fin grid0.N, win0_1.index t = ![0, 0, 0, 0])
theorem index_2 : ∀ t : Fin cfg0.N, win0_2.index t = ![0, 0, 0, 0] := (by decide +kernel : ∀ t : Fin grid0.N, win0_2.index t = ![0, 0, 0, 0])
theorem index_3 : ∀ t : Fin cfg0.N, win0_3.index t = ![0, 0, 0, 0] := (by decide +kernel : ∀ t : Fin grid0.N, win0_3.index t = ![0, 0, 0, 0])
theorem index_4 : ∀ t : Fin cfg0.N, win0_4.index t = ![t.val, 0] := (by decide +kernel : ∀ t : Fin grid0.N, win0_4.index t = ![t.val, 0])
theorem index_5 : ∀ t : Fin cfg0.N, win0_5.index t = ![t.val, 0] := (by decide +kernel : ∀ t : Fin grid0.N, win0_5.index t = ![t.val, 0])
theorem index_6 : ∀ t : Fin cfg0.N, win0_6.index t = ![t.val, 0] := (by decide +kernel : ∀ t : Fin grid0.N, win0_6.index t = ![t.val, 0])

variable (W : Dev nD → Valuation τ sig (Elt Ideal)) (c : Dev nD) {X : Args}

theorem lt_17 (t : Fin cfg0.N) : t.val < 17 := Nat.lt_of_lt_of_eq t.isLt N_0

theorem iblk_0 (t : Fin cfg0.N) (r : Fin 256) (i : Fin 512) :
    (iblk W c 0 t : Vec Ideal S256x512 .f32) (ix2 r i) = (W c (Proc.devRef .tc main_arg0) : FVec Ideal S4352x3072 .f32) (ix2 ⟨256 * t.val + r.val, by have := lt_17 t; omega⟩ ⟨i.val, by omega⟩) := by
  unfold iblk
  have := lt_17 t
  blk_ext [index_0]

theorem iblk_1 (t : Fin cfg0.N) : (iblk W c 1 t : Vec Ideal S1x2x1x2048 .f32) = W c (Proc.devRef .tc main_v5) := by
  funext i; unfold iblk; blk_ext [index_1]
theorem iblk_2 (t : Fin cfg0.N) : (iblk W c 2 t : Vec Ideal S1x2x512x2048 .bf16) = W c (Proc.devRef .tc main_v32) := by
  funext i; unfold iblk; blk_ext [index_2]
theorem iblk_3 (t : Fin cfg0.N) : (iblk W c 3 t : Vec Ideal S1x2x512x2048 .bf16) = W c (Proc.devRef .tc main_v60) := by
  funext i; unfold iblk; blk_ext [index_3]

theorem pay18_at (k : Fin 2048) : (k0_pay18 : FVec Ideal S1x2048 .f32) (ix2 0 k) = (0 : EReal) := by unfold k0_pay18; pointwise
theorem pay19_at (k : Fin 2048) : (k0_pay19 : FVec Ideal S1x2048 .f32) (ix2 0 k) = (0 : EReal) := by unfold k0_pay19; pointwise

variable (hu : ∀ t g h, (W c (Proc.devRef .tc main_arg0) : FVec Ideal S4352x3072 .f32) (ix2 t ⟨(chan g h).val, chan_lt g h⟩) = X.U t g h)
  (ha : IsMul X (W c (Proc.devRef .tc main_v5))) (hb : IsMat X.BR X.BI (W c (Proc.devRef .tc main_v32)))
  (hd : IsMat (fun g p h => X.CR g h p) (fun g p h => -X.CI g h p) (W c (Proc.devRef .tc main_v60)))

include hu in
theorem tok_0 (t : Fin cfg0.N) : IsTok X.U t.val (iblk W c 0 t) := fun r g h => by
  rw [iblk_0, hu]
  exact congrArg (fun t => X.U t g h) (tok_val _).symm

include hu ha hb in
theorem carry_val (n : ℕ) (hn : n ≤ cfg0.N) : IsRow (fun g p => X.st g p (256 * n)) (carry W c n hn) := by
  induction n with
  | zero => exact fun g p => Prod.ext (pay18_at (col g p)) (pay19_at (col g p))
  | succ n ih =>
    rw [carry_succ W c ⟨n, hn⟩, iblk_1, iblk_2]
    exact tileEnd_val (tok_0 W c hu ⟨n, hn⟩) ha hb (ih (Nat.le_of_succ_le hn))

theorem emb_4 (t : Fin cfg0.N) (y : ((cfg0.win 4).xblock (cfg0.grid.coords t)).Idx) : ∃ (r : Fin 256) (k : Fin 2048), y = (ix2 r k : S256x2048.Idx) ∧ ((((cfg0.win 4).blk t).view.emb y) 0).val = 256 * t.val + r.val ∧ ((((cfg0.win 4).blk t).view.emb y) 1).val = k.val := by
  refine ⟨y 0, y 1, ?_, ?_, ?_⟩
  · funext a; fin_cases a <;> rfl
  · blk_simp [index_4]; show t.val * 256 + (y 0).val = _; omega
  · blk_simp [index_4]
theorem emb_5 (t : Fin cfg0.N) (y : ((cfg0.win 5).xblock (cfg0.grid.coords t)).Idx) : ∃ (r : Fin 256) (k : Fin 2048), y = (ix2 r k : S256x2048.Idx) ∧ ((((cfg0.win 5).blk t).view.emb y) 0).val = 256 * t.val + r.val ∧ ((((cfg0.win 5).blk t).view.emb y) 1).val = k.val := by
  refine ⟨y 0, y 1, ?_, ?_, ?_⟩
  · funext a; fin_cases a <;> rfl
  · blk_simp [index_5]; show t.val * 256 + (y 0).val = _; omega
  · blk_simp [index_5]
theorem emb_6 (t : Fin cfg0.N) (y : ((cfg0.win 6).xblock (cfg0.grid.coords t)).Idx) : ∃ (r : Fin 256) (k : Fin 512), y = (ix2 r k : S256x512.Idx) ∧ ((((cfg0.win 6).blk t).view.emb y) 0).val = 256 * t.val + r.val ∧ ((((cfg0.win 6).blk t).view.emb y) 1).val = k.val := by
  refine ⟨y 0, y 1, ?_, ?_, ?_⟩
  · funext a; fin_cases a <;> rfl
  · blk_simp [index_6]; show t.val * 256 + (y 0).val = _; omega
  · blk_simp [index_6]

include hu ha hb in
/-- The states, -/
theorem arr_4 (i : Fin 4352) (g : Fin 32) (p : Fin 64) : ((dat W c).arrAt 4 cfg0.N : FVec Ideal S4352x2048 .f32) (ix2 i (col g p)) = (X.st g p (i.val + 1)).1 := by
  refine (dat W c).arrAt_forall_of_covers 4 (fun j v => ∀ g p, (j 1).val = (col g p).val → v = (X.st g p ((j 0).val + 1)).1) (by decide +kernel) (fun t hf y g p hk => ?_) (ix2 i (col g p)) (Memref.isWhole_whole _) g p rfl
  obtain ⟨r, k, rfl, e0, e1⟩ := emb_4 t y
  obtain rfl : k = col g p := Fin.ext (e1.symm.trans hk)
  rw [after_4, iblk_1, iblk_2, e0]
  exact tileRe_val (tok_0 W c hu t) ha hb (carry_val W c hu ha hb t.val _) r g p

include hu ha hb in
theorem arr_5 (i : Fin 4352) (g : Fin 32) (p : Fin 64) : ((dat W c).arrAt 5 cfg0.N : FVec Ideal S4352x2048 .f32) (ix2 i (col g p)) = (X.st g p (i.val + 1)).2 := by
  refine (dat W c).arrAt_forall_of_covers 5 (fun j v => ∀ g p, (j 1).val = (col g p).val → v = (X.st g p ((j 0).val + 1)).2) (by decide +kernel) (fun t hf y g p hk => ?_) (ix2 i (col g p)) (Memref.isWhole_whole _) g p rfl
  obtain ⟨r, k, rfl, e0, e1⟩ := emb_5 t y
  obtain rfl : k = col g p := Fin.ext (e1.symm.trans hk)
  rw [after_5, iblk_1, iblk_2, e0]
  exact tileIm_val (tok_0 W c hu t) ha hb (carry_val W c hu ha hb t.val _) r g p

include hu ha hb hd in
/-- and the output. -/
theorem arr_6 (i : Fin 4352) (g : Fin 32) (h : Fin 16) : ((dat W c).arrAt 6 cfg0.N : FVec Ideal S4352x512 .f32) (ix2 i (chan g h)) = X.y i g h := by
  refine (dat W c).arrAt_forall_of_covers 6 (fun j v => ∀ i g h, (j 0).val = i.val → (j 1).val = (chan g h).val → v = X.y i g h) (by decide +kernel) (fun t hf y i g h hi hk => ?_) (ix2 i (chan g h)) (Memref.isWhole_whole _) i g h rfl rfl
  obtain ⟨r, k, rfl, e0, e1⟩ := emb_6 t y
  obtain rfl : k = chan g h := Fin.ext (e1.symm.trans hk)
  rw [after_6, iblk_1, iblk_2, iblk_3]
  exact outY_val (tok_0 W c hu t) ha hb hd (carry_val W c hu ha hb t.val _) r g h i (hi.symm.trans e0)

end Cert.KernelIdeal.Fwd

end
-- ==== Proof.KerBwd.lean ====
/-
  The arrays the backward call leaves, of the arguments and of the states the forward call left.
-/
module

public import proofs.«01_k».proof.Proof.BwdData
public import proofs.«01_k».proof.Proof.KerTile
public import Idealize.ShloMosaic.Lib.Pipeline.ValueKit.Geometry
import Idealize.ShloMosaic.Lib.Pointwise

@[expose] public section

set_option maxRecDepth 4096

noncomputable section

namespace Cert.KernelIdeal.Bwd

open Idealize.ShloMosaic Idealize.ShloMosaic.TcCoe
open Idealize.ShloMosaic.Pipeline (Dat)
open Cert.KernelIdeal Cert.KernelIdeal.Gen Cert.S5
open scoped BigOperators

theorem index_0 : ∀ t : Fin cfg1.N, win1_0.index t = ![16 - t.val, 0] := (by decide +kernel : ∀ t : Fin grid1.N, win1_0.index t = ![16 - t.val, 0])
theorem index_1 : ∀ t : Fin cfg1.N, win1_1.index t = ![16 - t.val, 0] := (by decide +kernel : ∀ t : Fin grid1.N, win1_1.index t = ![16 - t.val, 0])
theorem index_2 : ∀ t : Fin cfg1.N, win1_2.index t = ![16 - t.val, 0] := (by decide +kernel : ∀ t : Fin grid1.N, win1_2.index t = ![16 - t.val, 0])
theorem index_3 : ∀ t : Fin cfg1.N, win1_3.index t = ![16 - t.val, 0] := (by decide +kernel : ∀ t : Fin grid1.N, win1_3.index t = ![16 - t.val, 0])
theorem index_4 : ∀ t : Fin cfg1.N, win1_4.index t = ![32 * (16 - t.val) - 1, 0] := (by decide +kernel : ∀ t : Fin grid1.N, win1_4.index t = ![32 * (16 - t.val) - 1, 0])
theorem index_5 : ∀ t : Fin cfg1.N, win1_5.index t = ![32 * (16 - t.val) - 1, 0] := (by decide +kernel : ∀ t : Fin grid1.N, win1_5.index t = ![32 * (16 - t.val) - 1, 0])
theorem index_6 : ∀ t : Fin cfg1.N, win1_6.index t = ![0, 0, 0, 0] := (by decide +kernel : ∀ t : Fin grid1.N, win1_6.index t = ![0, 0, 0, 0])
theorem index_7 : ∀ t : Fin cfg1.N, win1_7.index t = ![0, 0, 0, 0] := (by decide +kernel : ∀ t : Fin grid1.N, win1_7.index t = ![0, 0, 0, 0])
theorem index_8 : ∀ t : Fin cfg1.N, win1_8.index t = ![0, 0, 0, 0] := (by decide +kernel : ∀ t : Fin grid1.N, win1_8.index t = ![0, 0, 0, 0])
theorem index_9 : ∀ t : Fin cfg1.N, win1_9.index t = ![16 - t.val, 0] := (by decide +kernel : ∀ t : Fin grid1.N, win1_9.index t = ![16 - t.val, 0])
theorem index_10 : ∀ t : Fin cfg1.N, win1_10.index t = ![0, 0, 0, 0] := (by decide +kernel : ∀ t : Fin grid1.N, win1_10.index t = ![0, 0, 0, 0])
theorem index_11 : ∀ t : Fin cfg1.N, win1_11.index t = ![0, 0, 0, 0] := (by decide +kernel : ∀ t : Fin grid1.N, win1_11.index t = ![0, 0, 0, 0])
theorem index_12 : ∀ t : Fin cfg1.N, win1_12.index t = ![0, 0, 0, 0] := (by decide +kernel : ∀ t : Fin grid1.N, win1_12.index t = ![0, 0, 0, 0])

variable (W : Dev nD → Valuation τ sig (Elt Ideal)) (c : Dev nD) {X : Args}

theorem lt_17 (t : Fin cfg1.N) : t.val < 17 := Nat.lt_of_lt_of_eq t.isLt N_1

theorem coord_val (t : Fin cfg1.N) : (grid1.coords t 0).val = t.val := by
  have h := lt_17 t
  exact (Pipeline.Grid.coords_val t 0 (by decide) rfl : (grid1.coords t 0).val = t.val / 1 % 17).trans (by omega)

theorem iblk_0 (t : Fin cfg1.N) (r : Fin 256) (i : Fin 512) :
    (iblk W c 0 t : Vec Ideal S256x512 .f32) (ix2 r i) = (W c (Proc.devRef .tc main_arg0) : FVec Ideal S4352x3072 .f32) (ix2 ⟨256 * (16 - t.val) + r.val, by omega⟩ ⟨i.val, by omega⟩) := by
  unfold iblk
  blk_ext [index_0]
theorem iblk_1 (t : Fin cfg1.N) (r : Fin 256) (i : Fin 512) :
    (iblk W c 1 t : Vec Ideal S256x512 .f32) (ix2 r i) = (W c (Proc.devRef .tc main_arg1) : FVec Ideal S4352x512 .f32) (ix2 ⟨256 * (16 - t.val) + r.val, by omega⟩ i) := by
  unfold iblk
  blk_ext [index_1]
theorem iblk_2 (t : Fin cfg1.N) (r : Fin 256) (i : Fin 2048) :
    (iblk W c 2 t : Vec Ideal S256x2048 .f32) (ix2 r i) = (W c (Proc.devRef .tc main_v61_0) : FVec Ideal S4352x2048 .f32) (ix2 ⟨256 * (16 - t.val) + r.val, by omega⟩ i) := by
  unfold iblk
  blk_ext [index_2]
theorem iblk_3 (t : Fin cfg1.N) (r : Fin 256) (i : Fin 2048) :
    (iblk W c 3 t : Vec Ideal S256x2048 .f32) (ix2 r i) = (W c (Proc.devRef .tc main_v61_1) : FVec Ideal S4352x2048 .f32) (ix2 ⟨256 * (16 - t.val) + r.val, by omega⟩ i) := by
  unfold iblk
  blk_ext [index_3]
theorem iblk_4 (t : Fin cfg1.N) (ht : t.val ≠ 16) (i : Fin 2048) :
    (iblk W c 4 t : Vec Ideal S8x2048 .f32) (ix2 7 i) = (W c (Proc.devRef .tc main_v61_0) : FVec Ideal S4352x2048 .f32) (ix2 ⟨256 * (16 - t.val) - 1, by omega⟩ i) := by
  have := lt_17 t
  unfold iblk
  blk_ext [index_4]
theorem iblk_5 (t : Fin cfg1.N) (ht : t.val ≠ 16) (i : Fin 2048) :
    (iblk W c 5 t : Vec Ideal S8x2048 .f32) (ix2 7 i) = (W c (Proc.devRef .tc main_v61_1) : FVec Ideal S4352x2048 .f32) (ix2 ⟨256 * (16 - t.val) - 1, by omega⟩ i) := by
  have := lt_17 t
  unfold iblk
  blk_ext [index_5]
theorem iblk_6 (t : Fin cfg1.N) : (iblk W c 6 t : Vec Ideal S1x2x1x2048 .f32) = W c (Proc.devRef .tc main_v5) := by
  funext i; unfold iblk; blk_ext [index_6]
theorem iblk_7 (t : Fin cfg1.N) : (iblk W c 7 t : Vec Ideal S1x2x512x2048 .bf16) = W c (Proc.devRef .tc main_v32) := by
  funext i; unfold iblk; blk_ext [index_7]
theorem iblk_8 (t : Fin cfg1.N) : (iblk W c 8 t : Vec Ideal S1x2x512x2048 .bf16) = W c (Proc.devRef .tc main_v60) := by
  funext i; unfold iblk; blk_ext [index_8]

theorem pay33_at (k : Fin 2048) : (k1_pay33 : FVec Ideal S1x2048 .f32) (ix2 0 k) = (0 : EReal) := by unfold k1_pay33; pointwise
theorem pay34_at (k : Fin 2048) : (k1_pay34 : FVec Ideal S1x2048 .f32) (ix2 0 k) = (0 : EReal) := by unfold k1_pay34; pointwise
theorem pay35_at (z : Fin 2) (k : Fin 2048) : (k1_pay35 : FVec Ideal S1x2x1x2048 .f32) (ix4 0 z 0 k) = (0 : EReal) := by unfold k1_pay35; pointwise
theorem pay36_at (z : Fin 2) (i : Fin 512) (k : Fin 2048) : (k1_pay36 : FVec Ideal S1x2x512x2048 .f32) (ix4 0 z i k) = (0 : EReal) := by unfold k1_pay36; pointwise
theorem pay37_at (z : Fin 2) (i : Fin 512) (k : Fin 2048) : (k1_pay37 : FVec Ideal S1x2x512x2048 .f32) (ix4 0 z i k) = (0 : EReal) := by unfold k1_pay37; pointwise

/-- What the last `n` tiles add to a sum. -/
def part (f : ℕ → EReal) (n : ℕ) : EReal := ∑ s ∈ Finset.range n, ∑ r : Fin 256, f (256 * (16 - s) + r.val)

theorem part_zero (f : ℕ → EReal) : part f 0 = 0 := rfl
theorem part_succ (f : ℕ → EReal) (n : ℕ) : part f (n + 1) = part f n + ∑ r : Fin 256, f (256 * (16 - n) + r.val) := Finset.sum_range_succ _ _
theorem part_all (f : ℕ → EReal) : part f 17 = ∑ t : Fin 4352, f t.val := sum_tiles_down f

/-- The three sums the call carries, after `n` tiles. -/
def IsDa (X : Args) (n : ℕ) (o : Vec Ideal S1x2x1x2048 .f32) : Prop :=
  ∀ g p, o (ix4 0 0 0 (col g p)) = part (daReAt X g p) n ∧ o (ix4 0 1 0 (col g p)) = part (daImAt X g p) n
def IsDb (X : Args) (n : ℕ) (o : Vec Ideal S1x2x512x2048 .f32) : Prop :=
  ∀ g p h, o (ix4 0 0 (chan g h) (col g p)) = part (dbReAt X g p h) n ∧ o (ix4 0 1 (chan g h) (col g p)) = part (dbImAt X g p h) n
def IsDc (X : Args) (n : ℕ) (o : Vec Ideal S1x2x512x2048 .f32) : Prop :=
  ∀ g h p, o (ix4 0 0 (chan g h) (col g p)) = part (dcReAt X g h p) n ∧ o (ix4 0 1 (chan g h) (col g p)) = part (dcImAt X g h p) n

variable (hu : ∀ t g h, (W c (Proc.devRef .tc main_arg0) : FVec Ideal S4352x3072 .f32) (ix2 t ⟨(chan g h).val, chan_lt g h⟩) = X.U t g h)
  (hy : ∀ t g h, (W c (Proc.devRef .tc main_arg1) : FVec Ideal S4352x512 .f32) (ix2 t (chan g h)) = X.DY t g h)
  (hr : ∀ t g p, (W c (Proc.devRef .tc main_v61_0) : FVec Ideal S4352x2048 .f32) (ix2 t (col g p)) = (X.st g p (t.val + 1)).1)
  (hi : ∀ t g p, (W c (Proc.devRef .tc main_v61_1) : FVec Ideal S4352x2048 .f32) (ix2 t (col g p)) = (X.st g p (t.val + 1)).2)
  (ha : IsMul X (W c (Proc.devRef .tc main_v5))) (hb : IsMat X.BR X.BI (W c (Proc.devRef .tc main_v32)))
  (hd : IsMat (fun g p h => X.CR g h p) (fun g p h => -X.CI g h p) (W c (Proc.devRef .tc main_v60)))

include hu in
theorem tok_0 (t : Fin cfg1.N) : IsTok X.U (16 - t.val) (iblk W c 0 t) := fun r g h => by
  rw [iblk_0, hu]
  exact congrArg (fun t => X.U t g h) (tok_val _).symm

include hy in
theorem tok_1 (t : Fin cfg1.N) : IsTok X.DY (16 - t.val) (iblk W c 1 t) := fun r g h => by
  rw [iblk_1, hy]
  exact congrArg (fun t => X.DY t g h) (tok_val _).symm

include hr hi in
theorem states (t : Fin cfg1.N) : IsStates X (16 - t.val) (iblk W c 2 t) (iblk W c 3 t) := fun r g p =>
  ⟨(iblk_2 W c t r _).trans (hr _ g p), (iblk_3 W c t r _).trans (hi _ g p)⟩

include hr hi in
theorem edge (t : Fin cfg1.N) : IsEdge X (16 - t.val) (iblk W c 4 t) (iblk W c 5 t) := fun h g p => by
  have e : 256 * (16 - t.val) - 1 + 1 = 256 * (16 - t.val) := by omega
  have e4 := (iblk_4 W c t (by omega) (col g p)).trans (hr _ g p)
  have e5 := (iblk_5 W c t (by omega) (col g p)).trans (hi _ g p)
  dsimp only at e4 e5
  rw [e] at e4 e5
  exact ⟨e4, e5⟩

include hu hy hr hi ha hd in
theorem carry_val (n : ℕ) (hn : n ≤ cfg1.N) : Held X n (carry W c n hn).1 ∧ IsDa X n (carry W c n hn).2.1 ∧ IsDb X n (carry W c n hn).2.2.1 ∧ IsDc X n (carry W c n hn).2.2.2 := by
  induction n with
  | zero =>
    exact ⟨fun g p => Prod.ext (pay33_at (col g p)) (pay34_at (col g p)), fun g p => ⟨pay35_at 0 (col g p), pay35_at 1 (col g p)⟩,
      fun g p h => ⟨pay36_at 0 (chan g h) (col g p), pay36_at 1 (chan g h) (col g p)⟩, fun g h p => ⟨pay37_at 0 (chan g h) (col g p), pay37_at 1 (chan g h) (col g p)⟩⟩
  | succ n ih =>
    obtain ⟨i1, i2, i3, i4⟩ := ih (Nat.le_of_succ_le hn)
    have hj : n + (16 - n) = 16 := by have := lt_17 ⟨n, hn⟩; dsimp only at this; omega
    have k0 := tok_0 W c hu ⟨n, hn⟩
    have k1 := tok_1 W c hy ⟨n, hn⟩
    have ks := states W c hr hi ⟨n, hn⟩
    have ke := edge W c hr hi ⟨n, hn⟩
    rw [carry_succ W c ⟨n, hn⟩, iblk_6, iblk_8]
    refine ⟨gEnd_val hj k1 ha hd i1, fun g p => ?_, fun g p h => ?_, fun g h p => ?_⟩
    · have e := outDa_val (grid1.coords ⟨n, hn⟩) (coord_val ⟨n, hn⟩) hj k1 ha hd i1 ks ke (carry W c n (Nat.le_of_succ_le hn)).2.1 g p
      rw [(i2 g p).1, (i2 g p).2] at e
      exact ⟨e.1.trans (part_succ _ n).symm, e.2.trans (part_succ _ n).symm⟩
    · have e := outDb_val hj k1 k0 ha hd i1 (carry W c n (Nat.le_of_succ_le hn)).2.2.1 g p h
      rw [(i3 g p h).1, (i3 g p h).2] at e
      exact ⟨e.1.trans (part_succ _ n).symm, e.2.trans (part_succ _ n).symm⟩
    · have e := outDc_val k1 ks (carry W c n (Nat.le_of_succ_le hn)).2.2.2 g h p
      rw [(i4 g h p).1, (i4 g h p).2] at e
      exact ⟨e.1.trans (part_succ _ n).symm, e.2.trans (part_succ _ n).symm⟩

theorem emb_9 (t : Fin cfg1.N) (y : ((cfg1.win 9).xblock (cfg1.grid.coords t)).Idx) : ∃ (r : Fin 256) (k : Fin 512), y = (ix2 r k : S256x512.Idx) ∧ ((((cfg1.win 9).blk t).view.emb y) 0).val = 256 * (16 - t.val) + r.val ∧ ((((cfg1.win 9).blk t).view.emb y) 1).val = k.val := by
  refine ⟨y 0, y 1, ?_, ?_, ?_⟩
  · funext a; fin_cases a <;> rfl
  · blk_simp [index_9]; show (16 - t.val) * 256 + (y 0).val = _; omega
  · blk_simp [index_9]

include hu hy hr hi ha hb hd in
/-- The gradient of the channels, -/
theorem arr_9 (i : Fin 4352) (g : Fin 32) (h : Fin 16) : ((dat W c).arrAt 9 cfg1.N : FVec Ideal S4352x512 .f32) (ix2 i (chan g h)) = X.du i g h := by
  refine (dat W c).arrAt_forall_of_covers 9 (fun j v => ∀ i g h, (j 0).val = i.val → (j 1).val = (chan g h).val → v = X.du i g h) (by decide +kernel) (fun t hf y i g h hI hk => ?_) (ix2 i (chan g h)) (Memref.isWhole_whole _) i g h rfl rfl
  obtain ⟨r, k, rfl, e0, e1⟩ := emb_9 t y
  obtain rfl : k = chan g h := Fin.ext (e1.symm.trans hk)
  have hj : t.val + (16 - t.val) = 16 := by have := lt_17 t; omega
  rw [after_9, iblk_6, iblk_7, iblk_8]
  exact outDu_val hj (tok_1 W c hy t) ha hb hd (carry_val W c hu hy hr hi ha hd t.val _).1 r g h i (hI.symm.trans e0)

/-- The last point. -/
def last : Fin cfg1.N := ⟨16, Nat.lt_of_lt_of_eq (by decide : 16 < 17) N_1.symm⟩

include hu hy hr hi ha hd in
/-- and the three sums over all tokens. -/
theorem arr_10 : IsDa X 17 ((dat W c).arrAt 10 cfg1.N : FVec Ideal S1x2x1x2048 .f32) := by
  have e : ((dat W c).arrAt 10 cfg1.N : FVec Ideal S1x2x1x2048 .f32) = (carry W c 17 (Nat.le_of_eq N_1.symm)).2.1 :=
    (dat W c).arrAt_eq_of_after_last 10 last (by decide +kernel) _ (fun j => by rw [after_10]; rfl) (Memref.isWhole_whole _)
  rw [e]
  exact (carry_val W c hu hy hr hi ha hd 17 _).2.1

include hu hy hr hi ha hd in
theorem arr_11 : IsDb X 17 ((dat W c).arrAt 11 cfg1.N : FVec Ideal S1x2x512x2048 .f32) := by
  have e : ((dat W c).arrAt 11 cfg1.N : FVec Ideal S1x2x512x2048 .f32) = (carry W c 17 (Nat.le_of_eq N_1.symm)).2.2.1 :=
    (dat W c).arrAt_eq_of_after_last 11 last (by decide +kernel) _ (fun j => by rw [after_11]; rfl) (Memref.isWhole_whole _)
  rw [e]
  exact (carry_val W c hu hy hr hi ha hd 17 _).2.2.1

include hu hy hr hi ha hd in
theorem arr_12 : IsDc X 17 ((dat W c).arrAt 12 cfg1.N : FVec Ideal S1x2x512x2048 .f32) := by
  have e : ((dat W c).arrAt 12 cfg1.N : FVec Ideal S1x2x512x2048 .f32) = (carry W c 17 (Nat.le_of_eq N_1.symm)).2.2.2 :=
    (dat W c).arrAt_eq_of_after_last 12 last (by decide +kernel) _ (fun j => by rw [after_12]; rfl) (Memref.isWhole_whole _)
  rw [e]
  exact (carry_val W c hu hy hr hi ha hd 17 _).2.2.2

end Cert.KernelIdeal.Bwd

end
-- ==== Proof.KerVal.lean ====
/-
  The kernel's results, element by element, of its arguments.
-/
module

public import proofs.«01_k».proof.Proof.Run
public import proofs.«01_k».proof.Proof.KerHost
public import proofs.«01_k».proof.Proof.KerFwd
public import proofs.«01_k».proof.Proof.KerBwd

@[expose] public section

set_option maxRecDepth 4096

noncomputable section

namespace Cert.KernelIdeal.S5Run

open Idealize.ShloMosaic Idealize.ShloMosaic.TcCoe
open Cert.KernelIdeal Cert.KernelIdeal.Gen Cert.KernelIdeal.S5Host Cert.S5
open scoped BigOperators

variable (m : (ℓ : Loc nD τ sig) → Buf (Elt Ideal) ℓ) (c : Dev nD)

/-- The arguments. -/
def args : Args := .of (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))

/-! ## Before the forward call -/

theorem u_1 (t : Fin 4352) (g : Fin 32) (h : Fin 16) : (V1 m c (Proc.devRef .tc main_arg0) : FVec Ideal S4352x3072 .f32) (ix2 t ⟨(chan g h).val, chan_lt g h⟩) = (args m c).U t g h := by
  rw [V1_of m c main_arg0 (by decide)]; rfl
theorem mul_1 : IsMul (args m c) (V1 m c (Proc.devRef .tc main_v5)) :=
  ⟨fun g p => (v5_at (V0 m c) (AR := (args m c).AR) (AI := (args m c).AI) (fun _ _ => rfl) (fun _ _ => rfl) g p).1, fun g p => (v5_at (V0 m c) (AR := (args m c).AR) (AI := (args m c).AI) (fun _ _ => rfl) (fun _ _ => rfl) g p).2⟩
theorem matB_1 : IsMat (args m c).BR (args m c).BI (V1 m c (Proc.devRef .tc main_v32)) :=
  ⟨v32_at0 (V0 m c) (B := (args m c).BR) (fun _ _ _ => rfl), v32_at1 (V0 m c) (B := (args m c).BI) (fun _ _ _ => rfl)⟩
theorem matC_1 : IsMat (fun g p h => (args m c).CR g h p) (fun g p h => -(args m c).CI g h p) (V1 m c (Proc.devRef .tc main_v60)) :=
  ⟨v60_at0 (V0 m c) (B := (args m c).CR) (fun _ _ _ => rfl), v60_at1 (V0 m c) (B := (args m c).CI) (fun _ _ _ => rfl)⟩

/-! ## Before the backward call -/

/-- What neither the forward call nor the clearing writes. -/
theorem V3_V1 (b : Ref sig .tc) (h : b ∉ hostOps1_W) (h' : b ∉ ([main_v61_0, main_v61_1, main_v61_2] : List (Ref sig .tc))) : V3 m (outs2 m) c (Proc.devRef .tc b) = V1 m c (Proc.devRef .tc b) :=
  (V3_of m (outs2 m) c b h).trans (V2_of m (outs2 m) c b h')

/-- What the forward call leaves. -/
theorem V3_A2 (b : Ref sig .tc) (h : b ∉ hostOps1_W) : V3 m (outs2 m) c (Proc.devRef .tc b) = A2 m c (Proc.devRef .tc b) :=
  (V3_of m (outs m) c b h).trans (V2_eq m c b)

theorem u_3 (t : Fin 4352) (g : Fin 32) (h : Fin 16) : (V3 m (outs2 m) c (Proc.devRef .tc main_arg0) : FVec Ideal S4352x3072 .f32) (ix2 t ⟨(chan g h).val, chan_lt g h⟩) = (args m c).U t g h := by
  rw [V3_V1 m c main_arg0 (by decide) (by decide)]; exact u_1 m c t g h
theorem dy_3 (t : Fin 4352) (g : Fin 32) (h : Fin 16) : (V3 m (outs2 m) c (Proc.devRef .tc main_arg1) : FVec Ideal S4352x512 .f32) (ix2 t (chan g h)) = (args m c).DY t g h := by
  rw [V3_V1 m c main_arg1 (by decide) (by decide), V1_of m c main_arg1 (by decide)]; rfl
theorem re_3 (t : Fin 4352) (g : Fin 32) (p : Fin 64) : (V3 m (outs2 m) c (Proc.devRef .tc main_v61_0) : FVec Ideal S4352x2048 .f32) (ix2 t (col g p)) = ((args m c).st g p (t.val + 1)).1 :=
  (congrFun ((V3_A2 m c main_v61_0 (by decide)).trans (arrAt_0 m c 4)) (ix2 t (col g p))).trans (Fwd.arr_4 (V1 m) c (u_1 m c) (mul_1 m c) (matB_1 m c) t g p)
theorem im_3 (t : Fin 4352) (g : Fin 32) (p : Fin 64) : (V3 m (outs2 m) c (Proc.devRef .tc main_v61_1) : FVec Ideal S4352x2048 .f32) (ix2 t (col g p)) = ((args m c).st g p (t.val + 1)).2 :=
  (congrFun ((V3_A2 m c main_v61_1 (by decide)).trans (arrAt_0 m c 5)) (ix2 t (col g p))).trans (Fwd.arr_5 (V1 m) c (u_1 m c) (mul_1 m c) (matB_1 m c) t g p)
theorem mul_3 : IsMul (args m c) (V3 m (outs2 m) c (Proc.devRef .tc main_v5)) := by
  rw [V3_V1 m c main_v5 (by decide) (by decide)]; exact mul_1 m c
theorem matB_3 : IsMat (args m c).BR (args m c).BI (V3 m (outs2 m) c (Proc.devRef .tc main_v32)) := by
  rw [V3_V1 m c main_v32 (by decide) (by decide)]; exact matB_1 m c
theorem matC_3 : IsMat (fun g p h => (args m c).CR g h p) (fun g p h => -(args m c).CI g h p) (V3 m (outs2 m) c (Proc.devRef .tc main_v60)) := by
  rw [V3_V1 m c main_v60 (by decide) (by decide)]; exact matC_1 m c

/-! ## After the backward call -/

theorem sums_10 : Bwd.IsDa (args m c) 17 (V4 m (outs m) c (Proc.devRef .tc main_v65_1)) := by
  rw [(V4_eq m c main_v65_1).trans (arrAt_1 m c 10)]
  exact Bwd.arr_10 (V3 m (outs2 m)) c (u_3 m c) (dy_3 m c) (re_3 m c) (im_3 m c) (mul_3 m c) (matC_3 m c)
theorem sums_11 : Bwd.IsDb (args m c) 17 (V4 m (outs m) c (Proc.devRef .tc main_v65_2)) := by
  rw [(V4_eq m c main_v65_2).trans (arrAt_1 m c 11)]
  exact Bwd.arr_11 (V3 m (outs2 m)) c (u_3 m c) (dy_3 m c) (re_3 m c) (im_3 m c) (mul_3 m c) (matC_3 m c)
theorem sums_12 : Bwd.IsDc (args m c) 17 (V4 m (outs m) c (Proc.devRef .tc main_v65_3)) := by
  rw [(V4_eq m c main_v65_3).trans (arrAt_1 m c 12)]
  exact Bwd.arr_12 (V3 m (outs2 m)) c (u_3 m c) (dy_3 m c) (re_3 m c) (im_3 m c) (mul_3 m c) (matC_3 m c)

/-! ## The results -/

/-- The last buffers. -/
abbrev Z : Valuation τ sig (Elt Ideal) := V5 m (outs m) c

theorem Z_y (t : Fin 4352) (g : Fin 32) (h : Fin 16) : (Z m c (Proc.devRef .tc main_v61_2) : FVec Ideal S4352x512 .f32) (ix2 t (chan g h)) = (args m c).y t g h :=
  (congrFun ((V5_of m (outs m) c main_v61_2 (by decide)).trans ((V4_of m (outs m) c main_v61_2 (by decide)).trans ((V3_A2 m c main_v61_2 (by decide)).trans (arrAt_0 m c 6)))) (ix2 t (chan g h))).trans
    (Fwd.arr_6 (V1 m) c (u_1 m c) (mul_1 m c) (matB_1 m c) (matC_1 m c) t g h)
theorem Z_du (t : Fin 4352) (g : Fin 32) (h : Fin 16) : (Z m c (Proc.devRef .tc main_v65_0) : FVec Ideal S4352x512 .f32) (ix2 t (chan g h)) = (args m c).du t g h :=
  (congrFun ((V5_of m (outs m) c main_v65_0 (by decide)).trans ((V4_eq m c main_v65_0).trans (arrAt_1 m c 9))) (ix2 t (chan g h))).trans
    (Bwd.arr_9 (V3 m (outs2 m)) c (u_3 m c) (dy_3 m c) (re_3 m c) (im_3 m c) (mul_3 m c) (matB_3 m c) (matC_3 m c) t g h)
theorem Z_daRe (g : Fin 32) (p : Fin 64) : (Z m c (Proc.devRef .tc main_v68) : FVec Ideal S32x64 .f32) (ix2 g p) = (args m c).daRe g p :=
  (v68_at (V4 m (outs m) c) g p).trans ((sums_10 m c g p).1.trans ((Bwd.part_all _).trans rfl))
theorem Z_daIm (g : Fin 32) (p : Fin 64) : (Z m c (Proc.devRef .tc main_v71) : FVec Ideal S32x64 .f32) (ix2 g p) = (args m c).daIm g p :=
  (v71_at (V4 m (outs m) c) g p).trans ((sums_10 m c g p).2.trans ((Bwd.part_all _).trans rfl))
theorem Z_dbRe (g : Fin 32) (p : Fin 64) (h : Fin 16) : (Z m c (Proc.devRef .tc main_v83) : FVec Ideal S32x64x16 .f32) (ix3 g p h) = (args m c).dbRe g p h :=
  (v83_at (V4 m (outs m) c) g p h).trans ((sums_11 m c g p h).1.trans ((Bwd.part_all _).trans (Finset.sum_congr rfl fun t _ => by unfold Bwd.dbReAt; rw [tok_val])))
theorem Z_dbIm (g : Fin 32) (p : Fin 64) (h : Fin 16) : (Z m c (Proc.devRef .tc main_v95) : FVec Ideal S32x64x16 .f32) (ix3 g p h) = (args m c).dbIm g p h :=
  (v95_at (V4 m (outs m) c) g p h).trans ((sums_11 m c g p h).2.trans ((Bwd.part_all _).trans (Finset.sum_congr rfl fun t _ => by unfold Bwd.dbImAt; rw [tok_val])))
theorem Z_dcRe (g : Fin 32) (h : Fin 16) (p : Fin 64) : (Z m c (Proc.devRef .tc main_v107) : FVec Ideal S32x16x64 .f32) (ix3 g h p) = (args m c).dcRe g h p :=
  (v107_at (V4 m (outs m) c) g h p).trans ((sums_12 m c g h p).1.trans ((Bwd.part_all _).trans (Finset.sum_congr rfl fun t _ => by unfold Bwd.dcReAt; rw [tok_val])))
theorem Z_dcIm (g : Fin 32) (h : Fin 16) (p : Fin 64) : (Z m c (Proc.devRef .tc main_v120) : FVec Ideal S32x16x64 .f32) (ix3 g h p) = (args m c).dcIm g h p :=
  (v120_at (V4 m (outs m) c) g h p).trans (congrArg (fun a : EReal => -a) ((sums_12 m c g h p).2.trans ((Bwd.part_all _).trans (Finset.sum_congr rfl fun t _ => by unfold Bwd.dcImAt; rw [tok_val]))))

end Cert.KernelIdeal.S5Run

end
-- ==== Proof.RefLoop.lean ====
/-
  What a trip of each of the reference's loops does, as vectors.
-/
module

public import proofs.«01_k».proof.Proof.RefKeep
public import Idealize.ShloMosaic.Lib.Pointwise
public import Idealize.ShloMosaic.Lib.DynamicIndex

@[expose] public section

set_option maxRecDepth 32768

noncomputable section

namespace Cert.ReferenceIdeal.RefRun

open Idealize.ShloMosaic Idealize.ShloMosaic.TcCoe
open Idealize.ShloMosaic.StableHlo (after afterL atTrip launchContents)
open Cert.ReferenceIdeal Cert.ReferenceIdeal.Gen

variable {F : FTy → Type} [FloatOps F]

/-- Where a row starts: at the number `i` of the first axis. -/
def start (i : IVec S_ 32) (k : Fin 3) : Int := ((![i, constantI S_ 32 0#32, constantI S_ 32 0#32] : Fin 3 → IVec S_ 32) k (Shape.Idx.first h_S_)).toInt

/-- The same row, its place read from the one computed number. -/
abbrev rowOps (arg0 : StableHlo.TRef sig ⟨S4352x32x64, .f32⟩) (arg1 : StableHlo.TRef sig ⟨S_, .i32⟩) (φ : fn_dynamic_index_in_dim.Bufs) : List (HloOp τ sig (Elt F)) :=
  [ StableHlo.TRef.nullary φ.c (constantI S_ 32 0#32),
    StableHlo.TRef.nullary φ.c_0 (constantI S_ 32 0#32),
    StableHlo.TRef.binary arg0 arg1 φ.v0 (fun x i => Host.dynamicSlice S1x32x64 x (start i) sliceFits_S4352x32x64_S1x32x64),
    StableHlo.TRef.reshape φ.v0 φ.v1 (rfl : (.f32 : EltTy) = .f32) shapeCasts_S1x32x64_S32x64 ]

/-- The same overwriting, its place read from the one computed number. -/
abbrev setOps (arg0 : StableHlo.TRef sig ⟨S4352x32x64, .f32⟩) (arg1 : StableHlo.TRef sig ⟨S32x64, .f32⟩) (arg2 : StableHlo.TRef sig ⟨S_, .i32⟩) (φ : fn_dynamic_update_index_in_dim.Bufs) : List (HloOp τ sig (Elt F)) :=
  [ StableHlo.TRef.unary arg1 φ.v0 (broadcastInDim S1x32x64 ![1, 2] bcast_S32x64_S1x32x64_1_2),
    StableHlo.TRef.nullary φ.c (constantI S_ 32 0#32),
    StableHlo.TRef.nullary φ.c_0 (constantI S_ 32 0#32),
    StableHlo.TRef.ternary arg0 φ.v0 arg2 φ.v1 (fun x u i => Host.dynamicUpdateSlice x u (start i) updateFits_S4352x32x64_S1x32x64) ]

theorem holds_zero (t : StableHlo.TRef sig ⟨S_, .i32⟩) (W : Valuation τ sig (Elt F)) :
    t.ofBuf ((StableHlo.TRef.nullary (τ := τ) t (constantI S_ 32 0#32)).result W (Proc.devRef .tc t.ref)) = constantI S_ 32 0#32 := by
  rw [StableHlo.nullary_result]; exact StableHlo.TRef.ofBuf_toBuf _ _

theorem holds_zero_ne (s t : StableHlo.TRef sig ⟨S_, .i32⟩) (h : t.ref ≠ s.ref) (W : Valuation τ sig (Elt F)) :
    t.ofBuf ((StableHlo.TRef.nullary (τ := τ) s (constantI S_ 32 0#32)).result W (Proc.devRef .tc t.ref)) = t.ofBuf (W (Proc.devRef .tc t.ref)) := by
  rw [StableHlo.nullary_result_ne]; exact h

theorem starts (W : Valuation τ sig (Elt F)) (i c c0 : StableHlo.TRef sig ⟨S_, .i32⟩) (hc : c.ofBuf (W (Proc.devRef .tc c.ref)) = constantI S_ 32 0#32) (hc0 : c0.ofBuf (W (Proc.devRef .tc c0.ref)) = constantI S_ 32 0#32) :
    (fun k : Fin 3 => ((cast (congrArg (fun U : BufTy => U.Contents (Elt F)) ((![i, c, c0] : Fin 3 → StableHlo.TRef sig ⟨S_, .i32⟩) k).ty_eq) (W (Proc.devRef .tc ((![i, c, c0] : Fin 3 → StableHlo.TRef sig ⟨S_, .i32⟩) k).ref)) : IVec S_ 32) (Shape.Idx.first h_S_)).toInt)
      = start (i.ofBuf (W (Proc.devRef .tc i.ref))) := by
  funext k
  fin_cases k
  · rfl
  · exact congrArg (fun v : IVec S_ 32 => (v (Shape.Idx.first h_S_)).toInt) hc
  · exact congrArg (fun v : IVec S_ 32 => (v (Shape.Idx.first h_S_)).toInt) hc0

theorem index_eq (V : Valuation τ sig (Elt F)) (a : StableHlo.TRef sig ⟨S4352x32x64, .f32⟩) (i : StableHlo.TRef sig ⟨S_, .i32⟩) (φ : fn_dynamic_index_in_dim.Bufs) (h : φ.c.ref ≠ φ.c_0.ref) :
    after (indexOps a i φ) V = after (rowOps a i φ) V := by
  simp only [indexOps, rowOps, StableHlo.after_cons, StableHlo.after_nil]
  refine congrArg (HloOp.result (StableHlo.TRef.reshape φ.v0 φ.v1 (rfl : (.f32 : EltTy) = .f32) shapeCasts_S1x32x64_S32x64)) (funext fun b => ?_)
  by_cases hb : b = Proc.devRef .tc φ.v0.ref
  · subst hb
    rw [StableHlo.unaryIndexed_result, StableHlo.binary_result]
    refine congrArg φ.v0.toBuf (congrArg (fun f => Host.dynamicSlice S1x32x64 _ f sliceFits_S4352x32x64_S1x32x64) (starts _ i φ.c φ.c_0 ?_ (holds_zero _ _)))
    rw [holds_zero_ne _ _ h, holds_zero]
  · exact (HloOp.result_of_not_mem _ _ (fun h => hb (Finset.mem_singleton.mp h))).trans (HloOp.result_of_not_mem _ _ (fun h => hb (Finset.mem_singleton.mp h))).symm

theorem update_eq (V : Valuation τ sig (Elt F)) (a : StableHlo.TRef sig ⟨S4352x32x64, .f32⟩) (u : StableHlo.TRef sig ⟨S32x64, .f32⟩) (i : StableHlo.TRef sig ⟨S_, .i32⟩) (φ : fn_dynamic_update_index_in_dim.Bufs) (h : φ.c.ref ≠ φ.c_0.ref) :
    after (updateOps a u i φ) V = after (setOps a u i φ) V := by
  simp only [updateOps, setOps, StableHlo.after_cons, StableHlo.after_nil]
  funext b
  by_cases hb : b = Proc.devRef .tc φ.v1.ref
  · subst hb
    rw [StableHlo.binaryIndexed_result, StableHlo.ternary_result]
    refine congrArg φ.v1.toBuf (congrArg (fun f => Host.dynamicUpdateSlice _ _ f updateFits_S4352x32x64_S1x32x64) (starts _ i φ.c φ.c_0 ?_ (holds_zero _ _)))
    rw [holds_zero_ne _ _ h, holds_zero]
  · exact (HloOp.result_of_not_mem _ _ (fun h => hb (Finset.mem_singleton.mp h))).trans (HloOp.result_of_not_mem _ _ (fun h => hb (Finset.mem_singleton.mp h))).symm

/-- A row of a stack. -/
def row (x : FVec F S4352x32x64 .f32) (i : IVec S_ 32) : FVec F S32x64 .f32 :=
  shapeCast S32x64 (Host.dynamicSlice S1x32x64 x (start i) sliceFits_S4352x32x64_S1x32x64) shapeCasts_S1x32x64_S32x64

/-- A stack with a row overwritten. -/
def setRow (x : FVec F S4352x32x64 .f32) (u : FVec F S32x64 .f32) (i : IVec S_ 32) : FVec F S4352x32x64 .f32 :=
  Host.dynamicUpdateSlice x (broadcastInDim S1x32x64 ![1, 2] bcast_S32x64_S1x32x64_1_2 u) (start i) updateFits_S4352x32x64_S1x32x64

/-- The state after a step, real part and imaginary part. -/
def nextRe (ar ai sr si x : FVec F S32x64 .f32) : FVec F S32x64 .f32 := addf (subf (mulf ar sr) (mulf ai si)) x
def nextIm (ar ai sr si y : FVec F S32x64 .f32) : FVec F S32x64 .f32 := addf (addf (mulf ar si) (mulf ai sr)) y

variable (V : Valuation τ sig (Elt F))

/-! ## A trip of loop 0 -/

theorem afterL_body0 : afterL body0 V = after body0_1 (after (setOps (.of main_v13_10) (.of main_v13_6) (.of main_v13_4) main_while0b_call7)
    (after (setOps (.of main_v13_9) (.of main_v13_5) (.of main_v13_4) main_while0b_call6) (after (setOps (.of main_v13_8) (.of main_while0b_v63) (.of main_v13_4) main_while0b_call5)
    (after (setOps (.of main_v13_7) (.of main_while0b_v59) (.of main_v13_4) main_while0b_call4) (after body0_0
    (after (rowOps (.of main_v13_3) (.of main_v13_4) main_while0b_call3) (after (rowOps (.of main_v13_2) (.of main_v13_4) main_while0b_call2)
    (after (rowOps (.of main_v13_1) (.of main_v13_4) main_while0b_call1) (after (rowOps (.of main_v13_0) (.of main_v13_4) main_while0b_call0) V))))))))) := by
  simp only [body0, StableHlo.afterL_cons, StableHlo.afterL_nil]
  rw [index_eq _ _ _ main_while0b_call0 (by decide), index_eq _ _ _ main_while0b_call1 (by decide), index_eq _ _ _ main_while0b_call2 (by decide), index_eq _ _ _ main_while0b_call3 (by decide),
    update_eq _ _ _ _ main_while0b_call4 (by decide), update_eq _ _ _ _ main_while0b_call5 (by decide), update_eq _ _ _ _ main_while0b_call6 (by decide), update_eq _ _ _ _ main_while0b_call7 (by decide)]

/-- The state after a step of loop 0. -/
def st0Re : FVec F S32x64 .f32 := nextRe (row (V main_v13_0) (V main_v13_4)) (row (V main_v13_1) (V main_v13_4)) (V main_v13_5) (V main_v13_6) (row (V main_v13_2) (V main_v13_4))
def st0Im : FVec F S32x64 .f32 := nextIm (row (V main_v13_0) (V main_v13_4)) (row (V main_v13_1) (V main_v13_4)) (V main_v13_5) (V main_v13_6) (row (V main_v13_3) (V main_v13_4))

theorem trip0_5 : afterL body0 (after cond0 V) main_v13_5 = st0Re V := by
  rw [afterL_body0]; after_reads_simp; rfl
theorem trip0_6 : afterL body0 (after cond0 V) main_v13_6 = st0Im V := by
  rw [afterL_body0]; after_reads_simp; rfl
theorem trip0_7 : afterL body0 (after cond0 V) main_v13_7 = setRow (V main_v13_7) (st0Re V) (V main_v13_4) := by
  rw [afterL_body0]; after_reads_simp; rfl
theorem trip0_8 : afterL body0 (after cond0 V) main_v13_8 = setRow (V main_v13_8) (st0Im V) (V main_v13_4) := by
  rw [afterL_body0]; after_reads_simp; rfl
theorem trip0_9 : afterL body0 (after cond0 V) main_v13_9 = setRow (V main_v13_9) (V main_v13_5) (V main_v13_4) := by
  rw [afterL_body0]; after_reads_simp; rfl
theorem trip0_10 : afterL body0 (after cond0 V) main_v13_10 = setRow (V main_v13_10) (V main_v13_6) (V main_v13_4) := by
  rw [afterL_body0]; after_reads_simp; rfl

/-! ## A trip of loop 1 -/

/-- What a trip of loop 1 does once it has computed the row it is at. -/
abbrev rest1 (U : Valuation τ sig (Elt F)) : Valuation τ sig (Elt F) :=
  after body1_2 (after (setOps (.of main_v39_12) (.of main_while1b_v61) (.of main_while1b_v53) main_while1b_call17)
    (after (setOps (.of main_v39_11) (.of main_while1b_v60) (.of main_while1b_v53) main_while1b_call16)
    (after (setOps (.of main_v39_10) (.of main_while1b_v70) (.of main_while1b_v53) main_while1b_call15)
    (after (setOps (.of main_v39_9) (.of main_while1b_v74) (.of main_while1b_v53) main_while1b_call14)
    (after body1_1 (after (rowOps (.of main_v39_5) (.of main_while1b_v53) main_while1b_call13)
    (after (rowOps (.of main_v39_4) (.of main_while1b_v53) main_while1b_call12)
    (after (rowOps (.of main_v39_3) (.of main_while1b_v53) main_while1b_call11)
    (after (rowOps (.of main_v39_2) (.of main_while1b_v53) main_while1b_call10)
    (after (rowOps (.of main_v39_1) (.of main_while1b_v53) main_while1b_call9)
    (after (rowOps (.of main_v39_0) (.of main_while1b_v53) main_while1b_call8)
    U)))))))))))

theorem afterL_body1 : afterL body1 V = rest1 (after body1_0 V) := by
  simp only [body1, StableHlo.afterL_cons, StableHlo.afterL_nil]
  rw [index_eq _ _ _ main_while1b_call8 (by decide),
    index_eq _ _ _ main_while1b_call9 (by decide),
    index_eq _ _ _ main_while1b_call10 (by decide),
    index_eq _ _ _ main_while1b_call11 (by decide),
    index_eq _ _ _ main_while1b_call12 (by decide),
    index_eq _ _ _ main_while1b_call13 (by decide),
    update_eq _ _ _ _ main_while1b_call14 (by decide),
    update_eq _ _ _ _ main_while1b_call15 (by decide),
    update_eq _ _ _ _ main_while1b_call16 (by decide),
    update_eq _ _ _ _ main_while1b_call17 (by decide)]

/-- The gradient that reaches a step, from the row's and what the later steps pass on. -/
def g1Re (i : IVec S_ 32) : FVec F S32x64 .f32 := addf (V main_v39_7) (row (V main_v39_0) i)
def g1Im (i : IVec S_ 32) : FVec F S32x64 .f32 := addf (V main_v39_8) (row (V main_v39_1) i)
def pass1Re (i : IVec S_ 32) : FVec F S32x64 .f32 := addf (mulf (row (V main_v39_5) i) (g1Im V i)) (mulf (row (V main_v39_3) i) (g1Re V i))
def pass1Im (i : IVec S_ 32) : FVec F S32x64 .f32 := addf (mulf (row (V main_v39_3) i) (g1Im V i)) (mulf (row (V main_v39_5) i) (Host.negf (g1Re V i)))
def da1Re (i : IVec S_ 32) : FVec F S32x64 .f32 := addf (mulf (g1Im V i) (row (V main_v39_4) i)) (mulf (g1Re V i) (row (V main_v39_2) i))
def da1Im (i : IVec S_ 32) : FVec F S32x64 .f32 := addf (mulf (g1Im V i) (row (V main_v39_2) i)) (mulf (Host.negf (g1Re V i)) (row (V main_v39_4) i))

theorem rest1_7 : rest1 V main_v39_7 = pass1Re V (V main_while1b_v53) := by
  after_reads_simp; rfl
theorem rest1_8 : rest1 V main_v39_8 = pass1Im V (V main_while1b_v53) := by
  after_reads_simp; rfl
theorem rest1_9 : rest1 V main_v39_9 = setRow (V main_v39_9) (da1Re V (V main_while1b_v53)) (V main_while1b_v53) := by
  after_reads_simp; rfl
theorem rest1_10 : rest1 V main_v39_10 = setRow (V main_v39_10) (da1Im V (V main_while1b_v53)) (V main_while1b_v53) := by
  after_reads_simp; rfl
theorem rest1_11 : rest1 V main_v39_11 = setRow (V main_v39_11) (g1Re V (V main_while1b_v53)) (V main_while1b_v53) := by
  after_reads_simp; rfl
theorem rest1_12 : rest1 V main_v39_12 = setRow (V main_v39_12) (g1Im V (V main_while1b_v53)) (V main_while1b_v53) := by
  after_reads_simp; rfl

/-- The row loop 1 is at: it goes from the last to the first. -/
def at1 : IVec S_ 32 := subi (subi (constantI S_ 32 4352#32) (V main_v39_6)) (constantI S_ 32 1#32)

/-- The valuation once the row is computed. -/
def in1 : Valuation τ sig (Elt F) := after body1_0 (after cond1 V)

theorem trip1 : afterL body1 (after cond1 V) = rest1 (in1 V) := afterL_body1 _

theorem in1_at : in1 V main_while1b_v53 = at1 V := by unfold in1; after_reads_simp; rfl
theorem in1_0 : in1 V main_v39_0 = V main_v39_0 := by unfold in1; after_reads_simp
theorem in1_1 : in1 V main_v39_1 = V main_v39_1 := by unfold in1; after_reads_simp
theorem in1_2 : in1 V main_v39_2 = V main_v39_2 := by unfold in1; after_reads_simp
theorem in1_3 : in1 V main_v39_3 = V main_v39_3 := by unfold in1; after_reads_simp
theorem in1_4 : in1 V main_v39_4 = V main_v39_4 := by unfold in1; after_reads_simp
theorem in1_5 : in1 V main_v39_5 = V main_v39_5 := by unfold in1; after_reads_simp
theorem in1_7 : in1 V main_v39_7 = V main_v39_7 := by unfold in1; after_reads_simp
theorem in1_8 : in1 V main_v39_8 = V main_v39_8 := by unfold in1; after_reads_simp
theorem in1_9 : in1 V main_v39_9 = V main_v39_9 := by unfold in1; after_reads_simp
theorem in1_10 : in1 V main_v39_10 = V main_v39_10 := by unfold in1; after_reads_simp
theorem in1_11 : in1 V main_v39_11 = V main_v39_11 := by unfold in1; after_reads_simp
theorem in1_12 : in1 V main_v39_12 = V main_v39_12 := by unfold in1; after_reads_simp

theorem trip1_7 : afterL body1 (after cond1 V) main_v39_7 = pass1Re V (at1 V) := by
  rw [trip1, rest1_7]
  unfold pass1Re g1Re g1Im
  rw [in1_at, in1_0, in1_1, in1_3, in1_5, in1_7, in1_8]
theorem trip1_8 : afterL body1 (after cond1 V) main_v39_8 = pass1Im V (at1 V) := by
  rw [trip1, rest1_8]
  unfold pass1Im g1Re g1Im
  rw [in1_at, in1_0, in1_1, in1_3, in1_5, in1_7, in1_8]
theorem trip1_9 : afterL body1 (after cond1 V) main_v39_9 = setRow (V main_v39_9) (da1Re V (at1 V)) (at1 V) := by
  rw [trip1, rest1_9]
  unfold da1Re g1Re g1Im
  rw [in1_at, in1_0, in1_1, in1_2, in1_4, in1_7, in1_8, in1_9]
theorem trip1_10 : afterL body1 (after cond1 V) main_v39_10 = setRow (V main_v39_10) (da1Im V (at1 V)) (at1 V) := by
  rw [trip1, rest1_10]
  unfold da1Im g1Re g1Im
  rw [in1_at, in1_0, in1_1, in1_2, in1_4, in1_7, in1_8, in1_10]
theorem trip1_11 : afterL body1 (after cond1 V) main_v39_11 = setRow (V main_v39_11) (g1Re V (at1 V)) (at1 V) := by
  rw [trip1, rest1_11]
  unfold g1Re
  rw [in1_at, in1_0, in1_7, in1_11]
theorem trip1_12 : afterL body1 (after cond1 V) main_v39_12 = setRow (V main_v39_12) (g1Im V (at1 V)) (at1 V) := by
  rw [trip1, rest1_12]
  unfold g1Im
  rw [in1_at, in1_1, in1_8, in1_12]

/-! ## Rows at a number -/

theorem start_num (k : ℕ) (hk : k < 4352) (a : Fin 3) : start (constantI S_ 32 (BitVec.ofNat 32 k)) a = ((![k, 0, 0] : Fin 3 → ℕ) a : Int) := by
  fin_cases a
  · exact toInt_ofNat_of_lt (by omega)
  · rfl
  · rfl

theorem slices_row (k : ℕ) (hk : k < 4352) : S4352x32x64.Slices ![k, 0, 0] S1x32x64 :=
  ⟨rfl, fun a => by fin_cases a <;> simp [Shape.size] <;> omega⟩

theorem row_apply (x : FVec F S4352x32x64 .f32) (k : ℕ) (hk : k < 4352) (g : Fin 32) (p : Fin 64) :
    row x (constantI S_ 32 (BitVec.ofNat 32 k)) (ix2 g p) = x (ix3 ⟨k, hk⟩ g p) := by
  unfold row
  rw [Host.dynamicSlice_eq_extractStridedSlice S1x32x64 x _ ![k, 0, 0] _ (slices_row k hk) (start_num k hk)]
  pointwise

theorem setRow_apply (x : FVec F S4352x32x64 .f32) (u : FVec F S32x64 .f32) (k : ℕ) (hk : k < 4352) (t : Fin 4352) (g : Fin 32) (p : Fin 64) :
    setRow x u (constantI S_ 32 (BitVec.ofNat 32 k)) (ix3 t g p) = if t.val = k then u (ix2 g p) else x (ix3 t g p) := by
  unfold setRow
  rw [Host.dynamicUpdateSlice_eq_updateSlice x _ _ _ ![k, 0, 0] (fun a => by rw [start_num k hk]; fin_cases a <;> simp [Shape.size] <;> omega) (slices_row k hk)]
  pointwise
  by_cases e : t.val = k
  · rw [dif_pos ⟨by omega, by omega⟩, if_pos e]
  · rw [dif_neg (by omega), if_neg e]

end Cert.ReferenceIdeal.RefRun

end
-- ==== Proof.RefInv.lean ====
/-
  What the reference's two loops have computed after any number of trips, element by element, over the reals.
-/
module

public import proofs.«01_k».proof.Proof.RefLoop
public import proofs.«01_k».proof.Proof.Recur

@[expose] public section

set_option maxRecDepth 16384

noncomputable section

namespace Cert.ReferenceIdeal.RefRun

open Idealize.ShloMosaic Idealize.ShloMosaic.TcCoe
open Idealize.ShloMosaic.StableHlo (after afterL atTrip launchContents)
open Cert.ReferenceIdeal Cert.ReferenceIdeal.Gen
open Cert.S5

/-- A stack of 4352 rows, and one row. -/
local notation "Stack" => FVec Ideal S4352x32x64 FTy.f32
local notation "Row" => FVec Ideal S32x64 FTy.f32

theorem iv_num (k : ℕ) : Scf.iv 0#32 1#32 k = BitVec.ofNat 32 k := by simp [Scf.iv]

theorem at1_num (V : Valuation τ sig (Elt Ideal)) (k : ℕ) (hk : k < 4352) (h : V main_v39_6 = constantI S_ 32 (BitVec.ofNat 32 k)) :
    at1 V = constantI S_ 32 (BitVec.ofNat 32 (4351 - k)) := by
  unfold at1
  rw [h]
  funext i
  show (4352#32 - BitVec.ofNat 32 k) - 1#32 = BitVec.ofNat 32 (4351 - k)
  apply BitVec.eq_of_toNat_eq
  simp only [BitVec.toNat_sub, BitVec.toNat_ofNat]
  omega

/-- What loop 0 has after `k` trips: the state, and the rows it has filled. -/
structure Inv0 (S : Fin 32 → Fin 64 → ℕ → EReal × EReal) (V : Valuation τ sig (Elt Ideal)) (k : ℕ) : Prop where
  re : ∀ g p, (V main_v13_5 : Row) (ix2 g p) = (S g p k).1
  im : ∀ g p, (V main_v13_6 : Row) (ix2 g p) = (S g p k).2
  newRe : ∀ t : Fin 4352, t.val < k → ∀ g p, (V main_v13_7 : Stack) (ix3 t g p) = (S g p (t.val + 1)).1
  newIm : ∀ t : Fin 4352, t.val < k → ∀ g p, (V main_v13_8 : Stack) (ix3 t g p) = (S g p (t.val + 1)).2
  oldRe : ∀ t : Fin 4352, t.val < k → ∀ g p, (V main_v13_9 : Stack) (ix3 t g p) = (S g p t.val).1
  oldIm : ∀ t : Fin 4352, t.val < k → ∀ g p, (V main_v13_10 : Stack) (ix3 t g p) = (S g p t.val).2

/-- A stack filled to row `k` is filled one row further by overwriting row `k`. -/
theorem fill_up {x : Stack} {u : Row} {k : ℕ} (hk : k < 4352) {f : ℕ → Fin 32 → Fin 64 → EReal}
    (hx : ∀ t : Fin 4352, t.val < k → ∀ g p, x (ix3 t g p) = f t.val g p) (hu : ∀ g p, u (ix2 g p) = f k g p) (t : Fin 4352) (ht : t.val < k + 1) (g : Fin 32) (p : Fin 64) :
    setRow x u (constantI S_ 32 (BitVec.ofNat 32 k)) (ix3 t g p) = f t.val g p := by
  rw [setRow_apply _ _ k hk]
  split
  · next e => rw [hu, e]
  · next e => exact hx t (by omega) g p

/-- The same from the last row down. -/
theorem fill_down {x : Stack} {u : Row} {k : ℕ} (hk : k < 4352) {f : ℕ → Fin 32 → Fin 64 → EReal}
    (hx : ∀ t : Fin 4352, 4352 ≤ t.val + k → ∀ g p, x (ix3 t g p) = f t.val g p) (hu : ∀ g p, u (ix2 g p) = f (4351 - k) g p) (t : Fin 4352) (ht : 4352 ≤ t.val + (k + 1)) (g : Fin 32) (p : Fin 64) :
    setRow x u (constantI S_ 32 (BitVec.ofNat 32 (4351 - k))) (ix3 t g p) = f t.val g p := by
  rw [setRow_apply _ _ (4351 - k) (by omega)]
  split
  · next e => rw [hu, e]
  · next e => exact hx t (by omega) g p

section Loop0

variable {W : Dev nD → Valuation τ sig (Elt Ideal)} {c : Dev nD} {AR AI : Fin 32 → Fin 64 → EReal} {XR XI : Fin 32 → Fin 64 → ℕ → EReal}

/-- The states of loop 0. -/
abbrev states (AR AI : Fin 32 → Fin 64 → EReal) (XR XI : Fin 32 → Fin 64 → ℕ → EReal) (g : Fin 32) (p : Fin 64) : ℕ → EReal × EReal :=
  rec (AR g p) (AI g p) (XR g p) (XI g p) (0, 0)

theorem loop0 (hctr : ∀ c, W c main_v13_4 = constantI S_ 32 0#32)
    (h0 : ∀ t g p, (W c main_v13_0 : Stack) (ix3 t g p) = AR g p) (h1 : ∀ t g p, (W c main_v13_1 : Stack) (ix3 t g p) = AI g p)
    (h2 : ∀ t g p, (W c main_v13_2 : Stack) (ix3 t g p) = XR g p t.val) (h3 : ∀ t g p, (W c main_v13_3 : Stack) (ix3 t g p) = XI g p t.val)
    (h5 : ∀ g p, (W c main_v13_5 : Row) (ix2 g p) = (0 : EReal)) (h6 : ∀ g p, (W c main_v13_6 : Row) (ix2 g p) = (0 : EReal)) :
    ∀ k, k ≤ 4352 → Inv0 (states AR AI XR XI) (atTrip cond0 body0 W k c) k
  | 0, _ => ⟨h5, h6, fun _ h => absurd h (Nat.not_lt_zero _), fun _ h => absurd h (Nat.not_lt_zero _), fun _ h => absurd h (Nat.not_lt_zero _), fun _ h => absurd h (Nat.not_lt_zero _)⟩
  | k + 1, hk => by
    have I := loop0 hctr h0 h1 h2 h3 h5 h6 k (by omega)
    have hk' : k < 4352 := by omega
    have hc := ctr0 W hctr c k
    rw [iv_num] at hc
    have k0 := keep0 W c main_v13_0 (by decide) k
    have k1 := keep0 W c main_v13_1 (by decide) k
    have k2 := keep0 W c main_v13_2 (by decide) k
    have k3 := keep0 W c main_v13_3 (by decide) k
    rw [StableHlo.atTrip_succ]
    generalize atTrip cond0 body0 W k c = V at *
    have hre : ∀ g p, st0Re V (ix2 g p) = (states AR AI XR XI g p (k + 1)).1 := fun g p => by
      unfold st0Re nextRe
      rw [hc, k0, k1, k2]
      pointwise
      rw [row_apply _ k hk', row_apply _ k hk', row_apply _ k hk', h0, h1, h2, I.re, I.im]
      rfl
    have him : ∀ g p, st0Im V (ix2 g p) = (states AR AI XR XI g p (k + 1)).2 := fun g p => by
      unfold st0Im nextIm
      rw [hc, k0, k1, k3]
      pointwise
      rw [row_apply _ k hk', row_apply _ k hk', row_apply _ k hk', h0, h1, h3, I.re, I.im]
      rfl
    refine ⟨?_, ?_, ?_, ?_, ?_, ?_⟩
    · rw [trip0_5]; exact hre
    · rw [trip0_6]; exact him
    · rw [trip0_7, hc]; exact fill_up hk' (f := fun t g p => (states AR AI XR XI g p (t + 1)).1) I.newRe hre
    · rw [trip0_8, hc]; exact fill_up hk' (f := fun t g p => (states AR AI XR XI g p (t + 1)).2) I.newIm him
    · rw [trip0_9, hc]; exact fill_up hk' (f := fun t g p => (states AR AI XR XI g p t).1) I.oldRe I.re
    · rw [trip0_10, hc]; exact fill_up hk' (f := fun t g p => (states AR AI XR XI g p t).2) I.oldIm I.im

end Loop0

/-- What loop 1 has after `k` trips: what it passes on, and the rows it has filled from the last. -/
structure Inv1 (AR AI : Fin 32 → Fin 64 → EReal) (S G : Fin 32 → Fin 64 → ℕ → EReal × EReal) (V : Valuation τ sig (Elt Ideal)) (k : ℕ) : Prop where
  re : ∀ g p, (V main_v39_7 : Row) (ix2 g p) = AR g p * (G g p k).1 - -AI g p * (G g p k).2
  im : ∀ g p, (V main_v39_8 : Row) (ix2 g p) = AR g p * (G g p k).2 + -AI g p * (G g p k).1
  daRe : ∀ t : Fin 4352, 4352 ≤ t.val + k → ∀ g p, (V main_v39_9 : Stack) (ix3 t g p) = (G g p (4352 - t.val)).2 * (S g p t.val).2 + (G g p (4352 - t.val)).1 * (S g p t.val).1
  daIm : ∀ t : Fin 4352, 4352 ≤ t.val + k → ∀ g p, (V main_v39_10 : Stack) (ix3 t g p) = (G g p (4352 - t.val)).2 * (S g p t.val).1 + -(G g p (4352 - t.val)).1 * (S g p t.val).2
  gRe : ∀ t : Fin 4352, 4352 ≤ t.val + k → ∀ g p, (V main_v39_11 : Stack) (ix3 t g p) = (G g p (4352 - t.val)).1
  gIm : ∀ t : Fin 4352, 4352 ≤ t.val + k → ∀ g p, (V main_v39_12 : Stack) (ix3 t g p) = (G g p (4352 - t.val)).2

section Loop1

variable {W : Dev nD → Valuation τ sig (Elt Ideal)} {c : Dev nD} {AR AI : Fin 32 → Fin 64 → EReal} {DR DI : Fin 32 → Fin 64 → ℕ → EReal} {S : Fin 32 → Fin 64 → ℕ → EReal × EReal}

/-- The gradients that reach the states, counted from the last. -/
abbrev grads (AR AI : Fin 32 → Fin 64 → EReal) (DR DI : Fin 32 → Fin 64 → ℕ → EReal) (g : Fin 32) (p : Fin 64) : ℕ → EReal × EReal :=
  rec (AR g p) (-AI g p) (fun n => DR g p (4351 - n)) (fun n => DI g p (4351 - n)) (0, 0)

theorem loop1 (hctr : ∀ c, W c main_v39_6 = constantI S_ 32 0#32)
    (h0 : ∀ t g p, (W c main_v39_0 : Stack) (ix3 t g p) = DR g p t.val) (h1 : ∀ t g p, (W c main_v39_1 : Stack) (ix3 t g p) = DI g p t.val)
    (h2 : ∀ t g p, (W c main_v39_2 : Stack) (ix3 t g p) = (S g p t.val).1) (h4 : ∀ t g p, (W c main_v39_4 : Stack) (ix3 t g p) = (S g p t.val).2)
    (h3 : ∀ t g p, (W c main_v39_3 : Stack) (ix3 t g p) = AR g p) (h5 : ∀ t g p, (W c main_v39_5 : Stack) (ix3 t g p) = AI g p)
    (h7 : ∀ g p, (W c main_v39_7 : Row) (ix2 g p) = (0 : EReal)) (h8 : ∀ g p, (W c main_v39_8 : Row) (ix2 g p) = (0 : EReal)) :
    ∀ k, k ≤ 4352 → Inv1 AR AI S (grads AR AI DR DI) (atTrip cond1 body1 W k c) k
  | 0, _ => ⟨fun g p => (h7 g p).trans (by simp [rec]), fun g p => (h8 g p).trans (by simp [rec]),
      fun t h => absurd h (by have := t.isLt; omega), fun t h => absurd h (by have := t.isLt; omega), fun t h => absurd h (by have := t.isLt; omega), fun t h => absurd h (by have := t.isLt; omega)⟩
  | k + 1, hk => by
    have I := loop1 hctr h0 h1 h2 h4 h3 h5 h7 h8 k (by omega)
    have hk' : k < 4352 := by omega
    have hr : 4351 - k < 4352 := by omega
    have hn : 4352 - (4351 - k) = k + 1 := by omega
    have hc := ctr1 W hctr c k
    rw [iv_num] at hc
    have k0 := keep1 W c main_v39_0 (by decide) k
    have k1 := keep1 W c main_v39_1 (by decide) k
    have k2 := keep1 W c main_v39_2 (by decide) k
    have k3 := keep1 W c main_v39_3 (by decide) k
    have k4 := keep1 W c main_v39_4 (by decide) k
    have k5 := keep1 W c main_v39_5 (by decide) k
    rw [StableHlo.atTrip_succ]
    generalize atTrip cond1 body1 W k c = V at *
    have ha := at1_num V k hk' hc
    have hre : ∀ g p, g1Re V (constantI S_ 32 (BitVec.ofNat 32 (4351 - k))) (ix2 g p) = (grads AR AI DR DI g p (k + 1)).1 := fun g p => by
      unfold g1Re
      rw [k0]
      pointwise
      rw [row_apply _ (4351 - k) hr, h0, I.re]
      rfl
    have him : ∀ g p, g1Im V (constantI S_ 32 (BitVec.ofNat 32 (4351 - k))) (ix2 g p) = (grads AR AI DR DI g p (k + 1)).2 := fun g p => by
      unfold g1Im
      rw [k1]
      pointwise
      rw [row_apply _ (4351 - k) hr, h1, I.im]
      rfl
    refine ⟨?_, ?_, ?_, ?_, ?_, ?_⟩
    · intro g p
      rw [trip1_7, ha]
      unfold pass1Re
      rw [k3, k5]
      pointwise
      rw [row_apply _ (4351 - k) hr, row_apply _ (4351 - k) hr, h3, h5, hre, him]
      exact carry_re _ _ _
    · intro g p
      rw [trip1_8, ha]
      unfold pass1Im
      rw [k3, k5]
      pointwise
      rw [row_apply _ (4351 - k) hr, row_apply _ (4351 - k) hr, h3, h5, hre, him]
      exact carry_im _ _ _
    · rw [trip1_9, ha]
      refine fill_down hk' (f := fun t g p => (grads AR AI DR DI g p (4352 - t)).2 * (S g p t).2 + (grads AR AI DR DI g p (4352 - t)).1 * (S g p t).1) I.daRe fun g p => ?_
      unfold da1Re
      rw [k2, k4]
      pointwise
      rw [row_apply _ (4351 - k) hr, row_apply _ (4351 - k) hr, h2, h4, hre, him, hn]
    · rw [trip1_10, ha]
      refine fill_down hk' (f := fun t g p => (grads AR AI DR DI g p (4352 - t)).2 * (S g p t).1 + -(grads AR AI DR DI g p (4352 - t)).1 * (S g p t).2) I.daIm fun g p => ?_
      unfold da1Im
      rw [k2, k4]
      pointwise
      rw [row_apply _ (4351 - k) hr, row_apply _ (4351 - k) hr, h2, h4, hre, him, hn]
    · rw [trip1_11, ha]
      exact fill_down hk' (f := fun t g p => (grads AR AI DR DI g p (4352 - t)).1) I.gRe fun g p => by rw [hre, hn]
    · rw [trip1_12, ha]
      exact fill_down hk' (f := fun t g p => (grads AR AI DR DI g p (4352 - t)).2) I.gIm fun g p => by rw [him, hn]

end Loop1

end Cert.ReferenceIdeal.RefRun

end
-- ==== Proof.RefHost.lean ====
/-
  The reference's own operations between and after the loops, read element by element.
-/
module

public import proofs.«01_k».proof.Proof.RefInv
public import proofs.«01_k».proof.Proof.Spec
import Idealize.ShloMosaic.Lib.Pointwise

@[expose] public section

set_option maxRecDepth 16384

noncomputable section

namespace Cert.ReferenceIdeal.RefRun

open Idealize.ShloMosaic Idealize.ShloMosaic.TcCoe
open Idealize.ShloMosaic.StableHlo (after afterL atTrip launchContents)
open Cert.ReferenceIdeal Cert.ReferenceIdeal.Gen
open Cert.S5

local notation "Stack" => FVec Ideal S4352x32x64 FTy.f32
local notation "Row" => FVec Ideal S32x64 FTy.f32

variable (V : Valuation τ sig (Elt Ideal))

/-! ## Between the loops -/

/-- The operations between the loops. -/
def mid : Valuation τ sig (Elt Ideal) := after mid1 (after mid0 V)

theorem mid_0 {DY : Fin 4352 → Fin 32 → Fin 16 → EReal} {C : Fin 32 → Fin 16 → Fin 64 → EReal} (hdy : ∀ t g h, (V main_arg1 : FVec Ideal S4352x512 .f32) (ix2 t (chan g h)) = DY t g h) (hc : ∀ g h p, (V main_arg6 : FVec Ideal S32x16x64 .f32) (ix3 g h p) = C g h p) (t : Fin 4352) (g : Fin 32) (p : Fin 64) : @Eq EReal ((mid V main_v39_0 : Stack) (ix3 t g p)) (∑ h, DY t g h * C g h p) := by
  unfold chan at hdy; unfold mid; after_reads_simp; (try simp only [id_eq]); pointwise
  exact (Finset.sum_congr rfl fun x _ => congrArg₂ (fun a b : EReal => a * b) (hdy t g x) (hc g x p))
theorem mid_1 {DY : Fin 4352 → Fin 32 → Fin 16 → EReal} {C : Fin 32 → Fin 16 → Fin 64 → EReal} (hdy : ∀ t g h, (V main_arg1 : FVec Ideal S4352x512 .f32) (ix2 t (chan g h)) = DY t g h) (hc : ∀ g h p, (V main_arg7 : FVec Ideal S32x16x64 .f32) (ix3 g h p) = C g h p) (t : Fin 4352) (g : Fin 32) (p : Fin 64) : @Eq EReal ((mid V main_v39_1 : Stack) (ix3 t g p)) (∑ h, DY t g h * -C g h p) := by
  unfold chan at hdy; unfold mid; after_reads_simp; (try simp only [id_eq]); pointwise
  exact (Finset.sum_congr rfl fun x _ => congrArg₂ (fun a b : EReal => a * b) (hdy t g x) (congrArg (fun a : EReal => -a) (hc g x p)))
theorem mid_7 (g : Fin 32) (p : Fin 64) : (mid V main_v39_7 : Row) (ix2 g p) = (0 : EReal) := by
  unfold mid; after_reads_simp; (try simp only [id_eq]); pointwise
theorem mid_8 (g : Fin 32) (p : Fin 64) : (mid V main_v39_8 : Row) (ix2 g p) = (0 : EReal) := by
  unfold mid; after_reads_simp; (try simp only [id_eq]); pointwise
theorem mid_2 : mid V main_v39_2 = V main_v13_9 := by
  unfold mid; after_reads_simp; (try simp only [id_eq])
theorem mid_3 : mid V main_v39_3 = V main_v6 := by
  unfold mid; after_reads_simp; (try simp only [id_eq])
theorem mid_4 : mid V main_v39_4 = V main_v13_10 := by
  unfold mid; after_reads_simp; (try simp only [id_eq])
theorem mid_5 : mid V main_v39_5 = V main_v7 := by
  unfold mid; after_reads_simp; (try simp only [id_eq])
theorem mid_v1 : mid V main_v1 = V main_v1 := by
  unfold mid; after_reads_simp; (try simp only [id_eq])
theorem mid_v20 {C D : Fin 32 → Fin 16 → Fin 64 → EReal} {X Y : Fin 4352 → Fin 32 → Fin 64 → EReal} (hc : ∀ g h p, (V main_arg6 : FVec Ideal S32x16x64 .f32) (ix3 g h p) = C g h p) (hd : ∀ g h p, (V main_arg7 : FVec Ideal S32x16x64 .f32) (ix3 g h p) = D g h p) (hx : ∀ t g p, (V main_v13_7 : Stack) (ix3 t g p) = X t g p) (hy : ∀ t g p, (V main_v13_8 : Stack) (ix3 t g p) = Y t g p) (t : Fin 4352) (g : Fin 32) (h : Fin 16) : @Eq EReal ((mid V main_v20 : FVec Ideal S4352x512 .f32) (ix2 t (chan g h))) (∑ p, C g h p * X t g p + ∑ p, -D g h p * Y t g p) := by
  unfold mid chan; after_reads_simp; (try simp only [id_eq]); pointwise
  exact congrArg₂ (fun a b : EReal => a + b) (Finset.sum_congr rfl fun x _ => congrArg₂ (fun a b : EReal => a * b) (hc g h x) (hx t g x)) (Finset.sum_congr rfl fun x _ => congrArg₂ (fun a b : EReal => a * b) (congrArg (fun a : EReal => -a) (hd g h x)) (hy t g x))
theorem mid_v32 {DY : Fin 4352 → Fin 32 → Fin 16 → EReal} {X : Fin 4352 → Fin 32 → Fin 64 → EReal} (hdy : ∀ t g h, (V main_arg1 : FVec Ideal S4352x512 .f32) (ix2 t (chan g h)) = DY t g h) (hx : ∀ t g p, (V main_v13_7 : Stack) (ix3 t g p) = X t g p) (g : Fin 32) (h : Fin 16) (p : Fin 64) : @Eq EReal ((mid V main_v32 : FVec Ideal S32x16x64 .f32) (ix3 g h p)) (∑ t, DY t g h * X t g p) := by
  unfold mid; after_reads_simp; (try simp only [id_eq]); pointwise
  exact (Finset.sum_congr rfl fun x _ => congrArg₂ (fun a b : EReal => a * b) (hdy x g h) (hx x g p))
theorem mid_v28 {DY : Fin 4352 → Fin 32 → Fin 16 → EReal} {X : Fin 4352 → Fin 32 → Fin 64 → EReal} (hdy : ∀ t g h, (V main_arg1 : FVec Ideal S4352x512 .f32) (ix2 t (chan g h)) = DY t g h) (hx : ∀ t g p, (V main_v13_8 : Stack) (ix3 t g p) = X t g p) (g : Fin 32) (h : Fin 16) (p : Fin 64) : @Eq EReal ((mid V main_v28 : FVec Ideal S32x16x64 .f32) (ix3 g h p)) (-∑ t, DY t g h * X t g p) := by
  unfold mid; after_reads_simp; (try simp only [id_eq]); pointwise
  exact congrArg (fun a : EReal => -a) (Finset.sum_congr rfl fun x _ => congrArg₂ (fun a b : EReal => a * b) (hdy x g h) (hx x g p))

/-! ## After loop 1 -/

theorem post_v41 {X : Fin 4352 → Fin 32 → Fin 64 → EReal} (hx : ∀ t g p, (V main_v39_9 : Stack) (ix3 t g p) = X t g p) (g : Fin 32) (p : Fin 64) : @Eq EReal ((after post0 V main_v41 : Row) (ix2 g p)) (∑ t, X t g p) := by
  after_reads_simp; (try simp only [id_eq]); pointwise
  exact Finset.sum_congr rfl fun x _ => hx x g p
theorem post_v40 {X : Fin 4352 → Fin 32 → Fin 64 → EReal} (hx : ∀ t g p, (V main_v39_10 : Stack) (ix3 t g p) = X t g p) (g : Fin 32) (p : Fin 64) : @Eq EReal ((after post0 V main_v40 : Row) (ix2 g p)) (∑ t, X t g p) := by
  after_reads_simp; (try simp only [id_eq]); pointwise
  exact Finset.sum_congr rfl fun x _ => hx x g p
theorem post_v50 {X : Fin 4352 → Fin 32 → Fin 64 → EReal} {U : Fin 4352 → Fin 32 → Fin 16 → EReal} (hx : ∀ t g p, (V main_v39_11 : Stack) (ix3 t g p) = X t g p) (hu : ∀ t g h, (V main_v1 : FVec Ideal S4352x32x16 .f32) (ix3 t g h) = U t g h) (g : Fin 32) (p : Fin 64) (h : Fin 16) : @Eq EReal ((after post0 V main_v50 : FVec Ideal S32x64x16 .f32) (ix3 g p h)) (∑ t, X t g p * U t g h) := by
  after_reads_simp; (try simp only [id_eq]); pointwise
  exact (Finset.sum_congr rfl fun x _ => congrArg₂ (fun a b : EReal => a * b) (hx x g p) (hu x g h))
theorem post_v45 {X : Fin 4352 → Fin 32 → Fin 64 → EReal} {U : Fin 4352 → Fin 32 → Fin 16 → EReal} (hx : ∀ t g p, (V main_v39_12 : Stack) (ix3 t g p) = X t g p) (hu : ∀ t g h, (V main_v1 : FVec Ideal S4352x32x16 .f32) (ix3 t g h) = U t g h) (g : Fin 32) (p : Fin 64) (h : Fin 16) : @Eq EReal ((after post0 V main_v45 : FVec Ideal S32x64x16 .f32) (ix3 g p h)) (∑ t, X t g p * U t g h) := by
  after_reads_simp; (try simp only [id_eq]); pointwise
  exact (Finset.sum_congr rfl fun x _ => congrArg₂ (fun a b : EReal => a * b) (hx x g p) (hu x g h))
theorem post_v51 {B D : Fin 32 → Fin 64 → Fin 16 → EReal} {X Y : Fin 4352 → Fin 32 → Fin 64 → EReal} (hb : ∀ g p h, (V main_arg4 : FVec Ideal S32x64x16 .f32) (ix3 g p h) = B g p h) (hd : ∀ g p h, (V main_arg5 : FVec Ideal S32x64x16 .f32) (ix3 g p h) = D g p h) (hx : ∀ t g p, (V main_v39_11 : Stack) (ix3 t g p) = X t g p) (hy : ∀ t g p, (V main_v39_12 : Stack) (ix3 t g p) = Y t g p) (t : Fin 4352) (g : Fin 32) (h : Fin 16) : @Eq EReal ((after post0 V main_v51 : FVec Ideal S4352x512 .f32) (ix2 t (chan g h))) (∑ p, Y t g p * D g p h + ∑ p, X t g p * B g p h) := by
  unfold chan; after_reads_simp; (try simp only [id_eq]); pointwise
  exact congrArg₂ (fun a b : EReal => a + b) (Finset.sum_congr rfl fun x _ => congrArg₂ (fun a b : EReal => a * b) (hy t g x) (hd g x h)) (Finset.sum_congr rfl fun x _ => congrArg₂ (fun a b : EReal => a * b) (hx t g x) (hb g x h))

end Cert.ReferenceIdeal.RefRun

end
-- ==== Proof.RefVal.lean ====
/-
  The reference's results, element by element: the recurrence and its gradient.
-/
module

public import proofs.«01_k».proof.Proof.RefInv
public import proofs.«01_k».proof.Proof.RefHost
import Idealize.ShloMosaic.Lib.Pointwise

@[expose] public section

set_option maxRecDepth 16384

noncomputable section

namespace Cert.ReferenceIdeal.RefRun

open Idealize.ShloMosaic Idealize.ShloMosaic.TcCoe
open Idealize.ShloMosaic.StableHlo (after afterL atTrip launchContents)
open Cert.ReferenceIdeal Cert.ReferenceIdeal.Gen
open Cert.S5

local notation "Stack" => FVec Ideal S4352x32x64 FTy.f32
local notation "Row" => FVec Ideal S32x64 FTy.f32

variable (m : (ℓ : Loc nD τ sig) → Buf (Elt Ideal) ℓ) (c : Dev nD)

/-- The arguments of the run. -/
def args : Args := .of (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))

/-! ## Before loop 0 -/

theorem E0_0 (t : Fin 4352) (g : Fin 32) (p : Fin 64) : (E0 m c main_v13_0 : Stack) (ix3 t g p) = (args m c).AR g p := by
  unfold E0; after_reads_simp; (try simp only [id_eq]); pointwise; rfl
theorem E0_1 (t : Fin 4352) (g : Fin 32) (p : Fin 64) : (E0 m c main_v13_1 : Stack) (ix3 t g p) = (args m c).AI g p := by
  unfold E0; after_reads_simp; (try simp only [id_eq]); pointwise; rfl
theorem E0_2 (t : Fin 4352) (g : Fin 32) (p : Fin 64) : (E0 m c main_v13_2 : Stack) (ix3 t g p) = (args m c).inRe g p t.val := by
  unfold E0; after_reads_simp; (try simp only [id_eq]); pointwise
  unfold Args.inRe; rw [tok_val]; rfl
theorem E0_3 (t : Fin 4352) (g : Fin 32) (p : Fin 64) : (E0 m c main_v13_3 : Stack) (ix3 t g p) = (args m c).inIm g p t.val := by
  unfold E0; after_reads_simp; (try simp only [id_eq]); pointwise
  unfold Args.inIm; rw [tok_val]; rfl
theorem E0_5 (g : Fin 32) (p : Fin 64) : (E0 m c main_v13_5 : Row) (ix2 g p) = (0 : EReal) := by
  unfold E0; after_reads_simp; (try simp only [id_eq]); pointwise
theorem E0_6 (g : Fin 32) (p : Fin 64) : (E0 m c main_v13_6 : Row) (ix2 g p) = (0 : EReal) := by
  unfold E0; after_reads_simp; (try simp only [id_eq]); pointwise
theorem E0_v6 (t : Fin 4352) (g : Fin 32) (p : Fin 64) : (E0 m c main_v6 : Stack) (ix3 t g p) = (args m c).AR g p := by
  unfold E0; after_reads_simp; (try simp only [id_eq]); pointwise; rfl
theorem E0_v7 (t : Fin 4352) (g : Fin 32) (p : Fin 64) : (E0 m c main_v7 : Stack) (ix3 t g p) = (args m c).AI g p := by
  unfold E0; after_reads_simp; (try simp only [id_eq]); pointwise; rfl
theorem E0_v1 (t : Fin 4352) (g : Fin 32) (h : Fin 16) : (E0 m c main_v1 : FVec Ideal S4352x32x16 .f32) (ix3 t g h) = (args m c).U t g h := by
  unfold E0; after_reads_simp; (try simp only [id_eq]); pointwise; rfl

/-! ## After loop 0 -/

theorem cond0_keep (V : Valuation τ sig (Elt Ideal)) (b : Ref sig .tc) (h : b ≠ main_while0c_c_25) (h' : b ≠ main_while0c_v52) : after cond0 V (Proc.devRef .tc b) = V (Proc.devRef .tc b) := by
  rw [StableHlo.after_cons, StableHlo.after_cons, StableHlo.after_nil, StableHlo.binary_result_ne (h := h'), StableHlo.nullary_result_ne (h := h)]

theorem inv0 : Inv0 (fun g p => (args m c).st g p) (atTrip cond0 body0 (E0 m) 4352 c) 4352 :=
  loop0 (E0_ctr m) (E0_0 m c) (E0_1 m c) (E0_2 m c) (E0_3 m c) (E0_5 m c) (E0_6 m c) 4352 le_rfl

theorem X0_v13_7' : X0 m c main_v13_7 = atTrip cond0 body0 (E0 m) 4352 c main_v13_7 :=
  cond0_keep _ _ (by decide) (by decide)
theorem X0_v13_8' : X0 m c main_v13_8 = atTrip cond0 body0 (E0 m) 4352 c main_v13_8 :=
  cond0_keep _ _ (by decide) (by decide)
theorem X0_v13_9' : X0 m c main_v13_9 = atTrip cond0 body0 (E0 m) 4352 c main_v13_9 :=
  cond0_keep _ _ (by decide) (by decide)
theorem X0_v13_10' : X0 m c main_v13_10 = atTrip cond0 body0 (E0 m) 4352 c main_v13_10 :=
  cond0_keep _ _ (by decide) (by decide)
theorem X0_v1' : X0 m c main_v1 = atTrip cond0 body0 (E0 m) 4352 c main_v1 :=
  cond0_keep _ _ (by decide) (by decide)
theorem X0_v6' : X0 m c main_v6 = atTrip cond0 body0 (E0 m) 4352 c main_v6 :=
  cond0_keep _ _ (by decide) (by decide)
theorem X0_v7' : X0 m c main_v7 = atTrip cond0 body0 (E0 m) 4352 c main_v7 :=
  cond0_keep _ _ (by decide) (by decide)
theorem X0_7 (t : Fin 4352) (g : Fin 32) (p : Fin 64) : (X0 m c main_v13_7 : Stack) (ix3 t g p) = ((args m c).st g p (t.val + 1)).1 := by
  rw [X0_v13_7']; exact (inv0 m c).newRe t t.isLt g p
theorem X0_8 (t : Fin 4352) (g : Fin 32) (p : Fin 64) : (X0 m c main_v13_8 : Stack) (ix3 t g p) = ((args m c).st g p (t.val + 1)).2 := by
  rw [X0_v13_8']; exact (inv0 m c).newIm t t.isLt g p
theorem X0_9 (t : Fin 4352) (g : Fin 32) (p : Fin 64) : (X0 m c main_v13_9 : Stack) (ix3 t g p) = ((args m c).st g p t.val).1 := by
  rw [X0_v13_9']; exact (inv0 m c).oldRe t t.isLt g p
theorem X0_10 (t : Fin 4352) (g : Fin 32) (p : Fin 64) : (X0 m c main_v13_10 : Stack) (ix3 t g p) = ((args m c).st g p t.val).2 := by
  rw [X0_v13_10']; exact (inv0 m c).oldIm t t.isLt g p
theorem X0_v6 (t : Fin 4352) (g : Fin 32) (p : Fin 64) : (X0 m c main_v6 : Stack) (ix3 t g p) = (args m c).AR g p := by
  rw [X0_v6', keep0 _ _ _ (by decide)]; exact E0_v6 m c t g p
theorem X0_v7 (t : Fin 4352) (g : Fin 32) (p : Fin 64) : (X0 m c main_v7 : Stack) (ix3 t g p) = (args m c).AI g p := by
  rw [X0_v7', keep0 _ _ _ (by decide)]; exact E0_v7 m c t g p
theorem X0_v1 (t : Fin 4352) (g : Fin 32) (h : Fin 16) : (X0 m c main_v1 : FVec Ideal S4352x32x16 .f32) (ix3 t g h) = (args m c).U t g h := by
  rw [X0_v1', keep0 _ _ _ (by decide)]; exact E0_v1 m c t g h

/-! ## Before loop 1 -/

theorem args_at1 (t : Fin 4352) (g : Fin 32) (h : Fin 16) : (X0 m c main_arg1 : FVec Ideal S4352x512 .f32) (ix2 t (chan g h)) = (args m c).DY t g h := by
  rw [X0_arg m c main_arg1 (by decide)]; rfl
theorem args_at6 (g : Fin 32) (h : Fin 16) (p : Fin 64) : (X0 m c main_arg6 : FVec Ideal S32x16x64 .f32) (ix3 g h p) = (args m c).CR g h p := by
  rw [X0_arg m c main_arg6 (by decide)]; rfl
theorem args_at7 (g : Fin 32) (h : Fin 16) (p : Fin 64) : (X0 m c main_arg7 : FVec Ideal S32x16x64 .f32) (ix3 g h p) = (args m c).CI g h p := by
  rw [X0_arg m c main_arg7 (by decide)]; rfl

theorem E1_mid : E1 m c = mid (X0 m c) := rfl

theorem E1_0 (t : Fin 4352) (g : Fin 32) (p : Fin 64) : (E1 m c main_v39_0 : Stack) (ix3 t g p) = (args m c).ctRe g p t.val := by
  rw [E1_mid, mid_0 _ (args_at1 m c) (args_at6 m c)]; unfold Args.ctRe; rw [tok_val]
theorem E1_1 (t : Fin 4352) (g : Fin 32) (p : Fin 64) : (E1 m c main_v39_1 : Stack) (ix3 t g p) = (args m c).ctIm g p t.val := by
  rw [E1_mid, mid_1 _ (args_at1 m c) (args_at7 m c)]; unfold Args.ctIm; rw [tok_val]
theorem E1_2 (t : Fin 4352) (g : Fin 32) (p : Fin 64) : (E1 m c main_v39_2 : Stack) (ix3 t g p) = ((args m c).st g p t.val).1 := by
  rw [E1_mid, mid_2]; exact X0_9 m c t g p
theorem E1_3 (t : Fin 4352) (g : Fin 32) (p : Fin 64) : (E1 m c main_v39_3 : Stack) (ix3 t g p) = (args m c).AR g p := by
  rw [E1_mid, mid_3]; exact X0_v6 m c t g p
theorem E1_4 (t : Fin 4352) (g : Fin 32) (p : Fin 64) : (E1 m c main_v39_4 : Stack) (ix3 t g p) = ((args m c).st g p t.val).2 := by
  rw [E1_mid, mid_4]; exact X0_10 m c t g p
theorem E1_5 (t : Fin 4352) (g : Fin 32) (p : Fin 64) : (E1 m c main_v39_5 : Stack) (ix3 t g p) = (args m c).AI g p := by
  rw [E1_mid, mid_5]; exact X0_v7 m c t g p
theorem E1_7 (g : Fin 32) (p : Fin 64) : (E1 m c main_v39_7 : Row) (ix2 g p) = (0 : EReal) := by
  rw [E1_mid]; exact mid_7 _ g p
theorem E1_8 (g : Fin 32) (p : Fin 64) : (E1 m c main_v39_8 : Row) (ix2 g p) = (0 : EReal) := by
  rw [E1_mid]; exact mid_8 _ g p
theorem E1_v1 : E1 m c main_v1 = X0 m c main_v1 := by
  rw [E1_mid, mid_v1]

theorem E1_v20 (t : Fin 4352) (g : Fin 32) (h : Fin 16) : (E1 m c main_v20 : FVec Ideal S4352x512 .f32) (ix2 t (chan g h)) = (args m c).y t g h := by
  rw [E1_mid]; exact mid_v20 _ (args_at6 m c) (args_at7 m c) (X0_7 m c) (X0_8 m c) t g h
theorem E1_v32 (g : Fin 32) (h : Fin 16) (p : Fin 64) : (E1 m c main_v32 : FVec Ideal S32x16x64 .f32) (ix3 g h p) = (args m c).dcRe g h p := by
  rw [E1_mid]; exact mid_v32 _ (args_at1 m c) (X0_7 m c) g h p
theorem E1_v28 (g : Fin 32) (h : Fin 16) (p : Fin 64) : (E1 m c main_v28 : FVec Ideal S32x16x64 .f32) (ix3 g h p) = (args m c).dcIm g h p := by
  rw [E1_mid]; exact mid_v28 _ (args_at1 m c) (X0_8 m c) g h p

/-! ## After loop 1 -/

theorem cond1_keep (V : Valuation τ sig (Elt Ideal)) (b : Ref sig .tc) (h : b ≠ main_while1c_c_27) (h' : b ≠ main_while1c_v52) : after cond1 V (Proc.devRef .tc b) = V (Proc.devRef .tc b) := by
  rw [StableHlo.after_cons, StableHlo.after_cons, StableHlo.after_nil, StableHlo.binary_result_ne (h := h'), StableHlo.nullary_result_ne (h := h)]

theorem inv1 : Inv1 (args m c).AR (args m c).AI (fun g p => (args m c).st g p) (fun g p => (args m c).gr g p) (atTrip cond1 body1 (E1 m) 4352 c) 4352 :=
  loop1 (E1_ctr m) (E1_0 m c) (E1_1 m c) (E1_2 m c) (E1_4 m c) (E1_3 m c) (E1_5 m c) (E1_7 m c) (E1_8 m c) 4352 le_rfl

theorem X1_v39_9' : X1 m c main_v39_9 = atTrip cond1 body1 (E1 m) 4352 c main_v39_9 :=
  cond1_keep _ _ (by decide) (by decide)
theorem X1_v39_10' : X1 m c main_v39_10 = atTrip cond1 body1 (E1 m) 4352 c main_v39_10 :=
  cond1_keep _ _ (by decide) (by decide)
theorem X1_v39_11' : X1 m c main_v39_11 = atTrip cond1 body1 (E1 m) 4352 c main_v39_11 :=
  cond1_keep _ _ (by decide) (by decide)
theorem X1_v39_12' : X1 m c main_v39_12 = atTrip cond1 body1 (E1 m) 4352 c main_v39_12 :=
  cond1_keep _ _ (by decide) (by decide)
theorem X1_v1' : X1 m c main_v1 = atTrip cond1 body1 (E1 m) 4352 c main_v1 :=
  cond1_keep _ _ (by decide) (by decide)
theorem X1_v20' : X1 m c main_v20 = atTrip cond1 body1 (E1 m) 4352 c main_v20 :=
  cond1_keep _ _ (by decide) (by decide)
theorem X1_v28' : X1 m c main_v28 = atTrip cond1 body1 (E1 m) 4352 c main_v28 :=
  cond1_keep _ _ (by decide) (by decide)
theorem X1_v32' : X1 m c main_v32 = atTrip cond1 body1 (E1 m) 4352 c main_v32 :=
  cond1_keep _ _ (by decide) (by decide)
theorem X1_v1 (t : Fin 4352) (g : Fin 32) (h : Fin 16) : (X1 m c main_v1 : FVec Ideal S4352x32x16 .f32) (ix3 t g h) = (args m c).U t g h := by
  rw [X1_v1', keep1 _ _ _ (by decide), E1_v1]; exact X0_v1 m c t g h
theorem X1_9 (t : Fin 4352) (g : Fin 32) (p : Fin 64) : (X1 m c main_v39_9 : Stack) (ix3 t g p) = ((args m c).gr g p (4352 - t.val)).2 * ((args m c).st g p t.val).2 + ((args m c).gr g p (4352 - t.val)).1 * ((args m c).st g p t.val).1 := by
  rw [X1_v39_9']; exact (inv1 m c).daRe t (by omega) g p
theorem X1_10 (t : Fin 4352) (g : Fin 32) (p : Fin 64) : (X1 m c main_v39_10 : Stack) (ix3 t g p) = ((args m c).gr g p (4352 - t.val)).2 * ((args m c).st g p t.val).1 + -((args m c).gr g p (4352 - t.val)).1 * ((args m c).st g p t.val).2 := by
  rw [X1_v39_10']; exact (inv1 m c).daIm t (by omega) g p
theorem X1_11 (t : Fin 4352) (g : Fin 32) (p : Fin 64) : (X1 m c main_v39_11 : Stack) (ix3 t g p) = ((args m c).gr g p (4352 - t.val)).1 := by
  rw [X1_v39_11']; exact (inv1 m c).gRe t (by omega) g p
theorem X1_12 (t : Fin 4352) (g : Fin 32) (p : Fin 64) : (X1 m c main_v39_12 : Stack) (ix3 t g p) = ((args m c).gr g p (4352 - t.val)).2 := by
  rw [X1_v39_12']; exact (inv1 m c).gIm t (by omega) g p

/-! ## The results -/

theorem Z_post : Z m c = after post0 (X1 m c) := rfl

theorem post_keep (V : Valuation τ sig (Elt Ideal)) : after post0 V main_v20 = V main_v20 ∧ after post0 V main_v28 = V main_v28 ∧ after post0 V main_v32 = V main_v32 := by
  refine ⟨?_, ?_, ?_⟩ <;> after_reads_simp

theorem Z_v20 (t : Fin 4352) (g : Fin 32) (h : Fin 16) : (Z m c main_v20 : FVec Ideal S4352x512 .f32) (ix2 t (chan g h)) = (args m c).y t g h := by
  rw [Z_post, (post_keep _).1, X1_v20', keep1 _ _ _ (by decide)]; exact E1_v20 m c t g h
theorem Z_v28 (g : Fin 32) (h : Fin 16) (p : Fin 64) : (Z m c main_v28 : FVec Ideal S32x16x64 .f32) (ix3 g h p) = (args m c).dcIm g h p := by
  rw [Z_post, (post_keep _).2.1, X1_v28', keep1 _ _ _ (by decide)]; exact E1_v28 m c g h p
theorem Z_v32 (g : Fin 32) (h : Fin 16) (p : Fin 64) : (Z m c main_v32 : FVec Ideal S32x16x64 .f32) (ix3 g h p) = (args m c).dcRe g h p := by
  rw [Z_post, (post_keep _).2.2, X1_v32', keep1 _ _ _ (by decide)]; exact E1_v32 m c g h p
theorem Z_v41 (g : Fin 32) (p : Fin 64) : (Z m c main_v41 : Row) (ix2 g p) = (args m c).daRe g p := by
  rw [Z_post]; exact post_v41 _ (X1_9 m c) g p
theorem Z_v40 (g : Fin 32) (p : Fin 64) : (Z m c main_v40 : Row) (ix2 g p) = (args m c).daIm g p := by
  rw [Z_post]; exact post_v40 _ (X1_10 m c) g p
theorem Z_v50 (g : Fin 32) (p : Fin 64) (h : Fin 16) : (Z m c main_v50 : FVec Ideal S32x64x16 .f32) (ix3 g p h) = (args m c).dbRe g p h := by
  rw [Z_post]; exact post_v50 _ (X1_11 m c) (X1_v1 m c) g p h
theorem Z_v45 (g : Fin 32) (p : Fin 64) (h : Fin 16) : (Z m c main_v45 : FVec Ideal S32x64x16 .f32) (ix3 g p h) = (args m c).dbIm g p h := by
  rw [Z_post]; exact post_v45 _ (X1_12 m c) (X1_v1 m c) g p h
theorem args_at4 (g : Fin 32) (p : Fin 64) (h : Fin 16) : (X1 m c main_arg4 : FVec Ideal S32x64x16 .f32) (ix3 g p h) = (args m c).BR g p h := by
  rw [X1_arg m c main_arg4 (by decide)]; rfl
theorem args_at5 (g : Fin 32) (p : Fin 64) (h : Fin 16) : (X1 m c main_arg5 : FVec Ideal S32x64x16 .f32) (ix3 g p h) = (args m c).BI g p h := by
  rw [X1_arg m c main_arg5 (by decide)]; rfl
theorem Z_v51 (t : Fin 4352) (g : Fin 32) (h : Fin 16) : (Z m c main_v51 : FVec Ideal S4352x512 .f32) (ix2 t (chan g h)) = (args m c).du t g h := by
  rw [Z_post]; exact post_v51 _ (args_at4 m c) (args_at5 m c) (X1_11 m c) (X1_12 m c) t g h

end Cert.ReferenceIdeal.RefRun

end
-- ==== Proof.Algebraic.lean ====
/-
  The two programs, over the reals and from the same arguments, end with the same eight results.
-/
module

public import proofs.«01_k».proof.Proof.Frames
public import proofs.«01_k».proof.Proof.KerVal
public import proofs.«01_k».proof.Proof.RefVal

@[expose] public section

set_option maxRecDepth 4096

noncomputable section

namespace Cert.Proof

open Idealize.ShloMosaic Idealize.SL.Sem Cert.S5

/-- Two arrays of 4352 tokens by 512 channels agree when they do at every channel of every group, -/
theorem ext_tok {x y : FVec Ideal ⟨2, ![4352, 512]⟩ .f32} {f : Fin 4352 → Fin 32 → Fin 16 → EReal} (hx : ∀ t g h, x (ix2 t (chan g h)) = f t g h) (hy : ∀ t g h, y (ix2 t (chan g h)) = f t g h) : x = y := by
  funext i
  obtain ⟨t, k, rfl⟩ : ∃ (t : Fin 4352) (k : Fin 512), i = ix2 t k := ⟨i 0, i 1, by funext a; fin_cases a <;> rfl⟩
  obtain ⟨g, h, rfl⟩ := exists_chan k
  exact (hx t g h).trans (hy t g h).symm

/-- and two arrays of rank 2 or 3 when they do at every index. -/
theorem ext2 {n k : ℕ} {x y : FVec Ideal ⟨2, ![n, k]⟩ .f32} {f : Fin n → Fin k → EReal} (hx : ∀ a b, x (ix2 a b) = f a b) (hy : ∀ a b, y (ix2 a b) = f a b) : x = y := by
  funext i
  obtain ⟨a, b, rfl⟩ : ∃ (a : Fin n) (b : Fin k), i = ix2 a b := ⟨i 0, i 1, by funext a; fin_cases a <;> rfl⟩
  exact (hx a b).trans (hy a b).symm
theorem ext3 {n k l : ℕ} {x y : FVec Ideal ⟨3, ![n, k, l]⟩ .f32} {f : Fin n → Fin k → Fin l → EReal} (hx : ∀ a b c, x (ix3 a b c) = f a b c) (hy : ∀ a b c, y (ix3 a b c) = f a b c) : x = y := by
  funext i
  obtain ⟨a, b, c, rfl⟩ : ∃ (a : Fin n) (b : Fin k) (c : Fin l), i = ix3 a b c := ⟨i 0, i 1, i 2, by funext a; fin_cases a <;> rfl⟩
  exact (hx a b c).trans (hy a b c).symm

section

variable {m : (ℓ : Loc Cert.KernelIdeal.nD Cert.KernelIdeal.τ Cert.KernelIdeal.sig) → Buf (Elt Ideal) ℓ} {m' : (ℓ : Loc Cert.ReferenceIdeal.nD Cert.ReferenceIdeal.τ Cert.ReferenceIdeal.sig) → Buf (Elt Ideal) ℓ} {c : Dev Cert.KernelIdeal.nD}

variable (e : Cert.ReferenceIdeal.RefRun.args m' c = Cert.KernelIdeal.S5Run.args m c)
include e

theorem eq_y : (Cert.ReferenceIdeal.RefRun.Z m' c (Proc.devRef .tc Cert.ReferenceIdeal.main_v20) : FVec Ideal Cert.KernelIdeal.S4352x512 .f32) = Cert.KernelIdeal.S5Run.Z m c (Proc.devRef .tc Cert.KernelIdeal.main_v61_2) :=
  ext_tok (fun t g h => ((Cert.ReferenceIdeal.RefRun.Z_v20 m' c t g h).trans (by rw [e]) : _ = (Cert.KernelIdeal.S5Run.args m c).y t g h)) (Cert.KernelIdeal.S5Run.Z_y m c)
theorem eq_du : (Cert.ReferenceIdeal.RefRun.Z m' c (Proc.devRef .tc Cert.ReferenceIdeal.main_v51) : FVec Ideal Cert.KernelIdeal.S4352x512 .f32) = Cert.KernelIdeal.S5Run.Z m c (Proc.devRef .tc Cert.KernelIdeal.main_v65_0) :=
  ext_tok (fun t g h => ((Cert.ReferenceIdeal.RefRun.Z_v51 m' c t g h).trans (by rw [e]) : _ = (Cert.KernelIdeal.S5Run.args m c).du t g h)) (Cert.KernelIdeal.S5Run.Z_du m c)
theorem eq_daRe : (Cert.ReferenceIdeal.RefRun.Z m' c (Proc.devRef .tc Cert.ReferenceIdeal.main_v41) : FVec Ideal Cert.KernelIdeal.S32x64 .f32) = Cert.KernelIdeal.S5Run.Z m c (Proc.devRef .tc Cert.KernelIdeal.main_v68) :=
  ext2 (fun g p => ((Cert.ReferenceIdeal.RefRun.Z_v41 m' c g p).trans (by rw [e]) : _ = (Cert.KernelIdeal.S5Run.args m c).daRe g p)) (Cert.KernelIdeal.S5Run.Z_daRe m c)
theorem eq_daIm : (Cert.ReferenceIdeal.RefRun.Z m' c (Proc.devRef .tc Cert.ReferenceIdeal.main_v40) : FVec Ideal Cert.KernelIdeal.S32x64 .f32) = Cert.KernelIdeal.S5Run.Z m c (Proc.devRef .tc Cert.KernelIdeal.main_v71) :=
  ext2 (fun g p => ((Cert.ReferenceIdeal.RefRun.Z_v40 m' c g p).trans (by rw [e]) : _ = (Cert.KernelIdeal.S5Run.args m c).daIm g p)) (Cert.KernelIdeal.S5Run.Z_daIm m c)
theorem eq_dbRe : (Cert.ReferenceIdeal.RefRun.Z m' c (Proc.devRef .tc Cert.ReferenceIdeal.main_v50) : FVec Ideal Cert.KernelIdeal.S32x64x16 .f32) = Cert.KernelIdeal.S5Run.Z m c (Proc.devRef .tc Cert.KernelIdeal.main_v83) :=
  ext3 (fun g p h => ((Cert.ReferenceIdeal.RefRun.Z_v50 m' c g p h).trans (by rw [e]) : _ = (Cert.KernelIdeal.S5Run.args m c).dbRe g p h)) (Cert.KernelIdeal.S5Run.Z_dbRe m c)
theorem eq_dbIm : (Cert.ReferenceIdeal.RefRun.Z m' c (Proc.devRef .tc Cert.ReferenceIdeal.main_v45) : FVec Ideal Cert.KernelIdeal.S32x64x16 .f32) = Cert.KernelIdeal.S5Run.Z m c (Proc.devRef .tc Cert.KernelIdeal.main_v95) :=
  ext3 (fun g p h => ((Cert.ReferenceIdeal.RefRun.Z_v45 m' c g p h).trans (by rw [e]) : _ = (Cert.KernelIdeal.S5Run.args m c).dbIm g p h)) (Cert.KernelIdeal.S5Run.Z_dbIm m c)
theorem eq_dcRe : (Cert.ReferenceIdeal.RefRun.Z m' c (Proc.devRef .tc Cert.ReferenceIdeal.main_v32) : FVec Ideal Cert.KernelIdeal.S32x16x64 .f32) = Cert.KernelIdeal.S5Run.Z m c (Proc.devRef .tc Cert.KernelIdeal.main_v107) :=
  ext3 (fun g h p => ((Cert.ReferenceIdeal.RefRun.Z_v32 m' c g h p).trans (by rw [e]) : _ = (Cert.KernelIdeal.S5Run.args m c).dcRe g h p)) (Cert.KernelIdeal.S5Run.Z_dcRe m c)
theorem eq_dcIm : (Cert.ReferenceIdeal.RefRun.Z m' c (Proc.devRef .tc Cert.ReferenceIdeal.main_v28) : FVec Ideal Cert.KernelIdeal.S32x16x64 .f32) = Cert.KernelIdeal.S5Run.Z m c (Proc.devRef .tc Cert.KernelIdeal.main_v120) :=
  ext3 (fun g h p => ((Cert.ReferenceIdeal.RefRun.Z_v28 m' c g h p).trans (by rw [e]) : _ = (Cert.KernelIdeal.S5Run.args m c).dcIm g h p)) (Cert.KernelIdeal.S5Run.Z_dcIm m c)

end

theorem algebraic : Cert.algebraic_KernelIdeal_ReferenceIdeal := fun m ρ m' ρ' _ hm => by
  have e : ∀ c : Dev Cert.KernelIdeal.nD, Cert.ReferenceIdeal.RefRun.args m' c = Cert.KernelIdeal.S5Run.args m c := fun c => by
    obtain ⟨h0, h1, h2, h3, h4, h5, h6, h7⟩ := hm c
    unfold Cert.ReferenceIdeal.RefRun.args Cert.KernelIdeal.S5Run.args
    rw [h0, h1, h2, h3, h4, h5, h6, h7]
  refine ⟨fun c => Cert.KernelIdeal.S5Run.Z m c (Proc.devRef .tc Cert.KernelIdeal.main_v61_2), fun c => Cert.KernelIdeal.S5Run.Z m c (Proc.devRef .tc Cert.KernelIdeal.main_v65_0), fun c => Cert.KernelIdeal.S5Run.Z m c (Proc.devRef .tc Cert.KernelIdeal.main_v68), fun c => Cert.KernelIdeal.S5Run.Z m c (Proc.devRef .tc Cert.KernelIdeal.main_v71), fun c => Cert.KernelIdeal.S5Run.Z m c (Proc.devRef .tc Cert.KernelIdeal.main_v83), fun c => Cert.KernelIdeal.S5Run.Z m c (Proc.devRef .tc Cert.KernelIdeal.main_v95), fun c => Cert.KernelIdeal.S5Run.Z m c (Proc.devRef .tc Cert.KernelIdeal.main_v107), fun c => Cert.KernelIdeal.S5Run.Z m c (Proc.devRef .tc Cert.KernelIdeal.main_v120), ?_, ?_⟩
  · refine (θ_run Cert.KernelIdeal.defs _ _).mono (fun r h c => ?_) (Cert.KernelIdeal.S5Run.run_main m ρ)
    exact ⟨(h.1 c).at _ rfl, (h.1 c).at _ rfl, (h.1 c).at _ rfl, (h.1 c).at _ rfl, (h.1 c).at _ rfl, (h.1 c).at _ rfl, (h.1 c).at _ rfl, (h.1 c).at _ rfl,
      ((h.1 c).at _ rfl).trans (Cert.KernelIdeal.Gen.V5_main_arg0 m _ c), ((h.1 c).at _ rfl).trans (Cert.KernelIdeal.Gen.V5_main_arg1 m _ c), ((h.1 c).at _ rfl).trans (Cert.KernelIdeal.Gen.V5_main_arg2 m _ c), ((h.1 c).at _ rfl).trans (Cert.KernelIdeal.Gen.V5_main_arg3 m _ c), ((h.1 c).at _ rfl).trans (Cert.KernelIdeal.Gen.V5_main_arg4 m _ c), ((h.1 c).at _ rfl).trans (Cert.KernelIdeal.Gen.V5_main_arg5 m _ c), ((h.1 c).at _ rfl).trans (Cert.KernelIdeal.Gen.V5_main_arg6 m _ c), ((h.1 c).at _ rfl).trans (Cert.KernelIdeal.Gen.V5_main_arg7 m _ c)⟩
  · refine (θ_run Cert.ReferenceIdeal.defs _ _).mono (fun r h c => ?_) (Cert.ReferenceIdeal.RefRun.run_main m' ρ')
    exact ⟨(h.1 c _ rfl).trans (eq_y (e c)), (h.1 c _ rfl).trans (eq_du (e c)), (h.1 c _ rfl).trans (eq_daRe (e c)), (h.1 c _ rfl).trans (eq_daIm (e c)), (h.1 c _ rfl).trans (eq_dbRe (e c)), (h.1 c _ rfl).trans (eq_dbIm (e c)), (h.1 c _ rfl).trans (eq_dcRe (e c)), (h.1 c _ rfl).trans (eq_dcIm (e c)),
      reference_arg (h.1 c) Cert.ReferenceIdeal.main_arg0 (by decide), reference_arg (h.1 c) Cert.ReferenceIdeal.main_arg1 (by decide), reference_arg (h.1 c) Cert.ReferenceIdeal.main_arg2 (by decide), reference_arg (h.1 c) Cert.ReferenceIdeal.main_arg3 (by decide), reference_arg (h.1 c) Cert.ReferenceIdeal.main_arg4 (by decide), reference_arg (h.1 c) Cert.ReferenceIdeal.main_arg5 (by decide), reference_arg (h.1 c) Cert.ReferenceIdeal.main_arg6 (by decide), reference_arg (h.1 c) Cert.ReferenceIdeal.main_arg7 (by decide)⟩

end Cert.Proof

end
-- ==== Proof.Dense.lean ====
/-
  The three matrix products of a dense layer, as sums: the layer itself, the gradient by its input and the gradient by its matrix.
-/
module

public import Idealize.ShloMosaic.Lib.Pointwise

@[expose] public section

noncomputable section

namespace Cert.Dense

open Idealize.ShloMosaic
open scoped BigOperators

variable {n k p : ℕ} {φ₁ φ₂ ψ : FTy}

/-- Rows times a matrix. -/
def nn (ψ : FTy) (x : FVec Ideal ⟨2, ![n, k]⟩ φ₁) (w : FVec Ideal ⟨2, ![k, p]⟩ φ₂) : FVec Ideal ⟨2, ![n, p]⟩ ψ :=
  fun i => ∑ j : Fin k, x (ix2 (i 0) j) * w (ix2 j (i 1))

/-- Two arrays of rows, side by side, times a transposed matrix. -/
def nt2 (ψ : FTy) (x y : FVec Ideal ⟨2, ![n, p]⟩ φ₁) (w : FVec Ideal ⟨2, ![k, p + p]⟩ φ₂) : FVec Ideal ⟨2, ![n, k]⟩ ψ :=
  fun i => (∑ j : Fin p, x (ix2 (i 0) j) * w (ix2 (i 1) (Fin.castAdd p j))) + ∑ j : Fin p, y (ix2 (i 0) j) * w (ix2 (i 1) (Fin.natAdd p j))

/-- Rows times a transposed matrix. -/
def nt (ψ : FTy) (x : FVec Ideal ⟨2, ![n, p]⟩ φ₁) (w : FVec Ideal ⟨2, ![k, p]⟩ φ₂) : FVec Ideal ⟨2, ![n, k]⟩ ψ :=
  fun i => ∑ j : Fin p, x (ix2 (i 0) j) * w (ix2 (i 1) j)

/-- An element of the transposed rows times rows. -/
def tnAt (x : FVec Ideal ⟨2, ![n, k]⟩ φ₁) (g : FVec Ideal ⟨2, ![n, p]⟩ φ₂) (i : Fin k) (j : Fin p) : EReal := ∑ r : Fin n, x (ix2 r i) * g (ix2 r j)

/-- The transposed rows times rows. -/
def tn (ψ : FTy) (x : FVec Ideal ⟨2, ![n, k]⟩ φ₁) (g : FVec Ideal ⟨2, ![n, p]⟩ φ₂) : FVec Ideal ⟨2, ![k, p]⟩ ψ :=
  fun i => ∑ r : Fin n, x (ix2 r (i 0)) * g (ix2 r (i 1))

theorem exists_ix2 (i : (⟨2, ![n, k]⟩ : Shape).Idx) : ∃ (a : Fin n) (b : Fin k), i = ix2 a b := ⟨i 0, i 1, by funext a; fin_cases a <;> rfl⟩

end Cert.Dense

end
-- ==== Proof.UpProj.lean ====
/-
  The up projection, rows times a matrix: tile by tile it is the matrix product of the reference.
-/
module

public import proofs.«01_k».proof.Defs
public import proofs.«01_k».proof.Proof.Dense
public import proofs.«01_k».proof.Proof.Gen.Kernel2Ideal.Value
public import proofs.«01_k».proof.Proof.Gen.Reference2Ideal.Read
public import Idealize.ShloMosaic.Lib.Quiescent
public import Idealize.ShloMosaic.Lib.Pipeline.ValueKit.Acc
import Idealize.ShloMosaic.Lib.Pipeline.ValueKit.Geometry

@[expose] public section

set_option maxRecDepth 4096

noncomputable section

namespace Cert.Kernel2Ideal.UpProj

open Idealize.ShloMosaic Idealize.ShloMosaic.TcCoe Idealize.SL.Sem
open Idealize.ShloMosaic.Pipeline (Dat)
open Cert.Kernel2Ideal Cert.Kernel2Ideal.Gen Cert.Dense
open scoped BigOperators

/-- Point `t` works on row tile `t % 4` and column tile `t / 4`. -/
theorem index_0 : ∀ t : Fin cfg0.N, win0_0.index t = ![t.val % 4, 0] := (by decide +kernel : ∀ t : Fin grid0.N, win0_0.index t = ![t.val % 4, 0])
theorem index_1 : ∀ t : Fin cfg0.N, win0_1.index t = ![0, t.val / 4] := (by decide +kernel : ∀ t : Fin grid0.N, win0_1.index t = ![0, t.val / 4])
theorem index_2 : ∀ t : Fin cfg0.N, win0_2.index t = ![t.val % 4, t.val / 4] := (by decide +kernel : ∀ t : Fin grid0.N, win0_2.index t = ![t.val % 4, t.val / 4])

/-- The tile's product, at an element. -/
theorem pay_at (x : Vec Ideal S1088x1024 .bf16) (w : Vec Ideal S1024x1408 .bf16) (r : Fin 1088) (j : Fin 1408) :
    k0_pay1 x w (ix2 r j) = ∑ k : Fin 1024, x (ix2 r k) * w (ix2 k j) := by
  unfold k0_pay1
  pointwise

variable (m : (ℓ : Loc nD τ sig) → Buf (Elt Ideal) ℓ) (c : Dev nD)

/-- The tiles' products fill the product of the arrays. -/
theorem final : (dats m 0 c).arrAt 2 cfg0.N = nn (n := 4352) (k := 1024) (p := 5632) (φ₁ := .bf16) (φ₂ := .bf16) .f32 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, j, rfl⟩ : ∃ (r : Fin 1088) (j : Fin 1408), y = ix2 r j := exists_ix2 y
  refine (pay_at _ _ r j).trans (Finset.sum_congr rfl fun k _ => ?_)
  have ht := Nat.lt_of_lt_of_eq t.isLt N_0
  refine congrArg₂ (fun a b : EReal => a * b) ?_ ?_
  · unfold iblk; rw [← V_main_arg0 m c]; blk_ext [index_0, index_2]
  · unfold iblk; rw [← V_main_arg1 m c]; blk_ext [index_1, index_2]

end Cert.Kernel2Ideal.UpProj

namespace Cert.Reference2Ideal.UpProj

open Idealize.ShloMosaic Cert.Reference2Ideal Cert.Reference2Ideal.Read Cert.Dense

theorem val (x : FVec Ideal S4352x1024 .bf16) (w : FVec Ideal S1024x5632 .bf16) : val_main_v2 (F := Ideal) x w = nn (n := 4352) (k := 1024) (p := 5632) (φ₁ := .bf16) (φ₂ := .bf16) .f32 x w := by
  funext i
  refine (val_main_v2_apply x w i).trans (Finset.sum_congr rfl fun k _ => ?_)
  refine congrArg₂ (fun a b : EReal => a * b) (congrArg x ?_) (congrArg w ?_) <;> funext a <;> fin_cases a <;> rfl

end Cert.Reference2Ideal.UpProj

namespace Cert.Proof

open Idealize.ShloMosaic Idealize.SL.Sem

theorem frame_reference2 : Cert.quiescent_Reference2Ideal := fun m ρ _ =>
  (θ_run Cert.Reference2Ideal.defs _ _).mono (fun r h => ⟨fun c => (h c).2, sem_eq_zero_of_no_sems rfl r.2⟩) (Cert.Reference2Ideal.Value.run m ρ)

theorem algebraic2 : Cert.algebraic_Kernel2Ideal_Reference2Ideal := fun m ρ m' ρ' _ hm =>
  ⟨fun c => (Cert.Kernel2Ideal.Gen.dats m 0 c).arrAt 2 Cert.Kernel2Ideal.cfg0.N,
    Cert.Kernel2Ideal.Value.run_blocks m ρ,
    (θ_run Cert.Reference2Ideal.defs _ _).mono (fun _ h c => ⟨((h c).1.trans (Cert.Reference2Ideal.UpProj.val _ _)).trans ((by rw [(hm c).1, (hm c).2] : _ = _).trans (Cert.Kernel2Ideal.UpProj.final m c).symm), (h c).2⟩) (Cert.Reference2Ideal.Value.run m' ρ')⟩

end Cert.Proof

end
-- ==== Proof.UpBwd.lean ====
/-
  The gradient of the up projection by its input: the two halves' products with the two halves of the matrix, added.
-/
module

public import proofs.«01_k».proof.Defs
public import proofs.«01_k».proof.Proof.Dense
public import proofs.«01_k».proof.Proof.Gen.Kernel3Ideal.Value
public import proofs.«01_k».proof.Proof.Gen.Reference3Ideal.Read
public import Idealize.ShloMosaic.Lib.Quiescent
public import Idealize.ShloMosaic.Lib.Pipeline.ValueKit.Acc
import Idealize.ShloMosaic.Lib.Pipeline.ValueKit.Geometry

@[expose] public section

set_option maxRecDepth 4096

noncomputable section

namespace Cert.Kernel3Ideal.UpBwd

open Idealize.ShloMosaic Idealize.ShloMosaic.TcCoe Idealize.SL.Sem
open Idealize.ShloMosaic.Pipeline (Dat)
open Cert.Kernel3Ideal Cert.Kernel3Ideal.Gen Cert.Dense
open scoped BigOperators

/-- Point `t` works on row tile `t`; the two halves of the matrix stay. -/
theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![0, 0] := (by decide +kernel : ∀ t : Fin grid0.N, win0_2.index t = ![0, 0])
theorem index_3 : ∀ t : Fin cfg0.N, win0_3.index t = ![0, 1] := (by decide +kernel : ∀ t : Fin grid0.N, win0_3.index t = ![0, 1])
theorem index_4 : ∀ t : Fin cfg0.N, win0_4.index t = ![t.val, 0] := (by decide +kernel : ∀ t : Fin grid0.N, win0_4.index t = ![t.val, 0])

/-- The tile's two products, at an element. -/
theorem pay_at (x : Vec Ideal S544x2816 .bf16) (v : Vec Ideal S1024x2816 .bf16) (y : Vec Ideal S544x2816 .bf16) (w : Vec Ideal S1024x2816 .bf16) (r : Fin 544) (j : Fin 1024) :
    k0_pay1 x v y w (ix2 r j) = (∑ k : Fin 2816, x (ix2 r k) * v (ix2 j k)) + ∑ k : Fin 2816, y (ix2 r k) * w (ix2 j k) := by
  unfold k0_pay1
  pointwise

variable (m : (ℓ : Loc nD τ sig) → Buf (Elt Ideal) ℓ) (c : Dev nD)

/-- The tiles fill the sum of the two products. -/
theorem final : (dats m 0 c).arrAt 4 cfg0.N = nt2 (n := 4352) (k := 1024) (p := 2816) (φ₁ := .bf16) (φ₂ := .bf16) .f32 (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  frame_out
  obtain ⟨r, j, rfl⟩ : ∃ (r : Fin 544) (j : Fin 1024), y = ix2 r j := exists_ix2 y
  have ht := Nat.lt_of_lt_of_eq t.isLt N_0
  refine (pay_at _ _ _ _ r j).trans (congrArg₂ (fun a b : EReal => a + b) (Finset.sum_congr rfl fun k _ => congrArg₂ (fun a b : EReal => a * b) ?_ ?_) (Finset.sum_congr rfl fun k _ => congrArg₂ (fun a b : EReal => a * b) ?_ ?_))
  · unfold iblk; rw [← V_main_arg0 m c]; blk_ext [index_0, index_4]
  · unfold iblk; rw [← V_main_arg2 m c]; blk_ext [index_2, index_4, Fin.val_castAdd]
  · unfold iblk; rw [← V_main_arg1 m c]; blk_ext [index_1, index_4]
  · unfold iblk; rw [← V_main_arg2 m c]; blk_ext [index_3, index_4, Fin.val_natAdd]

end Cert.Kernel3Ideal.UpBwd

namespace Cert.Reference3Ideal.UpBwd

open Idealize.ShloMosaic Cert.Reference3Ideal Cert.Reference3Ideal.Read Cert.Dense

/-- The reference's product with the halves side by side, split at the seam. -/
theorem val (x y : FVec Ideal S4352x2816 .bf16) (w : FVec Ideal S1024x5632 .bf16) : val_main_v5 (F := Ideal) x y w = nt2 (n := 4352) (k := 1024) (p := 2816) (φ₁ := .bf16) (φ₂ := .bf16) .f32 x y w := by
  funext i
  refine (val_main_v5_apply x y w i).trans ((Fin.sum_univ_add (a := 2816) (b := 2816) _).trans ?_)
  refine congrArg₂ (fun a b : EReal => a + b) (Finset.sum_congr rfl fun k _ => ?_) (Finset.sum_congr rfl fun k _ => ?_)
  · refine congrArg₂ (fun a b : EReal => a * b) ?_ (congrArg w (by funext a; fin_cases a <;> rfl))
    exact concatenate_pair_apply_left (t := S4352x5632) (1 : Fin 2) x y Facts₀.concatenates_S4352x2816_S4352x2816_S4352x5632_d1 (lidx_main_v5 i (Fin.castAdd 2816 k)) rfl (ix2 (i 0) k) (fun b => by fin_cases b <;> rfl)
  · refine congrArg₂ (fun a b : EReal => a * b) ?_ (congrArg w (by funext a; fin_cases a <;> rfl))
    refine concatenate_pair_apply_right (t := S4352x5632) (1 : Fin 2) x y Facts₀.concatenates_S4352x2816_S4352x2816_S4352x5632_d1 (lidx_main_v5 i (Fin.natAdd 2816 k)) rfl rfl (ix2 (i 0) k) (fun b hb => ?_) (Nat.add_comm _ _)
    fin_cases b
    · rfl
    · exact absurd rfl hb

end Cert.Reference3Ideal.UpBwd

namespace Cert.Proof

open Idealize.ShloMosaic Idealize.SL.Sem

theorem frame_reference3 : Cert.quiescent_Reference3Ideal := fun m ρ _ =>
  (θ_run Cert.Reference3Ideal.defs _ _).mono (fun r h => ⟨fun c => (h c).2, sem_eq_zero_of_no_sems rfl r.2⟩) (Cert.Reference3Ideal.Value.run m ρ)

theorem algebraic3 : Cert.algebraic_Kernel3Ideal_Reference3Ideal := fun m ρ m' ρ' _ hm =>
  ⟨fun c => (Cert.Kernel3Ideal.Gen.dats m 0 c).arrAt 4 Cert.Kernel3Ideal.cfg0.N,
    Cert.Kernel3Ideal.Value.run_blocks m ρ,
    (θ_run Cert.Reference3Ideal.defs _ _).mono (fun _ h c => ⟨((h c).1.trans (Cert.Reference3Ideal.UpBwd.val _ _ _)).trans ((by rw [(hm c).1, (hm c).2.1, (hm c).2.2] : _ = _).trans (Cert.Kernel3Ideal.UpBwd.final m c).symm), (h c).2⟩) (Cert.Reference3Ideal.Value.run m' ρ')⟩

end Cert.Proof

end
-- ==== Proof.UpWgrad.lean ====
/-
  The gradient of the up projection by its matrix: the products of two halves of the rows, added in the scratch, are the product of all rows.
-/
module

public import proofs.«01_k».proof.Defs
public import proofs.«01_k».proof.Proof.Dense
public import proofs.«01_k».proof.Proof.Gen.Kernel4Ideal.Value
public import proofs.«01_k».proof.Proof.Gen.Reference4Ideal.Read
public import Idealize.ShloMosaic.Lib.Quiescent
public import Idealize.ShloMosaic.Lib.Pipeline.ValueKit.Acc
import Idealize.ShloMosaic.Lib.Pipeline.ValueKit.Geometry

@[expose] public section

set_option maxRecDepth 4096

noncomputable section

namespace Cert.Kernel4Ideal.UpWgrad

open Idealize.ShloMosaic Idealize.ShloMosaic.TcCoe Idealize.SL.Sem
open Idealize.ShloMosaic.Pipeline (Dat)
open Cert.Kernel4Ideal Cert.Kernel4Ideal.Gen Cert.Dense
open scoped BigOperators

/-- Point `t` works on half `t % 2` of the rows and column tile `t / 2`. -/
theorem index_0 : ∀ t : Fin cfg0.N, win0_0.index t = ![t.val % 2, 0] := (by decide +kernel : ∀ t : Fin grid0.N, win0_0.index t = ![t.val % 2, 0])
theorem index_1 : ∀ t : Fin cfg0.N, win0_1.index t = ![t.val % 2, t.val / 2] := (by decide +kernel : ∀ t : Fin grid0.N, win0_1.index t = ![t.val % 2, t.val / 2])
theorem index_2 : ∀ t : Fin cfg0.N, win0_2.index t = ![0, t.val / 2] := (by decide +kernel : ∀ t : Fin grid0.N, win0_2.index t = ![0, t.val / 2])
theorem flush_2 : ∀ t : Fin cfg0.N, (cfg0.win 2).flush t = true → t.val % 2 = 1 := (by decide +kernel : ∀ t : Fin grid0.N, (cfg0.win 2).flush t = true → t.val % 2 = 1)

theorem pay_zero (i : S1024x1408.Idx) : (k0_pay1 : FVec Ideal S1024x1408 .f32) i = (0 : EReal) := by
  unfold k0_pay1
  pointwise

/-- The product of half the rows, at an element. -/
def part (x : FVec Ideal S2176x1024 .bf16) (g : FVec Ideal S2176x1408 .bf16) (i : Fin 1024) (j : Fin 1408) : EReal := ∑ k : Fin 2176, x (ix2 k i) * g (ix2 k j)

/-- What a point adds to the scratch, at an element. -/
theorem pay_at (acc : Vec Ideal S1024x1408 .f32) (x : Vec Ideal S2176x1024 .bf16) (g : Vec Ideal S2176x1408 .bf16) (i : Fin 1024) (j : Fin 1408) :
    k0_pay2 acc x g (ix2 i j) = acc (ix2 i j) + part x g i j := by
  unfold k0_pay2 part
  pointwise

variable (m : (ℓ : Loc nD τ sig) → Buf (Elt Ideal) ℓ) (c : Dev nD)

/-- The scratch after a first point of a column tile, at an element. -/
theorem first (t : Fin cfg0.N) (h : t.val % 2 = 0) (i : Fin 1024) (j : Fin 1408) :
    (outsAt0 m c t.val t.isLt).2 (ix2 i j) = part (iblk m c 0 t) (iblk m c 1 t) i j := by
  rw [outsAt0_A m c t h (by omega)]
  frame_out
  rw [pay_at, pay_zero, zero_add]

/-- What a second point writes, at an element. -/
theorem second (t : Fin cfg0.N) (h : t.val % 2 = 1) (i : Fin 1024) (j : Fin 1408) :
    (outsAt0 m c t.val t.isLt).1 (ix2 i j) = (outsAt0 m c (t.val - 1) (by omega)).2 (ix2 i j) + part (iblk m c 0 t) (iblk m c 1 t) i j := by
  rw [outsAt0_B m c t (by omega) h]
  frame_out
  refine (pay_at _ _ _ i j).trans ?_
  exact congrArg (fun f : FVec Ideal S1024x1408 .f32 => f (ix2 i j) + part (iblk m c 0 t) (iblk m c 1 t) i j) (Memref.IsWhole.read_unread (Memref.isWhole_whole cc0_scratch0) _)

/-- The column tiles fill the product over all rows. -/
theorem final : (dats m 0 c).arrAt 2 cfg0.N = tn (n := 4352) (k := 1024) (p := 2816) (φ₁ := .bf16) (φ₂ := .bf16) .bf16 (m ((c.tc : Thread nD τ).loc main_arg0)) (m ((c.tc : Thread nD τ).loc main_arg1)) := by
  refine (dats m 0 c).arrAt_eq_of_covers 2 _ (by decide +kernel) fun t hf y => ?_
  have h1 := flush_2 t hf
  have ht := Nat.lt_of_lt_of_eq t.isLt N_0
  blk_simp
  rw [after0_2]
  obtain ⟨i, j, rfl⟩ : ∃ (i : Fin 1024) (j : Fin 1408), y = ix2 i j := exists_ix2 y
  obtain ⟨s, hs⟩ : ∃ s : Fin cfg0.N, s.val = t.val - 1 := ⟨⟨t.val - 1, by omega⟩, rfl⟩
  refine (second m c t h1 i j).trans ?_
  refine (congrArg (fun a : EReal => a + part (iblk m c 0 t) (iblk m c 1 t) i j) ((by simp only [hs] : _ = _).trans (first m c s (by omega) i j))).trans ?_
  refine Eq.trans ?_ (Fin.sum_univ_add (a := 2176) (b := 2176) _).symm
  unfold part
  refine congrArg₂ (fun a b : EReal => a + b) (Finset.sum_congr rfl fun k _ => congrArg₂ (fun a b : EReal => a * b) ?_ ?_) (Finset.sum_congr rfl fun k _ => congrArg₂ (fun a b : EReal => a * b) ?_ ?_)
  · unfold iblk; rw [← V_main_arg0 m c]; blk_ext [index_0, index_2, Fin.val_castAdd]
  · unfold iblk; rw [← V_main_arg1 m c]; blk_ext [index_1, index_2, Fin.val_castAdd]
  · unfold iblk; rw [← V_main_arg0 m c]; blk_ext [index_0, index_2, Fin.val_natAdd]
  · unfold iblk; rw [← V_main_arg1 m c]; blk_ext [index_1, index_2, Fin.val_natAdd]

end Cert.Kernel4Ideal.UpWgrad

namespace Cert.Reference4Ideal.UpWgrad

open Idealize.ShloMosaic Cert.Reference4Ideal Cert.Reference4Ideal.Read Cert.Dense

/-- The reference's product, its factors exchanged. -/
theorem val (x : FVec Ideal S4352x1024 .bf16) (g : FVec Ideal S4352x2816 .bf16) : val_main_v6 (F := Ideal) x g = tn (n := 4352) (k := 1024) (p := 2816) (φ₁ := .bf16) (φ₂ := .bf16) .bf16 x g := by
  funext i
  refine (val_main_v6_apply (F := Ideal) x g i).trans ?_
  rw [Ideal.truncf_def]
  refine (val_main_v5_apply (F := Ideal) x g i).trans ((val_main_v4_apply x g _).trans (Finset.sum_congr rfl fun k _ => (mul_comm (G := EReal) _ _).trans ?_))
  refine congrArg₂ (fun a b : EReal => a * b) (congrArg x ?_) (congrArg g ?_) <;> funext a <;> fin_cases a <;> rfl

end Cert.Reference4Ideal.UpWgrad

namespace Cert.Proof

open Idealize.ShloMosaic Idealize.SL.Sem

theorem frame_reference4 : Cert.quiescent_Reference4Ideal := fun m ρ _ =>
  (θ_run Cert.Reference4Ideal.defs _ _).mono (fun r h => ⟨fun c => (h c).2, sem_eq_zero_of_no_sems rfl r.2⟩) (Cert.Reference4Ideal.Value.run m ρ)

theorem algebraic4 : Cert.algebraic_Kernel4Ideal_Reference4Ideal := fun m ρ m' ρ' _ hm =>
  ⟨fun c => (Cert.Kernel4Ideal.Gen.dats m 0 c).arrAt 2 Cert.Kernel4Ideal.cfg0.N,
    Cert.Kernel4Ideal.Value.run_blocks m ρ,
    (θ_run Cert.Reference4Ideal.defs _ _).mono (fun _ h c => ⟨((h c).1.trans (Cert.Reference4Ideal.UpWgrad.val _ _)).trans ((by rw [(hm c).1, (hm c).2] : _ = _).trans (Cert.Kernel4Ideal.UpWgrad.final m c).symm), (h c).2⟩) (Cert.Reference4Ideal.Value.run m' ρ')⟩

end Cert.Proof

end
-- ==== Proof.Down.lean ====
/-
  The down projection and its gradients. The gradient by the matrix adds the products of four tiles of rows.
-/
module

public import proofs.«01_k».proof.Defs
public import proofs.«01_k».proof.Proof.Dense
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import Idealize.ShloMosaic.Lib.Quiescent
public import Idealize.ShloMosaic.Lib.Pipeline.ValueKit.Acc
import Idealize.ShloMosaic.Lib.Pipeline.ValueKit.Geometry

@[expose] public section

set_option maxRecDepth 4096

noncomputable section

namespace Cert.Kernel5Ideal.Down

open Idealize.ShloMosaic Idealize.ShloMosaic.TcCoe Idealize.SL.Sem
open Idealize.ShloMosaic.Pipeline (Dat)
open Cert.Kernel5Ideal Cert.Kernel5Ideal.Gen Cert.Dense
open scoped BigOperators

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem pay_at (x : Vec Ideal S1088x2816 .bf16) (w : Vec Ideal S2816x1024 .bf16) (r : Fin 1088) (j : Fin 1024) :
    k0_pay1 x w (ix2 r j) = ∑ k : Fin 2816, x (ix2 r k) * w (ix2 k j) := by
  unfold k0_pay1
  pointwise

variable (m : (ℓ : Loc nD τ sig) → Buf (Elt Ideal) ℓ) (c : Dev nD)

/-- The tiles of rows fill the product. -/
theorem final : (dats m 0 c).arrAt 2 cfg0.N = nn (n := 4352) (k := 2816) (p := 1024) (φ₁ := .bf16) (φ₂ := .bf16) .f32 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, j, rfl⟩ : ∃ (r : Fin 1088) (j : Fin 1024), y = ix2 r j := exists_ix2 y
  refine (pay_at _ _ r j).trans (Finset.sum_congr rfl fun k _ => ?_)
  have ht := Nat.lt_of_lt_of_eq t.isLt N_0
  refine congrArg₂ (fun a b : EReal => a * b) ?_ ?_
  · unfold iblk; rw [← V_main_arg0 m c]; blk_ext [index_0, index_2]
  · unfold iblk; rw [← V_main_arg1 m c]; blk_ext [index_1, index_2]

end Cert.Kernel5Ideal.Down

namespace Cert.Reference5Ideal.Down

open Idealize.ShloMosaic Cert.Reference5Ideal Cert.Reference5Ideal.Read Cert.Dense

theorem val (x : FVec Ideal S4352x2816 .bf16) (w : FVec Ideal S2816x1024 .bf16) : val_main_v2 (F := Ideal) x w = nn (n := 4352) (k := 2816) (p := 1024) (φ₁ := .bf16) (φ₂ := .bf16) .f32 x w := by
  funext i
  refine (val_main_v2_apply x w i).trans (Finset.sum_congr rfl fun k _ => ?_)
  refine congrArg₂ (fun a b : EReal => a * b) (congrArg x ?_) (congrArg w ?_) <;> funext a <;> fin_cases a <;> rfl

end Cert.Reference5Ideal.Down

namespace Cert.Kernel6Ideal.Down

open Idealize.ShloMosaic Idealize.ShloMosaic.TcCoe Idealize.SL.Sem
open Idealize.ShloMosaic.Pipeline (Dat)
open Cert.Kernel6Ideal Cert.Kernel6Ideal.Gen Cert.Dense
open scoped BigOperators

/-- Point `t` works on row tile `t % 4` and on tile `t / 4` of the matrix's rows. -/
theorem index_0 : ∀ t : Fin cfg0.N, win0_0.index t = ![t.val % 4, 0] := (by decide +kernel : ∀ t : Fin grid0.N, win0_0.index t = ![t.val % 4, 0])
theorem index_1 : ∀ t : Fin cfg0.N, win0_1.index t = ![t.val / 4, 0] := (by decide +kernel : ∀ t : Fin grid0.N, win0_1.index t = ![t.val / 4, 0])
theorem index_2 : ∀ t : Fin cfg0.N, win0_2.index t = ![t.val % 4, t.val / 4] := (by decide +kernel : ∀ t : Fin grid0.N, win0_2.index t = ![t.val % 4, t.val / 4])

theorem pay_at (x : Vec Ideal S1088x1024 .f32) (w : Vec Ideal S1408x1024 .bf16) (r : Fin 1088) (j : Fin 1408) :
    k0_pay1 x w (ix2 r j) = ∑ k : Fin 1024, x (ix2 r k) * w (ix2 j k) := by
  unfold k0_pay1
  pointwise

variable (m : (ℓ : Loc nD τ sig) → Buf (Elt Ideal) ℓ) (c : Dev nD)

/-- The tiles fill the product with the transposed matrix. -/
theorem final : (dats m 0 c).arrAt 2 cfg0.N = nt (n := 4352) (k := 2816) (p := 1024) (φ₁ := .f32) (φ₂ := .bf16) .f32 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, j, rfl⟩ : ∃ (r : Fin 1088) (j : Fin 1408), y = ix2 r j := exists_ix2 y
  refine (pay_at _ _ r j).trans (Finset.sum_congr rfl fun k _ => ?_)
  have ht := Nat.lt_of_lt_of_eq t.isLt N_0
  refine congrArg₂ (fun a b : EReal => a * b) ?_ ?_
  · unfold iblk; rw [← V_main_arg0 m c]; blk_ext [index_0, index_2]
  · unfold iblk; rw [← V_main_arg1 m c]; blk_ext [index_1, index_2]

end Cert.Kernel6Ideal.Down

namespace Cert.Reference6Ideal.Down

open Idealize.ShloMosaic Cert.Reference6Ideal Cert.Reference6Ideal.Read Cert.Dense

theorem val (x : FVec Ideal S4352x1024 .f32) (w : FVec Ideal S2816x1024 .bf16) : val_main_v3 (F := Ideal) x w = nt (n := 4352) (k := 2816) (p := 1024) (φ₁ := .f32) (φ₂ := .bf16) .f32 x w := by
  funext i
  refine (val_main_v3_apply x w i).trans (Finset.sum_congr rfl fun k _ => ?_)
  refine congrArg₂ (fun a b : EReal => a * b) (congrArg x ?_) (congrArg w ?_) <;> funext a <;> fin_cases a <;> rfl

end Cert.Reference6Ideal.Down

namespace Cert.Kernel7Ideal.Down

open Idealize.ShloMosaic Idealize.ShloMosaic.TcCoe Idealize.SL.Sem
open Idealize.ShloMosaic.Pipeline (Dat)
open Cert.Kernel7Ideal Cert.Kernel7Ideal.Gen Cert.Dense
open scoped BigOperators

/-- Point `t` works on row tile `t % 4` and on tile `t / 4` of the matrix's rows. -/
theorem index_0 : ∀ t : Fin cfg0.N, win0_0.index t = ![t.val % 4, t.val / 4] := (by decide +kernel : ∀ t : Fin grid0.N, win0_0.index t = ![t.val % 4, t.val / 4])
theorem index_1 : ∀ t : Fin cfg0.N, win0_1.index t = ![t.val % 4, 0] := (by decide +kernel : ∀ t : Fin grid0.N, win0_1.index t = ![t.val % 4, 0])
theorem index_2 : ∀ t : Fin cfg0.N, win0_2.index t = ![t.val / 4, 0] := (by decide +kernel : ∀ t : Fin grid0.N, win0_2.index t = ![t.val / 4, 0])
theorem flush_2 : ∀ t : Fin cfg0.N, (cfg0.win 2).flush t = true → t.val % 4 = 3 := (by decide +kernel : ∀ t : Fin grid0.N, (cfg0.win 2).flush t = true → t.val % 4 = 3)

theorem pay_zero (i : S1408x1024.Idx) : (k0_pay1 : FVec Ideal S1408x1024 .f32) i = (0 : EReal) := by
  unfold k0_pay1
  pointwise

/-- What a point adds to the scratch, at an element. -/
theorem pay_at (acc : Vec Ideal S1408x1024 .f32) (x : Vec Ideal S1088x1408 .bf16) (g : Vec Ideal S1088x1024 .f32) (i : Fin 1408) (j : Fin 1024) :
    k0_pay2 acc x g (ix2 i j) = acc (ix2 i j) + tnAt (φ₁ := .bf16) (φ₂ := .f32) x g i j := by
  unfold k0_pay2 tnAt
  pointwise

variable (m : (ℓ : Loc nD τ sig) → Buf (Elt Ideal) ℓ) (c : Dev nD)

/-- What point `t` adds. -/
def term (t : Fin cfg0.N) (y : Fin 1408 × Fin 1024) : EReal := tnAt (n := 1088) (k := 1408) (p := 1024) (φ₁ := .bf16) (φ₂ := .f32) (iblk m c 0 t) (iblk m c 1 t) y.1 y.2

theorem first (t : Fin cfg0.N) (h : t.val % 4 = 0) (y : Fin 1408 × Fin 1024) :
    (outsAt0 m c t.val t.isLt).2 (ix2 y.1 y.2) = (0 : EReal) + term m c t y := by
  rw [outsAt0_A m c t h (by omega)]
  frame_out
  rw [pay_at, pay_zero]
  rfl

theorem next (t : Fin cfg0.N) (h : ¬t.val % 4 = 0) (y : Fin 1408 × Fin 1024) :
    (outsAt0 m c t.val t.isLt).2 (ix2 y.1 y.2) = (outsAt0 m c (t.val - 1) (Nat.lt_of_le_of_lt (Nat.sub_le _ _) t.isLt)).2 (ix2 y.1 y.2) + term m c t y := by
  by_cases h3 : t.val % 4 = 3
  · rw [outsAt0_C m c t h h3]
    frame_out
    refine (pay_at _ _ _ y.1 y.2).trans ?_
    exact congrArg (fun f : FVec Ideal S1408x1024 .f32 => f (ix2 y.1 y.2) + term m c t y) (Memref.IsWhole.read_unread (Memref.isWhole_whole cc0_scratch0) _)
  · rw [outsAt0_B m c t h h3]
    frame_out
    refine (pay_at _ _ _ y.1 y.2).trans ?_
    exact congrArg (fun f : FVec Ideal S1408x1024 .f32 => f (ix2 y.1 y.2) + term m c t y) (Memref.IsWhole.read_unread (Memref.isWhole_whole cc0_scratch0) _)

/-- The last point writes the scratch out. -/
theorem last (t : Fin cfg0.N) (h : t.val % 4 = 3) (y : Fin 1408 × Fin 1024) :
    (outsAt0 m c t.val t.isLt).1 (ix2 y.1 y.2) = (outsAt0 m c t.val t.isLt).2 (ix2 y.1 y.2) := by
  rw [outsAt0_C m c t (by omega) h]
  frame_out
  rfl

/-- The tiles fill the product over all rows. -/
theorem final : (dats m 0 c).arrAt 2 cfg0.N = tn (n := 4352) (k := 2816) (p := 1024) (φ₁ := .bf16) (φ₂ := .f32) .bf16 (m ((c.tc : Thread nD τ).loc main_arg0)) (m ((c.tc : Thread nD τ).loc main_arg1)) := by
  refine (dats m 0 c).arrAt_eq_of_covers 2 _ (by decide +kernel) fun t hf y => ?_
  have h3 := flush_2 t hf
  have ht := Nat.lt_of_lt_of_eq t.isLt N_0
  blk_simp
  rw [after0_2]
  obtain ⟨i, j, rfl⟩ : ∃ (i : Fin 1408) (j : Fin 1024), y = ix2 i j := exists_ix2 y
  refine (last m c t h3 (i, j)).trans ((Pipeline.eq_sum_fin_of_reset_step_apply_of_flush (M := EReal) (fun n h (y : Fin 1408 × Fin 1024) => (outsAt0 m c n h).2 (ix2 y.1 y.2)) 4 (fun _ => 0) (term m c) (first m c) (next m c) t h3 (i, j)).trans ?_)
  refine (zero_add (M := EReal) _).trans (Fin.sum_mul_add_congr (M := EReal) fun s k hl => ?_)
  have hs := s.isLt
  refine congrArg₂ (fun a b : EReal => a * b) ?_ ?_
  · unfold iblk; rw [← V_main_arg0 m c]; blk_ext [index_0, index_2]
  · unfold iblk; rw [← V_main_arg1 m c]; blk_ext [index_1, index_2]

end Cert.Kernel7Ideal.Down

namespace Cert.Reference7Ideal.Down

open Idealize.ShloMosaic Cert.Reference7Ideal Cert.Reference7Ideal.Read Cert.Dense

theorem val (x : FVec Ideal S4352x2816 .bf16) (g : FVec Ideal S4352x1024 .f32) : val_main_v5 (F := Ideal) x g = tn (n := 4352) (k := 2816) (p := 1024) (φ₁ := .bf16) (φ₂ := .f32) .bf16 x g := by
  funext i
  refine (val_main_v5_apply (F := Ideal) x g i).trans ?_
  rw [Ideal.truncf_def]
  refine (val_main_v4_apply (F := Ideal) x g i).trans ((val_main_v3_apply x g _).trans (Finset.sum_congr rfl fun k _ => (mul_comm (G := EReal) _ _).trans ?_))
  refine congrArg₂ (fun a b : EReal => a * b) (congrArg x ?_) (congrArg g ?_) <;> funext a <;> fin_cases a <;> rfl

end Cert.Reference7Ideal.Down

namespace Cert.Proof

open Idealize.ShloMosaic Idealize.SL.Sem

theorem frame_reference5 : Cert.quiescent_Reference5Ideal := fun m ρ _ =>
  (θ_run Cert.Reference5Ideal.defs _ _).mono (fun r h => ⟨fun c => (h c).2, sem_eq_zero_of_no_sems rfl r.2⟩) (Cert.Reference5Ideal.Value.run m ρ)

theorem frame_reference6 : Cert.quiescent_Reference6Ideal := fun m ρ _ =>
  (θ_run Cert.Reference6Ideal.defs _ _).mono (fun r h => ⟨fun c => (h c).2, sem_eq_zero_of_no_sems rfl r.2⟩) (Cert.Reference6Ideal.Value.run m ρ)

theorem frame_reference7 : Cert.quiescent_Reference7Ideal := fun m ρ _ =>
  (θ_run Cert.Reference7Ideal.defs _ _).mono (fun r h => ⟨fun c => (h c).2, sem_eq_zero_of_no_sems rfl r.2⟩) (Cert.Reference7Ideal.Value.run m ρ)

theorem algebraic5 : Cert.algebraic_Kernel5Ideal_Reference5Ideal := fun m ρ m' ρ' _ hm =>
  ⟨fun c => (Cert.Kernel5Ideal.Gen.dats m 0 c).arrAt 2 Cert.Kernel5Ideal.cfg0.N,
    Cert.Kernel5Ideal.Value.run_blocks m ρ,
    (θ_run Cert.Reference5Ideal.defs _ _).mono (fun _ h c => ⟨((h c).1.trans (Cert.Reference5Ideal.Down.val _ _)).trans ((by rw [(hm c).1, (hm c).2] : _ = _).trans (Cert.Kernel5Ideal.Down.final m c).symm), (h c).2⟩) (Cert.Reference5Ideal.Value.run m' ρ')⟩

theorem algebraic6 : Cert.algebraic_Kernel6Ideal_Reference6Ideal := fun m ρ m' ρ' _ hm =>
  ⟨fun c => (Cert.Kernel6Ideal.Gen.dats m 0 c).arrAt 2 Cert.Kernel6Ideal.cfg0.N,
    Cert.Kernel6Ideal.Value.run_blocks m ρ,
    (θ_run Cert.Reference6Ideal.defs _ _).mono (fun _ h c => ⟨((h c).1.trans (Cert.Reference6Ideal.Down.val _ _)).trans ((by rw [(hm c).1, (hm c).2] : _ = _).trans (Cert.Kernel6Ideal.Down.final m c).symm), (h c).2⟩) (Cert.Reference6Ideal.Value.run m' ρ')⟩

theorem algebraic7 : Cert.algebraic_Kernel7Ideal_Reference7Ideal := fun m ρ m' ρ' _ hm =>
  ⟨fun c => (Cert.Kernel7Ideal.Gen.dats m 0 c).arrAt 2 Cert.Kernel7Ideal.cfg0.N,
    Cert.Kernel7Ideal.Value.run_blocks m ρ,
    (θ_run Cert.Reference7Ideal.defs _ _).mono (fun _ h c => ⟨((h c).1.trans (Cert.Reference7Ideal.Down.val _ _)).trans ((by rw [(hm c).1, (hm c).2] : _ = _).trans (Cert.Kernel7Ideal.Down.final m c).symm), (h c).2⟩) (Cert.Reference7Ideal.Value.run m' ρ')⟩

end Cert.Proof

end
-- ==== Proof.In.lean ====
/-
  The in projection and its gradients. The gradient by the matrix adds the products of two halves of the rows.
-/
module

public import proofs.«01_k».proof.Defs
public import proofs.«01_k».proof.Proof.Dense
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import Idealize.ShloMosaic.Lib.Quiescent
public import Idealize.ShloMosaic.Lib.Pipeline.ValueKit.Acc
import Idealize.ShloMosaic.Lib.Pipeline.ValueKit.Geometry

@[expose] public section

set_option maxRecDepth 4096

noncomputable section

namespace Cert.Kernel8Ideal.In

open Idealize.ShloMosaic Idealize.ShloMosaic.TcCoe Idealize.SL.Sem
open Idealize.ShloMosaic.Pipeline (Dat)
open Cert.Kernel8Ideal Cert.Kernel8Ideal.Gen Cert.Dense
open scoped BigOperators

/-- Point `t` works on row tile `t % 4` and column tile `t / 4`. -/
theorem index_0 : ∀ t : Fin cfg0.N, win0_0.index t = ![t.val % 4, 0] := (by decide +kernel : ∀ t : Fin grid0.N, win0_0.index t = ![t.val % 4, 0])
theorem index_1 : ∀ t : Fin cfg0.N, win0_1.index t = ![0, t.val / 4] := (by decide +kernel : ∀ t : Fin grid0.N, win0_1.index t = ![0, t.val / 4])
theorem index_2 : ∀ t : Fin cfg0.N, win0_2.index t = ![t.val % 4, t.val / 4] := (by decide +kernel : ∀ t : Fin grid0.N, win0_2.index t = ![t.val % 4, t.val / 4])

theorem pay_at (x : Vec Ideal S1088x1024 .bf16) (w : Vec Ideal S1024x1536 .bf16) (r : Fin 1088) (j : Fin 1536) :
    k0_pay1 x w (ix2 r j) = ∑ k : Fin 1024, x (ix2 r k) * w (ix2 k j) := by
  unfold k0_pay1
  pointwise

variable (m : (ℓ : Loc nD τ sig) → Buf (Elt Ideal) ℓ) (c : Dev nD)

/-- The tiles fill the product. -/
theorem final : (dats m 0 c).arrAt 2 cfg0.N = nn (n := 4352) (k := 1024) (p := 3072) (φ₁ := .bf16) (φ₂ := .bf16) .f32 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, j, rfl⟩ : ∃ (r : Fin 1088) (j : Fin 1536), y = ix2 r j := exists_ix2 y
  refine (pay_at _ _ r j).trans (Finset.sum_congr rfl fun k _ => ?_)
  have ht := Nat.lt_of_lt_of_eq t.isLt N_0
  refine congrArg₂ (fun a b : EReal => a * b) ?_ ?_
  · unfold iblk; rw [← V_main_arg0 m c]; blk_ext [index_0, index_2]
  · unfold iblk; rw [← V_main_arg1 m c]; blk_ext [index_1, index_2]

end Cert.Kernel8Ideal.In

namespace Cert.Reference8Ideal.In

open Idealize.ShloMosaic Cert.Reference8Ideal Cert.Reference8Ideal.Read Cert.Dense

theorem val (x : FVec Ideal S4352x1024 .bf16) (w : FVec Ideal S1024x3072 .bf16) : val_main_v2 (F := Ideal) x w = nn (n := 4352) (k := 1024) (p := 3072) (φ₁ := .bf16) (φ₂ := .bf16) .f32 x w := by
  funext i
  refine (val_main_v2_apply x w i).trans (Finset.sum_congr rfl fun k _ => ?_)
  refine congrArg₂ (fun a b : EReal => a * b) (congrArg x ?_) (congrArg w ?_) <;> funext a <;> fin_cases a <;> rfl

end Cert.Reference8Ideal.In

namespace Cert.Kernel9Ideal.In

open Idealize.ShloMosaic Idealize.ShloMosaic.TcCoe Idealize.SL.Sem
open Idealize.ShloMosaic.Pipeline (Dat)
open Cert.Kernel9Ideal Cert.Kernel9Ideal.Gen Cert.Dense
open scoped BigOperators

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem pay_at (x : Vec Ideal S1088x3072 .bf16) (w : Vec Ideal S1024x3072 .bf16) (r : Fin 1088) (j : Fin 1024) :
    k0_pay1 x w (ix2 r j) = ∑ k : Fin 3072, x (ix2 r k) * w (ix2 j k) := by
  unfold k0_pay1
  pointwise

variable (m : (ℓ : Loc nD τ sig) → Buf (Elt Ideal) ℓ) (c : Dev nD)

/-- The tiles of rows fill the product with the transposed matrix. -/
theorem final : (dats m 0 c).arrAt 2 cfg0.N = nt (n := 4352) (k := 1024) (p := 3072) (φ₁ := .bf16) (φ₂ := .bf16) .f32 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, j, rfl⟩ : ∃ (r : Fin 1088) (j : Fin 1024), y = ix2 r j := exists_ix2 y
  refine (pay_at _ _ r j).trans (Finset.sum_congr rfl fun k _ => ?_)
  have ht := Nat.lt_of_lt_of_eq t.isLt N_0
  refine congrArg₂ (fun a b : EReal => a * b) ?_ ?_
  · unfold iblk; rw [← V_main_arg0 m c]; blk_ext [index_0, index_2]
  · unfold iblk; rw [← V_main_arg1 m c]; blk_ext [index_1, index_2]

end Cert.Kernel9Ideal.In

namespace Cert.Reference9Ideal.In

open Idealize.ShloMosaic Cert.Reference9Ideal Cert.Reference9Ideal.Read Cert.Dense

theorem val (x : FVec Ideal S4352x3072 .bf16) (w : FVec Ideal S1024x3072 .bf16) : val_main_v4 (F := Ideal) x w = nt (n := 4352) (k := 1024) (p := 3072) (φ₁ := .bf16) (φ₂ := .bf16) .f32 x w := by
  funext i
  refine (val_main_v4_apply x w i).trans (Finset.sum_congr rfl fun k _ => ?_)
  refine congrArg₂ (fun a b : EReal => a * b) (congrArg x ?_) (congrArg w ?_) <;> funext a <;> fin_cases a <;> rfl

end Cert.Reference9Ideal.In

namespace Cert.Kernel10Ideal.In

open Idealize.ShloMosaic Idealize.ShloMosaic.TcCoe Idealize.SL.Sem
open Idealize.ShloMosaic.Pipeline (Dat)
open Cert.Kernel10Ideal Cert.Kernel10Ideal.Gen Cert.Dense
open scoped BigOperators

/-- Point `t` works on half `t % 2` of the rows and column tile `t / 2`. -/
theorem index_0 : ∀ t : Fin cfg0.N, win0_0.index t = ![t.val % 2, 0] := (by decide +kernel : ∀ t : Fin grid0.N, win0_0.index t = ![t.val % 2, 0])
theorem index_1 : ∀ t : Fin cfg0.N, win0_1.index t = ![t.val % 2, t.val / 2] := (by decide +kernel : ∀ t : Fin grid0.N, win0_1.index t = ![t.val % 2, t.val / 2])
theorem index_2 : ∀ t : Fin cfg0.N, win0_2.index t = ![0, t.val / 2] := (by decide +kernel : ∀ t : Fin grid0.N, win0_2.index t = ![0, t.val / 2])
theorem flush_2 : ∀ t : Fin cfg0.N, (cfg0.win 2).flush t = true → t.val % 2 = 1 := (by decide +kernel : ∀ t : Fin grid0.N, (cfg0.win 2).flush t = true → t.val % 2 = 1)

theorem pay_zero (i : S1024x1024.Idx) : (k0_pay1 : FVec Ideal S1024x1024 .f32) i = (0 : EReal) := by
  unfold k0_pay1
  pointwise

/-- What a point adds to the scratch, at an element. -/
theorem pay_at (acc : Vec Ideal S1024x1024 .f32) (x : Vec Ideal S2176x1024 .bf16) (g : Vec Ideal S2176x1024 .bf16) (i : Fin 1024) (j : Fin 1024) :
    k0_pay2 acc x g (ix2 i j) = acc (ix2 i j) + tnAt (φ₁ := .bf16) (φ₂ := .bf16) x g i j := by
  unfold k0_pay2 tnAt
  pointwise

variable (m : (ℓ : Loc nD τ sig) → Buf (Elt Ideal) ℓ) (c : Dev nD)

/-- What point `t` adds. -/
def term (t : Fin cfg0.N) (y : Fin 1024 × Fin 1024) : EReal := tnAt (n := 2176) (k := 1024) (p := 1024) (φ₁ := .bf16) (φ₂ := .bf16) (iblk m c 0 t) (iblk m c 1 t) y.1 y.2

theorem first (t : Fin cfg0.N) (h : t.val % 2 = 0) (y : Fin 1024 × Fin 1024) :
    (outsAt0 m c t.val t.isLt).2 (ix2 y.1 y.2) = (0 : EReal) + term m c t y := by
  rw [outsAt0_A m c t h (by omega)]
  frame_out
  rw [pay_at, pay_zero]
  rfl

theorem next (t : Fin cfg0.N) (h : ¬t.val % 2 = 0) (y : Fin 1024 × Fin 1024) :
    (outsAt0 m c t.val t.isLt).2 (ix2 y.1 y.2) = (outsAt0 m c (t.val - 1) (Nat.lt_of_le_of_lt (Nat.sub_le _ _) t.isLt)).2 (ix2 y.1 y.2) + term m c t y := by
  rw [outsAt0_B m c t h (by omega)]
  frame_out
  refine (pay_at _ _ _ y.1 y.2).trans ?_
  exact congrArg (fun f : FVec Ideal S1024x1024 .f32 => f (ix2 y.1 y.2) + term m c t y) (Memref.IsWhole.read_unread (Memref.isWhole_whole cc0_scratch0) _)

/-- The second point writes the scratch out. -/
theorem last (t : Fin cfg0.N) (h : t.val % 2 = 1) (y : Fin 1024 × Fin 1024) :
    (outsAt0 m c t.val t.isLt).1 (ix2 y.1 y.2) = (outsAt0 m c t.val t.isLt).2 (ix2 y.1 y.2) := by
  rw [outsAt0_B m c t (by omega) h]
  frame_out
  rfl

/-- The column tiles fill the product over all rows. -/
theorem final : (dats m 0 c).arrAt 2 cfg0.N = tn (n := 4352) (k := 1024) (p := 3072) (φ₁ := .bf16) (φ₂ := .bf16) .bf16 (m ((c.tc : Thread nD τ).loc main_arg0)) (m ((c.tc : Thread nD τ).loc main_arg1)) := by
  refine (dats m 0 c).arrAt_eq_of_covers 2 _ (by decide +kernel) fun t hf y => ?_
  have h1 := flush_2 t hf
  have ht := Nat.lt_of_lt_of_eq t.isLt N_0
  blk_simp
  rw [after0_2]
  obtain ⟨i, j, rfl⟩ : ∃ (i : Fin 1024) (j : Fin 1024), y = ix2 i j := exists_ix2 y
  refine (last m c t h1 (i, j)).trans ((Pipeline.eq_sum_fin_of_reset_step_apply_of_flush (M := EReal) (fun n h (y : Fin 1024 × Fin 1024) => (outsAt0 m c n h).2 (ix2 y.1 y.2)) 2 (fun _ => 0) (term m c) (first m c) (next m c) t h1 (i, j)).trans ?_)
  refine (zero_add (M := EReal) _).trans (Fin.sum_mul_add_congr (M := EReal) fun s k hl => ?_)
  have hs := s.isLt
  refine congrArg₂ (fun a b : EReal => a * b) ?_ ?_
  · unfold iblk; rw [← V_main_arg0 m c]; blk_ext [index_0, index_2]
  · unfold iblk; rw [← V_main_arg1 m c]; blk_ext [index_1, index_2]

end Cert.Kernel10Ideal.In

namespace Cert.Reference10Ideal.In

open Idealize.ShloMosaic Cert.Reference10Ideal Cert.Reference10Ideal.Read Cert.Dense

theorem val (x : FVec Ideal S4352x1024 .bf16) (g : FVec Ideal S4352x3072 .bf16) : val_main_v6 (F := Ideal) x g = tn (n := 4352) (k := 1024) (p := 3072) (φ₁ := .bf16) (φ₂ := .bf16) .bf16 x g := by
  funext i
  refine (val_main_v6_apply (F := Ideal) x g i).trans ?_
  rw [Ideal.truncf_def]
  refine (val_main_v5_apply (F := Ideal) x g i).trans ((val_main_v4_apply x g _).trans (Finset.sum_congr rfl fun k _ => (mul_comm (G := EReal) _ _).trans ?_))
  refine congrArg₂ (fun a b : EReal => a * b) (congrArg x ?_) (congrArg g ?_) <;> funext a <;> fin_cases a <;> rfl

end Cert.Reference10Ideal.In

namespace Cert.Proof

open Idealize.ShloMosaic Idealize.SL.Sem

theorem frame_reference8 : Cert.quiescent_Reference8Ideal := fun m ρ _ =>
  (θ_run Cert.Reference8Ideal.defs _ _).mono (fun r h => ⟨fun c => (h c).2, sem_eq_zero_of_no_sems rfl r.2⟩) (Cert.Reference8Ideal.Value.run m ρ)

theorem frame_reference9 : Cert.quiescent_Reference9Ideal := fun m ρ _ =>
  (θ_run Cert.Reference9Ideal.defs _ _).mono (fun r h => ⟨fun c => (h c).2, sem_eq_zero_of_no_sems rfl r.2⟩) (Cert.Reference9Ideal.Value.run m ρ)

theorem frame_reference10 : Cert.quiescent_Reference10Ideal := fun m ρ _ =>
  (θ_run Cert.Reference10Ideal.defs _ _).mono (fun r h => ⟨fun c => (h c).2, sem_eq_zero_of_no_sems rfl r.2⟩) (Cert.Reference10Ideal.Value.run m ρ)

theorem algebraic8 : Cert.algebraic_Kernel8Ideal_Reference8Ideal := fun m ρ m' ρ' _ hm =>
  ⟨fun c => (Cert.Kernel8Ideal.Gen.dats m 0 c).arrAt 2 Cert.Kernel8Ideal.cfg0.N,
    Cert.Kernel8Ideal.Value.run_blocks m ρ,
    (θ_run Cert.Reference8Ideal.defs _ _).mono (fun _ h c => ⟨((h c).1.trans (Cert.Reference8Ideal.In.val _ _)).trans ((by rw [(hm c).1, (hm c).2] : _ = _).trans (Cert.Kernel8Ideal.In.final m c).symm), (h c).2⟩) (Cert.Reference8Ideal.Value.run m' ρ')⟩

theorem algebraic9 : Cert.algebraic_Kernel9Ideal_Reference9Ideal := fun m ρ m' ρ' _ hm =>
  ⟨fun c => (Cert.Kernel9Ideal.Gen.dats m 0 c).arrAt 2 Cert.Kernel9Ideal.cfg0.N,
    Cert.Kernel9Ideal.Value.run_blocks m ρ,
    (θ_run Cert.Reference9Ideal.defs _ _).mono (fun _ h c => ⟨((h c).1.trans (Cert.Reference9Ideal.In.val _ _)).trans ((by rw [(hm c).1, (hm c).2] : _ = _).trans (Cert.Kernel9Ideal.In.final m c).symm), (h c).2⟩) (Cert.Reference9Ideal.Value.run m' ρ')⟩

theorem algebraic10 : Cert.algebraic_Kernel10Ideal_Reference10Ideal := fun m ρ m' ρ' _ hm =>
  ⟨fun c => (Cert.Kernel10Ideal.Gen.dats m 0 c).arrAt 2 Cert.Kernel10Ideal.cfg0.N,
    Cert.Kernel10Ideal.Value.run_blocks m ρ,
    (θ_run Cert.Reference10Ideal.defs _ _).mono (fun _ h c => ⟨((h c).1.trans (Cert.Reference10Ideal.In.val _ _)).trans ((by rw [(hm c).1, (hm c).2] : _ = _).trans (Cert.Kernel10Ideal.In.final m c).symm), (h c).2⟩) (Cert.Reference10Ideal.Value.run m' ρ')⟩

end Cert.Proof

end
-- ==== Proof.Out.lean ====
/-
  The out projection and its gradients. The gradient by the matrix adds the products of four tiles of rows in one tile.
-/
module

public import proofs.«01_k».proof.Defs
public import proofs.«01_k».proof.Proof.Dense
public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import Idealize.ShloMosaic.Lib.Quiescent
public import Idealize.ShloMosaic.Lib.Pipeline.ValueKit.Acc
import Idealize.ShloMosaic.Lib.Pipeline.ValueKit.Geometry

@[expose] public section

set_option maxRecDepth 4096

noncomputable section

namespace Cert.Kernel11Ideal.Out

open Idealize.ShloMosaic Idealize.ShloMosaic.TcCoe Idealize.SL.Sem
open Idealize.ShloMosaic.Pipeline (Dat)
open Cert.Kernel11Ideal Cert.Kernel11Ideal.Gen Cert.Dense
open scoped BigOperators

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem pay_at (x : Vec Ideal S1088x1024 .bf16) (w : Vec Ideal S1024x1024 .bf16) (r : Fin 1088) (j : Fin 1024) :
    k0_pay1 x w (ix2 r j) = ∑ k : Fin 1024, x (ix2 r k) * w (ix2 k j) := by
  unfold k0_pay1
  pointwise

variable (m : (ℓ : Loc nD τ sig) → Buf (Elt Ideal) ℓ) (c : Dev nD)

/-- The tiles of rows fill the product. -/
theorem final : (dats m 0 c).arrAt 2 cfg0.N = nn (n := 4352) (k := 1024) (p := 1024) (φ₁ := .bf16) (φ₂ := .bf16) .f32 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, j, rfl⟩ : ∃ (r : Fin 1088) (j : Fin 1024), y = ix2 r j := exists_ix2 y
  refine (pay_at _ _ r j).trans (Finset.sum_congr rfl fun k _ => ?_)
  have ht := Nat.lt_of_lt_of_eq t.isLt N_0
  refine congrArg₂ (fun a b : EReal => a * b) ?_ ?_
  · unfold iblk; rw [← V_main_arg0 m c]; blk_ext [index_0, index_2]
  · unfold iblk; rw [← V_main_arg1 m c]; blk_ext [index_1, index_2]

end Cert.Kernel11Ideal.Out

namespace Cert.Reference11Ideal.Out

open Idealize.ShloMosaic Cert.Reference11Ideal Cert.Reference11Ideal.Read Cert.Dense

theorem val (x : FVec Ideal S4352x1024 .bf16) (w : FVec Ideal S1024x1024 .bf16) : val_main_v2 (F := Ideal) x w = nn (n := 4352) (k := 1024) (p := 1024) (φ₁ := .bf16) (φ₂ := .bf16) .f32 x w := by
  funext i
  refine (val_main_v2_apply x w i).trans (Finset.sum_congr rfl fun k _ => ?_)
  refine congrArg₂ (fun a b : EReal => a * b) (congrArg x ?_) (congrArg w ?_) <;> funext a <;> fin_cases a <;> rfl

end Cert.Reference11Ideal.Out

namespace Cert.Kernel12Ideal.Out

open Idealize.ShloMosaic Idealize.ShloMosaic.TcCoe Idealize.SL.Sem
open Idealize.ShloMosaic.Pipeline (Dat)
open Cert.Kernel12Ideal Cert.Kernel12Ideal.Gen Cert.Dense
open scoped BigOperators

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem pay_at (x : Vec Ideal S1088x1024 .f32) (w : Vec Ideal S1024x1024 .bf16) (r : Fin 1088) (j : Fin 1024) :
    k0_pay1 x w (ix2 r j) = ∑ k : Fin 1024, x (ix2 r k) * w (ix2 j k) := by
  unfold k0_pay1
  pointwise

variable (m : (ℓ : Loc nD τ sig) → Buf (Elt Ideal) ℓ) (c : Dev nD)

/-- The tiles of rows fill the product with the transposed matrix. -/
theorem final : (dats m 0 c).arrAt 2 cfg0.N = nt (n := 4352) (k := 1024) (p := 1024) (φ₁ := .f32) (φ₂ := .bf16) .f32 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, j, rfl⟩ : ∃ (r : Fin 1088) (j : Fin 1024), y = ix2 r j := exists_ix2 y
  refine (pay_at _ _ r j).trans (Finset.sum_congr rfl fun k _ => ?_)
  have ht := Nat.lt_of_lt_of_eq t.isLt N_0
  refine congrArg₂ (fun a b : EReal => a * b) ?_ ?_
  · unfold iblk; rw [← V_main_arg0 m c]; blk_ext [index_0, index_2]
  · unfold iblk; rw [← V_main_arg1 m c]; blk_ext [index_1, index_2]

end Cert.Kernel12Ideal.Out

namespace Cert.Reference12Ideal.Out

open Idealize.ShloMosaic Cert.Reference12Ideal Cert.Reference12Ideal.Read Cert.Dense

theorem val (x : FVec Ideal S4352x1024 .f32) (w : FVec Ideal S1024x1024 .bf16) : val_main_v3 (F := Ideal) x w = nt (n := 4352) (k := 1024) (p := 1024) (φ₁ := .f32) (φ₂ := .bf16) .f32 x w := by
  funext i
  refine (val_main_v3_apply x w i).trans (Finset.sum_congr rfl fun k _ => ?_)
  refine congrArg₂ (fun a b : EReal => a * b) (congrArg x ?_) (congrArg w ?_) <;> funext a <;> fin_cases a <;> rfl

end Cert.Reference12Ideal.Out

namespace Cert.Kernel13Ideal.Out

open Idealize.ShloMosaic Idealize.ShloMosaic.TcCoe Idealize.SL.Sem
open Idealize.ShloMosaic.Pipeline (Dat)
open Cert.Kernel13Ideal Cert.Kernel13Ideal.Gen Cert.Dense
open scoped BigOperators

/-- Point `t` works on row tile `t`, and the product's only tile stays. -/
theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![0, 0] := (by decide +kernel : ∀ t : Fin grid0.N, win0_2.index t = ![0, 0])
theorem flush_2 : ∀ t : Fin cfg0.N, (cfg0.win 2).flush t = true → t.val % 4 = 3 := (by decide +kernel : ∀ t : Fin grid0.N, (cfg0.win 2).flush t = true → t.val % 4 = 3)

theorem pay_zero (i : S1024x1024.Idx) : (k0_pay1 : FVec Ideal S1024x1024 .f32) i = (0 : EReal) := by
  unfold k0_pay1
  pointwise

/-- What a point adds to the scratch, at an element. -/
theorem pay_at (acc : Vec Ideal S1024x1024 .f32) (x : Vec Ideal S1088x1024 .bf16) (g : Vec Ideal S1088x1024 .f32) (i : Fin 1024) (j : Fin 1024) :
    k0_pay2 acc x g (ix2 i j) = acc (ix2 i j) + tnAt (φ₁ := .bf16) (φ₂ := .f32) x g i j := by
  unfold k0_pay2 tnAt
  pointwise

variable (m : (ℓ : Loc nD τ sig) → Buf (Elt Ideal) ℓ) (c : Dev nD)

/-- What point `t` adds. -/
def term (t : Fin cfg0.N) (y : Fin 1024 × Fin 1024) : EReal := tnAt (n := 1088) (k := 1024) (p := 1024) (φ₁ := .bf16) (φ₂ := .f32) (iblk m c 0 t) (iblk m c 1 t) y.1 y.2

theorem first (t : Fin cfg0.N) (h : t.val % 4 = 0) (y : Fin 1024 × Fin 1024) :
    (outsAt0 m c t.val t.isLt).2 (ix2 y.1 y.2) = (0 : EReal) + term m c t y := by
  have ht := Nat.lt_of_lt_of_eq t.isLt N_0
  rw [outsAt0_A m c t (by omega) (by omega)]
  frame_out
  rw [pay_at, pay_zero]
  rfl

theorem next (t : Fin cfg0.N) (h : ¬t.val % 4 = 0) (y : Fin 1024 × Fin 1024) :
    (outsAt0 m c t.val t.isLt).2 (ix2 y.1 y.2) = (outsAt0 m c (t.val - 1) (Nat.lt_of_le_of_lt (Nat.sub_le _ _) t.isLt)).2 (ix2 y.1 y.2) + term m c t y := by
  have ht := Nat.lt_of_lt_of_eq t.isLt N_0
  by_cases h3 : t.val % 4 = 3
  · rw [outsAt0_C m c t (by omega) (by omega)]
    frame_out
    refine (pay_at _ _ _ y.1 y.2).trans ?_
    exact congrArg (fun f : FVec Ideal S1024x1024 .f32 => f (ix2 y.1 y.2) + term m c t y) (Memref.IsWhole.read_unread (Memref.isWhole_whole cc0_scratch0) _)
  · rw [outsAt0_B m c t (by omega) (by omega)]
    frame_out
    refine (pay_at _ _ _ y.1 y.2).trans ?_
    exact congrArg (fun f : FVec Ideal S1024x1024 .f32 => f (ix2 y.1 y.2) + term m c t y) (Memref.IsWhole.read_unread (Memref.isWhole_whole cc0_scratch0) _)

/-- The last point writes the scratch out. -/
theorem last (t : Fin cfg0.N) (h : t.val % 4 = 3) (y : Fin 1024 × Fin 1024) :
    (outsAt0 m c t.val t.isLt).1 (ix2 y.1 y.2) = (outsAt0 m c t.val t.isLt).2 (ix2 y.1 y.2) := by
  have ht := Nat.lt_of_lt_of_eq t.isLt N_0
  rw [outsAt0_C m c t (by omega) (by omega)]
  frame_out
  rfl

/-- The tile is the product over all rows. -/
theorem final : (dats m 0 c).arrAt 2 cfg0.N = tn (n := 4352) (k := 1024) (p := 1024) (φ₁ := .bf16) (φ₂ := .f32) .bf16 (m ((c.tc : Thread nD τ).loc main_arg0)) (m ((c.tc : Thread nD τ).loc main_arg1)) := by
  refine (dats m 0 c).arrAt_eq_of_covers 2 _ (by decide +kernel) fun t hf y => ?_
  have h3 := flush_2 t hf
  have ht := Nat.lt_of_lt_of_eq t.isLt N_0
  blk_simp
  rw [after0_2]
  obtain ⟨i, j, rfl⟩ : ∃ (i : Fin 1024) (j : Fin 1024), y = ix2 i j := exists_ix2 y
  refine (last m c t h3 (i, j)).trans ((Pipeline.eq_sum_fin_of_reset_step_apply_of_flush (M := EReal) (fun n h (y : Fin 1024 × Fin 1024) => (outsAt0 m c n h).2 (ix2 y.1 y.2)) 4 (fun _ => 0) (term m c) (first m c) (next m c) t h3 (i, j)).trans ?_)
  refine (zero_add (M := EReal) _).trans (Fin.sum_mul_add_congr (M := EReal) fun s k hl => ?_)
  have hs := s.isLt
  refine congrArg₂ (fun a b : EReal => a * b) ?_ ?_
  · unfold iblk; rw [← V_main_arg0 m c]; blk_ext [index_0, index_2]
  · unfold iblk; rw [← V_main_arg1 m c]; blk_ext [index_1, index_2]

end Cert.Kernel13Ideal.Out

namespace Cert.Reference13Ideal.Out

open Idealize.ShloMosaic Cert.Reference13Ideal Cert.Reference13Ideal.Read Cert.Dense

theorem val (x : FVec Ideal S4352x1024 .bf16) (g : FVec Ideal S4352x1024 .f32) : val_main_v5 (F := Ideal) x g = tn (n := 4352) (k := 1024) (p := 1024) (φ₁ := .bf16) (φ₂ := .f32) .bf16 x g := by
  funext i
  refine (val_main_v5_apply (F := Ideal) x g i).trans ?_
  rw [Ideal.truncf_def]
  refine (val_main_v4_apply (F := Ideal) x g i).trans ((val_main_v3_apply x g _).trans (Finset.sum_congr rfl fun k _ => (mul_comm (G := EReal) _ _).trans ?_))
  refine congrArg₂ (fun a b : EReal => a * b) (congrArg x ?_) (congrArg g ?_) <;> funext a <;> fin_cases a <;> rfl

end Cert.Reference13Ideal.Out

namespace Cert.Proof

open Idealize.ShloMosaic Idealize.SL.Sem

theorem frame_reference11 : Cert.quiescent_Reference11Ideal := fun m ρ _ =>
  (θ_run Cert.Reference11Ideal.defs _ _).mono (fun r h => ⟨fun c => (h c).2, sem_eq_zero_of_no_sems rfl r.2⟩) (Cert.Reference11Ideal.Value.run m ρ)

theorem frame_reference12 : Cert.quiescent_Reference12Ideal := fun m ρ _ =>
  (θ_run Cert.Reference12Ideal.defs _ _).mono (fun r h => ⟨fun c => (h c).2, sem_eq_zero_of_no_sems rfl r.2⟩) (Cert.Reference12Ideal.Value.run m ρ)

theorem frame_reference13 : Cert.quiescent_Reference13Ideal := fun m ρ _ =>
  (θ_run Cert.Reference13Ideal.defs _ _).mono (fun r h => ⟨fun c => (h c).2, sem_eq_zero_of_no_sems rfl r.2⟩) (Cert.Reference13Ideal.Value.run m ρ)

theorem algebraic11 : Cert.algebraic_Kernel11Ideal_Reference11Ideal := fun m ρ m' ρ' _ hm =>
  ⟨fun c => (Cert.Kernel11Ideal.Gen.dats m 0 c).arrAt 2 Cert.Kernel11Ideal.cfg0.N,
    Cert.Kernel11Ideal.Value.run_blocks m ρ,
    (θ_run Cert.Reference11Ideal.defs _ _).mono (fun _ h c => ⟨((h c).1.trans (Cert.Reference11Ideal.Out.val _ _)).trans ((by rw [(hm c).1, (hm c).2] : _ = _).trans (Cert.Kernel11Ideal.Out.final m c).symm), (h c).2⟩) (Cert.Reference11Ideal.Value.run m' ρ')⟩

theorem algebraic12 : Cert.algebraic_Kernel12Ideal_Reference12Ideal := fun m ρ m' ρ' _ hm =>
  ⟨fun c => (Cert.Kernel12Ideal.Gen.dats m 0 c).arrAt 2 Cert.Kernel12Ideal.cfg0.N,
    Cert.Kernel12Ideal.Value.run_blocks m ρ,
    (θ_run Cert.Reference12Ideal.defs _ _).mono (fun _ h c => ⟨((h c).1.trans (Cert.Reference12Ideal.Out.val _ _)).trans ((by rw [(hm c).1, (hm c).2] : _ = _).trans (Cert.Kernel12Ideal.Out.final m c).symm), (h c).2⟩) (Cert.Reference12Ideal.Value.run m' ρ')⟩

theorem algebraic13 : Cert.algebraic_Kernel13Ideal_Reference13Ideal := fun m ρ m' ρ' _ hm =>
  ⟨fun c => (Cert.Kernel13Ideal.Gen.dats m 0 c).arrAt 2 Cert.Kernel13Ideal.cfg0.N,
    Cert.Kernel13Ideal.Value.run_blocks m ρ,
    (θ_run Cert.Reference13Ideal.defs _ _).mono (fun _ h c => ⟨((h c).1.trans (Cert.Reference13Ideal.Out.val _ _)).trans ((by rw [(hm c).1, (hm c).2] : _ = _).trans (Cert.Kernel13Ideal.Out.final m c).symm), (h c).2⟩) (Cert.Reference13Ideal.Value.run m' ρ')⟩

end Cert.Proof

end
-- ==== Proof.lean ====
module

public import proofs.«01_k».proof.Defs
public import proofs.«01_k».proof.Proof.Algebraic
public import proofs.«01_k».proof.Proof.UpProj
public import proofs.«01_k».proof.Proof.UpBwd
public import proofs.«01_k».proof.Proof.UpWgrad
public import proofs.«01_k».proof.Proof.Down
public import proofs.«01_k».proof.Proof.In
public import proofs.«01_k».proof.Proof.Out
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  frame_kernel, frame_kernel_ideal, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  trivial, algebraic, trivial, algebraic2, trivial, algebraic3, trivial, algebraic4, trivial, algebraic5, trivial, algebraic6, trivial, algebraic7,
  trivial, algebraic8, trivial, algebraic9, trivial, algebraic10, trivial, algebraic11, trivial, algebraic12, trivial, algebraic13⟩

end Cert.Proof

end
